-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "scale_log2e" .f32 0x3E0293EE#32 (((11863283 / 134217728) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v11_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S16384x1024 : Shape := ⟨2, ![16384, 1024]⟩
abbrev S16384x8 : Shape := ⟨2, ![16384, 8]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_

variable [Facts]

def fn_part1 {F : FTy → Type} [FloatOps F] (main_v13 : IVec S_ 1) (main_v16 : IVec S16384x8 1) : IVec S_ 1 :=
  let main_c_5 : IVec S_ 1 := constantI S_ 1 1#1
  let main_v17 : IVec S_ 1 := (fun x v => Host.reduce IntOp.andi x v reducesTo_S16384x8_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S16384x8 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x8 .f32 := Host.absf main_arg3
  let main_cst_4 : FVec F S_ .f32 := constant S_ .f32 0x7F800000#32
  let main_v15 : FVec F S16384x8 .f32 := broadcastInDim S16384x8 ![] bcast_S_S16384x8 main_cst_4
  let main_v16 : IVec S16384x8 1 := cmpf .olt main_v14 main_v15
  fn_part1 (F := F) main_v13 main_v16
-- ==== Kernel.lean ====
abbrev S16384x1024 : Shape := ⟨2, ![16384, 1024]⟩
abbrev S16384x8 : Shape := ⟨2, ![16384, 8]⟩
abbrev S136 : Shape := ⟨1, ![136]⟩
abbrev S16384x3072 : Shape := ⟨2, ![16384, 3072]⟩
abbrev S_ : Shape := ⟨0, ![]⟩
abbrev S16384x128 : Shape := ⟨2, ![16384, 128]⟩
abbrev S2048x16384 : Shape := ⟨2, ![2048, 16384]⟩
abbrev S16384x2048 : Shape := ⟨2, ![16384, 2048]⟩
abbrev S1152x16384 : Shape := ⟨2, ![1152, 16384]⟩
abbrev S1024x3072 : Shape := ⟨2, ![1024, 3072]⟩
abbrev S1024x128 : Shape := ⟨2, ![1024, 128]⟩
abbrev S2048x1024 : Shape := ⟨2, ![2048, 1024]⟩
abbrev S1024x2048 : Shape := ⟨2, ![1024, 2048]⟩
abbrev S1152x1024 : Shape := ⟨2, ![1152, 1024]⟩
abbrev S128x1024 : Shape := ⟨2, ![128, 1024]⟩
abbrev S16x1024 : Shape := ⟨2, ![16, 1024]⟩
abbrev S1024x1 : Shape := ⟨2, ![1024, 1]⟩
abbrev S1 : Shape := ⟨1, ![1]⟩
abbrev S1024x1024 : Shape := ⟨2, ![1024, 1024]⟩
abbrev S8x1024 : Shape := ⟨2, ![8, 1024]⟩
abbrev S2x1024x1024 : Shape := ⟨3, ![2, 1024, 1024]⟩
abbrev S1024x256 : Shape := ⟨2, ![1024, 256]⟩
abbrev S256x1024 : Shape := ⟨2, ![256, 1024]⟩
abbrev S1x1024x1024 : Shape := ⟨3, ![1, 1024, 1024]⟩
abbrev S1x1024 : Shape := ⟨2, ![1, 1024]⟩
abbrev S1024 : Shape := ⟨1, ![1024]⟩
abbrev S144x1024 : Shape := ⟨2, ![144, 1024]⟩

abbrev nBuf : Space → Nat
  | .hbm => 13
  | .vmem => 21
  | .smem => 2
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x8, .f32⟩
  | .hbm, ⟨4, _⟩ => ⟨S16384x3072, .f32⟩
  | .hbm, ⟨5, _⟩ => ⟨S16384x3072, .bf16⟩
  | .hbm, ⟨6, _⟩ => ⟨S_, .i32⟩
  | .hbm, ⟨7, _⟩ => ⟨S_, .f32⟩
  | .hbm, ⟨8, _⟩ => ⟨S16384x128, .f32⟩
  | .hbm, ⟨9, _⟩ => ⟨S2048x16384, .bf16⟩
  | .hbm, ⟨10, _⟩ => ⟨S16384x2048, .bf16⟩
  | .hbm, ⟨11, _⟩ => ⟨S1152x16384, .bf16⟩
  | .hbm, ⟨12, _⟩ => ⟨S16384x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x128, .f32⟩
  | .local _ .vmem, ⟨3, _⟩ => ⟨S1024x128, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1152x1024, .bf16⟩
  | .local _ .vmem, ⟨9, _⟩ => ⟨S1152x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x2048, .bf16⟩
  | .local _ .vmem, ⟨13, _⟩ => ⟨S1024x2048, .bf16⟩
  | .local _ .vmem, ⟨14, _⟩ => ⟨S1152x1024, .bf16⟩
  | .local _ .vmem, ⟨15, _⟩ => ⟨S1152x1024, .bf16⟩
  | .local _ .vmem, ⟨16, _⟩ => ⟨S1024x1024, .bf16⟩
  | .local _ .vmem, ⟨17, _⟩ => ⟨S1024x1024, .bf16⟩
  | .local _ .vmem, ⟨18, _⟩ => ⟨S8x1024, .f32⟩
  | .local _ .vmem, ⟨19, _⟩ => ⟨S1152x1024, .f32⟩
  | .local _ .vmem, ⟨20, _⟩ => ⟨S2x1024x1024, .f32⟩
  | .local _ .smem, ⟨0, _⟩ => ⟨S136, .i32⟩
  | .local _ .smem, ⟨1, _⟩ => ⟨S136, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_call0_v0 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![136], ![false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc1_transform_0 (k1_off1_inb : ∀ i : grid1.Coords, ∀ a, (k1_off1 i) a + S1.size a ≤ S136.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S136) ![v0.toNat] S1.size (k1_off1_inb i)) numel1_S1
  let c0_i32 : BitVec 32 := 0#32
  let c0_i32_0 : BitVec 32 := 0#32
  ![c0_i32.toNat, v1.toNat]

def cc1_transform_1 (k1_off1_inb : ∀ i : grid1.Coords, ∀ a, (k1_off1 i) a + S1.size a ≤ S136.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 1 (Rect.unit (s := S136) ![v0.toNat] S1.size (k1_off1_inb i)) numel1_S1
  let c0_i32 : BitVec 32 := 0#32
  let c0_i32_0 : BitVec 32 := 0#32
  ![v1.toNat, c0_i32.toNat]

def cc1_transform_2 (k1_off1_inb : ∀ i : grid1.Coords, ∀ a, (k1_off1 i) a + S1.size a ≤ S136.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 1 (Rect.unit (s := S136) ![v0.toNat] S1.size (k1_off1_inb i)) numel1_S1
  let c0_i32 : BitVec 32 := 0#32
  let c0_i32_0 : BitVec 32 := 0#32
  ![c0_i32.toNat, v1.toNat]

def cc1_transform_3 (k1_off1_inb : ∀ i : grid1.Coords, ∀ a, (k1_off1 i) a + S1.size a ≤ S136.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S136) ![v0.toNat] S1.size (k1_off1_inb i)) numel1_S1
  let c0_i32 : BitVec 32 := 0#32
  let c0_i32_0 : BitVec 32 := 0#32
  ![v1.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1152x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "mask" => some ⊥
  | "neg_log2e" => some ((-((Real.log 2)⁻¹) : ℝ) : EReal)
  | "scale_log2e" => some (((11863283 / 134217728) * (Real.log 2)⁻¹ : ℝ) : EReal)
  | _ => none
-- ==== ReferenceIdeal.lean ====
abbrev S16384x1024 : Shape := ⟨2, ![16384, 1024]⟩
abbrev S16384x8 : Shape := ⟨2, ![16384, 8]⟩
abbrev S16384x8x128 : Shape := ⟨3, ![16384, 8, 128]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x128x16384 : Shape := ⟨3, ![8, 128, 16384]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x8, .f32⟩
  | .hbm, ⟨4, _⟩ => ⟨S16384x8x128, .f32⟩
  | .hbm, ⟨5, _⟩ => ⟨S16384x8x128, .f32⟩
  | .hbm, ⟨6, _⟩ => ⟨S8x16384x16384, .f32⟩
  | .hbm, ⟨7, _⟩ => ⟨S_, .f32⟩
  | .hbm, ⟨8, _⟩ => ⟨S8x16384x16384, .f32⟩
  | .hbm, ⟨9, _⟩ => ⟨S8x16384x16384, .f32⟩
  | .hbm, ⟨10, _⟩ => ⟨S8x16384, .f32⟩
  | .hbm, ⟨11, _⟩ => ⟨S8x16384x1, .f32⟩
  | .hbm, ⟨12, _⟩ => ⟨S8x16384x16384, .f32⟩
  | .hbm, ⟨13, _⟩ => ⟨S8x16384x16384, .f32⟩
  | .hbm, ⟨14, _⟩ => ⟨S8x16384, .f32⟩
  | .hbm, ⟨15, _⟩ => ⟨S8x1x16384, .f32⟩
  | .hbm, ⟨16, _⟩ => ⟨S8x16384x16384, .f32⟩
  | .hbm, ⟨17, _⟩ => ⟨S8x16384x16384, .f32⟩
  | .hbm, ⟨18, _⟩ => ⟨S16384, .i32⟩
  | .hbm, ⟨19, _⟩ => ⟨S1x16384, .i32⟩
  | .hbm, ⟨20, _⟩ => ⟨S16384x1, .i32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S_, .f32⟩
  | .hbm, ⟨25, _⟩ => ⟨S_, .f32⟩
  | .hbm, ⟨26, _⟩ => ⟨S8x16384x16384, .i1⟩
  | .hbm, ⟨27, _⟩ => ⟨S8x16384x16384, .f32⟩
  | .hbm, ⟨28, _⟩ => ⟨S8x16384x16384, .f32⟩
  | .hbm, ⟨29, _⟩ => ⟨S_, .f32⟩
  | .hbm, ⟨30, _⟩ => ⟨S8x16384, .f32⟩
  | .hbm, ⟨31, _⟩ => ⟨S_, .f32⟩
  | .hbm, ⟨32, _⟩ => ⟨S8x16384, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .f32⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S8x16384x1, .f32⟩
  | .hbm, ⟨41, _⟩ => ⟨S8x16384x16384, .f32⟩
  | .hbm, ⟨42, _⟩ => ⟨S8x16384x16384, .f32⟩
  | .hbm, ⟨43, _⟩ => ⟨S16384x8x128, .f32⟩
  | .hbm, ⟨44, _⟩ => ⟨S8x128x16384, .f32⟩
  | .hbm, ⟨45, _⟩ => ⟨S16384x8x128, .f32⟩
  | .hbm, ⟨46, _⟩ => ⟨S16384x1024, .f32⟩
  | .hbm, ⟨47, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel2.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S2048x11x2x1x256 : Shape := ⟨5, ![2048, 11, 2, 1, 256]⟩
abbrev S2048x11x2x2x256 : Shape := ⟨5, ![2048, 11, 2, 2, 256]⟩
abbrev S11x2048x2x2x256 : Shape := ⟨5, ![11, 2048, 2, 2, 256]⟩
abbrev S11x2048x1024 : Shape := ⟨3, ![11, 2048, 1024]⟩
abbrev S11x512x2048 : Shape := ⟨3, ![11, 512, 2048]⟩
abbrev S1x2048 : Shape := ⟨2, ![1, 2048]⟩
abbrev S512x2048 : Shape := ⟨2, ![512, 2048]⟩
abbrev S2x512x512 : Shape := ⟨3, ![2, 512, 512]⟩
abbrev S3x2048x1024 : Shape := ⟨3, ![3, 2048, 1024]⟩
abbrev S3x512x2048 : Shape := ⟨3, ![3, 512, 2048]⟩
abbrev S2x3 : Shape := ⟨2, ![2, 3]⟩
abbrev S1x1 : Shape := ⟨2, ![1, 1]⟩
abbrev S_ : Shape := ⟨0, ![]⟩
abbrev S1x2048x1024 : Shape := ⟨3, ![1, 2048, 1024]⟩
abbrev S2048x1024 : Shape := ⟨2, ![2048, 1024]⟩
abbrev S1x512x2048 : Shape := ⟨3, ![1, 512, 2048]⟩
abbrev S512x1024 : Shape := ⟨2, ![512, 1024]⟩
abbrev S512x256 : Shape := ⟨2, ![512, 256]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x11x2x1x256, .f32⟩
  | .hbm, ⟨7, _⟩ => ⟨S2048x11x2x1x256, .f32⟩
  | .hbm, ⟨8, _⟩ => ⟨S2048x11x2x2x256, .f32⟩
  | .hbm, ⟨9, _⟩ => ⟨S11x2048x2x2x256, .f32⟩
  | .hbm, ⟨10, _⟩ => ⟨S11x2048x1024, .f32⟩
  | .hbm, ⟨11, _⟩ => ⟨S11x2048x1024, .bf16⟩
  | .hbm, ⟨12, _⟩ => ⟨S11x512x2048, .f32⟩
  | .hbm, ⟨13, _⟩ => ⟨S11x512x2048, .bf16⟩
  | .hbm, ⟨14, _⟩ => ⟨S16384x2048, .bf16⟩
  | .hbm, ⟨15, _⟩ => ⟨S1x2048, .f32⟩
  | .hbm, ⟨16, _⟩ => ⟨S1x2048, .f32⟩
  | .hbm, ⟨17, _⟩ => ⟨S16384x2048, .f32⟩
  | .hbm, ⟨18, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2x512x512, .bf16⟩
  | .local _ .vmem, ⟨11, _⟩ => ⟨S3x2048x1024, .bf16⟩
  | .local _ .vmem, ⟨12, _⟩ => ⟨S3x512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 : BitVec 1 :=
  let c0_i32_109 : BitVec 32 := 0#32
  let c11_i32_110 : BitVec 32 := 11#32
  let v162 : BitVec 1 := Scalar.cmpi .slt c0_i32_109 c11_i32_110
  let v163 : BitVec 32 := Scalar.extui v162
  let c0_i32_112 : BitVec 32 := 0#32
  let v164 : BitVec 1 := Scalar.cmpi .ne v163 c0_i32_112
  v164

def k0_off1 : Fin 3 → Nat :=
  let c0_i32_111 : BitVec 32 := 0#32
  let c10_i32 : BitVec 32 := 10#32
  let v174 : BitVec 32 := Scalar.minsi c0_i32_111 c10_i32
  let c0_i32_130 : BitVec 32 := 0#32
  let c0_i32_131 : BitVec 32 := 0#32
  ![v174.toNat, 0, 0]
def k0_cond3 : BitVec 1 :=
  let c0_i32_113 : BitVec 32 := 0#32
  let c1_i32_114 : BitVec 32 := 1#32
  let v165 : BitVec 1 := Scalar.cmpi .sge c0_i32_113 c1_i32_114
  let v166 : BitVec 32 := Scalar.extui v165
  let c0_i32_116 : BitVec 32 := 0#32
  let v167 : BitVec 1 := Scalar.cmpi .ne v166 c0_i32_116
  v167

def k0_off2 : Fin 3 → Nat :=
  let c0_i32_115 : BitVec 32 := 0#32
  let c1_i32_125 : BitVec 32 := 1#32
  let v174 : BitVec 32 := Scalar.subi c0_i32_115 c1_i32_125
  let c0_i32_126 : BitVec 32 := 0#32
  let v175 : BitVec 32 := Scalar.maxsi v174 c0_i32_126
  let c0_i32_132 : BitVec 32 := 0#32
  let c0_i32_133 : BitVec 32 := 0#32
  ![v175.toNat, 0, 0]
def k0_cond4 : BitVec 1 :=
  let c1_i32_117 : BitVec 32 := 1#32
  let c11_i32_118 : BitVec 32 := 11#32
  let v168 : BitVec 1 := Scalar.cmpi .slt c1_i32_117 c11_i32_118
  let v169 : BitVec 32 := Scalar.extui v168
  let c0_i32_120 : BitVec 32 := 0#32
  let v170 : BitVec 1 := Scalar.cmpi .ne v169 c0_i32_120
  v170

def k0_off3 : Fin 3 → Nat :=
  let c1_i32_119 : BitVec 32 := 1#32
  let c10_i32 : BitVec 32 := 10#32
  let v174 : BitVec 32 := Scalar.minsi c1_i32_119 c10_i32
  let c0_i32_130 : BitVec 32 := 0#32
  let c0_i32_131 : BitVec 32 := 0#32
  ![v174.toNat, 0, 0]
def k0_cond5 : BitVec 1 :=
  let c1_i32_121 : BitVec 32 := 1#32
  let c1_i32_122 : BitVec 32 := 1#32
  let v171 : BitVec 1 := Scalar.cmpi .sge c1_i32_121 c1_i32_122
  let v172 : BitVec 32 := Scalar.extui v171
  let c0_i32_124 : BitVec 32 := 0#32
  let v173 : BitVec 1 := Scalar.cmpi .ne v172 c0_i32_124
  v173

def k0_off4 : Fin 3 → Nat :=
  let c1_i32_123 : BitVec 32 := 1#32
  let c1_i32_125 : BitVec 32 := 1#32
  let v174 : BitVec 32 := Scalar.subi c1_i32_123 c1_i32_125
  let c0_i32_126 : BitVec 32 := 0#32
  let v175 : BitVec 32 := Scalar.maxsi v174 c0_i32_126
  let c0_i32_132 : BitVec 32 := 0#32
  let c0_i32_133 : BitVec 32 := 0#32
  ![v175.toNat, 0, 0]
def k0_cond6 (i : grid0.Coords) : BitVec 1 :=
  let c0_i32_1 : BitVec 32 := 0#32
  let c2_i32 : BitVec 32 := 2#32
  let v3 : BitVec 32 := Scalar.addi c0_i32_1 c2_i32
  let c12_i32 : BitVec 32 := 12#32
  let v4 : BitVec 1 := Scalar.cmpi .sge v3 c12_i32
  let v_true : BitVec 1 := 1#1
  let v5 : BitVec 1 := Scalar.xori v4 v_true
  let arg0 : BitVec 32 := BitVec.ofNat 32 (i 0).val
  let c31_i32 : BitVec 32 := 31#32
  let v6 : BitVec 1 := Scalar.cmpi .slt arg0 c31_i32
  let v7 : BitVec 1 := Scalar.ori v5 v6
  let v8 : BitVec 32 := Scalar.extui v7
  let c0_i32_2 : BitVec 32 := 0#32
  let v9 : BitVec 1 := Scalar.cmpi .ne v8 c0_i32_2
  v9

def k0_cond7 : BitVec 1 :=
  let c0_i32_1 : BitVec 32 := 0#32
  let c2_i32 : BitVec 32 := 2#32
  let v3 : BitVec 32 := Scalar.addi c0_i32_1 c2_i32
  let c12_i32 : BitVec 32 := 12#32
  let v4 : BitVec 1 := Scalar.cmpi .sge v3 c12_i32
  let c12_i32_109 : BitVec 32 := 12#32
  let v162 : BitVec 32 := Scalar.subi v3 c12_i32_109
  let v163 : BitVec 32 := Scalar.select v4 v162 v3
  let c11_i32_116 : BitVec 32 := 11#32
  let v174 : BitVec 1 := Scalar.cmpi .slt v163 c11_i32_116
  let v175 : BitVec 32 := Scalar.extui v174
  let c0_i32_117 : BitVec 32 := 0#32
  let v176 : BitVec 1 := Scalar.cmpi .ne v175 c0_i32_117
  v176

def k0_off5 : Fin 2 → Nat :=
  let c0_i32_120 : BitVec 32 := 0#32
  let c0_i32_1 : BitVec 32 := 0#32
  let c2_i32 : BitVec 32 := 2#32
  let v3 : BitVec 32 := Scalar.addi c0_i32_1 c2_i32
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v3 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  ![0, v173.toNat]
def k0_off6 : Fin 3 → Nat :=
  let c0_i32_1 : BitVec 32 := 0#32
  let c2_i32 : BitVec 32 := 2#32
  let v3 : BitVec 32 := Scalar.addi c0_i32_1 c2_i32
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v3 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  let c0_i32_121 : BitVec 32 := 0#32
  let c0_i32_122 : BitVec 32 := 0#32
  ![v173.toNat, 0, 0]
def k0_off7 : Fin 3 → Nat :=
  let c0_i32_1 : BitVec 32 := 0#32
  let c2_i32 : BitVec 32 := 2#32
  let v3 : BitVec 32 := Scalar.addi c0_i32_1 c2_i32
  let c12_i32 : BitVec 32 := 12#32
  let v4 : BitVec 1 := Scalar.cmpi .sge v3 c12_i32
  let c12_i32_109 : BitVec 32 := 12#32
  let v162 : BitVec 32 := Scalar.subi v3 c12_i32_109
  let v163 : BitVec 32 := Scalar.select v4 v162 v3
  let c10_i32 : BitVec 32 := 10#32
  let v180 : BitVec 32 := Scalar.minsi v163 c10_i32
  let c0_i32_123 : BitVec 32 := 0#32
  let c0_i32_124 : BitVec 32 := 0#32
  ![v180.toNat, 0, 0]
def k0_cond8 : BitVec 1 :=
  let c0_i32_1 : BitVec 32 := 0#32
  let c2_i32 : BitVec 32 := 2#32
  let v3 : BitVec 32 := Scalar.addi c0_i32_1 c2_i32
  let c12_i32 : BitVec 32 := 12#32
  let v4 : BitVec 1 := Scalar.cmpi .sge v3 c12_i32
  let c12_i32_109 : BitVec 32 := 12#32
  let v162 : BitVec 32 := Scalar.subi v3 c12_i32_109
  let v163 : BitVec 32 := Scalar.select v4 v162 v3
  let c1_i32_118 : BitVec 32 := 1#32
  let v177 : BitVec 1 := Scalar.cmpi .sge v163 c1_i32_118
  let v178 : BitVec 32 := Scalar.extui v177
  let c0_i32_119 : BitVec 32 := 0#32
  let v179 : BitVec 1 := Scalar.cmpi .ne v178 c0_i32_119
  v179

def k0_off8 : Fin 2 → Nat :=
  let c1_i32_122 : BitVec 32 := 1#32
  let c0_i32_1 : BitVec 32 := 0#32
  let c2_i32 : BitVec 32 := 2#32
  let v3 : BitVec 32 := Scalar.addi c0_i32_1 c2_i32
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v3 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  ![1, v173.toNat]
def k0_off9 : Fin 3 → Nat :=
  let c0_i32_1 : BitVec 32 := 0#32
  let c2_i32 : BitVec 32 := 2#32
  let v3 : BitVec 32 := Scalar.addi c0_i32_1 c2_i32
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v3 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  let c0_i32_123 : BitVec 32 := 0#32
  let c0_i32_124 : BitVec 32 := 0#32
  ![v173.toNat, 0, 0]
def k0_off10 : Fin 3 → Nat :=
  let c0_i32_1 : BitVec 32 := 0#32
  let c2_i32 : BitVec 32 := 2#32
  let v3 : BitVec 32 := Scalar.addi c0_i32_1 c2_i32
  let c12_i32 : BitVec 32 := 12#32
  let v4 : BitVec 1 := Scalar.cmpi .sge v3 c12_i32
  let c12_i32_109 : BitVec 32 := 12#32
  let v162 : BitVec 32 := Scalar.subi v3 c12_i32_109
  let v163 : BitVec 32 := Scalar.select v4 v162 v3
  let c1_i32_120 : BitVec 32 := 1#32
  let v180 : BitVec 32 := Scalar.subi v163 c1_i32_120
  let c0_i32_121 : BitVec 32 := 0#32
  let v181 : BitVec 32 := Scalar.maxsi v180 c0_i32_121
  let c0_i32_125 : BitVec 32 := 0#32
  let c0_i32_126 : BitVec 32 := 0#32
  ![v181.toNat, 0, 0]
def k0_cond9 : BitVec 1 :=
  let c0_i32_8 : BitVec 32 := 0#32
  let c11_i32 : BitVec 32 := 11#32
  let v20 : BitVec 1 := Scalar.cmpi .slt c0_i32_8 c11_i32
  let v21 : BitVec 32 := Scalar.extui v20
  let c0_i32_10 : BitVec 32 := 0#32
  let v22 : BitVec 1 := Scalar.cmpi .ne v21 c0_i32_10
  v22

def k0_off11 : Fin 2 → Nat :=
  let c0_i32_109 : BitVec 32 := 0#32
  let c0_i32_3 : BitVec 32 := 0#32
  let c3_i32 : BitVec 32 := 3#32
  let c0_i32_4 : BitVec 32 := 0#32
  let v10 : BitVec 1 := Scalar.cmpi .eq c3_i32 c0_i32_4
  let c1_i32 : BitVec 32 := 1#32
  let v11 : BitVec 32 := Scalar.select v10 c1_i32 c3_i32
  let v12 : BitVec 32 := Scalar.remsi c0_i32_3 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![0, v19.toNat]
def k0_off12 : Fin 3 → Nat :=
  let c0_i32_3 : BitVec 32 := 0#32
  let c3_i32 : BitVec 32 := 3#32
  let c0_i32_4 : BitVec 32 := 0#32
  let v10 : BitVec 1 := Scalar.cmpi .eq c3_i32 c0_i32_4
  let c1_i32 : BitVec 32 := 1#32
  let v11 : BitVec 32 := Scalar.select v10 c1_i32 c3_i32
  let v12 : BitVec 32 := Scalar.remsi c0_i32_3 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_110 : BitVec 32 := 0#32
  let c0_i32_111 : BitVec 32 := 0#32
  ![v19.toNat, 0, 0]
def k0_off13 : Fin 3 → Nat :=
  let c0_i32_9 : BitVec 32 := 0#32
  let c10_i32 : BitVec 32 := 10#32
  let v162 : BitVec 32 := Scalar.minsi c0_i32_9 c10_i32
  let c0_i32_112 : BitVec 32 := 0#32
  let c0_i32_113 : BitVec 32 := 0#32
  ![v162.toNat, 0, 0]
def k0_cond10 : BitVec 1 :=
  let c0_i32_11 : BitVec 32 := 0#32
  let c1_i32_12 : BitVec 32 := 1#32
  let v23 : BitVec 1 := Scalar.cmpi .sge c0_i32_11 c1_i32_12
  let v24 : BitVec 32 := Scalar.extui v23
  let c0_i32_14 : BitVec 32 := 0#32
  let v25 : BitVec 1 := Scalar.cmpi .ne v24 c0_i32_14
  v25

def k0_off14 : Fin 2 → Nat :=
  let c1_i32_111 : BitVec 32 := 1#32
  let c0_i32_3 : BitVec 32 := 0#32
  let c3_i32 : BitVec 32 := 3#32
  let c0_i32_4 : BitVec 32 := 0#32
  let v10 : BitVec 1 := Scalar.cmpi .eq c3_i32 c0_i32_4
  let c1_i32 : BitVec 32 := 1#32
  let v11 : BitVec 32 := Scalar.select v10 c1_i32 c3_i32
  let v12 : BitVec 32 := Scalar.remsi c0_i32_3 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![1, v19.toNat]
def k0_off15 : Fin 3 → Nat :=
  let c0_i32_3 : BitVec 32 := 0#32
  let c3_i32 : BitVec 32 := 3#32
  let c0_i32_4 : BitVec 32 := 0#32
  let v10 : BitVec 1 := Scalar.cmpi .eq c3_i32 c0_i32_4
  let c1_i32 : BitVec 32 := 1#32
  let v11 : BitVec 32 := Scalar.select v10 c1_i32 c3_i32
  let v12 : BitVec 32 := Scalar.remsi c0_i32_3 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_112 : BitVec 32 := 0#32
  let c0_i32_113 : BitVec 32 := 0#32
  ![v19.toNat, 0, 0]
def k0_off16 : Fin 3 → Nat :=
  let c0_i32_13 : BitVec 32 := 0#32
  let c1_i32_109 : BitVec 32 := 1#32
  let v162 : BitVec 32 := Scalar.subi c0_i32_13 c1_i32_109
  let c0_i32_110 : BitVec 32 := 0#32
  let v163 : BitVec 32 := Scalar.maxsi v162 c0_i32_110
  let c0_i32_114 : BitVec 32 := 0#32
  let c0_i32_115 : BitVec 32 := 0#32
  ![v163.toNat, 0, 0]
def k0_cond11 (i : grid0.Coords) : BitVec 1 :=
  let c1_i32_22 : BitVec 32 := 1#32
  let c2_i32_23 : BitVec 32 := 2#32
  let v47 : BitVec 32 := Scalar.addi c1_i32_22 c2_i32_23
  let c12_i32_24 : BitVec 32 := 12#32
  let v48 : BitVec 1 := Scalar.cmpi .sge v47 c12_i32_24
  let true_25 : BitVec 1 := 1#1
  let v49 : BitVec 1 := Scalar.xori v48 true_25
  let arg0 : BitVec 32 := BitVec.ofNat 32 (i 0).val
  let c31_i32_26 : BitVec 32 := 31#32
  let v50 : BitVec 1 := Scalar.cmpi .slt arg0 c31_i32_26
  let v51 : BitVec 1 := Scalar.ori v49 v50
  let v52 : BitVec 32 := Scalar.extui v51
  let c0_i32_27 : BitVec 32 := 0#32
  let v53 : BitVec 1 := Scalar.cmpi .ne v52 c0_i32_27
  v53

def k0_cond12 : BitVec 1 :=
  let c1_i32_22 : BitVec 32 := 1#32
  let c2_i32_23 : BitVec 32 := 2#32
  let v47 : BitVec 32 := Scalar.addi c1_i32_22 c2_i32_23
  let c12_i32_24 : BitVec 32 := 12#32
  let v48 : BitVec 1 := Scalar.cmpi .sge v47 c12_i32_24
  let c12_i32_109 : BitVec 32 := 12#32
  let v162 : BitVec 32 := Scalar.subi v47 c12_i32_109
  let v163 : BitVec 32 := Scalar.select v48 v162 v47
  let c11_i32_116 : BitVec 32 := 11#32
  let v174 : BitVec 1 := Scalar.cmpi .slt v163 c11_i32_116
  let v175 : BitVec 32 := Scalar.extui v174
  let c0_i32_117 : BitVec 32 := 0#32
  let v176 : BitVec 1 := Scalar.cmpi .ne v175 c0_i32_117
  v176

def k0_off17 : Fin 2 → Nat :=
  let c0_i32_120 : BitVec 32 := 0#32
  let c1_i32_22 : BitVec 32 := 1#32
  let c2_i32_23 : BitVec 32 := 2#32
  let v47 : BitVec 32 := Scalar.addi c1_i32_22 c2_i32_23
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v47 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  ![0, v173.toNat]
def k0_off18 : Fin 3 → Nat :=
  let c1_i32_22 : BitVec 32 := 1#32
  let c2_i32_23 : BitVec 32 := 2#32
  let v47 : BitVec 32 := Scalar.addi c1_i32_22 c2_i32_23
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v47 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  let c0_i32_121 : BitVec 32 := 0#32
  let c0_i32_122 : BitVec 32 := 0#32
  ![v173.toNat, 0, 0]
def k0_off19 : Fin 3 → Nat :=
  let c1_i32_22 : BitVec 32 := 1#32
  let c2_i32_23 : BitVec 32 := 2#32
  let v47 : BitVec 32 := Scalar.addi c1_i32_22 c2_i32_23
  let c12_i32_24 : BitVec 32 := 12#32
  let v48 : BitVec 1 := Scalar.cmpi .sge v47 c12_i32_24
  let c12_i32_109 : BitVec 32 := 12#32
  let v162 : BitVec 32 := Scalar.subi v47 c12_i32_109
  let v163 : BitVec 32 := Scalar.select v48 v162 v47
  let c10_i32 : BitVec 32 := 10#32
  let v180 : BitVec 32 := Scalar.minsi v163 c10_i32
  let c0_i32_123 : BitVec 32 := 0#32
  let c0_i32_124 : BitVec 32 := 0#32
  ![v180.toNat, 0, 0]
def k0_cond13 : BitVec 1 :=
  let c1_i32_22 : BitVec 32 := 1#32
  let c2_i32_23 : BitVec 32 := 2#32
  let v47 : BitVec 32 := Scalar.addi c1_i32_22 c2_i32_23
  let c12_i32_24 : BitVec 32 := 12#32
  let v48 : BitVec 1 := Scalar.cmpi .sge v47 c12_i32_24
  let c12_i32_109 : BitVec 32 := 12#32
  let v162 : BitVec 32 := Scalar.subi v47 c12_i32_109
  let v163 : BitVec 32 := Scalar.select v48 v162 v47
  let c1_i32_118 : BitVec 32 := 1#32
  let v177 : BitVec 1 := Scalar.cmpi .sge v163 c1_i32_118
  let v178 : BitVec 32 := Scalar.extui v177
  let c0_i32_119 : BitVec 32 := 0#32
  let v179 : BitVec 1 := Scalar.cmpi .ne v178 c0_i32_119
  v179

def k0_off20 : Fin 2 → Nat :=
  let c1_i32_122 : BitVec 32 := 1#32
  let c1_i32_22 : BitVec 32 := 1#32
  let c2_i32_23 : BitVec 32 := 2#32
  let v47 : BitVec 32 := Scalar.addi c1_i32_22 c2_i32_23
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v47 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  ![1, v173.toNat]
def k0_off21 : Fin 3 → Nat :=
  let c1_i32_22 : BitVec 32 := 1#32
  let c2_i32_23 : BitVec 32 := 2#32
  let v47 : BitVec 32 := Scalar.addi c1_i32_22 c2_i32_23
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v47 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  let c0_i32_123 : BitVec 32 := 0#32
  let c0_i32_124 : BitVec 32 := 0#32
  ![v173.toNat, 0, 0]
def k0_off22 : Fin 3 → Nat :=
  let c1_i32_22 : BitVec 32 := 1#32
  let c2_i32_23 : BitVec 32 := 2#32
  let v47 : BitVec 32 := Scalar.addi c1_i32_22 c2_i32_23
  let c12_i32_24 : BitVec 32 := 12#32
  let v48 : BitVec 1 := Scalar.cmpi .sge v47 c12_i32_24
  let c12_i32_109 : BitVec 32 := 12#32
  let v162 : BitVec 32 := Scalar.subi v47 c12_i32_109
  let v163 : BitVec 32 := Scalar.select v48 v162 v47
  let c1_i32_120 : BitVec 32 := 1#32
  let v180 : BitVec 32 := Scalar.subi v163 c1_i32_120
  let c0_i32_121 : BitVec 32 := 0#32
  let v181 : BitVec 32 := Scalar.maxsi v180 c0_i32_121
  let c0_i32_125 : BitVec 32 := 0#32
  let c0_i32_126 : BitVec 32 := 0#32
  ![v181.toNat, 0, 0]
def k0_cond14 : BitVec 1 :=
  let c1_i32_35 : BitVec 32 := 1#32
  let c11_i32_36 : BitVec 32 := 11#32
  let v64 : BitVec 1 := Scalar.cmpi .slt c1_i32_35 c11_i32_36
  let v65 : BitVec 32 := Scalar.extui v64
  let c0_i32_38 : BitVec 32 := 0#32
  let v66 : BitVec 1 := Scalar.cmpi .ne v65 c0_i32_38
  v66

def k0_off23 : Fin 2 → Nat :=
  let c0_i32_109 : BitVec 32 := 0#32
  let c1_i32_28 : BitVec 32 := 1#32
  let c3_i32_29 : BitVec 32 := 3#32
  let c0_i32_30 : BitVec 32 := 0#32
  let v54 : BitVec 1 := Scalar.cmpi .eq c3_i32_29 c0_i32_30
  let c1_i32_31 : BitVec 32 := 1#32
  let v55 : BitVec 32 := Scalar.select v54 c1_i32_31 c3_i32_29
  let v56 : BitVec 32 := Scalar.remsi c1_i32_28 v55
  let c0_i32_33 : BitVec 32 := 0#32
  let v58 : BitVec 1 := Scalar.cmpi .slt v56 c0_i32_33
  let c0_i32_34 : BitVec 32 := 0#32
  let v59 : BitVec 1 := Scalar.cmpi .slt v55 c0_i32_34
  let v60 : BitVec 1 := Scalar.xori v58 v59
  let c0_i32_32 : BitVec 32 := 0#32
  let v57 : BitVec 1 := Scalar.cmpi .ne v56 c0_i32_32
  let v61 : BitVec 1 := Scalar.andi v60 v57
  let v62 : BitVec 32 := Scalar.addi v56 v55
  let v63 : BitVec 32 := Scalar.select v61 v62 v56
  ![0, v63.toNat]
def k0_off24 : Fin 3 → Nat :=
  let c1_i32_28 : BitVec 32 := 1#32
  let c3_i32_29 : BitVec 32 := 3#32
  let c0_i32_30 : BitVec 32 := 0#32
  let v54 : BitVec 1 := Scalar.cmpi .eq c3_i32_29 c0_i32_30
  let c1_i32_31 : BitVec 32 := 1#32
  let v55 : BitVec 32 := Scalar.select v54 c1_i32_31 c3_i32_29
  let v56 : BitVec 32 := Scalar.remsi c1_i32_28 v55
  let c0_i32_33 : BitVec 32 := 0#32
  let v58 : BitVec 1 := Scalar.cmpi .slt v56 c0_i32_33
  let c0_i32_34 : BitVec 32 := 0#32
  let v59 : BitVec 1 := Scalar.cmpi .slt v55 c0_i32_34
  let v60 : BitVec 1 := Scalar.xori v58 v59
  let c0_i32_32 : BitVec 32 := 0#32
  let v57 : BitVec 1 := Scalar.cmpi .ne v56 c0_i32_32
  let v61 : BitVec 1 := Scalar.andi v60 v57
  let v62 : BitVec 32 := Scalar.addi v56 v55
  let v63 : BitVec 32 := Scalar.select v61 v62 v56
  let c0_i32_110 : BitVec 32 := 0#32
  let c0_i32_111 : BitVec 32 := 0#32
  ![v63.toNat, 0, 0]
def k0_off25 : Fin 3 → Nat :=
  let c1_i32_37 : BitVec 32 := 1#32
  let c10_i32 : BitVec 32 := 10#32
  let v162 : BitVec 32 := Scalar.minsi c1_i32_37 c10_i32
  let c0_i32_112 : BitVec 32 := 0#32
  let c0_i32_113 : BitVec 32 := 0#32
  ![v162.toNat, 0, 0]
def k0_cond15 : BitVec 1 :=
  let c1_i32_39 : BitVec 32 := 1#32
  let c1_i32_40 : BitVec 32 := 1#32
  let v67 : BitVec 1 := Scalar.cmpi .sge c1_i32_39 c1_i32_40
  let v68 : BitVec 32 := Scalar.extui v67
  let c0_i32_42 : BitVec 32 := 0#32
  let v69 : BitVec 1 := Scalar.cmpi .ne v68 c0_i32_42
  v69

def k0_off26 : Fin 2 → Nat :=
  let c1_i32_111 : BitVec 32 := 1#32
  let c1_i32_28 : BitVec 32 := 1#32
  let c3_i32_29 : BitVec 32 := 3#32
  let c0_i32_30 : BitVec 32 := 0#32
  let v54 : BitVec 1 := Scalar.cmpi .eq c3_i32_29 c0_i32_30
  let c1_i32_31 : BitVec 32 := 1#32
  let v55 : BitVec 32 := Scalar.select v54 c1_i32_31 c3_i32_29
  let v56 : BitVec 32 := Scalar.remsi c1_i32_28 v55
  let c0_i32_33 : BitVec 32 := 0#32
  let v58 : BitVec 1 := Scalar.cmpi .slt v56 c0_i32_33
  let c0_i32_34 : BitVec 32 := 0#32
  let v59 : BitVec 1 := Scalar.cmpi .slt v55 c0_i32_34
  let v60 : BitVec 1 := Scalar.xori v58 v59
  let c0_i32_32 : BitVec 32 := 0#32
  let v57 : BitVec 1 := Scalar.cmpi .ne v56 c0_i32_32
  let v61 : BitVec 1 := Scalar.andi v60 v57
  let v62 : BitVec 32 := Scalar.addi v56 v55
  let v63 : BitVec 32 := Scalar.select v61 v62 v56
  ![1, v63.toNat]
def k0_off27 : Fin 3 → Nat :=
  let c1_i32_28 : BitVec 32 := 1#32
  let c3_i32_29 : BitVec 32 := 3#32
  let c0_i32_30 : BitVec 32 := 0#32
  let v54 : BitVec 1 := Scalar.cmpi .eq c3_i32_29 c0_i32_30
  let c1_i32_31 : BitVec 32 := 1#32
  let v55 : BitVec 32 := Scalar.select v54 c1_i32_31 c3_i32_29
  let v56 : BitVec 32 := Scalar.remsi c1_i32_28 v55
  let c0_i32_33 : BitVec 32 := 0#32
  let v58 : BitVec 1 := Scalar.cmpi .slt v56 c0_i32_33
  let c0_i32_34 : BitVec 32 := 0#32
  let v59 : BitVec 1 := Scalar.cmpi .slt v55 c0_i32_34
  let v60 : BitVec 1 := Scalar.xori v58 v59
  let c0_i32_32 : BitVec 32 := 0#32
  let v57 : BitVec 1 := Scalar.cmpi .ne v56 c0_i32_32
  let v61 : BitVec 1 := Scalar.andi v60 v57
  let v62 : BitVec 32 := Scalar.addi v56 v55
  let v63 : BitVec 32 := Scalar.select v61 v62 v56
  let c0_i32_112 : BitVec 32 := 0#32
  let c0_i32_113 : BitVec 32 := 0#32
  ![v63.toNat, 0, 0]
def k0_off28 : Fin 3 → Nat :=
  let c1_i32_41 : BitVec 32 := 1#32
  let c1_i32_109 : BitVec 32 := 1#32
  let v162 : BitVec 32 := Scalar.subi c1_i32_41 c1_i32_109
  let c0_i32_110 : BitVec 32 := 0#32
  let v163 : BitVec 32 := Scalar.maxsi v162 c0_i32_110
  let c0_i32_114 : BitVec 32 := 0#32
  let c0_i32_115 : BitVec 32 := 0#32
  ![v163.toNat, 0, 0]
@[reducible] def k0_t1_loop : Scf.Loop 32 :=
  let c2_i32_60 : BitVec 32 := 2#32
  let c9_i32 : BitVec 32 := 9#32
  let v97 : BitVec 32 := Scalar.addi c2_i32_60 c9_i32
  let c1_i32_61 : BitVec 32 := 1#32
  ⟨c2_i32_60, v97, c1_i32_61⟩
def k0_cond16 (i : grid0.Coords) (k0_t1 : Fin k0_t1_loop.trips) : BitVec 1 :=
  let c2_i32_60 : BitVec 32 := 2#32
  let c1_i32_61 : BitVec 32 := 1#32
  let arg13 : BitVec 32 := Scf.iv c2_i32_60 c1_i32_61 k0_t1
  let c2_i32_109 : BitVec 32 := 2#32
  let v162 : BitVec 32 := Scalar.addi arg13 c2_i32_109
  let c12_i32_110 : BitVec 32 := 12#32
  let v163 : BitVec 1 := Scalar.cmpi .sge v162 c12_i32_110
  let true_111 : BitVec 1 := 1#1
  let v164 : BitVec 1 := Scalar.xori v163 true_111
  let arg0 : BitVec 32 := BitVec.ofNat 32 (i 0).val
  let c31_i32_112 : BitVec 32 := 31#32
  let v165 : BitVec 1 := Scalar.cmpi .slt arg0 c31_i32_112
  let v166 : BitVec 1 := Scalar.ori v164 v165
  let v167 : BitVec 32 := Scalar.extui v166
  let c0_i32_113 : BitVec 32 := 0#32
  let v168 : BitVec 1 := Scalar.cmpi .ne v167 c0_i32_113
  v168

def k0_cond17 (k0_t1 : Fin k0_t1_loop.trips) : BitVec 1 :=
  let c2_i32_60 : BitVec 32 := 2#32
  let c1_i32_61 : BitVec 32 := 1#32
  let arg13 : BitVec 32 := Scf.iv c2_i32_60 c1_i32_61 k0_t1
  let c2_i32_109 : BitVec 32 := 2#32
  let v162 : BitVec 32 := Scalar.addi arg13 c2_i32_109
  let c12_i32_110 : BitVec 32 := 12#32
  let v163 : BitVec 1 := Scalar.cmpi .sge v162 c12_i32_110
  let c12_i32_159 : BitVec 32 := 12#32
  let v250 : BitVec 32 := Scalar.subi v162 c12_i32_159
  let v251 : BitVec 32 := Scalar.select v163 v250 v162
  let c11_i32_166 : BitVec 32 := 11#32
  let v262 : BitVec 1 := Scalar.cmpi .slt v251 c11_i32_166
  let v263 : BitVec 32 := Scalar.extui v262
  let c0_i32_167 : BitVec 32 := 0#32
  let v264 : BitVec 1 := Scalar.cmpi .ne v263 c0_i32_167
  v264

def k0_off29 (k0_t1 : Fin k0_t1_loop.trips) : Fin 2 → Nat :=
  let c0_i32_170 : BitVec 32 := 0#32
  let c2_i32_60 : BitVec 32 := 2#32
  let c1_i32_61 : BitVec 32 := 1#32
  let arg13 : BitVec 32 := Scf.iv c2_i32_60 c1_i32_61 k0_t1
  let c2_i32_109 : BitVec 32 := 2#32
  let v162 : BitVec 32 := Scalar.addi arg13 c2_i32_109
  let c3_i32_160 : BitVec 32 := 3#32
  let c0_i32_161 : BitVec 32 := 0#32
  let v252 : BitVec 1 := Scalar.cmpi .eq c3_i32_160 c0_i32_161
  let c1_i32_162 : BitVec 32 := 1#32
  let v253 : BitVec 32 := Scalar.select v252 c1_i32_162 c3_i32_160
  let v254 : BitVec 32 := Scalar.remsi v162 v253
  let c0_i32_164 : BitVec 32 := 0#32
  let v256 : BitVec 1 := Scalar.cmpi .slt v254 c0_i32_164
  let c0_i32_165 : BitVec 32 := 0#32
  let v257 : BitVec 1 := Scalar.cmpi .slt v253 c0_i32_165
  let v258 : BitVec 1 := Scalar.xori v256 v257
  let c0_i32_163 : BitVec 32 := 0#32
  let v255 : BitVec 1 := Scalar.cmpi .ne v254 c0_i32_163
  let v259 : BitVec 1 := Scalar.andi v258 v255
  let v260 : BitVec 32 := Scalar.addi v254 v253
  let v261 : BitVec 32 := Scalar.select v259 v260 v254
  ![0, v261.toNat]
def k0_off30 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c2_i32_109 : BitVec 32 := 2#32
  let v162 : BitVec 32 := Scalar.addi arg13 c2_i32_109
  let c3_i32_160 : BitVec 32 := 3#32
  let c0_i32_161 : BitVec 32 := 0#32
  let v252 : BitVec 1 := Scalar.cmpi .eq c3_i32_160 c0_i32_161
  let c1_i32_162 : BitVec 32 := 1#32
  let v253 : BitVec 32 := Scalar.select v252 c1_i32_162 c3_i32_160
  let v254 : BitVec 32 := Scalar.remsi v162 v253
  let c0_i32_164 : BitVec 32 := 0#32
  let v256 : BitVec 1 := Scalar.cmpi .slt v254 c0_i32_164
  let c0_i32_165 : BitVec 32 := 0#32
  let v257 : BitVec 1 := Scalar.cmpi .slt v253 c0_i32_165
  let v258 : BitVec 1 := Scalar.xori v256 v257
  let c0_i32_163 : BitVec 32 := 0#32
  let v255 : BitVec 1 := Scalar.cmpi .ne v254 c0_i32_163
  let v259 : BitVec 1 := Scalar.andi v258 v255
  let v260 : BitVec 32 := Scalar.addi v254 v253
  let v261 : BitVec 32 := Scalar.select v259 v260 v254
  let c0_i32_171 : BitVec 32 := 0#32
  let c0_i32_172 : BitVec 32 := 0#32
  ![v261.toNat, 0, 0]
def k0_off31 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c2_i32_109 : BitVec 32 := 2#32
  let v162 : BitVec 32 := Scalar.addi arg13 c2_i32_109
  let c12_i32_110 : BitVec 32 := 12#32
  let v163 : BitVec 1 := Scalar.cmpi .sge v162 c12_i32_110
  let c12_i32_159 : BitVec 32 := 12#32
  let v250 : BitVec 32 := Scalar.subi v162 c12_i32_159
  let v251 : BitVec 32 := Scalar.select v163 v250 v162
  let c10_i32 : BitVec 32 := 10#32
  let v268 : BitVec 32 := Scalar.minsi v251 c10_i32
  let c0_i32_173 : BitVec 32 := 0#32
  let c0_i32_174 : BitVec 32 := 0#32
  ![v268.toNat, 0, 0]
def k0_cond18 (k0_t1 : Fin k0_t1_loop.trips) : BitVec 1 :=
  let c2_i32_60 : BitVec 32 := 2#32
  let c1_i32_61 : BitVec 32 := 1#32
  let arg13 : BitVec 32 := Scf.iv c2_i32_60 c1_i32_61 k0_t1
  let c2_i32_109 : BitVec 32 := 2#32
  let v162 : BitVec 32 := Scalar.addi arg13 c2_i32_109
  let c12_i32_110 : BitVec 32 := 12#32
  let v163 : BitVec 1 := Scalar.cmpi .sge v162 c12_i32_110
  let c12_i32_159 : BitVec 32 := 12#32
  let v250 : BitVec 32 := Scalar.subi v162 c12_i32_159
  let v251 : BitVec 32 := Scalar.select v163 v250 v162
  let c1_i32_168 : BitVec 32 := 1#32
  let v265 : BitVec 1 := Scalar.cmpi .sge v251 c1_i32_168
  let v266 : BitVec 32 := Scalar.extui v265
  let c0_i32_169 : BitVec 32 := 0#32
  let v267 : BitVec 1 := Scalar.cmpi .ne v266 c0_i32_169
  v267

def k0_off32 (k0_t1 : Fin k0_t1_loop.trips) : Fin 2 → Nat :=
  let c1_i32_172 : BitVec 32 := 1#32
  let c2_i32_60 : BitVec 32 := 2#32
  let c1_i32_61 : BitVec 32 := 1#32
  let arg13 : BitVec 32 := Scf.iv c2_i32_60 c1_i32_61 k0_t1
  let c2_i32_109 : BitVec 32 := 2#32
  let v162 : BitVec 32 := Scalar.addi arg13 c2_i32_109
  let c3_i32_160 : BitVec 32 := 3#32
  let c0_i32_161 : BitVec 32 := 0#32
  let v252 : BitVec 1 := Scalar.cmpi .eq c3_i32_160 c0_i32_161
  let c1_i32_162 : BitVec 32 := 1#32
  let v253 : BitVec 32 := Scalar.select v252 c1_i32_162 c3_i32_160
  let v254 : BitVec 32 := Scalar.remsi v162 v253
  let c0_i32_164 : BitVec 32 := 0#32
  let v256 : BitVec 1 := Scalar.cmpi .slt v254 c0_i32_164
  let c0_i32_165 : BitVec 32 := 0#32
  let v257 : BitVec 1 := Scalar.cmpi .slt v253 c0_i32_165
  let v258 : BitVec 1 := Scalar.xori v256 v257
  let c0_i32_163 : BitVec 32 := 0#32
  let v255 : BitVec 1 := Scalar.cmpi .ne v254 c0_i32_163
  let v259 : BitVec 1 := Scalar.andi v258 v255
  let v260 : BitVec 32 := Scalar.addi v254 v253
  let v261 : BitVec 32 := Scalar.select v259 v260 v254
  ![1, v261.toNat]
def k0_off33 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c2_i32_109 : BitVec 32 := 2#32
  let v162 : BitVec 32 := Scalar.addi arg13 c2_i32_109
  let c3_i32_160 : BitVec 32 := 3#32
  let c0_i32_161 : BitVec 32 := 0#32
  let v252 : BitVec 1 := Scalar.cmpi .eq c3_i32_160 c0_i32_161
  let c1_i32_162 : BitVec 32 := 1#32
  let v253 : BitVec 32 := Scalar.select v252 c1_i32_162 c3_i32_160
  let v254 : BitVec 32 := Scalar.remsi v162 v253
  let c0_i32_164 : BitVec 32 := 0#32
  let v256 : BitVec 1 := Scalar.cmpi .slt v254 c0_i32_164
  let c0_i32_165 : BitVec 32 := 0#32
  let v257 : BitVec 1 := Scalar.cmpi .slt v253 c0_i32_165
  let v258 : BitVec 1 := Scalar.xori v256 v257
  let c0_i32_163 : BitVec 32 := 0#32
  let v255 : BitVec 1 := Scalar.cmpi .ne v254 c0_i32_163
  let v259 : BitVec 1 := Scalar.andi v258 v255
  let v260 : BitVec 32 := Scalar.addi v254 v253
  let v261 : BitVec 32 := Scalar.select v259 v260 v254
  let c0_i32_173 : BitVec 32 := 0#32
  let c0_i32_174 : BitVec 32 := 0#32
  ![v261.toNat, 0, 0]
def k0_off34 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c2_i32_109 : BitVec 32 := 2#32
  let v162 : BitVec 32 := Scalar.addi arg13 c2_i32_109
  let c12_i32_110 : BitVec 32 := 12#32
  let v163 : BitVec 1 := Scalar.cmpi .sge v162 c12_i32_110
  let c12_i32_159 : BitVec 32 := 12#32
  let v250 : BitVec 32 := Scalar.subi v162 c12_i32_159
  let v251 : BitVec 32 := Scalar.select v163 v250 v162
  let c1_i32_170 : BitVec 32 := 1#32
  let v268 : BitVec 32 := Scalar.subi v251 c1_i32_170
  let c0_i32_171 : BitVec 32 := 0#32
  let v269 : BitVec 32 := Scalar.maxsi v268 c0_i32_171
  let c0_i32_175 : BitVec 32 := 0#32
  let c0_i32_176 : BitVec 32 := 0#32
  ![v269.toNat, 0, 0]
def k0_cond19 (k0_t1 : Fin k0_t1_loop.trips) : BitVec 1 :=
  let c2_i32_60 : BitVec 32 := 2#32
  let c1_i32_61 : BitVec 32 := 1#32
  let arg13 : BitVec 32 := Scf.iv c2_i32_60 c1_i32_61 k0_t1
  let c11_i32_120 : BitVec 32 := 11#32
  let v179 : BitVec 1 := Scalar.cmpi .slt arg13 c11_i32_120
  let v180 : BitVec 32 := Scalar.extui v179
  let c0_i32_121 : BitVec 32 := 0#32
  let v181 : BitVec 1 := Scalar.cmpi .ne v180 c0_i32_121
  v181

def k0_off35 (k0_t1 : Fin k0_t1_loop.trips) : Fin 2 → Nat :=
  let c0_i32_159 : BitVec 32 := 0#32
  let c2_i32_60 : BitVec 32 := 2#32
  let c1_i32_61 : BitVec 32 := 1#32
  let arg13 : BitVec 32 := Scf.iv c2_i32_60 c1_i32_61 k0_t1
  let c3_i32_114 : BitVec 32 := 3#32
  let c0_i32_115 : BitVec 32 := 0#32
  let v169 : BitVec 1 := Scalar.cmpi .eq c3_i32_114 c0_i32_115
  let c1_i32_116 : BitVec 32 := 1#32
  let v170 : BitVec 32 := Scalar.select v169 c1_i32_116 c3_i32_114
  let v171 : BitVec 32 := Scalar.remsi arg13 v170
  let c0_i32_118 : BitVec 32 := 0#32
  let v173 : BitVec 1 := Scalar.cmpi .slt v171 c0_i32_118
  let c0_i32_119 : BitVec 32 := 0#32
  let v174 : BitVec 1 := Scalar.cmpi .slt v170 c0_i32_119
  let v175 : BitVec 1 := Scalar.xori v173 v174
  let c0_i32_117 : BitVec 32 := 0#32
  let v172 : BitVec 1 := Scalar.cmpi .ne v171 c0_i32_117
  let v176 : BitVec 1 := Scalar.andi v175 v172
  let v177 : BitVec 32 := Scalar.addi v171 v170
  let v178 : BitVec 32 := Scalar.select v176 v177 v171
  ![0, v178.toNat]
def k0_off36 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c3_i32_114 : BitVec 32 := 3#32
  let c0_i32_115 : BitVec 32 := 0#32
  let v169 : BitVec 1 := Scalar.cmpi .eq c3_i32_114 c0_i32_115
  let c1_i32_116 : BitVec 32 := 1#32
  let v170 : BitVec 32 := Scalar.select v169 c1_i32_116 c3_i32_114
  let v171 : BitVec 32 := Scalar.remsi arg13 v170
  let c0_i32_118 : BitVec 32 := 0#32
  let v173 : BitVec 1 := Scalar.cmpi .slt v171 c0_i32_118
  let c0_i32_119 : BitVec 32 := 0#32
  let v174 : BitVec 1 := Scalar.cmpi .slt v170 c0_i32_119
  let v175 : BitVec 1 := Scalar.xori v173 v174
  let c0_i32_117 : BitVec 32 := 0#32
  let v172 : BitVec 1 := Scalar.cmpi .ne v171 c0_i32_117
  let v176 : BitVec 1 := Scalar.andi v175 v172
  let v177 : BitVec 32 := Scalar.addi v171 v170
  let v178 : BitVec 32 := Scalar.select v176 v177 v171
  let c0_i32_160 : BitVec 32 := 0#32
  let c0_i32_161 : BitVec 32 := 0#32
  ![v178.toNat, 0, 0]
def k0_off37 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c10_i32 : BitVec 32 := 10#32
  let v250 : BitVec 32 := Scalar.minsi arg13 c10_i32
  let c0_i32_162 : BitVec 32 := 0#32
  let c0_i32_163 : BitVec 32 := 0#32
  ![v250.toNat, 0, 0]
def k0_cond20 (k0_t1 : Fin k0_t1_loop.trips) : BitVec 1 :=
  let c2_i32_60 : BitVec 32 := 2#32
  let c1_i32_61 : BitVec 32 := 1#32
  let arg13 : BitVec 32 := Scf.iv c2_i32_60 c1_i32_61 k0_t1
  let c1_i32_122 : BitVec 32 := 1#32
  let v182 : BitVec 1 := Scalar.cmpi .sge arg13 c1_i32_122
  let v183 : BitVec 32 := Scalar.extui v182
  let c0_i32_123 : BitVec 32 := 0#32
  let v184 : BitVec 1 := Scalar.cmpi .ne v183 c0_i32_123
  v184

def k0_off38 (k0_t1 : Fin k0_t1_loop.trips) : Fin 2 → Nat :=
  let c1_i32_161 : BitVec 32 := 1#32
  let c2_i32_60 : BitVec 32 := 2#32
  let c1_i32_61 : BitVec 32 := 1#32
  let arg13 : BitVec 32 := Scf.iv c2_i32_60 c1_i32_61 k0_t1
  let c3_i32_114 : BitVec 32 := 3#32
  let c0_i32_115 : BitVec 32 := 0#32
  let v169 : BitVec 1 := Scalar.cmpi .eq c3_i32_114 c0_i32_115
  let c1_i32_116 : BitVec 32 := 1#32
  let v170 : BitVec 32 := Scalar.select v169 c1_i32_116 c3_i32_114
  let v171 : BitVec 32 := Scalar.remsi arg13 v170
  let c0_i32_118 : BitVec 32 := 0#32
  let v173 : BitVec 1 := Scalar.cmpi .slt v171 c0_i32_118
  let c0_i32_119 : BitVec 32 := 0#32
  let v174 : BitVec 1 := Scalar.cmpi .slt v170 c0_i32_119
  let v175 : BitVec 1 := Scalar.xori v173 v174
  let c0_i32_117 : BitVec 32 := 0#32
  let v172 : BitVec 1 := Scalar.cmpi .ne v171 c0_i32_117
  let v176 : BitVec 1 := Scalar.andi v175 v172
  let v177 : BitVec 32 := Scalar.addi v171 v170
  let v178 : BitVec 32 := Scalar.select v176 v177 v171
  ![1, v178.toNat]
def k0_off39 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c3_i32_114 : BitVec 32 := 3#32
  let c0_i32_115 : BitVec 32 := 0#32
  let v169 : BitVec 1 := Scalar.cmpi .eq c3_i32_114 c0_i32_115
  let c1_i32_116 : BitVec 32 := 1#32
  let v170 : BitVec 32 := Scalar.select v169 c1_i32_116 c3_i32_114
  let v171 : BitVec 32 := Scalar.remsi arg13 v170
  let c0_i32_118 : BitVec 32 := 0#32
  let v173 : BitVec 1 := Scalar.cmpi .slt v171 c0_i32_118
  let c0_i32_119 : BitVec 32 := 0#32
  let v174 : BitVec 1 := Scalar.cmpi .slt v170 c0_i32_119
  let v175 : BitVec 1 := Scalar.xori v173 v174
  let c0_i32_117 : BitVec 32 := 0#32
  let v172 : BitVec 1 := Scalar.cmpi .ne v171 c0_i32_117
  let v176 : BitVec 1 := Scalar.andi v175 v172
  let v177 : BitVec 32 := Scalar.addi v171 v170
  let v178 : BitVec 32 := Scalar.select v176 v177 v171
  let c0_i32_162 : BitVec 32 := 0#32
  let c0_i32_163 : BitVec 32 := 0#32
  ![v178.toNat, 0, 0]
def k0_off40 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c1_i32_159 : BitVec 32 := 1#32
  let v250 : BitVec 32 := Scalar.subi arg13 c1_i32_159
  let c0_i32_160 : BitVec 32 := 0#32
  let v251 : BitVec 32 := Scalar.maxsi v250 c0_i32_160
  let c0_i32_164 : BitVec 32 := 0#32
  let c0_i32_165 : BitVec 32 := 0#32
  ![v251.toNat, 0, 0]
def k0_off41 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c1_i32_132 : BitVec 32 := 1#32
  let v197 : BitVec 32 := Scalar.subi arg13 c1_i32_132
  let c2_i32_133 : BitVec 32 := 2#32
  let c0_i32_134 : BitVec 32 := 0#32
  let v198 : BitVec 1 := Scalar.cmpi .eq c2_i32_133 c0_i32_134
  let c1_i32_135 : BitVec 32 := 1#32
  let v199 : BitVec 32 := Scalar.select v198 c1_i32_135 c2_i32_133
  let v200 : BitVec 32 := Scalar.remsi v197 v199
  let c0_i32_137 : BitVec 32 := 0#32
  let v202 : BitVec 1 := Scalar.cmpi .slt v200 c0_i32_137
  let c0_i32_138 : BitVec 32 := 0#32
  let v203 : BitVec 1 := Scalar.cmpi .slt v199 c0_i32_138
  let v204 : BitVec 1 := Scalar.xori v202 v203
  let c0_i32_136 : BitVec 32 := 0#32
  let v201 : BitVec 1 := Scalar.cmpi .ne v200 c0_i32_136
  let v205 : BitVec 1 := Scalar.andi v204 v201
  let v206 : BitVec 32 := Scalar.addi v200 v199
  let v207 : BitVec 32 := Scalar.select v205 v206 v200
  let v208 : Index := Scalar.indexCast v207
  let c0_139 : Index := 0#32
  let c0_140 : Index := 0#32
  ![v208.toNat, 0, 0]
def k0_off42 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c3_i32_124 : BitVec 32 := 3#32
  let c0_i32_125 : BitVec 32 := 0#32
  let v185 : BitVec 1 := Scalar.cmpi .eq c3_i32_124 c0_i32_125
  let c1_i32_126 : BitVec 32 := 1#32
  let v186 : BitVec 32 := Scalar.select v185 c1_i32_126 c3_i32_124
  let v187 : BitVec 32 := Scalar.remsi arg13 v186
  let c0_i32_128 : BitVec 32 := 0#32
  let v189 : BitVec 1 := Scalar.cmpi .slt v187 c0_i32_128
  let c0_i32_129 : BitVec 32 := 0#32
  let v190 : BitVec 1 := Scalar.cmpi .slt v186 c0_i32_129
  let v191 : BitVec 1 := Scalar.xori v189 v190
  let c0_i32_127 : BitVec 32 := 0#32
  let v188 : BitVec 1 := Scalar.cmpi .ne v187 c0_i32_127
  let v192 : BitVec 1 := Scalar.andi v191 v188
  let v193 : BitVec 32 := Scalar.addi v187 v186
  let v194 : BitVec 32 := Scalar.select v192 v193 v187
  let v211 : Index := Scalar.indexCast v194
  let c0_141 : Index := 0#32
  let c0_142 : Index := 0#32
  ![v211.toNat, 0, 0]
def k0_off43 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c3_i32_124 : BitVec 32 := 3#32
  let c0_i32_125 : BitVec 32 := 0#32
  let v185 : BitVec 1 := Scalar.cmpi .eq c3_i32_124 c0_i32_125
  let c1_i32_126 : BitVec 32 := 1#32
  let v186 : BitVec 32 := Scalar.select v185 c1_i32_126 c3_i32_124
  let v187 : BitVec 32 := Scalar.remsi arg13 v186
  let c0_i32_128 : BitVec 32 := 0#32
  let v189 : BitVec 1 := Scalar.cmpi .slt v187 c0_i32_128
  let c0_i32_129 : BitVec 32 := 0#32
  let v190 : BitVec 1 := Scalar.cmpi .slt v186 c0_i32_129
  let v191 : BitVec 1 := Scalar.xori v189 v190
  let c0_i32_127 : BitVec 32 := 0#32
  let v188 : BitVec 1 := Scalar.cmpi .ne v187 c0_i32_127
  let v192 : BitVec 1 := Scalar.andi v191 v188
  let v193 : BitVec 32 := Scalar.addi v187 v186
  let v194 : BitVec 32 := Scalar.select v192 v193 v187
  let v219 : Index := Scalar.indexCast v194
  let c0_148 : Index := 0#32
  let c0_149 : Index := 0#32
  ![v219.toNat, 0, 0]
def k0_off44 (k0_t1 : Fin k0_t1_loop.trips) : Fin 3 → Nat :=
  let c2_i32_60 : BitVec 32 := 2#32
  let c1_i32_61 : BitVec 32 := 1#32
  let arg13 : BitVec 32 := Scf.iv c2_i32_60 c1_i32_61 k0_t1
  let c2_i32_151 : BitVec 32 := 2#32
  let c0_i32_152 : BitVec 32 := 0#32
  let v236 : BitVec 1 := Scalar.cmpi .eq c2_i32_151 c0_i32_152
  let c1_i32_153 : BitVec 32 := 1#32
  let v237 : BitVec 32 := Scalar.select v236 c1_i32_153 c2_i32_151
  let v238 : BitVec 32 := Scalar.remsi arg13 v237
  let c0_i32_155 : BitVec 32 := 0#32
  let v240 : BitVec 1 := Scalar.cmpi .slt v238 c0_i32_155
  let c0_i32_156 : BitVec 32 := 0#32
  let v241 : BitVec 1 := Scalar.cmpi .slt v237 c0_i32_156
  let v242 : BitVec 1 := Scalar.xori v240 v241
  let c0_i32_154 : BitVec 32 := 0#32
  let v239 : BitVec 1 := Scalar.cmpi .ne v238 c0_i32_154
  let v243 : BitVec 1 := Scalar.andi v242 v239
  let v244 : BitVec 32 := Scalar.addi v238 v237
  let v245 : BitVec 32 := Scalar.select v243 v244 v238
  let v246 : Index := Scalar.indexCast v245
  let c0_157 : Index := 0#32
  let c0_158 : Index := 0#32
  ![v246.toNat, 0, 0]
def k0_cond21 (i : grid0.Coords) : BitVec 1 :=
  let c11_i32_63 : BitVec 32 := 11#32
  let c2_i32_64 : BitVec 32 := 2#32
  let v98 : BitVec 32 := Scalar.addi c11_i32_63 c2_i32_64
  let c12_i32_65 : BitVec 32 := 12#32
  let v99 : BitVec 1 := Scalar.cmpi .sge v98 c12_i32_65
  let true_66 : BitVec 1 := 1#1
  let v100 : BitVec 1 := Scalar.xori v99 true_66
  let arg0 : BitVec 32 := BitVec.ofNat 32 (i 0).val
  let c31_i32_67 : BitVec 32 := 31#32
  let v101 : BitVec 1 := Scalar.cmpi .slt arg0 c31_i32_67
  let v102 : BitVec 1 := Scalar.ori v100 v101
  let v103 : BitVec 32 := Scalar.extui v102
  let c0_i32_68 : BitVec 32 := 0#32
  let v104 : BitVec 1 := Scalar.cmpi .ne v103 c0_i32_68
  v104

def k0_cond22 : BitVec 1 :=
  let c11_i32_63 : BitVec 32 := 11#32
  let c2_i32_64 : BitVec 32 := 2#32
  let v98 : BitVec 32 := Scalar.addi c11_i32_63 c2_i32_64
  let c12_i32_65 : BitVec 32 := 12#32
  let v99 : BitVec 1 := Scalar.cmpi .sge v98 c12_i32_65
  let c12_i32_109 : BitVec 32 := 12#32
  let v162 : BitVec 32 := Scalar.subi v98 c12_i32_109
  let v163 : BitVec 32 := Scalar.select v99 v162 v98
  let c11_i32_116 : BitVec 32 := 11#32
  let v174 : BitVec 1 := Scalar.cmpi .slt v163 c11_i32_116
  let v175 : BitVec 32 := Scalar.extui v174
  let c0_i32_117 : BitVec 32 := 0#32
  let v176 : BitVec 1 := Scalar.cmpi .ne v175 c0_i32_117
  v176

def k0_off45 : Fin 2 → Nat :=
  let c0_i32_120 : BitVec 32 := 0#32
  let c11_i32_63 : BitVec 32 := 11#32
  let c2_i32_64 : BitVec 32 := 2#32
  let v98 : BitVec 32 := Scalar.addi c11_i32_63 c2_i32_64
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v98 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  ![0, v173.toNat]
def k0_off46 : Fin 3 → Nat :=
  let c11_i32_63 : BitVec 32 := 11#32
  let c2_i32_64 : BitVec 32 := 2#32
  let v98 : BitVec 32 := Scalar.addi c11_i32_63 c2_i32_64
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v98 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  let c0_i32_121 : BitVec 32 := 0#32
  let c0_i32_122 : BitVec 32 := 0#32
  ![v173.toNat, 0, 0]
def k0_off47 : Fin 3 → Nat :=
  let c11_i32_63 : BitVec 32 := 11#32
  let c2_i32_64 : BitVec 32 := 2#32
  let v98 : BitVec 32 := Scalar.addi c11_i32_63 c2_i32_64
  let c12_i32_65 : BitVec 32 := 12#32
  let v99 : BitVec 1 := Scalar.cmpi .sge v98 c12_i32_65
  let c12_i32_109 : BitVec 32 := 12#32
  let v162 : BitVec 32 := Scalar.subi v98 c12_i32_109
  let v163 : BitVec 32 := Scalar.select v99 v162 v98
  let c10_i32 : BitVec 32 := 10#32
  let v180 : BitVec 32 := Scalar.minsi v163 c10_i32
  let c0_i32_123 : BitVec 32 := 0#32
  let c0_i32_124 : BitVec 32 := 0#32
  ![v180.toNat, 0, 0]
def k0_cond23 : BitVec 1 :=
  let c11_i32_63 : BitVec 32 := 11#32
  let c2_i32_64 : BitVec 32 := 2#32
  let v98 : BitVec 32 := Scalar.addi c11_i32_63 c2_i32_64
  let c12_i32_65 : BitVec 32 := 12#32
  let v99 : BitVec 1 := Scalar.cmpi .sge v98 c12_i32_65
  let c12_i32_109 : BitVec 32 := 12#32
  let v162 : BitVec 32 := Scalar.subi v98 c12_i32_109
  let v163 : BitVec 32 := Scalar.select v99 v162 v98
  let c1_i32_118 : BitVec 32 := 1#32
  let v177 : BitVec 1 := Scalar.cmpi .sge v163 c1_i32_118
  let v178 : BitVec 32 := Scalar.extui v177
  let c0_i32_119 : BitVec 32 := 0#32
  let v179 : BitVec 1 := Scalar.cmpi .ne v178 c0_i32_119
  v179

def k0_off48 : Fin 2 → Nat :=
  let c1_i32_122 : BitVec 32 := 1#32
  let c11_i32_63 : BitVec 32 := 11#32
  let c2_i32_64 : BitVec 32 := 2#32
  let v98 : BitVec 32 := Scalar.addi c11_i32_63 c2_i32_64
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v98 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  ![1, v173.toNat]
def k0_off49 : Fin 3 → Nat :=
  let c11_i32_63 : BitVec 32 := 11#32
  let c2_i32_64 : BitVec 32 := 2#32
  let v98 : BitVec 32 := Scalar.addi c11_i32_63 c2_i32_64
  let c3_i32_110 : BitVec 32 := 3#32
  let c0_i32_111 : BitVec 32 := 0#32
  let v164 : BitVec 1 := Scalar.cmpi .eq c3_i32_110 c0_i32_111
  let c1_i32_112 : BitVec 32 := 1#32
  let v165 : BitVec 32 := Scalar.select v164 c1_i32_112 c3_i32_110
  let v166 : BitVec 32 := Scalar.remsi v98 v165
  let c0_i32_114 : BitVec 32 := 0#32
  let v168 : BitVec 1 := Scalar.cmpi .slt v166 c0_i32_114
  let c0_i32_115 : BitVec 32 := 0#32
  let v169 : BitVec 1 := Scalar.cmpi .slt v165 c0_i32_115
  let v170 : BitVec 1 := Scalar.xori v168 v169
  let c0_i32_113 : BitVec 32 := 0#32
  let v167 : BitVec 1 := Scalar.cmpi .ne v166 c0_i32_113
  let v171 : BitVec 1 := Scalar.andi v170 v167
  let v172 : BitVec 32 := Scalar.addi v166 v165
  let v173 : BitVec 32 := Scalar.select v171 v172 v166
  let c0_i32_123 : BitVec 32 := 0#32
  let c0_i32_124 : BitVec 32 := 0#32
  ![v173.toNat, 0, 0]
def k0_off50 : Fin 3 → Nat :=
  let c11_i32_63 : BitVec 32 := 11#32
  let c2_i32_64 : BitVec 32 := 2#32
  let v98 : BitVec 32 := Scalar.addi c11_i32_63 c2_i32_64
  let c12_i32_65 : BitVec 32 := 12#32
  let v99 : BitVec 1 := Scalar.cmpi .sge v98 c12_i32_65
  let c12_i32_109 : BitVec 32 := 12#32
  let v162 : BitVec 32 := Scalar.subi v98 c12_i32_109
  let v163 : BitVec 32 := Scalar.select v99 v162 v98
  let c1_i32_120 : BitVec 32 := 1#32
  let v180 : BitVec 32 := Scalar.subi v163 c1_i32_120
  let c0_i32_121 : BitVec 32 := 0#32
  let v181 : BitVec 32 := Scalar.maxsi v180 c0_i32_121
  let c0_i32_125 : BitVec 32 := 0#32
  let c0_i32_126 : BitVec 32 := 0#32
  ![v181.toNat, 0, 0]
def k0_cond24 : BitVec 1 :=
  let c11_i32_76 : BitVec 32 := 11#32
  let c11_i32_77 : BitVec 32 := 11#32
  let v115 : BitVec 1 := Scalar.cmpi .slt c11_i32_76 c11_i32_77
  let v116 : BitVec 32 := Scalar.extui v115
  let c0_i32_79 : BitVec 32 := 0#32
  let v117 : BitVec 1 := Scalar.cmpi .ne v116 c0_i32_79
  v117

def k0_off51 : Fin 2 → Nat :=
  let c0_i32_109 : BitVec 32 := 0#32
  let c11_i32_69 : BitVec 32 := 11#32
  let c3_i32_70 : BitVec 32 := 3#32
  let c0_i32_71 : BitVec 32 := 0#32
  let v105 : BitVec 1 := Scalar.cmpi .eq c3_i32_70 c0_i32_71
  let c1_i32_72 : BitVec 32 := 1#32
  let v106 : BitVec 32 := Scalar.select v105 c1_i32_72 c3_i32_70
  let v107 : BitVec 32 := Scalar.remsi c11_i32_69 v106
  let c0_i32_74 : BitVec 32 := 0#32
  let v109 : BitVec 1 := Scalar.cmpi .slt v107 c0_i32_74
  let c0_i32_75 : BitVec 32 := 0#32
  let v110 : BitVec 1 := Scalar.cmpi .slt v106 c0_i32_75
  let v111 : BitVec 1 := Scalar.xori v109 v110
  let c0_i32_73 : BitVec 32 := 0#32
  let v108 : BitVec 1 := Scalar.cmpi .ne v107 c0_i32_73
  let v112 : BitVec 1 := Scalar.andi v111 v108
  let v113 : BitVec 32 := Scalar.addi v107 v106
  let v114 : BitVec 32 := Scalar.select v112 v113 v107
  ![0, v114.toNat]
def k0_off52 : Fin 3 → Nat :=
  let c11_i32_69 : BitVec 32 := 11#32
  let c3_i32_70 : BitVec 32 := 3#32
  let c0_i32_71 : BitVec 32 := 0#32
  let v105 : BitVec 1 := Scalar.cmpi .eq c3_i32_70 c0_i32_71
  let c1_i32_72 : BitVec 32 := 1#32
  let v106 : BitVec 32 := Scalar.select v105 c1_i32_72 c3_i32_70
  let v107 : BitVec 32 := Scalar.remsi c11_i32_69 v106
  let c0_i32_74 : BitVec 32 := 0#32
  let v109 : BitVec 1 := Scalar.cmpi .slt v107 c0_i32_74
  let c0_i32_75 : BitVec 32 := 0#32
  let v110 : BitVec 1 := Scalar.cmpi .slt v106 c0_i32_75
  let v111 : BitVec 1 := Scalar.xori v109 v110
  let c0_i32_73 : BitVec 32 := 0#32
  let v108 : BitVec 1 := Scalar.cmpi .ne v107 c0_i32_73
  let v112 : BitVec 1 := Scalar.andi v111 v108
  let v113 : BitVec 32 := Scalar.addi v107 v106
  let v114 : BitVec 32 := Scalar.select v112 v113 v107
  let c0_i32_110 : BitVec 32 := 0#32
  let c0_i32_111 : BitVec 32 := 0#32
  ![v114.toNat, 0, 0]
def k0_off53 : Fin 3 → Nat :=
  let c11_i32_78 : BitVec 32 := 11#32
  let c10_i32 : BitVec 32 := 10#32
  let v162 : BitVec 32 := Scalar.minsi c11_i32_78 c10_i32
  let c0_i32_112 : BitVec 32 := 0#32
  let c0_i32_113 : BitVec 32 := 0#32
  ![v162.toNat, 0, 0]
def k0_cond25 : BitVec 1 :=
  let c11_i32_80 : BitVec 32 := 11#32
  let c1_i32_81 : BitVec 32 := 1#32
  let v118 : BitVec 1 := Scalar.cmpi .sge c11_i32_80 c1_i32_81
  let v119 : BitVec 32 := Scalar.extui v118
  let c0_i32_83 : BitVec 32 := 0#32
  let v120 : BitVec 1 := Scalar.cmpi .ne v119 c0_i32_83
  v120

def k0_off54 : Fin 2 → Nat :=
  let c1_i32_111 : BitVec 32 := 1#32
  let c11_i32_69 : BitVec 32 := 11#32
  let c3_i32_70 : BitVec 32 := 3#32
  let c0_i32_71 : BitVec 32 := 0#32
  let v105 : BitVec 1 := Scalar.cmpi .eq c3_i32_70 c0_i32_71
  let c1_i32_72 : BitVec 32 := 1#32
  let v106 : BitVec 32 := Scalar.select v105 c1_i32_72 c3_i32_70
  let v107 : BitVec 32 := Scalar.remsi c11_i32_69 v106
  let c0_i32_74 : BitVec 32 := 0#32
  let v109 : BitVec 1 := Scalar.cmpi .slt v107 c0_i32_74
  let c0_i32_75 : BitVec 32 := 0#32
  let v110 : BitVec 1 := Scalar.cmpi .slt v106 c0_i32_75
  let v111 : BitVec 1 := Scalar.xori v109 v110
  let c0_i32_73 : BitVec 32 := 0#32
  let v108 : BitVec 1 := Scalar.cmpi .ne v107 c0_i32_73
  let v112 : BitVec 1 := Scalar.andi v111 v108
  let v113 : BitVec 32 := Scalar.addi v107 v106
  let v114 : BitVec 32 := Scalar.select v112 v113 v107
  ![1, v114.toNat]
def k0_off55 : Fin 3 → Nat :=
  let c11_i32_69 : BitVec 32 := 11#32
  let c3_i32_70 : BitVec 32 := 3#32
  let c0_i32_71 : BitVec 32 := 0#32
  let v105 : BitVec 1 := Scalar.cmpi .eq c3_i32_70 c0_i32_71
  let c1_i32_72 : BitVec 32 := 1#32
  let v106 : BitVec 32 := Scalar.select v105 c1_i32_72 c3_i32_70
  let v107 : BitVec 32 := Scalar.remsi c11_i32_69 v106
  let c0_i32_74 : BitVec 32 := 0#32
  let v109 : BitVec 1 := Scalar.cmpi .slt v107 c0_i32_74
  let c0_i32_75 : BitVec 32 := 0#32
  let v110 : BitVec 1 := Scalar.cmpi .slt v106 c0_i32_75
  let v111 : BitVec 1 := Scalar.xori v109 v110
  let c0_i32_73 : BitVec 32 := 0#32
  let v108 : BitVec 1 := Scalar.cmpi .ne v107 c0_i32_73
  let v112 : BitVec 1 := Scalar.andi v111 v108
  let v113 : BitVec 32 := Scalar.addi v107 v106
  let v114 : BitVec 32 := Scalar.select v112 v113 v107
  let c0_i32_112 : BitVec 32 := 0#32
  let c0_i32_113 : BitVec 32 := 0#32
  ![v114.toNat, 0, 0]
def k0_off56 : Fin 3 → Nat :=
  let c11_i32_82 : BitVec 32 := 11#32
  let c1_i32_109 : BitVec 32 := 1#32
  let v162 : BitVec 32 := Scalar.subi c11_i32_82 c1_i32_109
  let c0_i32_110 : BitVec 32 := 0#32
  let v163 : BitVec 32 := Scalar.maxsi v162 c0_i32_110
  let c0_i32_114 : BitVec 32 := 0#32
  let c0_i32_115 : BitVec 32 := 0#32
  ![v163.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S16384x5632 : Shape := ⟨2, ![16384, 5632]⟩
abbrev S16384 : Shape := ⟨1, ![16384]⟩
abbrev S16384x1 : Shape := ⟨2, ![16384, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x5632, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S_, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S16384x5632, .f32⟩
  | .hbm, ⟨20, _⟩ => ⟨S16384x5632, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proof.Ffn.Rows.lean ====
module

public import Idealize.ShloMosaic.Lib.Pointwise

@[expose] public section

set_option maxRecDepth 16384
set_option Elab.async false

/-! # A row of the feed-forward layer -/

noncomputable section

namespace Cert.FfnRow

open Idealize.ShloMosaic Idealize.ShloMosaic.TcCoe Idealize.ShloMosaic.Tactic

/-- The gated unit. -/
def unit (g u : EReal) : EReal := g * Ideal.logistic g * u

/-- The two literals of the residual sum, the row length and the variance's addend. -/
def lA : EReal := Ideal.ofBits .f32 0x3FB504F3#32
def lH : EReal := Ideal.ofBits .f32 0x3F000000#32
def lN : EReal := Ideal.ofBits .f32 0x45000000#32
def lE : EReal := Ideal.ofBits .f32 0x3727C5AC#32

/-- A row's mean. -/
def mean (z : Fin 2048 → EReal) : EReal := Ideal.div (∑ k : Fin 2048, z k) lN
/-- The layer norm of a row. -/
def normRow (z g b : Fin 2048 → EReal) (n : Fin 2048) : EReal :=
  (z n - mean z) * Ideal.rsqrt (mean (fun k => (z k - mean z) * (z k - mean z)) + lE) * g n + b n
/-- The residual sum. -/
def res (x o : Fin 2048 → EReal) (n : Fin 2048) : EReal := lA * x n + lH * o n

end Cert.FfnRow

end
-- ==== Proof.Ffn.Names.lean ====
module

public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Pipeline.Routed
public import Idealize.ShloMosaic.Lib.Ring
public import Idealize.ShloMosaic.Lib.Exec
public import Idealize.ShloMosaic.Lib.Tactic

@[expose] public section

set_option maxRecDepth 16384
set_option Elab.async false

/-! # The names of the feed-forward body's buffers, slots and cells

The weights stay in HBM as eleven blocks each. The body copies them block by block into two rings of three
slots, one DMA semaphore to a slot. -/

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

/-- The two hidden blocks in use. -/
abbrev hRef : Memref sig .tc .vmem S2x512x512 .bf16 := Memref.whole cc0_scratch0
/-- The ring of gate and up columns. -/
abbrev guRef : Memref sig .tc .vmem S3x2048x1024 .bf16 := Memref.whole cc0_scratch1
/-- The ring of down rows. -/
abbrev dRef : Memref sig .tc .vmem S3x512x2048 .bf16 := Memref.whole cc0_scratch2
/-- The gate and up columns in HBM. -/
abbrev guArr : Memref sig .tc .hbm S11x2048x1024 .bf16 := Memref.whole main_v5
/-- The down rows in HBM. -/
abbrev dArr : Memref sig .tc .hbm S11x512x2048 .bf16 := Memref.whole main_v7

/-- A slot of the gate and up ring. -/
abbrev guSlot (o : Fin 3 → ℕ) (h : ∀ a, o a + S1x2048x1024.size a ≤ S3x2048x1024.size a) : Memref sig .tc .vmem S2048x1024 .bf16 :=
  (guRef.slice (Rect.unit (s := S3x2048x1024) o S1x2048x1024.size h) (fun _ => rfl)).squeeze S2048x1024 squeezes_S1x2048x1024_S2048x1024
/-- A slot of the down ring. -/
abbrev dSlot (o : Fin 3 → ℕ) (h : ∀ a, o a + S1x512x2048.size a ≤ S3x512x2048.size a) : Memref sig .tc .vmem S512x2048 .bf16 :=
  (dRef.slice (Rect.unit (s := S3x512x2048) o S1x512x2048.size h) (fun _ => rfl)).squeeze S512x2048 squeezes_S1x512x2048_S512x2048

abbrev gu0 : Memref sig .tc .vmem S2048x1024 .bf16 := guSlot ![0, 0, 0] inb_S3x2048x1024_S1x2048x1024_0_0_0
abbrev gu1 : Memref sig .tc .vmem S2048x1024 .bf16 := guSlot ![1, 0, 0] inb_S3x2048x1024_S1x2048x1024_1_0_0
abbrev gu2 : Memref sig .tc .vmem S2048x1024 .bf16 := guSlot ![2, 0, 0] (by decide)
abbrev d0 : Memref sig .tc .vmem S512x2048 .bf16 := dSlot ![0, 0, 0] inb_S3x512x2048_S1x512x2048_0_0_0
abbrev d1 : Memref sig .tc .vmem S512x2048 .bf16 := dSlot ![1, 0, 0] inb_S3x512x2048_S1x512x2048_1_0_0
abbrev d2 : Memref sig .tc .vmem S512x2048 .bf16 := dSlot ![2, 0, 0] inb_S3x512x2048_S1x512x2048_2_0_0

/-- A slot's elements at some contents. -/
abbrev free {s : Shape} {e : EltTy} (c : Dev nD) (r : Memref sig .tc .vmem s e) : sProp 𝕄 :=
  iprop(∃ f, r.view.loc (c : Thread nD τ) ↦[r.view.set]{fullShare} f)

/-- A read share of an HBM array, one to a cell. -/
abbrev lent {s : Shape} {e : EltTy} (c : Dev nD) (r : Memref sig .tc .hbm s e) (f : Buf (Elt F) (r.view.loc (c : Thread nD τ))) (i : Fin 16) : sProp 𝕄 :=
  r.view.loc (c : Thread nD τ) ↦{Transfers.shareTok fullShare 16 i} f

/-- A block of the gate and up columns. -/
abbrev guBlk (o : Fin 3 → ℕ) (h : ∀ a, o a + S1x2048x1024.size a ≤ S11x2048x1024.size a) : Memref sig .tc .hbm S2048x1024 .bf16 :=
  (guArr.slice (Rect.unit (s := S11x2048x1024) o S1x2048x1024.size h) (fun _ => rfl)).squeeze S2048x1024 squeezes_S1x2048x1024_S2048x1024
/-- A block of the down rows. -/
abbrev dBlk (o : Fin 3 → ℕ) (h : ∀ a, o a + S1x512x2048.size a ≤ S11x512x2048.size a) : Memref sig .tc .hbm S512x2048 .bf16 :=
  (dArr.slice (Rect.unit (s := S11x512x2048) o S1x512x2048.size h) (fun _ => rfl)).squeeze S512x2048 squeezes_S1x512x2048_S512x2048

/-- What a copy of a block lands. -/
abbrev guPay (c : Dev nD) (WG : Buf (Elt F) (guArr.view.loc (c : Thread nD τ))) (o : Fin 3 → ℕ) (h : ∀ a, o a + S1x2048x1024.size a ≤ S11x2048x1024.size a) : S2048x1024.Idx → Elt F .bf16 :=
  ReadAs.same.apply ((guBlk o h).view.read (Elt F) WG)
abbrev dPay (c : Dev nD) (WD : Buf (Elt F) (dArr.view.loc (c : Thread nD τ))) (o : Fin 3 → ℕ) (h : ∀ a, o a + S1x512x2048.size a ≤ S11x512x2048.size a) : S512x2048.Idx → Elt F .bf16 :=
  ReadAs.same.apply ((dBlk o h).view.read (Elt F) WD)

/-- A block on its way into a slot: the slot at the block's words, and the elements read. -/
abbrev guFly (c : Dev nD) (WG : Buf (Elt F) (guArr.view.loc (c : Thread nD τ))) (slot : Memref sig .tc .vmem S2048x1024 .bf16) (i : Fin 16)
    (o : Fin 3 → ℕ) (h : ∀ a, o a + S1x2048x1024.size a ≤ S11x2048x1024.size a) (f : Buf (Elt F) (slot.view.loc (c : Thread nD τ)))
    (L : List (View.Piece (Elt F) S2048x1024 .bf16)) : sProp 𝕄 :=
  Transfers.Flight (countersEmb (U := Pipeline.UC sig nD τ)) (c : Thread nD τ) (SemLoc.dma i) () 131072
    iprop((slot.view.loc (c : Thread nD τ) ↦[slot.view.set]{fullShare} slot.view.writes (Elt F) f (⟨Rect.whole S2048x1024, guPay c WG o h⟩ :: L))
      ∗ (guArr.view.loc (c : Thread nD τ) ↦[(guBlk o h).view.set]{Transfers.shareTok fullShare 16 i} WG))
abbrev dFly (c : Dev nD) (WD : Buf (Elt F) (dArr.view.loc (c : Thread nD τ))) (slot : Memref sig .tc .vmem S512x2048 .bf16) (i : Fin 16)
    (o : Fin 3 → ℕ) (h : ∀ a, o a + S1x512x2048.size a ≤ S11x512x2048.size a) (f : Buf (Elt F) (slot.view.loc (c : Thread nD τ)))
    (L : List (View.Piece (Elt F) S512x2048 .bf16)) : sProp 𝕄 :=
  Transfers.Flight (countersEmb (U := Pipeline.UC sig nD τ)) (c : Thread nD τ) (SemLoc.dma i) () 65536
    iprop((slot.view.loc (c : Thread nD τ) ↦[slot.view.set]{fullShare} slot.view.writes (Elt F) f (⟨Rect.whole S512x2048, dPay c WD o h⟩ :: L))
      ∗ (dArr.view.loc (c : Thread nD τ) ↦[(dBlk o h).view.set]{Transfers.shareTok fullShare 16 i} WD))
/-- The rest of the read share while a block is on its way. -/
abbrev guRest (c : Dev nD) (WG : Buf (Elt F) (guArr.view.loc (c : Thread nD τ))) (i : Fin 16) (o : Fin 3 → ℕ) (h : ∀ a, o a + S1x2048x1024.size a ≤ S11x2048x1024.size a) : sProp 𝕄 :=
  guArr.view.loc (c : Thread nD τ) ↦[Finset.univ \ (guBlk o h).view.set]{Transfers.shareTok fullShare 16 i} WG
abbrev dRest (c : Dev nD) (WD : Buf (Elt F) (dArr.view.loc (c : Thread nD τ))) (i : Fin 16) (o : Fin 3 → ℕ) (h : ∀ a, o a + S1x512x2048.size a ≤ S11x512x2048.size a) : sProp 𝕄 :=
  dArr.view.loc (c : Thread nD τ) ↦[Finset.univ \ (dBlk o h).view.set]{Transfers.shareTok fullShare 16 i} WD

/-- A cell's counter. -/
abbrev cell (c : Dev nD) (i : Fin 16) (n : ℕ) : sProp 𝕄 := semVal ((c : Thread nD τ), SemLoc.dma i) n

/-- Between two points: the first block on its way into slot 0, the second into slot 1 with the first block of
    down rows, everything else at rest. -/
def between (c : Dev nD) (WG : Buf (Elt F) (guArr.view.loc (c : Thread nD τ))) (WD : Buf (Elt F) (dArr.view.loc (c : Thread nD τ))) : sProp 𝕄 :=
  iprop((∃ f, hRef.view.loc (c : Thread nD τ) ↦{fullShare} f)
    ∗ (∃ (o : Fin 3 → ℕ) (h : ∀ a, o a + S1x2048x1024.size a ≤ S11x2048x1024.size a), ⌜o = ![0, 0, 0]⌝ ∗ (∃ f L, guFly c WG gu0 10 o h f L) ∗ guRest c WG 10 o h)
    ∗ (∃ (o : Fin 3 → ℕ) (h : ∀ a, o a + S1x2048x1024.size a ≤ S11x2048x1024.size a), ⌜o = ![1, 0, 0]⌝ ∗ (∃ f L, guFly c WG gu1 11 o h f L) ∗ guRest c WG 11 o h)
    ∗ (∃ (o : Fin 3 → ℕ) (h : ∀ a, o a + S1x512x2048.size a ≤ S11x512x2048.size a), ⌜o = ![0, 0, 0]⌝ ∗ (∃ f L, dFly c WD d1 14 o h f L) ∗ dRest c WD 14 o h)
    ∗ free c gu2 ∗ free c d0 ∗ free c d2
    ∗ lent c guArr WG 12 ∗ lent c dArr WD 13 ∗ lent c dArr WD 15
    ∗ cell c 12 0 ∗ cell c 13 0 ∗ cell c 15 0)

theorem at0 : ∀ a, (![0, 0, 0] : Fin 3 → ℕ) a + S1x2048x1024.size a ≤ S11x2048x1024.size a := by decide
theorem at1 : ∀ a, (![1, 0, 0] : Fin 3 → ℕ) a + S1x2048x1024.size a ≤ S11x2048x1024.size a := by decide
theorem atD : ∀ a, (![0, 0, 0] : Fin 3 → ℕ) a + S1x512x2048.size a ≤ S11x512x2048.size a := by decide

/-- The same with a slot's former contents as one buffer: the first block on its way into slot 0, the second into slot 1 with the first block of
    down rows, everything else at rest. -/
def inFlight (c : Dev nD) (WG : Buf (Elt F) (guArr.view.loc (c : Thread nD τ))) (WD : Buf (Elt F) (dArr.view.loc (c : Thread nD τ))) : sProp 𝕄 :=
  iprop((∃ f, hRef.view.loc (c : Thread nD τ) ↦{fullShare} f)
    ∗ ((∃ f, guFly c WG gu0 10 ![0, 0, 0] at0 f []) ∗ guRest c WG 10 ![0, 0, 0] at0)
    ∗ ((∃ f, guFly c WG gu1 11 ![1, 0, 0] at1 f []) ∗ guRest c WG 11 ![1, 0, 0] at1)
    ∗ ((∃ f, dFly c WD d1 14 ![0, 0, 0] atD f []) ∗ dRest c WD 14 ![0, 0, 0] atD)
    ∗ free c gu2 ∗ free c d0 ∗ free c d2
    ∗ lent c guArr WG 12 ∗ lent c dArr WD 13 ∗ lent c dArr WD 15
    ∗ cell c 12 0 ∗ cell c 13 0 ∗ cell c 15 0)

theorem between_inFlight (c : Dev nD) (WG : Buf (Elt F) (guArr.view.loc (c : Thread nD τ))) (WD : Buf (Elt F) (dArr.view.loc (c : Thread nD τ))) :
    between c WG WD ⊢ inFlight c WG WD := by
  unfold between inFlight
  iintro ⟨HH, ⟨%o0, %h0, %e0, ⟨%f0, %L0, Q10⟩, T10⟩, ⟨%o1, %h1, %e1, ⟨%f1, %L1, Q11⟩, T11⟩, ⟨%o2, %h2, %e2, ⟨%f2, %L2, Q14⟩, T14⟩, HR⟩
  subst e0; subst e1; subst e2
  isplitl [HH]; · iexact HH
  isplitl [Q10 T10]
  · isplitl [Q10]
    · iexists (gu0.view.writes (Elt F) f0 L0); iexact Q10
    iexact T10
  isplitl [Q11 T11]
  · isplitl [Q11]
    · iexists (gu1.view.writes (Elt F) f1 L1); iexact Q11
    iexact T11
  isplitl [Q14 T14]
  · isplitl [Q14]
    · iexists (d1.view.writes (Elt F) f2 L2); iexact Q14
    iexact T14
  iexact HR

/-- Before the first point and after the last: every slot free, every cell at zero, the read shares whole. -/
def atRest (c : Dev nD) (WG : Buf (Elt F) (guArr.view.loc (c : Thread nD τ))) (WD : Buf (Elt F) (dArr.view.loc (c : Thread nD τ))) : sProp 𝕄 :=
  iprop((∃ f, hRef.view.loc (c : Thread nD τ) ↦{fullShare} f)
    ∗ free c gu0 ∗ free c gu1 ∗ free c gu2 ∗ free c d0 ∗ free c d1 ∗ free c d2
    ∗ lent c guArr WG 10 ∗ lent c guArr WG 11 ∗ lent c guArr WG 12
    ∗ lent c dArr WD 13 ∗ lent c dArr WD 14 ∗ lent c dArr WD 15
    ∗ cell c 10 0 ∗ cell c 11 0 ∗ cell c 12 0 ∗ cell c 13 0 ∗ cell c 14 0 ∗ cell c 15 0)

/-! ## The branches the grid point decides -/

theorem first_iff (i : grid0.Coords) : k0_cond1 i = 1#1 ↔ (i 0).val = 0 := by
  have h : ∀ v : Fin 32, (Scalar.cmpi .ne (Scalar.extui (Scalar.cmpi .eq (BitVec.ofNat 32 v.val) 0#32) : BitVec 32) 0#32 = 1#1) ↔ v.val = 0 := by decide +kernel
  exact h (i 0)

theorem ahead2 (i : grid0.Coords) : k0_cond6 i = 1#1 := by
  have h : ∀ v : Fin 32, (Scalar.cmpi .ne (Scalar.extui (Scalar.ori (Scalar.xori (Scalar.cmpi .sge (Scalar.addi 0#32 2#32) 12#32) 1#1) (Scalar.cmpi .slt (BitVec.ofNat 32 v.val) 31#32)) : BitVec 32) 0#32 = 1#1) := by decide +kernel
  exact h (i 0)

theorem ahead3 (i : grid0.Coords) : k0_cond11 i = 1#1 := by
  have h : ∀ v : Fin 32, (Scalar.cmpi .ne (Scalar.extui (Scalar.ori (Scalar.xori (Scalar.cmpi .sge (Scalar.addi 1#32 2#32) 12#32) 1#1) (Scalar.cmpi .slt (BitVec.ofNat 32 v.val) 31#32)) : BitVec 32) 0#32 = 1#1) := by decide +kernel
  exact h (i 0)

theorem ahead13 (i : grid0.Coords) : k0_cond21 i = 1#1 ↔ (i 0).val < 31 := by
  have h : ∀ v : Fin 32, (Scalar.cmpi .ne (Scalar.extui (Scalar.ori (Scalar.xori (Scalar.cmpi .sge (Scalar.addi 11#32 2#32) 12#32) 1#1) (Scalar.cmpi .slt (BitVec.ofNat 32 v.val) 31#32)) : BitVec 32) 0#32 = 1#1) ↔ v.val < 31 := by decide +kernel
  exact h (i 0)

theorem aheadLoop (i : grid0.Coords) (k : Fin k0_t1_loop.trips) : k0_cond16 i k = 1#1 ↔ k.val < 8 ∨ (i 0).val < 31 := by
  have h : ∀ (v : Fin 32) (k : Fin 9), (Scalar.cmpi .ne (Scalar.extui (Scalar.ori (Scalar.xori (Scalar.cmpi .sge (Scalar.addi (Scf.iv 2#32 1#32 k.val) 2#32) 12#32) 1#1) (Scalar.cmpi .slt (BitVec.ofNat 32 v.val) 31#32)) : BitVec 32) 0#32 = 1#1) ↔ k.val < 8 ∨ v.val < 31 := by decide +kernel
  exact h (i 0) k

end Cert.Kernel2Ideal.Ffn

end
-- ==== Proof.Ffn.Blocks.lean ====
module

public import proofs.«01_k».proof.Proof.Ffn.Names
public import Idealize.ShloMosaic.Lib.WritesUnit
public import Idealize.ShloMosaic.Lib.Pointwise
public import Idealize.ShloMosaic.Lib.Pipeline.CanonAppend

@[expose] public section

set_option maxRecDepth 16384
set_option Elab.async false

/-! # A weight block, from HBM through a ring slot into a load

And the loads of the hidden slots and of the accumulated output, which take the last store. -/

noncomputable section

namespace Cert.Kernel2Ideal.Ffn

open Cert.Kernel2Ideal Cert.Kernel2Ideal.Gen
open Idealize.ShloMosaic
open Idealize.ShloMosaic.TcCoe Idealize.ShloMosaic.Tactic

variable {F : FTy → Type} [FloatOps F]

/-- Block `j` of the gate and up columns. -/
def gB (WG : Vec F S11x2048x1024 .bf16) (j : ℕ) : Vec F S1x2048x1024 .bf16 := fun z => WG (ix3 (Fin.ofNat 11 j) (z 1) (z 2))
/-- Block `j` of the down rows. -/
def dB (WD : Vec F S11x512x2048 .bf16) (j : ℕ) : Vec F S1x512x2048 .bf16 := fun z => WD (ix3 (Fin.ofNat 11 j) (z 1) (z 2))

theorem unit3_idx {n0 n1 n2 j : ℕ} (hj : j < n0) (inb) (z : (⟨3, ![1, n1, n2]⟩ : Shape).Idx) :
    (Rect.unit (s := ⟨3, ![n0, n1, n2]⟩) ![j, 0, 0] ![1, n1, n2] inb).emb z = ix3 (⟨j, hj⟩ : Fin n0) (z 1) (z 2) := by
  funext k
  refine Fin.cases ?_ (fun k => ?_) k
  · exact Fin.ext (by show j + 1 * (z 0).val = j; have := (z 0).isLt; have e : (⟨3, ![1, n1, n2]⟩ : Shape).size 0 = 1 := rfl; omega)
  · refine Fin.cases ?_ (fun k => ?_) k
    · exact Fin.ext (by show 0 + 1 * (z 1).val = (z 1).val; omega)
    · refine Fin.cases ?_ (fun k => k.elim0) k
      exact Fin.ext (by show 0 + 1 * (z 2).val = (z 2).val; omega)

/-- What a view reads of whole-rectangle stores is the last of them. -/
theorem read_top {κ : Kind} {sp : Space} {s : Shape} {e : EltTy} (v : View sig κ sp s e) (f : v.ty.Contents (Elt F)) (w : s.Idx → Elt F e) (L : List (View.Piece (Elt F) s e)) (y : s.Idx) :
    v.read (Elt F) (v.writes (Elt F) f (⟨Rect.whole s, w⟩ :: L)) y = w y := by
  have h := View.read_slice_write_emb (Val := Elt F) (v := v) (Rect.whole s) (v.writes (Elt F) f L) w (M := Finset.univ) (x := y) (Finset.mem_univ _)
  rwa [Rect.emb_whole_apply] at h

theorem guLd (s : Fin 3 → ℕ) (inb inb') (c : Dev nD) (WG : Buf (Elt F) (guArr.view.loc (c : Thread nD τ))) (o : Fin 3 → ℕ) (hb) (j : ℕ) (hj : j < 11) (ho : o = ![j, 0, 0])
    (f) (L : List (View.Piece (Elt F) S2048x1024 .bf16)) :
    View.readAt (Elt F) guRef.view (Rect.unit (s := S3x2048x1024) s S1x2048x1024.size inb').toLoadRect
      ((guSlot s inb).view.writes (Elt F) f (⟨Rect.whole S2048x1024, guPay c WG o hb⟩ :: L)) = gB WG j := by
  subst ho
  funext z
  obtain ⟨y, rfl⟩ := (Shape.reshapeEquiv squeezes_S1x2048x1024_S2048x1024.numel_eq).surjective z
  refine (read_top (guSlot s inb).view f _ L y).trans ?_
  refine Eq.trans (b := WG ((Rect.unit (s := S11x2048x1024) ![j, 0, 0] S1x2048x1024.size hb).emb (Shape.reshapeEquiv squeezes_S1x2048x1024_S2048x1024.numel_eq y))) rfl ?_
  refine congrArg WG ((unit3_idx hj hb _).trans ?_)
  unfold Fin.ofNat
  simp only [Nat.mod_eq_of_lt hj]
  rfl

theorem dLd (s : Fin 3 → ℕ) (inb inb') (c : Dev nD) (WD : Buf (Elt F) (dArr.view.loc (c : Thread nD τ))) (o : Fin 3 → ℕ) (hb) (j : ℕ) (hj : j < 11) (ho : o = ![j, 0, 0])
    (f) (L : List (View.Piece (Elt F) S512x2048 .bf16)) :
    View.readAt (Elt F) dRef.view (Rect.unit (s := S3x512x2048) s S1x512x2048.size inb').toLoadRect
      ((dSlot s inb).view.writes (Elt F) f (⟨Rect.whole S512x2048, dPay c WD o hb⟩ :: L)) = dB WD j := by
  subst ho
  funext z
  obtain ⟨y, rfl⟩ := (Shape.reshapeEquiv squeezes_S1x512x2048_S512x2048.numel_eq).surjective z
  refine (read_top (dSlot s inb).view f _ L y).trans ?_
  refine Eq.trans (b := WD ((Rect.unit (s := S11x512x2048) ![j, 0, 0] S1x512x2048.size hb).emb (Shape.reshapeEquiv squeezes_S1x512x2048_S512x2048.numel_eq y))) rfl ?_
  refine congrArg WD ((unit3_idx hj hb _).trans ?_)
  unfold Fin.ofNat
  simp only [Nat.mod_eq_of_lt hj]
  rfl

/-- The hidden block of a row block and a block of columns. -/
def hid (xb : Vec F S512x2048 .bf16) (WG : Vec F S11x2048x1024 .bf16) (j : ℕ) : FVec F S1x512x512 .bf16 := k0_pay8 xb (gB WG j)

/-- The sum of the first blocks' products. -/
def acc (xb : Vec F S512x2048 .bf16) (WG : Vec F S11x2048x1024 .bf16) (WD : Vec F S11x512x2048 .bf16) : ℕ → FVec F S512x2048 .f32
  | 0 => k0_pay7 (hid xb WG 0) (dB WD 0)
  | j + 1 => k0_pay1 (acc xb WG WD j) (hid xb WG (j + 1)) (dB WD (j + 1))

/-- What a point stores into the output block. -/
def fin (x : Vec F S512x2048 .f32) (xb : Vec F S512x2048 .bf16) (g b : Vec F S1x2048 .f32) (WG : Vec F S11x2048x1024 .bf16) (WD : Vec F S11x512x2048 .bf16) : FVec F S512x2048 .f32 :=
  k0_pay11 (k0_pay10 (acc xb WG WD 9)) (hid xb WG 10) (dB WD 10) x g b

/-- A load of a block that holds one whole store. -/
theorem ldWhole {e : EltTy} {n0 n1 : ℕ} (r : Memref sig .tc .vmem ⟨2, ![n0, n1]⟩ e) (x : (⟨2, ![n0, n1]⟩ : Shape).Idx → Elt F e) (inb) :
    View.readAt (Elt F) r.view (Rect.unit (s := ⟨2, ![n0, n1]⟩) ![0, 0] ![n0, n1] inb).toLoadRect (r.view.rep x) = x := by
  funext z
  rw [View.readAt_eq_ld]
  show r.view.read (Elt F) (r.view.rep x) _ = x z
  rw [View.read_rep]
  refine congrArg x (funext fun k => Fin.ext ?_)
  refine Fin.cases ?_ (fun k => ?_) k
  · show 0 + 1 * (z 0).val = (z 0).val; omega
  · refine Fin.cases ?_ (fun k => k.elim0) k
    show 0 + 1 * (z 1).val = (z 1).val; omega

/-- A load of what the last store wrote. -/
theorem ldTop {sp : Space} {s : Shape} {e : EltTy} (V : View sig .tc sp s e) (r : Rect s) (w : r.shape.Idx → Elt F e) (L : List (View.Piece (Elt F) s e)) :
    V.readCov (⟨r, w⟩ :: L) r.toLoadRect = w := by
  rw [View.readCov_cons_toLoadRect]

theorem pay6_eq (xb : Vec F S512x2048 .bf16) (g : Vec F S1x2048x1024 .bf16) : k0_pay6 (shapeCast S512x2048 xb shapeCasts_S512x2048_S512x2048) g = k0_pay8 xb g := rfl
theorem pay9_eq (xb : Vec F S512x2048 .bf16) (g : Vec F S1x2048x1024 .bf16) : k0_pay9 (k0_pay3 xb g) (k0_pay4 xb g) = k0_pay8 xb g := rfl

/-- What one whole store leaves. -/
theorem read_whole2 {κ : Kind} {sp : Space} {e : EltTy} {n0 n1 : ℕ} (v : View sig κ sp ⟨2, ![n0, n1]⟩ e) (f : v.ty.Contents (Elt F)) (inb)
    (w : (⟨2, ![n0, n1]⟩ : Shape).Idx → Elt F e) (L : List (View.Piece (Elt F) ⟨2, ![n0, n1]⟩ e)) :
    v.read (Elt F) (v.writes (Elt F) f (⟨Rect.unit (s := ⟨2, ![n0, n1]⟩) ![0, 0] ![n0, n1] inb, w⟩ :: L)) = w :=
  funext fun y => View.read_writes_cons_unit_of_mem v f inb w L y y rfl fun a => by
    refine Fin.cases ?_ (fun k => ?_) a
    · show (y 0).val = 0 + (y 0).val; omega
    · refine Fin.cases ?_ (fun k => k.elim0) k
      show (y 1).val = 0 + (y 1).val; omega

end Cert.Kernel2Ideal.Ffn

end
-- ==== Proof.Ffn.Pay.lean ====
module

public import proofs.«01_k».proof.Proof.Ffn.Rows
public import proofs.«01_k».proof.Proof.Ffn.Blocks

@[expose] public section

set_option maxRecDepth 16384
set_option Elab.async false

/-! # The feed-forward stores, entry by entry -/

noncomputable section

namespace Cert.Kernel2Ideal.Ffn

open Cert.Kernel2Ideal Cert.Kernel2Ideal.Gen Cert.FfnRow
open Idealize.ShloMosaic Idealize.ShloMosaic.TcCoe Idealize.ShloMosaic.Tactic

/-- The gate and up columns of hidden column `q` within a block. -/
def colG (q : Fin 512) : Fin 1024 := ⟨512 * (q.val / 256) + q.val % 256, by omega⟩
def colU (q : Fin 512) : Fin 1024 := ⟨512 * (q.val / 256) + 256 + q.val % 256, by omega⟩

/-- A row times a column. -/
def rc (xb : FVec Ideal S512x2048 .bf16) (g : FVec Ideal S1x2048x1024 .bf16) (p : Fin 512) (l : Fin 1024) : EReal :=
  ∑ d : Fin 2048, xb (ix2 p d) * g (ix3 0 d l)

theorem pay2_at (xb : FVec Ideal S512x2048 .bf16) (g : FVec Ideal S1x2048x1024 .bf16) (p : Fin 512) (l : Fin 1024) :
    k0_pay2 (F := Ideal) xb g (ix2 p l) = rc xb g p l := by
  unfold rc
  pointwise [k0_pay2]

theorem pay3_at (xb : FVec Ideal S512x2048 .bf16) (g : FVec Ideal S1x2048x1024 .bf16) (p : Fin 512) (q : Fin 256) :
    k0_pay3 (F := Ideal) xb g (ix2 p q) = unit (rc xb g p ⟨q.val, by omega⟩) (rc xb g p ⟨256 + q.val, by omega⟩) := by
  simp only [← pay2_at]
  unfold unit
  pointwise [k0_pay3]

theorem pay4_at (xb : FVec Ideal S512x2048 .bf16) (g : FVec Ideal S1x2048x1024 .bf16) (p : Fin 512) (q : Fin 256) :
    k0_pay4 (F := Ideal) xb g (ix2 p q) = unit (rc xb g p ⟨512 + q.val, by omega⟩) (rc xb g p ⟨768 + q.val, by omega⟩) := by
  simp only [← pay2_at]
  unfold unit
  pointwise [k0_pay4]

theorem pay9_lo (a b : FVec Ideal S512x256 .bf16) (p : Fin 512) (q : Fin 512) (h : q.val < 256) :
    k0_pay9 (F := Ideal) a b (ix3 0 p q) = a (ix2 p ⟨q.val, h⟩) := by
  pointwise [k0_pay9]
  rw [dif_pos h]
theorem pay9_hi (a b : FVec Ideal S512x256 .bf16) (p : Fin 512) (q : Fin 512) (h : ¬ q.val < 256) :
    k0_pay9 (F := Ideal) a b (ix3 0 p q) = b (ix2 p ⟨q.val - 256, by omega⟩) := by
  pointwise [k0_pay9]
  rw [dif_neg h]

theorem hid_at (xb : FVec Ideal S512x2048 .bf16) (WG : FVec Ideal S11x2048x1024 .bf16) (j : ℕ) (p q : Fin 512) :
    hid (F := Ideal) xb WG j (ix3 0 p q) = unit (rc xb (gB (F := Ideal) WG j) p (colG q)) (rc xb (gB (F := Ideal) WG j) p (colU q)) := by
  unfold hid
  rw [← pay9_eq]
  by_cases h : q.val < 256
  · rw [pay9_lo _ _ _ _ h, pay3_at]
    refine congrArg₂ unit (congrArg _ (Fin.ext ?_)) (congrArg _ (Fin.ext ?_))
    · show q.val = 512 * (q.val / 256) + q.val % 256; omega
    · show 256 + q.val = 512 * (q.val / 256) + 256 + q.val % 256; omega
  · rw [pay9_hi _ _ _ _ h, pay4_at]
    refine congrArg₂ unit (congrArg _ (Fin.ext ?_)) (congrArg _ (Fin.ext ?_))
    · show 512 + (q.val - 256) = 512 * (q.val / 256) + q.val % 256; omega
    · show 768 + (q.val - 256) = 512 * (q.val / 256) + 256 + q.val % 256; omega

theorem pay7_at (h : FVec Ideal S1x512x512 .bf16) (d : FVec Ideal S1x512x2048 .bf16) (p : Fin 512) (n : Fin 2048) :
    k0_pay7 (F := Ideal) h d (ix2 p n) = ∑ k : Fin 512, h (ix3 0 p k) * d (ix3 0 k n) := by
  pointwise [k0_pay7]
theorem pay1_at (a : FVec Ideal S512x2048 .f32) (h : FVec Ideal S1x512x512 .bf16) (d : FVec Ideal S1x512x2048 .bf16) (p : Fin 512) (n : Fin 2048) :
    k0_pay1 (F := Ideal) a h d (ix2 p n) = a (ix2 p n) + ∑ k : Fin 512, h (ix3 0 p k) * d (ix3 0 k n) := by
  pointwise [k0_pay1]
theorem pay10_at (a : FVec Ideal S512x2048 .f32) (p : Fin 512) (n : Fin 2048) : k0_pay10 (F := Ideal) a (ix2 p n) = a (ix2 p n) := by
  pointwise [k0_pay10]

/-- The residual sum, as a vector. -/
def zv (a : FVec Ideal S512x2048 .f32) (h : FVec Ideal S1x512x512 .bf16) (d : FVec Ideal S1x512x2048 .bf16) (x : FVec Ideal S512x2048 .f32) : FVec Ideal S512x2048 .f32 :=
  addf (mulf (broadcast S512x2048 (Scalar.ofBits .f32 0x3FB504F3#32)) x) (mulf (broadcast S512x2048 (Scalar.ofBits .f32 0x3F000000#32)) (k0_pay1 a h d))
/-- The row means, as a column. -/
def muv (z : FVec Ideal S512x2048 .f32) : FVec Ideal S512x1 .f32 :=
  divf (shapeCast S512x1 (multiReduction .add [1] S512 z 0x00000000#32 reduces_S512x2048_S512 (.inl rfl) rfl) shapeCasts_S512_S512x1) (broadcast S512x1 (Scalar.ofBits .f32 0x45000000#32))
/-- The rows less their means. -/
def cv (z : FVec Ideal S512x2048 .f32) : FVec Ideal S512x2048 .f32 := subf z (broadcastTo S512x2048 (muv z) broadcasts_S512x1_S512x2048)
/-- The normed rows. -/
def nv (z : FVec Ideal S512x2048 .f32) (g b : FVec Ideal S1x2048 .f32) : FVec Ideal S512x2048 .f32 :=
  addf (mulf (mulf (cv z) (broadcastTo S512x2048 (rsqrt (addf (muv (mulf (cv z) (cv z))) (broadcast S512x1 (Scalar.ofBits .f32 0x3727C5AC#32)))) broadcasts_S512x1_S512x2048))
    (broadcastTo S512x2048 (shapeCast S1x2048 g shapeCasts_S1x2048_S1x2048) broadcasts_S1x2048_S512x2048)) (broadcastTo S512x2048 (shapeCast S1x2048 b shapeCasts_S1x2048_S1x2048) broadcasts_S1x2048_S512x2048)

theorem pay11_eq (a : FVec Ideal S512x2048 .f32) (h : FVec Ideal S1x512x512 .bf16) (d : FVec Ideal S1x512x2048 .bf16) (x : FVec Ideal S512x2048 .f32) (g b : FVec Ideal S1x2048 .f32) :
    k0_pay11 (F := Ideal) (k0_pay10 a) h d x g b = nv (zv a h d x) g b := rfl

theorem zv_at (a : FVec Ideal S512x2048 .f32) (h : FVec Ideal S1x512x512 .bf16) (d : FVec Ideal S1x512x2048 .bf16) (x : FVec Ideal S512x2048 .f32) (p : Fin 512) (n : Fin 2048) :
    zv a h d x (ix2 p n) = res (fun k => x (ix2 p k)) (fun k => k0_pay1 (F := Ideal) a h d (ix2 p k)) n := by
  unfold res lA lH
  pointwise [zv]

theorem muv_at (z : FVec Ideal S512x2048 .f32) (p : Fin 512) (u : Fin 1) : muv z (ix2 p u) = mean fun k => z (ix2 p k) := by
  unfold mean lN
  pointwise [muv]

theorem cv_at (z : FVec Ideal S512x2048 .f32) (p : Fin 512) (n : Fin 2048) : cv z (ix2 p n) = z (ix2 p n) - mean fun k => z (ix2 p k) := by
  rw [← muv_at z p 0]
  pointwise [cv]

theorem nv_at (z : FVec Ideal S512x2048 .f32) (g b : FVec Ideal S1x2048 .f32) (p : Fin 512) (n : Fin 2048) :
    nv z g b (ix2 p n) = normRow (fun k => z (ix2 p k)) (fun k => g (ix2 0 k)) (fun k => b (ix2 0 k)) n := by
  unfold normRow
  have e : muv (mulf (cv z) (cv z)) (ix2 p 0) = mean fun k => (z (ix2 p k) - mean fun k => z (ix2 p k)) * (z (ix2 p k) - mean fun k => z (ix2 p k)) := by
    rw [muv_at]
    refine congrArg mean (funext fun k => ?_)
    rw [← cv_at]; rfl
  rw [← e, ← cv_at]
  unfold lE
  pointwise [nv]

end Cert.Kernel2Ideal.Ffn

end
-- ==== Proof.Ffn.HostAt.lean ====
module

public import proofs.«01_k».proof.Proof.Ffn.Pay

@[expose] public section

set_option maxRecDepth 16384
set_option Elab.async false

/-! # The blocks the host code before the feed-forward call lays out -/

noncomputable section

namespace Cert.Kernel2Ideal.Ffn

open Cert.Kernel2Ideal Cert.Kernel2Ideal.Gen Cert.FfnRow
open Idealize.ShloMosaic Idealize.ShloMosaic.TcCoe Idealize.ShloMosaic.Tactic

/-- The gate and up columns in blocks. -/
def hW (g u : FVec Ideal S2048x5632 .f32) : FVec Ideal S11x2048x1024 .bf16 :=
  truncf .bf16 (shapeCast S11x2048x1024 (transpose S11x2048x2x2x256 [1, 0, 2, 3, 4] (concatenate S2048x11x2x2x256 3 [⟨S2048x11x2x1x256, shapeCast S2048x11x2x1x256 g shapeCasts_S2048x5632_S2048x11x2x1x256⟩, ⟨S2048x11x2x1x256, shapeCast S2048x11x2x1x256 u shapeCasts_S2048x5632_S2048x11x2x1x256⟩] concatenates_S2048x11x2x1x256_S2048x11x2x1x256_S2048x11x2x2x256_d3) transposes_S2048x11x2x2x256_S11x2048x2x2x256_1_0_2_3_4) shapeCasts_S11x2048x2x2x256_S11x2048x1024) bitsLt_bf16_f32
/-- The down rows in blocks. -/
def hD (d : FVec Ideal S5632x2048 .f32) : FVec Ideal S11x512x2048 .bf16 := truncf .bf16 (shapeCast S11x512x2048 d shapeCasts_S5632x2048_S11x512x2048) bitsLt_bf16_f32

/-- Hidden column `q` of block `j`. -/
def col (j : Fin 11) (q : Fin 512) : Fin 5632 := ⟨512 * j.val + q.val, by omega⟩

theorem hD_at (d : FVec Ideal S5632x2048 .f32) (j : Fin 11) (q : Fin 512) (n : Fin 2048) : hD d (ix3 j q n) = d (ix2 (col j q) n) := by
  unfold hD
  pointwise
  exact congrArg (fun l : Fin 5632 => d (ix2 l n)) (Fin.ext (by show j.val * 512 + q.val = 512 * j.val + q.val; omega))
theorem split_at (g : FVec Ideal S2048x5632 .f32) (d : Fin 2048) (j : Fin 11) (a : Fin 2) (c : Fin 256) :
    shapeCast S2048x11x2x1x256 g shapeCasts_S2048x5632_S2048x11x2x1x256 (ix5 d j a 0 c) = g (ix2 d ⟨j.val * 512 + a.val * 256 + c.val, by omega⟩) := by
  pointwise
theorem both_at (x y : FVec Ideal S2048x11x2x1x256 .f32) (d : Fin 2048) (j : Fin 11) (a s : Fin 2) (c : Fin 256) :
    concatenate S2048x11x2x2x256 3 [⟨S2048x11x2x1x256, x⟩, ⟨S2048x11x2x1x256, y⟩] concatenates_S2048x11x2x1x256_S2048x11x2x1x256_S2048x11x2x2x256_d3 (ix5 d j a s c)
      = if s.val < 1 then x (ix5 d j a 0 c) else y (ix5 d j a 0 c) := by
  pointwise
  by_cases h : s.val < 1
  · rw [dif_pos h, if_pos h]
    exact congrArg (fun u : Fin 1 => x (ix5 d j a u c)) (Subsingleton.elim _ _)
  · rw [dif_neg h, if_neg h]
    exact congrArg (fun u : Fin 1 => y (ix5 d j a u c)) (Subsingleton.elim _ _)
theorem turn_at (x : FVec Ideal S2048x11x2x2x256 .f32) (d : Fin 2048) (j : Fin 11) (a s : Fin 2) (c : Fin 256) :
    transpose S11x2048x2x2x256 [1, 0, 2, 3, 4] x transposes_S2048x11x2x2x256_S11x2048x2x2x256_1_0_2_3_4 (ix5 j d a s c) = x (ix5 d j a s c) := by
  pointwise
theorem join_at (x : FVec Ideal S11x2048x2x2x256 .f32) (d : Fin 2048) (j : Fin 11) (l : Fin 1024) (a s : Fin 2) (c : Fin 256) (h : l.val = 512 * a.val + 256 * s.val + c.val) :
    truncf .bf16 (shapeCast S11x2048x1024 x shapeCasts_S11x2048x2x2x256_S11x2048x1024) bitsLt_bf16_f32 (ix3 j d l) = x (ix5 j d a s c) := by
  pointwise
  have e1 : (⟨l.val / 512, by omega⟩ : Fin 2) = a := Fin.ext (by show l.val / 512 = a.val; omega)
  have e2 : (⟨l.val / 256 % 2, by omega⟩ : Fin 2) = s := Fin.ext (by show l.val / 256 % 2 = s.val; omega)
  have e3 : (⟨l.val % 256, by omega⟩ : Fin 256) = c := Fin.ext (by show l.val % 256 = c.val; omega)
  rw [e1, e2, e3]

theorem hW_g (g u : FVec Ideal S2048x5632 .f32) (j : Fin 11) (d : Fin 2048) (q : Fin 512) : hW g u (ix3 j d (colG q)) = g (ix2 d (col j q)) := by
  unfold hW
  rw [join_at _ d j (colG q) ⟨q.val / 256, by omega⟩ 0 ⟨q.val % 256, by omega⟩ (by show 512 * (q.val / 256) + q.val % 256 = 512 * (q.val / 256) + 256 * 0 + q.val % 256; omega),
    turn_at, both_at, if_pos (by decide), split_at]
  exact congrArg (fun l : Fin 5632 => g (ix2 d l)) (Fin.ext (by show j.val * 512 + q.val / 256 * 256 + q.val % 256 = 512 * j.val + q.val; omega))
theorem hW_u (g u : FVec Ideal S2048x5632 .f32) (j : Fin 11) (d : Fin 2048) (q : Fin 512) : hW g u (ix3 j d (colU q)) = u (ix2 d (col j q)) := by
  unfold hW
  rw [join_at _ d j (colU q) ⟨q.val / 256, by omega⟩ 1 ⟨q.val % 256, by omega⟩ (by show 512 * (q.val / 256) + 256 + q.val % 256 = 512 * (q.val / 256) + 256 * 1 + q.val % 256; omega),
    turn_at, both_at, if_neg (by decide), split_at]
  exact congrArg (fun l : Fin 5632 => u (ix2 d l)) (Fin.ext (by show j.val * 512 + q.val / 256 * 256 + q.val % 256 = 512 * j.val + q.val; omega))

end Cert.Kernel2Ideal.Ffn

end
-- ==== Proof.Ffn.RefRead.lean ====
module

public import proofs.«01_k».proof.Proof.Ffn.Rows
public import proofs.«01_k».proof.Proof.Gen.Reference2Ideal.Run

@[expose] public section

set_option maxRecDepth 16384
set_option Elab.async false

/-! # The feed-forward reference, entry by entry -/

noncomputable section

namespace Cert.Reference2Ideal.Ffn

open Cert.Reference2Ideal Cert.Reference2Ideal.Gen Cert.FfnRow
open Idealize.ShloMosaic Idealize.ShloMosaic.TcCoe Idealize.ShloMosaic.Tactic

/-- Rows times columns. -/
def rG (x : FVec Ideal S16384x2048 .f32) (w : FVec Ideal S2048x5632 .f32) : FVec Ideal S16384x5632 .f32 := Host.dotGeneral dot_S16384x2048_S2048x5632_S16384x5632_1_0_0_1_n_n none x w
/-- The gated unit. -/
def rH (g u : FVec Ideal S16384x5632 .f32) : FVec Ideal S16384x5632 .f32 :=
  mulf (mulf g (Host.divf (broadcastInDim S16384x5632 ![] bcast_S_S16384x5632 (constant S_ .f32 0x3F800000#32)) (addf (broadcastInDim S16384x5632 ![] bcast_S_S16384x5632 (constant S_ .f32 0x3F800000#32)) (Host.exp (Host.negf g))))) u
/-- The residual sum. -/
def rZ (x : FVec Ideal S16384x2048 .f32) (h : FVec Ideal S16384x5632 .f32) (w : FVec Ideal S5632x2048 .f32) : FVec Ideal S16384x2048 .f32 :=
  addf (mulf (broadcastInDim S16384x2048 ![] bcast_S_S16384x2048 (constant S_ .f32 0x3FB504F3#32)) x) (mulf (broadcastInDim S16384x2048 ![] bcast_S_S16384x2048 (constant S_ .f32 0x3F000000#32)) (Host.dotGeneral dot_S16384x5632_S5632x2048_S16384x2048_1_0_0_1_n_n none h w))
/-- The row means. -/
def rMu (z : FVec Ideal S16384x2048 .f32) : FVec Ideal S16384x1 .f32 :=
  Host.divf (broadcastInDim S16384x1 ![0] bcast_S16384_S16384x1_0 (Host.reduceAdd z (constant S_ .f32 0x00000000#32) reducesTo_S16384x2048_S16384_d1 h_S_)) (broadcastInDim S16384x1 ![] bcast_S_S16384x1 (constant S_ .f32 0x45000000#32))
/-- The rows less their means. -/
def rC (z : FVec Ideal S16384x2048 .f32) : FVec Ideal S16384x2048 .f32 := subf z (broadcastInDim S16384x2048 ![0, 1] bcast_S16384x1_S16384x2048_0_1 (rMu z))
/-- The normed rows. -/
def rN (z : FVec Ideal S16384x2048 .f32) (g b : FVec Ideal S2048 .f32) : FVec Ideal S16384x2048 .f32 :=
  addf (mulf (mulf (rC z) (broadcastInDim S16384x2048 ![0, 1] bcast_S16384x1_S16384x2048_0_1 (Host.rsqrt (addf (rMu (mulf (rC z) (rC z))) (broadcastInDim S16384x1 ![] bcast_S_S16384x1 (constant S_ .f32 0x3727C5AC#32))))))
    (broadcastInDim S16384x2048 ![0, 1] bcast_S1x2048_S16384x2048_0_1 (broadcastInDim S1x2048 ![1] bcast_S2048_S1x2048_1 g))) (broadcastInDim S16384x2048 ![0, 1] bcast_S1x2048_S16384x2048_0_1 (broadcastInDim S1x2048 ![1] bcast_S2048_S1x2048_1 b))

theorem res_eq (m : (ℓ : Loc nD τ sig) → Buf (Elt Ideal) ℓ) (c : Dev nD) :
    Cert.Reference2Ideal.Value.res_main_v33 m c
      = rN (rZ (m ((c.tc : Thread nD τ).loc main_arg0)) (rH (rG (m ((c.tc : Thread nD τ).loc main_arg0)) (m ((c.tc : Thread nD τ).loc main_arg1))) (rG (m ((c.tc : Thread nD τ).loc main_arg0)) (m ((c.tc : Thread nD τ).loc main_arg2)))) (m ((c.tc : Thread nD τ).loc main_arg3)))
          (m ((c.tc : Thread nD τ).loc main_arg4)) (m ((c.tc : Thread nD τ).loc main_arg5)) := by
  unfold Cert.Reference2Ideal.Value.res_main_v33 rN rC rMu rZ rH rG
  rfl

theorem lit_one : Ideal.ofBits .f32 0x3F800000#32 = 1 := by
  simp [Ideal.ofBits, Ideal.ieee]
  rw [← EReal.coe_mul]; norm_num

theorem rG_at (x : FVec Ideal S16384x2048 .f32) (w : FVec Ideal S2048x5632 .f32) (I : Fin 16384) (k : Fin 5632) :
    rG x w (ix2 I k) = ∑ d : Fin 2048, x (ix2 I d) * w (ix2 d k) := by
  pointwise [rG]

theorem rH_at (g u : FVec Ideal S16384x5632 .f32) (I : Fin 16384) (k : Fin 5632) : rH g u (ix2 I k) = unit (g (ix2 I k)) (u (ix2 I k)) := by
  unfold unit
  pointwise [rH, lit_one]
  rfl

theorem rZ_at (x : FVec Ideal S16384x2048 .f32) (h : FVec Ideal S16384x5632 .f32) (w : FVec Ideal S5632x2048 .f32) (I : Fin 16384) (n : Fin 2048) :
    rZ x h w (ix2 I n) = res (fun k => x (ix2 I k)) (fun k => ∑ d : Fin 5632, h (ix2 I d) * w (ix2 d k)) n := by
  unfold res lA lH
  pointwise [rZ]

theorem rMu_at (z : FVec Ideal S16384x2048 .f32) (I : Fin 16384) (u : Fin 1) : rMu z (ix2 I u) = mean fun k => z (ix2 I k) := by
  unfold mean lN
  pointwise [rMu]

theorem rC_at (z : FVec Ideal S16384x2048 .f32) (I : Fin 16384) (n : Fin 2048) : rC z (ix2 I n) = z (ix2 I n) - mean fun k => z (ix2 I k) := by
  rw [← rMu_at z I 0]
  pointwise [rC]

theorem rN_at (z : FVec Ideal S16384x2048 .f32) (g b : FVec Ideal S2048 .f32) (I : Fin 16384) (n : Fin 2048) :
    rN z g b (ix2 I n) = normRow (fun k => z (ix2 I k)) (fun k => g (ix1 k)) (fun k => b (ix1 k)) n := by
  unfold normRow
  have e : rMu (mulf (rC z) (rC z)) (ix2 I 0) = mean fun k => (z (ix2 I k) - mean fun k => z (ix2 I k)) * (z (ix2 I k) - mean fun k => z (ix2 I k)) := by
    rw [rMu_at]
    refine congrArg mean (funext fun k => ?_)
    rw [← rC_at]; rfl
  rw [← e, ← rC_at]
  unfold lE
  pointwise [rN]

end Cert.Reference2Ideal.Ffn

end
-- ==== Proof.Ffn.Sum.lean ====
module

public import proofs.«01_k».proof.Proof.Ffn.HostAt
public import proofs.«01_k».proof.Proof.Ffn.RefRead

@[expose] public section

set_option maxRecDepth 16384
set_option Elab.async false

/-! # The blocks of the hidden columns add up to the whole product -/

noncomputable section

namespace Cert.Kernel2Ideal.Ffn

open Cert.Kernel2Ideal Cert.Kernel2Ideal.Gen Cert.FfnRow
open Idealize.ShloMosaic Idealize.ShloMosaic.TcCoe Idealize.ShloMosaic.Tactic

/-- A sum over the hidden columns, block by block. -/
theorem sum_col (f : Fin 5632 → EReal) : ∑ d : Fin 5632, f d = ∑ j : Fin 11, ∑ q : Fin 512, f (col j q) := by
  rw [← Fintype.sum_prod_type' (f := fun j q => f (col j q))]
  refine (Fintype.sum_equiv (finProdFinEquiv (m := 11) (n := 512)) _ _ fun x => ?_).symm
  refine congrArg f (Fin.ext ?_)
  show 512 * x.1.val + x.2.val = x.2.val + 512 * x.1.val
  omega

theorem acc_at (xb : FVec Ideal S512x2048 .bf16) (WG : FVec Ideal S11x2048x1024 .bf16) (WD : FVec Ideal S11x512x2048 .bf16) (p : Fin 512) (n : Fin 2048) (k : ℕ) :
    acc (F := Ideal) xb WG WD k (ix2 p n)
      = ∑ j ∈ Finset.range (k + 1), ∑ q : Fin 512, hid (F := Ideal) xb WG j (ix3 0 p q) * dB (F := Ideal) WD j (ix3 0 q n) := by
  induction k with
  | zero =>
    rw [Finset.sum_range_one]
    exact pay7_at _ _ p n
  | succ k ih =>
    rw [Finset.sum_range_succ, ← ih]
    exact pay1_at _ _ _ p n

/-- One hidden entry, for weights laid out by the host code. -/
theorem hid_col (xb : FVec Ideal S512x2048 .bf16) (g u : FVec Ideal S2048x5632 .f32) (j : Fin 11) (p q : Fin 512) :
    hid (F := Ideal) xb (hW g u) j.val (ix3 0 p q)
      = unit (∑ d : Fin 2048, xb (ix2 p d) * g (ix2 d (col j q))) (∑ d : Fin 2048, xb (ix2 p d) * u (ix2 d (col j q))) := by
  have hj : Fin.ofNat 11 j.val = j := Fin.ext (Nat.mod_eq_of_lt j.isLt)
  rw [hid_at]
  refine congrArg₂ unit (Finset.sum_congr rfl fun d _ => congrArg (xb (ix2 p d) * ·) ?_) (Finset.sum_congr rfl fun d _ => congrArg (xb (ix2 p d) * ·) ?_)
  · show hW g u (ix3 (Fin.ofNat 11 j.val) d (colG q)) = _
    rw [hj]; exact hW_g g u j d q
  · show hW g u (ix3 (Fin.ofNat 11 j.val) d (colU q)) = _
    rw [hj]; exact hW_u g u j d q

theorem dB_col (d : FVec Ideal S5632x2048 .f32) (j : Fin 11) (q : Fin 512) (n : Fin 2048) : dB (F := Ideal) (hD d) j.val (ix3 0 q n) = d (ix2 (col j q) n) := by
  have hj : Fin.ofNat 11 j.val = j := Fin.ext (Nat.mod_eq_of_lt j.isLt)
  show hD d (ix3 (Fin.ofNat 11 j.val) q n) = _
  rw [hj]; exact hD_at d j q n

/-- The accumulated down product is the whole sum over the hidden columns. -/
theorem acc_col (xb : FVec Ideal S512x2048 .bf16) (g u : FVec Ideal S2048x5632 .f32) (d : FVec Ideal S5632x2048 .f32) (p : Fin 512) (n : Fin 2048) :
    k0_pay1 (F := Ideal) (acc (F := Ideal) xb (hW g u) (hD d) 9) (hid (F := Ideal) xb (hW g u) 10) (dB (F := Ideal) (hD d) 10) (ix2 p n)
      = ∑ e : Fin 5632, unit (∑ k : Fin 2048, xb (ix2 p k) * g (ix2 k e)) (∑ k : Fin 2048, xb (ix2 p k) * u (ix2 k e)) * d (ix2 e n) := by
  rw [sum_col]
  refine (acc_at xb (hW g u) (hD d) p n 10).trans ?_
  rw [Finset.sum_range]
  refine Finset.sum_congr rfl fun j _ => Finset.sum_congr rfl fun q _ => ?_
  rw [hid_col, dB_col]

/-- What a point stores, row by row. -/
theorem fin_at (x : FVec Ideal S512x2048 .f32) (xb : FVec Ideal S512x2048 .bf16) (s b : FVec Ideal S1x2048 .f32) (g u : FVec Ideal S2048x5632 .f32) (d : FVec Ideal S5632x2048 .f32)
    (p : Fin 512) (n : Fin 2048) :
    fin (F := Ideal) x xb s b (hW g u) (hD d) (ix2 p n)
      = normRow (fun k => res (fun i => x (ix2 p i)) (fun i => ∑ e : Fin 5632, unit (∑ k : Fin 2048, xb (ix2 p k) * g (ix2 k e)) (∑ k : Fin 2048, xb (ix2 p k) * u (ix2 k e)) * d (ix2 e i)) k)
          (fun k => s (ix2 0 k)) (fun k => b (ix2 0 k)) n := by
  unfold fin
  rw [pay11_eq, nv_at]
  refine congrArg (fun z => normRow z (fun k => s (ix2 0 k)) (fun k => b (ix2 0 k)) n) (funext fun k => ?_)
  rw [zv_at]
  exact congrArg (fun o => res (fun i => x (ix2 p i)) o k) (funext fun i => acc_col xb g u d p i)

/-- The reference, row by row. -/
theorem ref_at (x : FVec Ideal S16384x2048 .f32) (g u : FVec Ideal S2048x5632 .f32) (d : FVec Ideal S5632x2048 .f32) (s b : FVec Ideal S2048 .f32) (I : Fin 16384) (n : Fin 2048) :
    Cert.Reference2Ideal.Ffn.rN (Cert.Reference2Ideal.Ffn.rZ x (Cert.Reference2Ideal.Ffn.rH (Cert.Reference2Ideal.Ffn.rG x g) (Cert.Reference2Ideal.Ffn.rG x u)) d) s b (ix2 I n)
      = normRow (fun k => res (fun i => x (ix2 I i)) (fun i => ∑ e : Fin 5632, unit (∑ k : Fin 2048, x (ix2 I k) * g (ix2 k e)) (∑ k : Fin 2048, x (ix2 I k) * u (ix2 k e)) * d (ix2 e i)) k)
          (fun k => s (ix1 k)) (fun k => b (ix1 k)) n := by
  rw [Cert.Reference2Ideal.Ffn.rN_at]
  refine congrArg (fun z => normRow z (fun k => s (ix1 k)) (fun k => b (ix1 k)) n) (funext fun k => ?_)
  rw [Cert.Reference2Ideal.Ffn.rZ_at]
  refine congrArg (fun o => res (fun i => x (ix2 I i)) o k) (funext fun i => Finset.sum_congr rfl fun e _ => congrArg (· * d (ix2 e i)) ?_)
  rw [Cert.Reference2Ideal.Ffn.rH_at, Cert.Reference2Ideal.Ffn.rG_at, Cert.Reference2Ideal.Ffn.rG_at]

end Cert.Kernel2Ideal.Ffn

end
-- ==== Proof.Ffn.RunA.lean ====
module

public import proofs.«01_k».proof.Proof.Ffn.Names

@[expose] public section

set_option maxRecDepth 16384
set_option Elab.async false

/-! # The feed-forward body on the first grid point

The loop over the blocks has nine trips, so the run is a straight line. Three cases: the first point, which
fills the rings itself, the points between, and the last, which fills nothing for a next point. -/

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

set_option backward.proofsInPublic true in
set_option maxHeartbeats 8000000 in
/-- The first point: the body issues the first blocks itself. -/
def runA (c : Dev nD) (i : grid0.Coords) (arg1 : Memref sig .tc .vmem S512x2048 .f32) (harg1 : arg1.IsWhole) (arg2 : Memref sig .tc .vmem S512x2048 .bf16) (harg2 : arg2.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x1 : S512x2048.Idx → Elt F .f32) (x2 : S512x2048.Idx → Elt F .bf16) (x5 x6 : S1x2048.Idx → Elt F .f32)
    (WG : Buf (Elt F) (guArr.view.loc (c : Thread nD τ))) (WD : Buf (Elt F) (dArr.view.loc (c : Thread nD τ)))
    (hi0 : (i 0).val = 0) (hi1 : (i 0).val < 31) :
    Σ' (outO : List (View.Piece (Elt F) S512x2048 .f32)), { outB : List (View.Piece (Elt F) S512x2048 .bf16) //
      ∀ (W : Waits sig Unit) (K : PUnit → sProp 𝕄),
        iprop((arg1.view.loc (c : Thread nD τ) ↦[arg1.view.set]{fullShare} arg1.view.rep x1)
          ∗ (arg2.view.loc (c : Thread nD τ) ↦[arg2.view.set]{fullShare} arg2.view.rep x2)
          ∗ (arg5.view.loc (c : Thread nD τ) ↦[arg5.view.set]{fullShare} arg5.view.rep x5)
          ∗ (arg6.view.loc (c : Thread nD τ) ↦[arg6.view.set]{fullShare} arg6.view.rep x6)
          ∗ (∃ d, owns (c : Thread nD τ) arg7 fullShare d)
          ∗ (∃ d, owns (c : Thread nD τ) arg8 fullShare d)
          ∗ atRest c WG WD
          ∗ owes (c : Thread nD τ) 0 W
          ∗ (iprop((arg1.view.loc (c : Thread nD τ) ↦[arg1.view.set]{fullShare} arg1.view.rep x1)
          ∗ (arg2.view.loc (c : Thread nD τ) ↦[arg2.view.set]{fullShare} arg2.view.rep x2)
          ∗ (arg5.view.loc (c : Thread nD τ) ↦[arg5.view.set]{fullShare} arg5.view.rep x5)
          ∗ (arg6.view.loc (c : Thread nD τ) ↦[arg6.view.set]{fullShare} arg6.view.rep x6)
          ∗ (∃ f, arg7.view.loc (c : Thread nD τ) ↦[arg7.view.set]{fullShare} arg7.view.writes (Elt F) f outO)
          ∗ (∃ f, arg8.view.loc (c : Thread nD τ) ↦[arg8.view.set]{fullShare} arg8.view.writes (Elt F) f outB)
          ∗ between c WG WD
          ∗ (∃ W', owes (c : Thread nD τ) 0 W')) -∗ K ⟨⟩))
          ⊢ wp frame (wpE (defs₀ (F := F)) Variants.none c none) Set.univ (cc0_ffn i arg1 harg1 arg2 harg2 guArr (Memref.isWhole_whole _) dArr (Memref.isWhole_whole _) arg5 harg5 arg6 harg6 arg7 harg7 arg8 harg8 hRef (Memref.isWhole_whole _) guRef (Memref.isWhole_whole _) dRef (Memref.isWhole_whole _) cc0_scratch3) K } :=
  ⟨_, _, fun W K => by
    unfold owns atRest between
    rw [cc0_ffn_eq_skeleton]; unfold cc0_ffn_skel
    iintro ⟨H1, H2, H5, H6, ⟨%d7, %f7, -, H7⟩, ⟨%d8, %f8, -, H8⟩, ⟨⟨%fh, HH⟩, ⟨%fg0, HG0⟩, ⟨%fg1, HG1⟩, ⟨%fg2, HG2⟩, ⟨%fd0, HD0⟩, ⟨%fd1, HD1⟩, ⟨%fd2, HD2⟩, T10, T11, T12, T13, T14, T15, Q10, Q11, Q12, Q13, Q14, Q15⟩, HW, Hk⟩
    have hH : hRef.IsWhole := Memref.isWhole_whole _
    have hG : guRef.IsWhole := Memref.isWhole_whole _
    have hD : dRef.IsWhole := Memref.isWhole_whole _
    set_option sl_exec.unrollTrips 16 in sl_exec! (disch := first | (guard_target = k0_cond1 _ = _; exact (first_iff i).2 hi0) | (guard_target = k0_cond6 _ = _; exact ahead2 i) | (guard_target = k0_cond11 _ = _; exact ahead3 i) | (guard_target = k0_cond16 _ _ = _; exact (aheadLoop i _).2 (Or.inr hi1)) | (guard_target = k0_cond21 _ = _; exact (ahead13 i).2 hi1))
    sl_step
    iapply Hk
    isplitl [H1]; · iexact H1
    isplitl [H2]; · iexact H2
    isplitl [H5]; · iexact H5
    isplitl [H6]; · iexact H6
    isplitl [H7]; · iexists _; iexact H7
    isplitl [H8]; · iexists _; iexact H8
    isplitr [HW]
    · isplitl [HH]; · iexists _; iexact HH
      isplitl [Q10 T10]
      · iexists _, _; isplitr; swap
        · isplitl [Q10]
          · iexists _, _; iexact Q10
          iexact T10
        ipureintro; decide
      isplitl [Q11 T11]
      · iexists _, _; isplitr; swap
        · isplitl [Q11]
          · iexists _, _; iexact Q11
          iexact T11
        ipureintro; decide
      isplitl [Q14 T14]
      · iexists _, _; isplitr; swap
        · isplitl [Q14]
          · iexists _, _; iexact Q14
          iexact T14
        ipureintro; decide
      isplitl [HG2]; · iexists _; iexact HG2
      isplitl [HD0]; · iexists _; iexact HD0
      isplitl [HD2]; · iexists _; iexact HD2
      isplitl [T12]; · iexact T12
      isplitl [T13]; · iexact T13
      isplitl [T15]; · iexact T15
      isplitl [Q12]; · iexact Q12
      isplitl [Q13]; · iexact Q13
      iexact Q15
    iexists _; iexact HW⟩

end Cert.Kernel2Ideal.Ffn

end
-- ==== Proof.Ffn.RunB.lean ====
module

public import proofs.«01_k».proof.Proof.Ffn.Names

@[expose] public section

set_option maxRecDepth 16384
set_option Elab.async false

/-! # The feed-forward body between the first point and the last

The loop over the blocks has nine trips, so the run is a straight line. Three cases: the first point, which
fills the rings itself, the points between, and the last, which fills nothing for a next point. -/

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

set_option backward.proofsInPublic true in
set_option maxHeartbeats 8000000 in
/-- A point between the first and the last. -/
def runB (c : Dev nD) (i : grid0.Coords) (arg1 : Memref sig .tc .vmem S512x2048 .f32) (harg1 : arg1.IsWhole) (arg2 : Memref sig .tc .vmem S512x2048 .bf16) (harg2 : arg2.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x1 : S512x2048.Idx → Elt F .f32) (x2 : S512x2048.Idx → Elt F .bf16) (x5 x6 : S1x2048.Idx → Elt F .f32)
    (WG : Buf (Elt F) (guArr.view.loc (c : Thread nD τ))) (WD : Buf (Elt F) (dArr.view.loc (c : Thread nD τ)))
    (hi0 : ¬(i 0).val = 0) (hi1 : (i 0).val < 31) :
    Σ' (outO : List (View.Piece (Elt F) S512x2048 .f32)), { outB : List (View.Piece (Elt F) S512x2048 .bf16) //
      ∀ (W : Waits sig Unit) (K : PUnit → sProp 𝕄),
        iprop((arg1.view.loc (c : Thread nD τ) ↦[arg1.view.set]{fullShare} arg1.view.rep x1)
          ∗ (arg2.view.loc (c : Thread nD τ) ↦[arg2.view.set]{fullShare} arg2.view.rep x2)
          ∗ (arg5.view.loc (c : Thread nD τ) ↦[arg5.view.set]{fullShare} arg5.view.rep x5)
          ∗ (arg6.view.loc (c : Thread nD τ) ↦[arg6.view.set]{fullShare} arg6.view.rep x6)
          ∗ (∃ d, owns (c : Thread nD τ) arg7 fullShare d)
          ∗ (∃ d, owns (c : Thread nD τ) arg8 fullShare d)
          ∗ inFlight c WG WD
          ∗ owes (c : Thread nD τ) 0 W
          ∗ (iprop((arg1.view.loc (c : Thread nD τ) ↦[arg1.view.set]{fullShare} arg1.view.rep x1)
          ∗ (arg2.view.loc (c : Thread nD τ) ↦[arg2.view.set]{fullShare} arg2.view.rep x2)
          ∗ (arg5.view.loc (c : Thread nD τ) ↦[arg5.view.set]{fullShare} arg5.view.rep x5)
          ∗ (arg6.view.loc (c : Thread nD τ) ↦[arg6.view.set]{fullShare} arg6.view.rep x6)
          ∗ (∃ f, arg7.view.loc (c : Thread nD τ) ↦[arg7.view.set]{fullShare} arg7.view.writes (Elt F) f outO)
          ∗ (∃ f, arg8.view.loc (c : Thread nD τ) ↦[arg8.view.set]{fullShare} arg8.view.writes (Elt F) f outB)
          ∗ between c WG WD
          ∗ (∃ W', owes (c : Thread nD τ) 0 W')) -∗ K ⟨⟩))
          ⊢ wp frame (wpE (defs₀ (F := F)) Variants.none c none) Set.univ (cc0_ffn i arg1 harg1 arg2 harg2 guArr (Memref.isWhole_whole _) dArr (Memref.isWhole_whole _) arg5 harg5 arg6 harg6 arg7 harg7 arg8 harg8 hRef (Memref.isWhole_whole _) guRef (Memref.isWhole_whole _) dRef (Memref.isWhole_whole _) cc0_scratch3) K } :=
  ⟨_, _, fun W K => by
    unfold owns inFlight between
    rw [cc0_ffn_eq_skeleton]; unfold cc0_ffn_skel
    iintro ⟨H1, H2, H5, H6, ⟨%d7, %f7, -, H7⟩, ⟨%d8, %f8, -, H8⟩, ⟨⟨%fh, HH⟩, ⟨⟨%f0, Q10⟩, T10⟩, ⟨⟨%f1, Q11⟩, T11⟩, ⟨⟨%f2, Q14⟩, T14⟩, ⟨%fg2, HG2⟩, ⟨%fd0, HD0⟩, ⟨%fd2, HD2⟩, T12, T13, T15, Q12, Q13, Q15⟩, HW, Hk⟩
    have hc1 : ¬k0_cond1 i = 1#1 := fun h => hi0 ((first_iff i).1 h)
    have hH : hRef.IsWhole := Memref.isWhole_whole _
    have hG : guRef.IsWhole := Memref.isWhole_whole _
    have hD : dRef.IsWhole := Memref.isWhole_whole _
    set_option sl_exec.unrollTrips 16 in sl_exec! (disch := first | (guard_target = ¬(k0_cond1 _ = _); exact fun h => hi0 ((first_iff i).1 h)) | (guard_target = k0_cond6 _ = _; exact ahead2 i) | (guard_target = k0_cond11 _ = _; exact ahead3 i) | (guard_target = k0_cond16 _ _ = _; exact (aheadLoop i _).2 (Or.inr hi1)) | (guard_target = k0_cond21 _ = _; exact (ahead13 i).2 hi1))
    sl_step
    iapply Hk
    isplitl [H1]; · iexact H1
    isplitl [H2]; · iexact H2
    isplitl [H5]; · iexact H5
    isplitl [H6]; · iexact H6
    isplitl [H7]; · iexists _; iexact H7
    isplitl [H8]; · iexists _; iexact H8
    isplitr [HW]
    · isplitl [HH]; · iexists _; iexact HH
      isplitl [Q10 T10]
      · iexists _, _; isplitr; swap
        · isplitl [Q10]
          · iexists _, _; iexact Q10
          iexact T10
        ipureintro; decide
      isplitl [Q11 T11]
      · iexists _, _; isplitr; swap
        · isplitl [Q11]
          · iexists _, _; iexact Q11
          iexact T11
        ipureintro; decide
      isplitl [Q14 T14]
      · iexists _, _; isplitr; swap
        · isplitl [Q14]
          · iexists _, _; iexact Q14
          iexact T14
        ipureintro; decide
      isplitl [HG2]; · iexists _; iexact HG2
      isplitl [HD0]; · iexists _; iexact HD0
      isplitl [HD2]; · iexists _; iexact HD2
      isplitl [T12]; · iexact T12
      isplitl [T13]; · iexact T13
      isplitl [T15]; · iexact T15
      isplitl [Q12]; · iexact Q12
      isplitl [Q13]; · iexact Q13
      iexact Q15
    iexists _; iexact HW⟩

end Cert.Kernel2Ideal.Ffn

end
-- ==== Proof.Ffn.RunC.lean ====
module

public import proofs.«01_k».proof.Proof.Ffn.Names

@[expose] public section

set_option maxRecDepth 16384
set_option Elab.async false

/-! # The feed-forward body on the last grid point

The loop over the blocks has nine trips, so the run is a straight line. Three cases: the first point, which
fills the rings itself, the points between, and the last, which fills nothing for a next point. -/

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

set_option backward.proofsInPublic true in
set_option maxHeartbeats 8000000 in
/-- The last point: nothing is issued for a next one. -/
def runC (c : Dev nD) (i : grid0.Coords) (arg1 : Memref sig .tc .vmem S512x2048 .f32) (harg1 : arg1.IsWhole) (arg2 : Memref sig .tc .vmem S512x2048 .bf16) (harg2 : arg2.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x1 : S512x2048.Idx → Elt F .f32) (x2 : S512x2048.Idx → Elt F .bf16) (x5 x6 : S1x2048.Idx → Elt F .f32)
    (WG : Buf (Elt F) (guArr.view.loc (c : Thread nD τ))) (WD : Buf (Elt F) (dArr.view.loc (c : Thread nD τ)))
    (hi0 : ¬(i 0).val = 0) (hi1 : ¬(i 0).val < 31) :
    Σ' (outO : List (View.Piece (Elt F) S512x2048 .f32)), { outB : List (View.Piece (Elt F) S512x2048 .bf16) //
      ∀ (W : Waits sig Unit) (K : PUnit → sProp 𝕄),
        iprop((arg1.view.loc (c : Thread nD τ) ↦[arg1.view.set]{fullShare} arg1.view.rep x1)
          ∗ (arg2.view.loc (c : Thread nD τ) ↦[arg2.view.set]{fullShare} arg2.view.rep x2)
          ∗ (arg5.view.loc (c : Thread nD τ) ↦[arg5.view.set]{fullShare} arg5.view.rep x5)
          ∗ (arg6.view.loc (c : Thread nD τ) ↦[arg6.view.set]{fullShare} arg6.view.rep x6)
          ∗ (∃ d, owns (c : Thread nD τ) arg7 fullShare d)
          ∗ (∃ d, owns (c : Thread nD τ) arg8 fullShare d)
          ∗ inFlight c WG WD
          ∗ owes (c : Thread nD τ) 0 W
          ∗ (iprop((arg1.view.loc (c : Thread nD τ) ↦[arg1.view.set]{fullShare} arg1.view.rep x1)
          ∗ (arg2.view.loc (c : Thread nD τ) ↦[arg2.view.set]{fullShare} arg2.view.rep x2)
          ∗ (arg5.view.loc (c : Thread nD τ) ↦[arg5.view.set]{fullShare} arg5.view.rep x5)
          ∗ (arg6.view.loc (c : Thread nD τ) ↦[arg6.view.set]{fullShare} arg6.view.rep x6)
          ∗ (∃ f, arg7.view.loc (c : Thread nD τ) ↦[arg7.view.set]{fullShare} arg7.view.writes (Elt F) f outO)
          ∗ (∃ f, arg8.view.loc (c : Thread nD τ) ↦[arg8.view.set]{fullShare} arg8.view.writes (Elt F) f outB)
          ∗ atRest c WG WD
          ∗ (∃ W', owes (c : Thread nD τ) 0 W')) -∗ K ⟨⟩))
          ⊢ wp frame (wpE (defs₀ (F := F)) Variants.none c none) Set.univ (cc0_ffn i arg1 harg1 arg2 harg2 guArr (Memref.isWhole_whole _) dArr (Memref.isWhole_whole _) arg5 harg5 arg6 harg6 arg7 harg7 arg8 harg8 hRef (Memref.isWhole_whole _) guRef (Memref.isWhole_whole _) dRef (Memref.isWhole_whole _) cc0_scratch3) K } :=
  ⟨_, _, fun W K => by
    unfold owns inFlight atRest
    rw [cc0_ffn_eq_skeleton]; unfold cc0_ffn_skel
    iintro ⟨H1, H2, H5, H6, ⟨%d7, %f7, -, H7⟩, ⟨%d8, %f8, -, H8⟩, ⟨⟨%fh, HH⟩, ⟨⟨%f0, Q10⟩, T10⟩, ⟨⟨%f1, Q11⟩, T11⟩, ⟨⟨%f2, Q14⟩, T14⟩, ⟨%fg2, HG2⟩, ⟨%fd0, HD0⟩, ⟨%fd2, HD2⟩, T12, T13, T15, Q12, Q13, Q15⟩, HW, Hk⟩
    have hc1 : ¬k0_cond1 i = 1#1 := fun h => hi0 ((first_iff i).1 h)
    have hH : hRef.IsWhole := Memref.isWhole_whole _
    have hG : guRef.IsWhole := Memref.isWhole_whole _
    have hD : dRef.IsWhole := Memref.isWhole_whole _
    set_option sl_exec.unrollTrips 16 in sl_exec! (disch := first | (guard_target = ¬(k0_cond1 _ = _); exact fun h => hi0 ((first_iff i).1 h)) | (guard_target = k0_cond6 _ = _; exact ahead2 i) | (guard_target = k0_cond11 _ = _; exact ahead3 i) | (guard_target = k0_cond16 _ _ = _; exact (aheadLoop i _).2 (Or.inl (by decide))) | (guard_target = ¬(k0_cond16 _ _ = _); exact fun h => ((aheadLoop i _).1 h).elim (by decide) hi1) | (guard_target = ¬(k0_cond21 _ = _); exact fun h => hi1 ((ahead13 i).1 h)))
    sl_step
    iapply Hk
    isplitl [H1]; · iexact H1
    isplitl [H2]; · iexact H2
    isplitl [H5]; · iexact H5
    isplitl [H6]; · iexact H6
    isplitl [H7]; · iexists _; iexact H7
    isplitl [H8]; · iexists _; iexact H8
    isplitr [HW]
    · isplitl [HH]; · iexists _; iexact HH
      isplitl [Q10_dst]; · iexists _; iexact Q10_dst
      isplitl [Q11_dst]; · iexists _; iexact Q11_dst
      isplitl [HG2]; · iexists _; iexact HG2
      isplitl [HD0]; · iexists _; iexact HD0
      isplitl [Q14_dst]; · iexists _; iexact Q14_dst
      isplitl [HD2]; · iexists _; iexact HD2
      isplitl [T10]; · iexact T10
      isplitl [T11]; · iexact T11
      isplitl [T12]; · iexact T12
      isplitl [T13]; · iexact T13
      isplitl [T14]; · iexact T14
      isplitl [T15]; · iexact T15
      isplitl [Q10]; · iexact Q10
      isplitl [Q11]; · iexact Q11
      isplitl [Q12]; · iexact Q12
      isplitl [Q13]; · iexact Q13
      isplitl [Q14]; · iexact Q14
      iexact Q15
    iexists _; iexact HW⟩

end Cert.Kernel2Ideal.Ffn

end
-- ==== Proof.Ffn.Data.lean ====
module

public import proofs.«01_k».proof.Proof.Ffn.RunA
public import proofs.«01_k».proof.Proof.Ffn.RunB
public import proofs.«01_k».proof.Proof.Ffn.RunC
public import proofs.«01_k».proof.Proof.Gen.Kernel2Ideal.Frame
public import Idealize.ShloMosaic.Lib.Pipeline.Routed
public import Idealize.ShloMosaic.Lib.Pipeline.TableIdle

@[expose] public section

set_option maxRecDepth 16384
set_option Elab.async false

/-! # The feed-forward pipeline's data and its run

Before the first point and after the last the rings are at rest; between two points the first blocks of the
next are on their way. The two weight arrays are held by read shares, one to a cell. -/

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (Pipeline.UC sig nD τ) ℕ

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .bf16 := win0_5.stage (cfg0.slots t 5)
abbrev hs5 (t : Fin cfg0.N) : (ms5 t).IsWhole := hstage0_5 ((cfg0.slots t 5).cast nbuf0_5)
abbrev crd (t : Fin cfg0.N) : grid0.Coords := grid0.coords t

theorem crd_val : ∀ t : Fin grid0.N, (grid0.coords t 0).val = t.val := by decide +kernel
theorem t_lt (t : Fin cfg0.N) : t.val < 32 := lt_of_lt_of_eq t.isLt N_0
theorem firstAt (t : Fin cfg0.N) (h : t.val = 0) : (crd t 0).val = 0 := (crd_val t).trans h
theorem firstLt (t : Fin cfg0.N) (h : t.val = 0) : (crd t 0).val < 31 := by rw [firstAt t h]; decide
theorem notFirst (t : Fin cfg0.N) (h : ¬t.val = 0) : ¬(crd t 0).val = 0 := fun e => h ((crd_val t).symm.trans e)
theorem ltAt (t : Fin cfg0.N) (h : t.val < 31) : (crd t 0).val < 31 := lt_of_eq_of_lt (crd_val t) h
theorem notLt (t : Fin cfg0.N) (h : ¬t.val < 31) : ¬(crd t 0).val < 31 := fun e => h (lt_of_eq_of_lt (crd_val t).symm e)

variable (m : (ℓ : Loc nD τ sig) → Buf (Elt F) ℓ) (ρ : Dev nD → PrngReg)

/-! ## What a point leaves in the two output blocks -/

/-- The buffers through which the outputs' contents are read. -/
abbrev VO : View sig .tc .vmem S512x2048 .f32 := (Memref.whole cc0_stg4_0 : Memref sig .tc .vmem S512x2048 .f32).view
abbrev VB : View sig .tc .vmem S512x2048 .bf16 := (Memref.whole cc0_stg5_0 : Memref sig .tc .vmem S512x2048 .bf16).view

def outO (c : Dev nD) (t : Fin cfg0.N) : S512x2048.Idx → Elt F .f32 :=
  if h0 : t.val = 0 then VO.read (Elt F) (VO.writes (Elt F) VO.junk (runA c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (firstAt t h0) (firstLt t h0)).1)
  else if h1 : t.val < 31 then VO.read (Elt F) (VO.writes (Elt F) VO.junk (runB c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (notFirst t h0) (ltAt t h1)).1)
  else VO.read (Elt F) (VO.writes (Elt F) VO.junk (runC c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (notFirst t h0) (notLt t h1)).1)
def outB (c : Dev nD) (t : Fin cfg0.N) : S512x2048.Idx → Elt F .bf16 :=
  if h0 : t.val = 0 then VB.read (Elt F) (VB.writes (Elt F) VB.junk (runA c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (firstAt t h0) (firstLt t h0)).2.1)
  else if h1 : t.val < 31 then VB.read (Elt F) (VB.writes (Elt F) VB.junk (runB c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (notFirst t h0) (ltAt t h1)).2.1)
  else VB.read (Elt F) (VB.writes (Elt F) VB.junk (runC c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (notFirst t h0) (notLt t h1)).2.1)

theorem outOA (c : Dev nD) (t : Fin cfg0.N) (h0 : t.val = 0) : outO m c t = VO.read (Elt F) (VO.writes (Elt F) VO.junk (runA c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (firstAt t h0) (firstLt t h0)).1) := dif_pos h0
theorem outBA (c : Dev nD) (t : Fin cfg0.N) (h0 : t.val = 0) : outB m c t = VB.read (Elt F) (VB.writes (Elt F) VB.junk (runA c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (firstAt t h0) (firstLt t h0)).2.1) := dif_pos h0
theorem outOB (c : Dev nD) (t : Fin cfg0.N) (h0 : ¬t.val = 0) (h1 : t.val < 31) : outO m c t = VO.read (Elt F) (VO.writes (Elt F) VO.junk (runB c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (notFirst t h0) (ltAt t h1)).1) := (dif_neg h0).trans (dif_pos h1)
theorem outBB (c : Dev nD) (t : Fin cfg0.N) (h0 : ¬t.val = 0) (h1 : t.val < 31) : outB m c t = VB.read (Elt F) (VB.writes (Elt F) VB.junk (runB c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (notFirst t h0) (ltAt t h1)).2.1) := (dif_neg h0).trans (dif_pos h1)
theorem outOC (c : Dev nD) (t : Fin cfg0.N) (h0 : ¬t.val = 0) (h1 : ¬t.val < 31) : outO m c t = VO.read (Elt F) (VO.writes (Elt F) VO.junk (runC c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (notFirst t h0) (notLt t h1)).1) := (dif_neg h0).trans (dif_neg h1)
theorem outBC (c : Dev nD) (t : Fin cfg0.N) (h0 : ¬t.val = 0) (h1 : ¬t.val < 31) : outB m c t = VB.read (Elt F) (VB.writes (Elt F) VB.junk (runC c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (notFirst t h0) (notLt t h1)).2.1) := (dif_neg h0).trans (dif_neg h1)
theorem coverOA (c : Dev nD) (i : grid0.Coords) (arg1 : Memref sig .tc .vmem S512x2048 .f32) (harg1 : arg1.IsWhole) (arg2 : Memref sig .tc .vmem S512x2048 .bf16) (harg2 : arg2.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x1 : S512x2048.Idx → Elt F .f32) (x2 : S512x2048.Idx → Elt F .bf16) (x5 x6 : S1x2048.Idx → Elt F .f32)
    (WG : Buf (Elt F) (guArr.view.loc (c : Thread nD τ))) (WD : Buf (Elt F) (dArr.view.loc (c : Thread nD τ))) (hi0) (hi1) (y : S512x2048.Idx) :
    ∃ pc ∈ (runA c i arg1 harg1 arg2 harg2 arg5 harg5 arg6 harg6 arg7 harg7 arg8 harg8 x1 x2 x5 x6 WG WD hi0 hi1).1, y ∈ pc.1.set :=
  View.cover_of_tiledL (runA c i arg1 harg1 arg2 harg2 arg5 harg5 arg6 harg6 arg7 harg7 arg8 harg8 x1 x2 x5 x6 WG WD hi0 hi1).1 S512x2048.size (by sl_kernel_rfl) y
theorem coverBA (c : Dev nD) (i : grid0.Coords) (arg1 : Memref sig .tc .vmem S512x2048 .f32) (harg1 : arg1.IsWhole) (arg2 : Memref sig .tc .vmem S512x2048 .bf16) (harg2 : arg2.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x1 : S512x2048.Idx → Elt F .f32) (x2 : S512x2048.Idx → Elt F .bf16) (x5 x6 : S1x2048.Idx → Elt F .f32)
    (WG : Buf (Elt F) (guArr.view.loc (c : Thread nD τ))) (WD : Buf (Elt F) (dArr.view.loc (c : Thread nD τ))) (hi0) (hi1) (y : S512x2048.Idx) :
    ∃ pc ∈ (runA c i arg1 harg1 arg2 harg2 arg5 harg5 arg6 harg6 arg7 harg7 arg8 harg8 x1 x2 x5 x6 WG WD hi0 hi1).2.1, y ∈ pc.1.set :=
  View.cover_of_tiledL (runA c i arg1 harg1 arg2 harg2 arg5 harg5 arg6 harg6 arg7 harg7 arg8 harg8 x1 x2 x5 x6 WG WD hi0 hi1).2.1 S512x2048.size (by sl_kernel_rfl) y
theorem coverOB (c : Dev nD) (i : grid0.Coords) (arg1 : Memref sig .tc .vmem S512x2048 .f32) (harg1 : arg1.IsWhole) (arg2 : Memref sig .tc .vmem S512x2048 .bf16) (harg2 : arg2.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x1 : S512x2048.Idx → Elt F .f32) (x2 : S512x2048.Idx → Elt F .bf16) (x5 x6 : S1x2048.Idx → Elt F .f32)
    (WG : Buf (Elt F) (guArr.view.loc (c : Thread nD τ))) (WD : Buf (Elt F) (dArr.view.loc (c : Thread nD τ))) (hi0) (hi1) (y : S512x2048.Idx) :
    ∃ pc ∈ (runB c i arg1 harg1 arg2 harg2 arg5 harg5 arg6 harg6 arg7 harg7 arg8 harg8 x1 x2 x5 x6 WG WD hi0 hi1).1, y ∈ pc.1.set :=
  View.cover_of_tiledL (runB c i arg1 harg1 arg2 harg2 arg5 harg5 arg6 harg6 arg7 harg7 arg8 harg8 x1 x2 x5 x6 WG WD hi0 hi1).1 S512x2048.size (by sl_kernel_rfl) y
theorem coverBB (c : Dev nD) (i : grid0.Coords) (arg1 : Memref sig .tc .vmem S512x2048 .f32) (harg1 : arg1.IsWhole) (arg2 : Memref sig .tc .vmem S512x2048 .bf16) (harg2 : arg2.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x1 : S512x2048.Idx → Elt F .f32) (x2 : S512x2048.Idx → Elt F .bf16) (x5 x6 : S1x2048.Idx → Elt F .f32)
    (WG : Buf (Elt F) (guArr.view.loc (c : Thread nD τ))) (WD : Buf (Elt F) (dArr.view.loc (c : Thread nD τ))) (hi0) (hi1) (y : S512x2048.Idx) :
    ∃ pc ∈ (runB c i arg1 harg1 arg2 harg2 arg5 harg5 arg6 harg6 arg7 harg7 arg8 harg8 x1 x2 x5 x6 WG WD hi0 hi1).2.1, y ∈ pc.1.set :=
  View.cover_of_tiledL (runB c i arg1 harg1 arg2 harg2 arg5 harg5 arg6 harg6 arg7 harg7 arg8 harg8 x1 x2 x5 x6 WG WD hi0 hi1).2.1 S512x2048.size (by sl_kernel_rfl) y
theorem coverOC (c : Dev nD) (i : grid0.Coords) (arg1 : Memref sig .tc .vmem S512x2048 .f32) (harg1 : arg1.IsWhole) (arg2 : Memref sig .tc .vmem S512x2048 .bf16) (harg2 : arg2.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x1 : S512x2048.Idx → Elt F .f32) (x2 : S512x2048.Idx → Elt F .bf16) (x5 x6 : S1x2048.Idx → Elt F .f32)
    (WG : Buf (Elt F) (guArr.view.loc (c : Thread nD τ))) (WD : Buf (Elt F) (dArr.view.loc (c : Thread nD τ))) (hi0) (hi1) (y : S512x2048.Idx) :
    ∃ pc ∈ (runC c i arg1 harg1 arg2 harg2 arg5 harg5 arg6 harg6 arg7 harg7 arg8 harg8 x1 x2 x5 x6 WG WD hi0 hi1).1, y ∈ pc.1.set :=
  View.cover_of_tiledL (runC c i arg1 harg1 arg2 harg2 arg5 harg5 arg6 harg6 arg7 harg7 arg8 harg8 x1 x2 x5 x6 WG WD hi0 hi1).1 S512x2048.size (by sl_kernel_rfl) y
theorem coverBC (c : Dev nD) (i : grid0.Coords) (arg1 : Memref sig .tc .vmem S512x2048 .f32) (harg1 : arg1.IsWhole) (arg2 : Memref sig .tc .vmem S512x2048 .bf16) (harg2 : arg2.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x1 : S512x2048.Idx → Elt F .f32) (x2 : S512x2048.Idx → Elt F .bf16) (x5 x6 : S1x2048.Idx → Elt F .f32)
    (WG : Buf (Elt F) (guArr.view.loc (c : Thread nD τ))) (WD : Buf (Elt F) (dArr.view.loc (c : Thread nD τ))) (hi0) (hi1) (y : S512x2048.Idx) :
    ∃ pc ∈ (runC c i arg1 harg1 arg2 harg2 arg5 harg5 arg6 harg6 arg7 harg7 arg8 harg8 x1 x2 x5 x6 WG WD hi0 hi1).2.1, y ∈ pc.1.set :=
  View.cover_of_tiledL (runC c i arg1 harg1 arg2 harg2 arg5 harg5 arg6 harg6 arg7 harg7 arg8 harg8 x1 x2 x5 x6 WG WD hi0 hi1).2.1 S512x2048.size (by sl_kernel_rfl) y

/-! ## The invariant -/

/-- The shares of the two weight arrays no cell borrows. -/
def unlent (c : Dev nD) : sProp 𝕄 :=
  iprop(((guArr.view.loc (c : Thread nD τ) ↦{Transfers.shareDrop fullShare 16} V m c main_v5)
      ∗ bigSep (Finset.univ \ {10, 11, 12}) (fun i : Fin 16 => lent c guArr (V m c main_v5) i))
    ∗ ((dArr.view.loc (c : Thread nD τ) ↦{Transfers.shareDrop fullShare 16} V m c main_v7)
      ∗ bigSep (Finset.univ \ {13, 14, 15}) (fun i : Fin 16 => lent c dArr (V m c main_v7) i)))

/-- The rings before point `n`. -/
def rings (c : Dev nD) (n : ℕ) : sProp 𝕄 :=
  if n = 0 ∨ n = 32 then atRest c (V m c main_v5) (V m c main_v7) else between c (V m c main_v5) (V m c main_v7)

theorem rings_rest (c : Dev nD) (n : ℕ) (h : n = 0 ∨ n = 32) : rings m c n = atRest c (V m c main_v5) (V m c main_v7) := if_pos h
theorem rings_fly (c : Dev nD) (n : ℕ) (h : ¬(n = 0 ∨ n = 32)) : rings m c n = between c (V m c main_v5) (V m c main_v7) := if_neg h

/-- The pipeline's proof data on core `c`. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => outO m c t
    | ⟨5, _⟩ => outB m c t
  Φ t := iprop(rings m c t.val ∗ unlent m c ∗ ∃ r, prngReg c r)
  q _ := fullShare
  owed _ := 0

theorem after0 (c : Dev nD) (t : Fin cfg0.N) : (dats m 0 c).after ((0 : Fin 6)) t = iblk m c (0 : Fin 6) t := rfl
theorem before0 (c : Dev nD) (t : Fin cfg0.N) (d) : (dats m 0 c).before (0 : Fin 6) t d = iblk m c (0 : Fin 6) t :=
  ((dats m 0 c).before_in_eq_fetched (0 : Fin 6) rfl (fun _ => rfl) (fun _ _ _ => rfl) (fun t => by rw [after0]; unfold Dat.blockOf iblk; rfl) t d).trans
    (by unfold Dat.fetched Dat.blockOf iblk; rfl)
theorem after1 (c : Dev nD) (t : Fin cfg0.N) : (dats m 0 c).after ((1 : Fin 6)) t = iblk m c (1 : Fin 6) t := rfl
theorem before1 (c : Dev nD) (t : Fin cfg0.N) (d) : (dats m 0 c).before (1 : Fin 6) t d = iblk m c (1 : Fin 6) t :=
  ((dats m 0 c).before_in_eq_fetched (1 : Fin 6) rfl (fun _ => rfl) (fun _ _ _ => rfl) (fun t => by rw [after1]; unfold Dat.blockOf iblk; rfl) t d).trans
    (by unfold Dat.fetched Dat.blockOf iblk; rfl)
theorem after2 (c : Dev nD) (t : Fin cfg0.N) : (dats m 0 c).after ((2 : Fin 6)) t = iblk m c (2 : Fin 6) t := rfl
theorem before2 (c : Dev nD) (t : Fin cfg0.N) (d) : (dats m 0 c).before (2 : Fin 6) t d = iblk m c (2 : Fin 6) t :=
  ((dats m 0 c).before_in_eq_fetched (2 : Fin 6) rfl (fun _ => rfl) (fun _ _ _ => rfl) (fun t => by rw [after2]; unfold Dat.blockOf iblk; rfl) t d).trans
    (by unfold Dat.fetched Dat.blockOf iblk; rfl)
theorem after3 (c : Dev nD) (t : Fin cfg0.N) : (dats m 0 c).after ((3 : Fin 6)) t = iblk m c (3 : Fin 6) t := rfl
theorem before3 (c : Dev nD) (t : Fin cfg0.N) (d) : (dats m 0 c).before (3 : Fin 6) t d = iblk m c (3 : Fin 6) t :=
  ((dats m 0 c).before_in_eq_fetched (3 : Fin 6) rfl (fun _ => rfl) (fun _ _ _ => rfl) (fun t => by rw [after3]; unfold Dat.blockOf iblk; rfl) t d).trans
    (by unfold Dat.fetched Dat.blockOf iblk; rfl)
theorem after4 (c : Dev nD) (t : Fin cfg0.N) : (dats m 0 c).after (4 : Fin 6) t = outO m c t := by dsimp only [dats]
theorem after5 (c : Dev nD) (t : Fin cfg0.N) : (dats m 0 c).after (5 : Fin 6) t = outB m c t := by dsimp only [dats]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before (0 : Fin 6) t d)) ∗ (∃ d, owns (c : Thread nD τ) (ms1 t) fullShare ((dats m 0 c).before (1 : Fin 6) t d))
    ∗ (∃ d, owns (c : Thread nD τ) (ms2 t) fullShare ((dats m 0 c).before (2 : Fin 6) t d)) ∗ (∃ d, owns (c : Thread nD τ) (ms3 t) fullShare ((dats m 0 c).before (3 : Fin 6) t d))
    ∗ (∃ d, owns (c : Thread nD τ) (ms4 t) fullShare ((dats m 0 c).before (4 : Fin 6) t d)) ∗ (∃ d, owns (c : Thread nD τ) (ms5 t) fullShare ((dats m 0 c).before (5 : Fin 6) t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after (0 : Fin 6) t) ∗ owns (c : Thread nD τ) (ms1 t) fullShare ((dats m 0 c).after (1 : Fin 6) t)
    ∗ owns (c : Thread nD τ) (ms2 t) fullShare ((dats m 0 c).after (2 : Fin 6) t) ∗ owns (c : Thread nD τ) (ms3 t) fullShare ((dats m 0 c).after (3 : Fin 6) t)
    ∗ owns (c : Thread nD τ) (ms4 t) fullShare ((dats m 0 c).after (4 : Fin 6) t) ∗ owns (c : Thread nD τ) (ms5 t) fullShare ((dats m 0 c).after (5 : Fin 6) t))

def BodyGoal (c : Dev nD) (t : Fin cfg0.N) : Prop :=
  bodyPre m c t ⊢ wp frame (wpE (defs₀ (F := F)) Variants.none c none) Set.univ (bodyAt0 t) (fun _ => bodyPost m c t)

set_option maxHeartbeats 4000000 in
theorem bodyA (c : Dev nD) (t : Fin cfg0.N) (h0 : t.val = 0) : BodyGoal m c t := by
  unfold BodyGoal bodyPre bodyPost bodyAt0
  simp only [before0, before1, before2, before3, after0, after1, after2, after3, after4, after5]
  rw [show (dats m 0 c).Φ t.castSucc = iprop(rings m c t.castSucc.val ∗ unlent m c ∗ ∃ r, prngReg c r) from rfl,
    show (dats m 0 c).Φ t.succ = iprop(rings m c t.succ.val ∗ unlent m c ∗ ∃ r, prngReg c r) from rfl,
    rings_rest m c t.castSucc.val (Or.inl h0),
    rings_fly m c t.succ.val (by have := t_lt t; rw [Fin.val_succ]; omega), outOA m c t h0, outBA m c t h0]
  unfold Dat.owesAt Pipeline.owesWithin
  rw [show (dats m 0 c).owed t.castSucc = 0 from rfl, show (dats m 0 c).owed t.succ = 0 from rfl]
  iintro ⟨⟨HR, HU⟩, ⟨%W, -, HW⟩, ⟨%d0, H0⟩, ⟨%d1, H1⟩, ⟨%d2, H2⟩, ⟨%d3, H3⟩, ⟨%d4, H4⟩, ⟨%d5, H5⟩⟩
  iapply ((runA c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (firstAt t h0) (firstLt t h0)).2.2 W _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iexists _; iexact H4
  isplitl [H5]; · iexists _; iexact H5
  isplitl [HR]; · iexact HR
  isplitl [HW]; · iexact HW
  iintro ⟨H0, H1, H2, H3, ⟨%e4, H4⟩, ⟨%e5, H5⟩, HR, ⟨%W', HW'⟩⟩
  isplitl [HR HU]
  · isplitl [HR]; · iexact HR
    iexact HU
  isplitl [HW']
  · iexists W'; isplitr; · ipureintro; exact fun _ _ => Or.inl trivial
    iexact HW'
  isplitl [H0]; · iapply owns_of_rep; iexact H0
  isplitl [H1]; · iapply owns_of_rep; iexact H1
  isplitl [H2]; · iapply owns_of_rep; iexact H2
  isplitl [H3]; · iapply owns_of_rep; iexact H3
  isplitl [H4]
  · unfold owns; iexists _; isplitr; swap
    · iexact H4
    · ipureintro; exact View.read_writes_of_cover _ _ _ _ _ (coverOA c _ _ _ _ _ _ _ _ _ _ _ _ _ _ _ _ _ _ _ _ _)
  unfold owns; iexists _; isplitr; swap
  · iexact H5
  · ipureintro; exact View.read_writes_of_cover _ _ _ _ _ (coverBA c _ _ _ _ _ _ _ _ _ _ _ _ _ _ _ _ _ _ _ _ _)

set_option maxHeartbeats 4000000 in
theorem bodyB (c : Dev nD) (t : Fin cfg0.N) (h0 : ¬t.val = 0) (h1 : t.val < 31) : BodyGoal m c t := by
  unfold BodyGoal bodyPre bodyPost bodyAt0
  simp only [before0, before1, before2, before3, after0, after1, after2, after3, after4, after5]
  rw [show (dats m 0 c).Φ t.castSucc = iprop(rings m c t.castSucc.val ∗ unlent m c ∗ ∃ r, prngReg c r) from rfl,
    show (dats m 0 c).Φ t.succ = iprop(rings m c t.succ.val ∗ unlent m c ∗ ∃ r, prngReg c r) from rfl,
    rings_fly m c t.castSucc.val (by have := t_lt t; rw [Fin.val_castSucc]; omega),
    rings_fly m c t.succ.val (by have := t_lt t; rw [Fin.val_succ]; omega), outOB m c t h0 h1, outBB m c t h0 h1]
  unfold Dat.owesAt Pipeline.owesWithin
  rw [show (dats m 0 c).owed t.castSucc = 0 from rfl, show (dats m 0 c).owed t.succ = 0 from rfl]
  iintro ⟨⟨HR, HU⟩, ⟨%W, -, HW⟩, ⟨%d0, H0⟩, ⟨%d1, H1⟩, ⟨%d2, H2⟩, ⟨%d3, H3⟩, ⟨%d4, H4⟩, ⟨%d5, H5⟩⟩
  iapply ((runB c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (notFirst t h0) (ltAt t h1)).2.2 W _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iexists _; iexact H4
  isplitl [H5]; · iexists _; iexact H5
  isplitl [HR]; · iapply between_inFlight; iexact HR
  isplitl [HW]; · iexact HW
  iintro ⟨H0, H1, H2, H3, ⟨%e4, H4⟩, ⟨%e5, H5⟩, HR, ⟨%W', HW'⟩⟩
  isplitl [HR HU]
  · isplitl [HR]; · iexact HR
    iexact HU
  isplitl [HW']
  · iexists W'; isplitr; · ipureintro; exact fun _ _ => Or.inl trivial
    iexact HW'
  isplitl [H0]; · iapply owns_of_rep; iexact H0
  isplitl [H1]; · iapply owns_of_rep; iexact H1
  isplitl [H2]; · iapply owns_of_rep; iexact H2
  isplitl [H3]; · iapply owns_of_rep; iexact H3
  isplitl [H4]
  · unfold owns; iexists _; isplitr; swap
    · iexact H4
    · ipureintro; exact View.read_writes_of_cover _ _ _ _ _ (coverOB c _ _ _ _ _ _ _ _ _ _ _ _ _ _ _ _ _ _ _ _ _)
  unfold owns; iexists _; isplitr; swap
  · iexact H5
  · ipureintro; exact View.read_writes_of_cover _ _ _ _ _ (coverBB c _ _ _ _ _ _ _ _ _ _ _ _ _ _ _ _ _ _ _ _ _)

set_option maxHeartbeats 4000000 in
theorem bodyC (c : Dev nD) (t : Fin cfg0.N) (h0 : ¬t.val = 0) (h1 : ¬t.val < 31) : BodyGoal m c t := by
  unfold BodyGoal bodyPre bodyPost bodyAt0
  simp only [before0, before1, before2, before3, after0, after1, after2, after3, after4, after5]
  rw [show (dats m 0 c).Φ t.castSucc = iprop(rings m c t.castSucc.val ∗ unlent m c ∗ ∃ r, prngReg c r) from rfl,
    show (dats m 0 c).Φ t.succ = iprop(rings m c t.succ.val ∗ unlent m c ∗ ∃ r, prngReg c r) from rfl,
    rings_fly m c t.castSucc.val (by have := t_lt t; rw [Fin.val_castSucc]; omega),
    rings_rest m c t.succ.val (by have := t_lt t; rw [Fin.val_succ]; omega), outOC m c t h0 h1, outBC m c t h0 h1]
  unfold Dat.owesAt Pipeline.owesWithin
  rw [show (dats m 0 c).owed t.castSucc = 0 from rfl, show (dats m 0 c).owed t.succ = 0 from rfl]
  iintro ⟨⟨HR, HU⟩, ⟨%W, -, HW⟩, ⟨%d0, H0⟩, ⟨%d1, H1⟩, ⟨%d2, H2⟩, ⟨%d3, H3⟩, ⟨%d4, H4⟩, ⟨%d5, H5⟩⟩
  iapply ((runC c (crd t) (ms0 t) (hs0 t) (ms1 t) (hs1 t) (ms2 t) (hs2 t) (ms3 t) (hs3 t) (ms4 t) (hs4 t) (ms5 t) (hs5 t) (iblk m c 0 t) (iblk m c 1 t) (iblk m c 2 t) (iblk m c 3 t) (V m c main_v5) (V m c main_v7) (notFirst t h0) (notLt t h1)).2.2 W _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iexists _; iexact H4
  isplitl [H5]; · iexists _; iexact H5
  isplitl [HR]; · iapply between_inFlight; iexact HR
  isplitl [HW]; · iexact HW
  iintro ⟨H0, H1, H2, H3, ⟨%e4, H4⟩, ⟨%e5, H5⟩, HR, ⟨%W', HW'⟩⟩
  isplitl [HR HU]
  · isplitl [HR]; · iexact HR
    iexact HU
  isplitl [HW']
  · iexists W'; isplitr; · ipureintro; exact fun _ _ => Or.inl trivial
    iexact HW'
  isplitl [H0]; · iapply owns_of_rep; iexact H0
  isplitl [H1]; · iapply owns_of_rep; iexact H1
  isplitl [H2]; · iapply owns_of_rep; iexact H2
  isplitl [H3]; · iapply owns_of_rep; iexact H3
  isplitl [H4]
  · unfold owns; iexists _; isplitr; swap
    · iexact H4
    · ipureintro; exact View.read_writes_of_cover _ _ _ _ _ (coverOC c _ _ _ _ _ _ _ _ _ _ _ _ _ _ _ _ _ _ _ _ _)
  unfold owns; iexists _; isplitr; swap
  · iexact H5
  · ipureintro; exact View.read_writes_of_cover _ _ _ _ _ (coverBC c _ _ _ _ _ _ _ _ _ _ _ _ _ _ _ _ _ _ _ _ _)

theorem body_all (c : Dev nD) (t : Fin cfg0.N) : BodyGoal m c t := by
  by_cases h0 : t.val = 0
  · exact bodyA m c t h0
  by_cases h1 : t.val < 31
  · exact bodyB m c t h0 h1
  exact bodyC m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_all m c t) rfl .rfl fun _ => .rfl

/-! ## Entering and leaving -/

abbrev osem0 : Fin 6 → SemLoc sig := fun j => (![SemLoc.dma 10, SemLoc.dma 11, SemLoc.dma 12, SemLoc.dma 13, SemLoc.dma 14, SemLoc.dma 15] : Fin 6 → SemLoc sig) j
theorem ownSemFacts0 : Pipeline.OwnSemFacts spec0 osem0 := by decide
theorem ownSems00_eq (c : Dev nD) :
    (Pipeline.ownSems0 (Ix := Unit) (Name := ℕ) (U := Pipeline.UC sig nD τ) (Lvl := ℕ) (Val := Elt F) (τ := τ) osem0 c : sProp 𝕄)
      = iprop(cell c 10 0 ∗ cell c 11 0 ∗ cell c 12 0 ∗ cell c 13 0 ∗ cell c 14 0 ∗ cell c 15 0) := by
  rw [Pipeline.ownSems0_eq_of_list c osem0 [0, 1, 2, 3, 4, 5] (by decide) (by decide)]; rfl

/-- The two arrays the body's copies read. -/
def R0 : Finset (Ref sig .tc) := {main_v5, main_v7}
theorem R0_sub : R0 ⊆ Pipeline.restRefs sig spec0 := by decide
theorem routed0_eq (c : Dev nD) :
    (Pipeline.routed R0 c (V m c) : sProp 𝕄)
      = iprop((guArr.view.loc (c : Thread nD τ) ↦{fullShare} V m c main_v5) ∗ (dArr.view.loc (c : Thread nD τ) ↦{fullShare} V m c main_v7)) := by
  unfold Pipeline.routed; rw [BI.bigSep_eq_bigSepL_of_eq [main_v5, main_v7] (by decide) (by decide)]; rfl

theorem lent_gu (c : Dev nD) (f : Buf (Elt F) (guArr.view.loc (c : Thread nD τ))) :
    (bigSep Finset.univ (fun i : Fin 16 => lent c guArr f i) : sProp 𝕄)
      = iprop((lent c guArr f 10 ∗ lent c guArr f 11 ∗ lent c guArr f 12) ∗ bigSep (Finset.univ \ {10, 11, 12}) (fun i : Fin 16 => lent c guArr f i)) := by
  rw [BI.bigSep_sdiff_split (s := (Finset.univ : Finset (Fin 16))) (t := {10, 11, 12}) (Finset.subset_univ _),
    BI.bigSep_eq_bigSepL_of_eq (S := ({10, 11, 12} : Finset (Fin 16))) [10, 11, 12] (by decide) (by decide)]; rfl
theorem lent_d (c : Dev nD) (f : Buf (Elt F) (dArr.view.loc (c : Thread nD τ))) :
    (bigSep Finset.univ (fun i : Fin 16 => lent c dArr f i) : sProp 𝕄)
      = iprop((lent c dArr f 13 ∗ lent c dArr f 14 ∗ lent c dArr f 15) ∗ bigSep (Finset.univ \ {13, 14, 15}) (fun i : Fin 16 => lent c dArr f i)) := by
  rw [BI.bigSep_sdiff_split (s := (Finset.univ : Finset (Fin 16))) (t := {13, 14, 15}) (Finset.subset_univ _),
    BI.bigSep_eq_bigSepL_of_eq (S := ({13, 14, 15} : Finset (Fin 16))) [13, 14, 15] (by decide) (by decide)]; rfl

/-! The rings' buffers as their three slots. -/

abbrev offS (b : Fin 3) : Fin 3 → ℕ := ![b.val, 0, 0]
theorem offG_inb : ∀ (b a : Fin 3), offS b a + S1x2048x1024.size a ≤ S3x2048x1024.size a := by decide
theorem offD_inb : ∀ (b a : Fin 3), offS b a + S1x512x2048.size a ≤ S3x512x2048.size a := by decide
abbrev JG (b : Fin 3) : Finset S3x2048x1024.Idx := (Rect.unit (s := S3x2048x1024) (offS b) S1x2048x1024.size (offG_inb b)).set
abbrev JD (b : Fin 3) : Finset S3x512x2048.Idx := (Rect.unit (s := S3x512x2048) (offS b) S1x512x2048.size (offD_inb b)).set
theorem JG_disj (b b' : Fin 3) (h : b ≠ b') : Disjoint (JG b) (JG b') := Ring.lead_disjoint (s := S3x2048x1024) (0 : Fin 3) 1 offS S1x2048x1024.size offG_inb (by decide) rfl b b' h
theorem JD_disj (b b' : Fin 3) (h : b ≠ b') : Disjoint (JD b) (JD b') := Ring.lead_disjoint (s := S3x512x2048) (0 : Fin 3) 1 offS S1x512x2048.size offD_inb (by decide) rfl b b' h
theorem JG_cover : Finset.univ.biUnion JG = Finset.univ := Ring.lead_cover (s := S3x2048x1024) (0 : Fin 3) 1 offS S1x2048x1024.size offG_inb (by decide) (by decide) rfl (by decide) rfl
theorem JD_cover : Finset.univ.biUnion JD = Finset.univ := Ring.lead_cover (s := S3x512x2048) (0 : Fin 3) 1 offS S1x512x2048.size offD_inb (by decide) (by decide) rfl (by decide) rfl

theorem slotG_set (o : Fin 3 → ℕ) (h) : (guSlot o h).view.set = (Rect.unit (s := S3x2048x1024) o S1x2048x1024.size h).set := by
  exact (View.set_reshape _ _).trans (View.set_slice_whole _ _)
theorem slotD_set (o : Fin 3 → ℕ) (h) : (dSlot o h).view.set = (Rect.unit (s := S3x512x2048) o S1x512x2048.size h).set := by
  exact (View.set_reshape _ _).trans (View.set_slice_whole _ _)

theorem slotsG_split (c : Dev nD) : iprop(∃ f, guRef.view.loc (c : Thread nD τ) ↦{fullShare} f) ⊢ (iprop(free c gu0 ∗ free c gu1 ∗ free c gu2) : sProp 𝕄) :=
  Ring.slots3_split (ℓ := guRef.view.loc (c : Thread nD τ)) JG JG_disj JG_cover _ _ _ (fun f => by rw [slotG_set]; rfl) (fun f => by rw [slotG_set]; rfl) (fun f => by rw [slotG_set]; rfl)
theorem slotsG_join (c : Dev nD) : iprop(free c gu0 ∗ free c gu1 ∗ free c gu2) ⊢ (iprop(∃ f, guRef.view.loc (c : Thread nD τ) ↦{fullShare} f) : sProp 𝕄) :=
  Ring.slots3_join (ℓ := guRef.view.loc (c : Thread nD τ)) JG JG_disj JG_cover _ _ _ (fun f => by rw [slotG_set]; rfl) (fun f => by rw [slotG_set]; rfl) (fun f => by rw [slotG_set]; rfl)
theorem slotsD_split (c : Dev nD) : iprop(∃ f, dRef.view.loc (c : Thread nD τ) ↦{fullShare} f) ⊢ (iprop(free c d0 ∗ free c d1 ∗ free c d2) : sProp 𝕄) :=
  Ring.slots3_split (ℓ := dRef.view.loc (c : Thread nD τ)) JD JD_disj JD_cover _ _ _ (fun f => by rw [slotD_set]; rfl) (fun f => by rw [slotD_set]; rfl) (fun f => by rw [slotD_set]; rfl)
theorem slotsD_join (c : Dev nD) : iprop(free c d0 ∗ free c d1 ∗ free c d2) ⊢ (iprop(∃ f, dRef.view.loc (c : Thread nD τ) ↦{fullShare} f) : sProp 𝕄) :=
  Ring.slots3_join (ℓ := dRef.view.loc (c : Thread nD τ)) JD JD_disj JD_cover _ _ _ (fun f => by rw [slotD_set]; rfl) (fun f => by rw [slotD_set]; rfl) (fun f => by rw [slotD_set]; rfl)

theorem gu_toks (c : Dev nD) (f : Buf (Elt F) (guArr.view.loc (c : Thread nD τ))) :
    (guArr.view.loc (c : Thread nD τ) ↦{fullShare} f : sProp 𝕄) ⊣⊢ iprop((guArr.view.loc (c : Thread nD τ) ↦{Transfers.shareDrop fullShare 16} f)
      ∗ (lent c guArr f 10 ∗ lent c guArr f 11 ∗ lent c guArr f 12) ∗ bigSep (Finset.univ \ {10, 11, 12}) (fun i : Fin 16 => lent c guArr f i)) := by
  rw [← lent_gu]; exact Transfers.pointsTo_toks fullShare 16
theorem d_toks (c : Dev nD) (f : Buf (Elt F) (dArr.view.loc (c : Thread nD τ))) :
    (dArr.view.loc (c : Thread nD τ) ↦{fullShare} f : sProp 𝕄) ⊣⊢ iprop((dArr.view.loc (c : Thread nD τ) ↦{Transfers.shareDrop fullShare 16} f)
      ∗ (lent c dArr f 13 ∗ lent c dArr f 14 ∗ lent c dArr f 15) ∗ bigSep (Finset.univ \ {13, 14, 15}) (fun i : Fin 16 => lent c dArr f i)) := by
  rw [← lent_d]; exact Transfers.pointsTo_toks fullShare 16

theorem enter (c : Dev nD) : Pipeline.Ends spec0 osem0 R0 c (V m c) ⊢ (dats m 0 c).Φ 0 := by
  rw [show (dats m 0 c).Φ 0 = iprop(rings m c 0 ∗ unlent m c ∗ ∃ r, prngReg c r) from rfl, rings_rest m c 0 (Or.inl rfl)]
  unfold Pipeline.Ends
  rw [routed0_eq, ownSems00_eq, scopedRest0_eq]
  unfold unlent atRest
  iintro ⟨⟨HG, HD⟩, ⟨Q10, Q11, Q12, Q13, Q14, Q15⟩, ⟨B0, B1, B2⟩, HP⟩
  ihave HG' := (gu_toks c (V m c main_v5)).1 $$ HG
  ihave HD' := (d_toks c (V m c main_v7)).1 $$ HD
  ihave B1' := (slotsG_split c) $$ B1
  ihave B2' := (slotsD_split c) $$ B2
  icases HG' with ⟨G0, ⟨T10, T11, T12⟩, G1⟩
  icases HD' with ⟨D0, ⟨T13, T14, T15⟩, D1⟩
  icases B1' with ⟨S0, S1, S2⟩
  icases B2' with ⟨S3, S4, S5⟩
  isplitr [G0 G1 D0 D1 HP]
  · isplitl [B0]; · iexact B0
    isplitl [S0]; · iexact S0
    isplitl [S1]; · iexact S1
    isplitl [S2]; · iexact S2
    isplitl [S3]; · iexact S3
    isplitl [S4]; · iexact S4
    isplitl [S5]; · iexact S5
    isplitl [T10]; · iexact T10
    isplitl [T11]; · iexact T11
    isplitl [T12]; · iexact T12
    isplitl [T13]; · iexact T13
    isplitl [T14]; · iexact T14
    isplitl [T15]; · iexact T15
    isplitl [Q10]; · iexact Q10
    isplitl [Q11]; · iexact Q11
    isplitl [Q12]; · iexact Q12
    isplitl [Q13]; · iexact Q13
    isplitl [Q14]; · iexact Q14
    iexact Q15
  isplitr [HP]
  · isplitl [G0 G1]
    · isplitl [G0]; · iexact G0
      iexact G1
    isplitl [D0]; · iexact D0
    iexact D1
  iexact HP

theorem leave (c : Dev nD) : (dats m 0 c).Φ (Fin.last cfg0.N) ⊢ Pipeline.Ends spec0 osem0 R0 c (V m c) := by
  rw [show (dats m 0 c).Φ (Fin.last cfg0.N) = iprop(rings m c (Fin.last cfg0.N).val ∗ unlent m c ∗ ∃ r, prngReg c r) from rfl, rings_rest m c (Fin.last cfg0.N).val (Or.inr N_0)]
  unfold Pipeline.Ends
  rw [routed0_eq, ownSems00_eq, scopedRest0_eq]
  unfold unlent atRest
  iintro ⟨⟨B0, S0, S1, S2, S3, S4, S5, T10, T11, T12, T13, T14, T15, HQ⟩, ⟨⟨G0, G1⟩, ⟨D0, D1⟩⟩, HP⟩
  isplitl [T10 T11 T12 T13 T14 T15 G0 G1 D0 D1]
  · isplitl [T10 T11 T12 G0 G1]
    · iapply (gu_toks c (V m c main_v5)).2
      isplitl [G0]; · iexact G0
      isplitr [G1]
      · isplitl [T10]; · iexact T10
        isplitl [T11]; · iexact T11
        iexact T12
      iexact G1
    iapply (d_toks c (V m c main_v7)).2
    isplitl [D0]; · iexact D0
    isplitr [D1]
    · isplitl [T13]; · iexact T13
      isplitl [T14]; · iexact T14
      iexact T15
    iexact D1
  isplitl [HQ]; · iexact HQ
  isplitr [HP]
  · isplitl [B0]; · iexact B0
    isplitl [S0 S1 S2]
    · iapply (slotsG_join c)
      isplitl [S0]; · iexact S0
      isplitl [S1]; · iexact S1
      iexact S2
    iapply (slotsD_join c)
    isplitl [S3]; · iexact S3
    isplitl [S4]; · iexact S4
    iexact S5
  iexact HP

/-! ## The run -/

theorem A_eq (c : Dev nD) (w : Fin cfg0.W) : (dats m 0 c).A w = V m c (Pipeline.arrRef spec0 w) := by
  dsimp only [dats]

theorem hostEntry (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with each array at what the data says, every other buffer as the host operations left it, and every
    counter at zero. -/
theorem run_main : θ_run defs (onTc (τ := τ) (main (F := F))) (s₀ m ρ) (fun r => Pipeline.RoutedPost cfgs (dats m) 0 R0 (V m) (V m) r ∧ r.2.sem = fun _ => 0) :=
  Pipeline.θ_run_frame_routed cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hostEntry m Variants.none) (hA := A_eq m) (R := R0) (hR := R0_sub) (Y := V m)
    (hin := enter m) (hout := leave m) (Q' := fun r => Pipeline.RoutedPost cfgs (dats m) 0 R0 (V m) (V m) r ∧ r.2.sem = fun _ => 0) (hQ' := fun _ h => h)

theorem rest_of {b : Ref sig .tc} {r : PUnit × MemSt nD τ sig (Elt F)} (h : Pipeline.RoutedPost cfgs (dats m) 0 R0 (V m) (V m) r) (c : Dev nD)
    (hb : b ∈ Pipeline.restRefs sig spec0) : r.2.mem ((c.tc : Thread nD τ).loc b) = V m c b := by
  by_cases hR : b ∈ R0
  · exact (h c).2.1 b hR
  · exact (h c).2.2 b (Finset.mem_sdiff.2 ⟨hb, hR⟩)

/-- No run touches the arguments, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).1 0).trans (((dats m 0 c).arrAt_in 0 rfl _).trans ((A_eq m c 0).trans (V_main_arg0 m c))),
      (rest_of m h.1 c (b := main_arg1) (Pipeline.mem_restRefs_of main_arg1 (by decide) (by decide))).trans (V_main_arg1 m c),
      (rest_of m h.1 c (b := main_arg2) (Pipeline.mem_restRefs_of main_arg2 (by decide) (by decide))).trans (V_main_arg2 m c),
      (rest_of m h.1 c (b := main_arg3) (Pipeline.mem_restRefs_of main_arg3 (by decide) (by decide))).trans (V_main_arg3 m c),
      (rest_of m h.1 c (b := main_arg4) (Pipeline.mem_restRefs_of main_arg4 (by decide) (by decide))).trans (V_main_arg4 m c),
      (rest_of m h.1 c (b := main_arg5) (Pipeline.mem_restRefs_of main_arg5 (by decide) (by decide))).trans (V_main_arg5 m c)⟩, h.2⟩) (run_main m ρ)

end Cert.Kernel2Ideal.Ffn

end
-- ==== Proof.Ffn.HostRead.lean ====
module

public import proofs.«01_k».proof.Proof.Ffn.HostAt
public import proofs.«01_k».proof.Proof.Ffn.Data

@[expose] public section

set_option maxRecDepth 16384
set_option Elab.async false

/-! # What the host code before the feed-forward call lays out -/

noncomputable section

namespace Cert.Kernel2Ideal.Ffn

open Cert.Kernel2Ideal Cert.Kernel2Ideal.Gen Cert.FfnRow
open Idealize.ShloMosaic Idealize.ShloMosaic.TcCoe Idealize.ShloMosaic.Tactic

variable (m : (ℓ : Loc nD τ sig) → Buf (Elt Ideal) ℓ)

/-- The arguments. -/
def argX (c : Dev nD) : FVec Ideal S16384x2048 .f32 := m ((c : Thread nD τ).loc main_arg0)
def argG (c : Dev nD) : FVec Ideal S2048x5632 .f32 := m ((c : Thread nD τ).loc main_arg1)
def argU (c : Dev nD) : FVec Ideal S2048x5632 .f32 := m ((c : Thread nD τ).loc main_arg2)
def argD (c : Dev nD) : FVec Ideal S5632x2048 .f32 := m ((c : Thread nD τ).loc main_arg3)
def argS (c : Dev nD) : FVec Ideal S2048 .f32 := m ((c : Thread nD τ).loc main_arg4)
def argB (c : Dev nD) : FVec Ideal S2048 .f32 := m ((c : Thread nD τ).loc main_arg5)

theorem v5_eq (c : Dev nD) : V m c main_v5 = hW (argG m c) (argU m c) := by
  simp only [V, hostOps0]
  after_results_simp
  rfl
theorem v7_eq (c : Dev nD) : V m c main_v7 = hD (argD m c) := by
  simp only [V, hostOps0]
  after_results_simp
  rfl
theorem v8_eq (c : Dev nD) : V m c main_v8 = truncf .bf16 (argX m c) bitsLt_bf16_f32 := by
  simp only [V, hostOps0]
  after_results_simp
  rfl
theorem v9_eq (c : Dev nD) : V m c main_v9 = broadcastInDim S1x2048 ![1] bcast_S2048_S1x2048_1 (argS m c) := by
  simp only [V, hostOps0]
  after_results_simp
  rfl
theorem v10_eq (c : Dev nD) : V m c main_v10 = broadcastInDim S1x2048 ![1] bcast_S2048_S1x2048_1 (argB m c) := by
  simp only [V, hostOps0]
  after_results_simp
  rfl
theorem v0_eq (c : Dev nD) : V m c main_arg0 = argX m c := by
  simp only [V, hostOps0]
  after_results_simp
  rfl

end Cert.Kernel2Ideal.Ffn

end
-- ==== Proof.Ffn.ValA.lean ====
module

public import proofs.«01_k».proof.Proof.Ffn.Blocks
public import proofs.«01_k».proof.Proof.Ffn.RunA

@[expose] public section

set_option maxRecDepth 16384
set_option Elab.async false

/-! # What the first point stores, block by block -/

noncomputable section

namespace Cert.Kernel2Ideal.Ffn

open Cert.Kernel2Ideal Cert.Kernel2Ideal.Gen
open Idealize.ShloMosaic
open Idealize.ShloMosaic.TcCoe Idealize.ShloMosaic.Tactic

namespace ValA

variable {F : FTy → Type} [FloatOps F]
variable (c : Dev nD) (i : grid0.Coords) (arg1 : Memref sig .tc .vmem S512x2048 .f32) (arg2 : Memref sig .tc .vmem S512x2048 .bf16) (arg5 arg6 : Memref sig .tc .vmem S1x2048 .f32)
  (arg7 : Memref sig .tc .vmem S512x2048 .f32)
  (x1 : S512x2048.Idx → Elt F .f32) (x2 : S512x2048.Idx → Elt F .bf16) (x5 x6 : S1x2048.Idx → Elt F .f32)
  (WG : Buf (Elt F) (guArr.view.loc (c : Thread nD τ))) (WD : Buf (Elt F) (dArr.view.loc (c : Thread nD τ)))
  (hi0 : (i 0).val = 0) (hi1 : (i 0).val < 31)

theorem g0 : runA.sl.v28 c i WG hi0 = gB WG 0 := by
  unfold runA.sl.v28 runA.sl.dma0
  exact guLd _ _ _ c WG _ _ 0 (by decide) (by decide +kernel) _ _
theorem g1 : runA.sl.v78 c i WG hi0 = gB WG 1 := by
  unfold runA.sl.v78 runA.sl.dma0_1
  exact guLd _ _ _ c WG _ _ 1 (by decide) (by decide +kernel) _ _
theorem g2 : runA.sl.v220 c i WG = gB WG 2 := by
  unfold runA.sl.v220 runA.sl.dma0_3
  exact guLd _ _ _ c WG _ _ 2 (by decide) (by decide +kernel) _ _
theorem g3 : runA.sl.v220_1 c i WG hi0 = gB WG 3 := by
  unfold runA.sl.v220_1 runA.sl.dma4
  exact guLd _ _ _ c WG _ _ 3 (by decide) (by decide +kernel) _ _
theorem g4 : runA.sl.v220_2 c i WG hi0 hi1 = gB WG 4 := by
  unfold runA.sl.v220_2 runA.sl.dma12
  exact guLd _ _ _ c WG _ _ 4 (by decide) (by decide +kernel) _ _
theorem g5 : runA.sl.v220_3 c i WG hi1 = gB WG 5 := by
  unfold runA.sl.v220_3 runA.sl.dma21
  exact guLd _ _ _ c WG _ _ 5 (by decide) (by decide +kernel) _ _
theorem g6 : runA.sl.v220_4 c i WG hi0 hi1 = gB WG 6 := by
  unfold runA.sl.v220_4 runA.sl.dma30
  exact guLd _ _ _ c WG _ _ 6 (by decide) (by decide +kernel) _ _
theorem g7 : runA.sl.v220_5 c i WG hi0 hi1 = gB WG 7 := by
  unfold runA.sl.v220_5 runA.sl.dma39
  exact guLd _ _ _ c WG _ _ 7 (by decide) (by decide +kernel) _ _
theorem g8 : runA.sl.v220_6 c i WG hi1 = gB WG 8 := by
  unfold runA.sl.v220_6 runA.sl.dma48
  exact guLd _ _ _ c WG _ _ 8 (by decide) (by decide +kernel) _ _
theorem g9 : runA.sl.v220_7 c i WG hi0 hi1 = gB WG 9 := by
  unfold runA.sl.v220_7 runA.sl.dma57
  exact guLd _ _ _ c WG _ _ 9 (by decide) (by decide +kernel) _ _
theorem g10 : runA.sl.v220_8 c i WG hi0 hi1 = gB WG 10 := by
  unfold runA.sl.v220_8 runA.sl.dma66
  exact guLd _ _ _ c WG _ _ 10 (by decide) (by decide +kernel) _ _
theorem d0 : runA.sl.v72 c i WD hi0 = dB WD 0 := by
  unfold runA.sl.v72 runA.sl.dma0_2
  exact dLd _ _ _ c WD _ _ 0 (by decide) (by decide +kernel) _ _
theorem d1 : runA.sl.v212 c i WD = dB WD 1 := by
  unfold runA.sl.v212 runA.sl.dma0_4
  exact dLd _ _ _ c WD _ _ 1 (by decide) (by decide +kernel) _ _
theorem d2 : runA.sl.v212_1 c i WD = dB WD 2 := by
  unfold runA.sl.v212_1 runA.sl.dma4_1
  exact dLd _ _ _ c WD _ _ 2 (by decide) (by decide +kernel) _ _
theorem d3 : runA.sl.v212_2 c i WD hi0 hi1 = dB WD 3 := by
  unfold runA.sl.v212_2 runA.sl.dma12_1
  exact dLd _ _ _ c WD _ _ 3 (by decide) (by decide +kernel) _ _
theorem d4 : runA.sl.v212_3 c i WD hi1 = dB WD 4 := by
  unfold runA.sl.v212_3 runA.sl.dma21_1
  exact dLd _ _ _ c WD _ _ 4 (by decide) (by decide +kernel) _ _
theorem d5 : runA.sl.v212_4 c i WD hi1 = dB WD 5 := by
  unfold runA.sl.v212_4 runA.sl.dma30_1
  exact dLd _ _ _ c WD _ _ 5 (by decide) (by decide +kernel) _ _
theorem d6 : runA.sl.v212_5 c i WD hi0 hi1 = dB WD 6 := by
  unfold runA.sl.v212_5 runA.sl.dma39_1
  exact dLd _ _ _ c WD _ _ 6 (by decide) (by decide +kernel) _ _
theorem d7 : runA.sl.v212_6 c i WD hi1 = dB WD 7 := by
  unfold runA.sl.v212_6 runA.sl.dma48_1
  exact dLd _ _ _ c WD _ _ 7 (by decide) (by decide +kernel) _ _
theorem d8 : runA.sl.v212_7 c i WD hi1 = dB WD 8 := by
  unfold runA.sl.v212_7 runA.sl.dma57_1
  exact dLd _ _ _ c WD _ _ 8 (by decide) (by decide +kernel) _ _
theorem d9 : runA.sl.v212_8 c i WD hi0 hi1 = dB WD 9 := by
  unfold runA.sl.v212_8 runA.sl.dma66_1
  exact dLd _ _ _ c WD _ _ 9 (by decide) (by decide +kernel) _ _
theorem d10 : runA.sl.v125 c i WD hi1 = dB WD 10 := by
  unfold runA.sl.v125 runA.sl.dma75
  exact dLd _ _ _ c WD _ _ 10 (by decide) (by decide +kernel) _ _

/-! The hidden blocks. -/

theorem h0 : runA.sl.v70 c i arg2 x2 WG hi0 = hid x2 WG 0 := by
  unfold runA.sl.v70 runA.sl.HH_1
  refine (ldTop _ _ _ _).trans ?_
  unfold runA.sl.v27
  rw [ldWhole arg2 x2, g0]
  exact pay6_eq _ _
theorem h1 : runA.sl.v209 c i arg2 x2 WG hi0 = hid x2 WG 1 := by
  unfold runA.sl.v209 runA.sl.HH_2
  refine (ldTop _ _ _ _).trans ?_
  rw [ldWhole arg2 x2, g1]
  rfl
theorem h2 : runA.sl.v209_1 c i arg2 x2 WG hi0 = hid x2 WG 2 := by
  unfold runA.sl.v209_1 runA.sl.HH_3
  refine (ldTop _ _ _ _).trans ?_
  unfold runA.sl.r runA.sl.r_1
  rw [ldWhole arg2 x2, g2]
  exact pay9_eq _ _
theorem h3 : runA.sl.v209_2 c i arg2 x2 WG hi0 = hid x2 WG 3 := by
  unfold runA.sl.v209_2 runA.sl.HH_4
  refine (ldTop _ _ _ _).trans ?_
  unfold runA.sl.r_2 runA.sl.r_3
  rw [ldWhole arg2 x2, g3]
  exact pay9_eq _ _
theorem h4 : runA.sl.v209_3 c i arg2 x2 WG hi0 hi1 = hid x2 WG 4 := by
  unfold runA.sl.v209_3 runA.sl.HH_5
  refine (ldTop _ _ _ _).trans ?_
  unfold runA.sl.r_4 runA.sl.r_5
  rw [ldWhole arg2 x2, g4]
  exact pay9_eq _ _
theorem h5 : runA.sl.v209_4 c i arg2 x2 WG hi0 hi1 = hid x2 WG 5 := by
  unfold runA.sl.v209_4 runA.sl.HH_6
  refine (ldTop _ _ _ _).trans ?_
  unfold runA.sl.r_6 runA.sl.r_7
  rw [ldWhole arg2 x2, g5]
  exact pay9_eq _ _
theorem h6 : runA.sl.v209_5 c i arg2 x2 WG hi0 hi1 = hid x2 WG 6 := by
  unfold runA.sl.v209_5 runA.sl.HH_7
  refine (ldTop _ _ _ _).trans ?_
  unfold runA.sl.r_8 runA.sl.r_9
  rw [ldWhole arg2 x2, g6]
  exact pay9_eq _ _
theorem h7 : runA.sl.v209_6 c i arg2 x2 WG hi0 hi1 = hid x2 WG 7 := by
  unfold runA.sl.v209_6 runA.sl.HH_8
  refine (ldTop _ _ _ _).trans ?_
  unfold runA.sl.r_10 runA.sl.r_11
  rw [ldWhole arg2 x2, g7]
  exact pay9_eq _ _
theorem h8 : runA.sl.v209_7 c i arg2 x2 WG hi0 hi1 = hid x2 WG 8 := by
  unfold runA.sl.v209_7 runA.sl.HH_9
  refine (ldTop _ _ _ _).trans ?_
  unfold runA.sl.r_12 runA.sl.r_13
  rw [ldWhole arg2 x2, g8]
  exact pay9_eq _ _
theorem h9 : runA.sl.v209_8 c i arg2 x2 WG hi0 hi1 = hid x2 WG 9 := by
  unfold runA.sl.v209_8 runA.sl.HH_10
  refine (ldTop _ _ _ _).trans ?_
  unfold runA.sl.r_14 runA.sl.r_15
  rw [ldWhole arg2 x2, g9]
  exact pay9_eq _ _
theorem h10 : runA.sl.v123 c i arg2 x2 WG hi0 hi1 = hid x2 WG 10 := by
  unfold runA.sl.v123 runA.sl.HH_11
  refine (ldTop _ _ _ _).trans ?_
  unfold runA.sl.r_16 runA.sl.r_17
  rw [ldWhole arg2 x2, g10]
  exact pay9_eq _ _

/-! The sums. -/

theorem a0 : runA.sl.v195 c i arg2 arg7 x2 WG WD hi0 = acc x2 WG WD 0 := by
  unfold runA.sl.v195 runA.sl.H7_1
  refine (ldTop _ _ _ _).trans ?_
  rw [h0, d0]
  rfl
theorem a1 : runA.sl.v195_1 c i arg2 arg7 x2 WG WD hi0 = acc x2 WG WD 1 := by
  unfold runA.sl.v195_1 runA.sl.H7_2
  refine (ldTop _ _ _ _).trans ?_
  rw [a0, h1, d1]
  rfl
theorem a2 : runA.sl.v195_2 c i arg2 arg7 x2 WG WD hi0 = acc x2 WG WD 2 := by
  unfold runA.sl.v195_2 runA.sl.H7_3
  refine (ldTop _ _ _ _).trans ?_
  rw [a1, h2, d2]
  rfl
theorem a3 : runA.sl.v195_3 c i arg2 arg7 x2 WG WD hi0 hi1 = acc x2 WG WD 3 := by
  unfold runA.sl.v195_3 runA.sl.H7_4
  refine (ldTop _ _ _ _).trans ?_
  rw [a2, h3, d3]
  rfl
theorem a4 : runA.sl.v195_4 c i arg2 arg7 x2 WG WD hi0 hi1 = acc x2 WG WD 4 := by
  unfold runA.sl.v195_4 runA.sl.H7_5
  refine (ldTop _ _ _ _).trans ?_
  rw [a3, h4, d4]
  rfl
theorem a5 : runA.sl.v195_5 c i arg2 arg7 x2 WG WD hi0 hi1 = acc x2 WG WD 5 := by
  unfold runA.sl.v195_5 runA.sl.H7_6
  refine (ldTop _ _ _ _).trans ?_
  rw [a4, h5, d5]
  rfl
theorem a6 : runA.sl.v195_6 c i arg2 arg7 x2 WG WD hi0 hi1 = acc x2 WG WD 6 := by
  unfold runA.sl.v195_6 runA.sl.H7_7
  refine (ldTop _ _ _ _).trans ?_
  rw [a5, h6, d6]
  rfl
theorem a7 : runA.sl.v195_7 c i arg2 arg7 x2 WG WD hi0 hi1 = acc x2 WG WD 7 := by
  unfold runA.sl.v195_7 runA.sl.H7_8
  refine (ldTop _ _ _ _).trans ?_
  rw [a6, h7, d7]
  rfl
theorem a8 : runA.sl.v195_8 c i arg2 arg7 x2 WG WD hi0 hi1 = acc x2 WG WD 8 := by
  unfold runA.sl.v195_8 runA.sl.H7_9
  refine (ldTop _ _ _ _).trans ?_
  rw [a7, h8, d8]
  rfl
theorem a9 : runA.sl.v121 c i arg2 arg7 x2 WG WD hi0 hi1 = acc x2 WG WD 9 := by
  unfold runA.sl.v121 runA.sl.H7_10
  refine (ldTop _ _ _ _).trans ?_
  rw [a8, h9, d9]
  rfl

/-- The point's stores into the output block, the last one first. -/
theorem last : runA.sl.H7_11 c i arg1 arg2 arg5 arg6 arg7 x1 x2 x5 x6 WG WD hi0 hi1 = (⟨Rect.unit (s := S512x2048) ![0, 0] S512x2048.size inb_S512x2048_S512x2048_0_0, fin x1 x2 x5 x6 WG WD⟩ : View.Piece (Elt F) S512x2048 .f32) :: runA.sl.H7_10 c i arg2 arg7 x2 WG WD hi0 hi1 := by
  unfold runA.sl.H7_11 runA.sl.r_18
  rw [a9, h10, d10, ldWhole arg1 x1, ldWhole arg5 x5, ldWhole arg6 x6]
  rfl

variable (harg1 : arg1.IsWhole) (harg2 : arg2.IsWhole) (harg5 : arg5.IsWhole) (harg6 : arg6.IsWhole) (harg7 : arg7.IsWhole) (arg8 : Memref sig .tc .vmem S512x2048 .bf16) (harg8 : arg8.IsWhole)

theorem out {sp : Space} (v : View sig .tc sp S512x2048 .f32) (f : v.ty.Contents (Elt F)) :
    v.read (Elt F) (v.writes (Elt F) f (runA c i arg1 harg1 arg2 harg2 arg5 harg5 arg6 harg6 arg7 harg7 arg8 harg8 x1 x2 x5 x6 WG WD hi0 hi1).1) = fin x1 x2 x5 x6 WG WD := by
  refine (congrArg (fun L => v.read (Elt F) (v.writes (Elt F) f L)) ((rfl : (runA c i arg1 harg1 arg2 harg2 arg5 harg5 arg6 harg6 arg7 harg7 arg8 harg8 x1 x2 x5 x6 WG WD hi0 hi1).1 = runA.sl.H7_11 c i arg1 arg2 arg5 arg6 arg7 x1 x2 x5 x6 WG WD hi0 hi1).trans
    (last c i arg1 arg2 arg5 arg6 arg7 x1 x2 x5 x6 WG WD hi0 hi1))).trans ?_
  exact read_whole2 v f _ _ _

end ValA

end Cert.Kernel2Ideal.Ffn

end
-- ==== Proof.Ffn.ValB.lean ====
module

public import proofs.«01_k».proof.Proof.Ffn.Blocks
public import proofs.«01_k».proof.Proof.Ffn.RunB

@[expose] public section

set_option maxRecDepth 16384
set_option Elab.async false

/-! # What a middle point stores, block by block -/

noncomputable section

namespace Cert.Kernel2Ideal.Ffn

open Cert.Kernel2Ideal Cert.Kernel2Ideal.Gen
open Idealize.ShloMosaic
open Idealize.ShloMosaic.TcCoe Idealize.ShloMosaic.Tactic

namespace ValB

variable {F : FTy → Type} [FloatOps F]
variable (c : Dev nD) (i : grid0.Coords) (arg1 : Memref sig .tc .vmem S512x2048 .f32) (arg2 : Memref sig .tc .vmem S512x2048 .bf16) (arg5 arg6 : Memref sig .tc .vmem S1x2048 .f32)
  (arg7 : Memref sig .tc .vmem S512x2048 .f32)
  (x1 : S512x2048.Idx → Elt F .f32) (x2 : S512x2048.Idx → Elt F .bf16) (x5 x6 : S1x2048.Idx → Elt F .f32)
  (WG : Buf (Elt F) (guArr.view.loc (c : Thread nD τ))) (WD : Buf (Elt F) (dArr.view.loc (c : Thread nD τ)))
  (hi0 : ¬(i 0).val = 0) (hi1 : (i 0).val < 31)

theorem g0 : runB.sl.v28 c WG = gB WG 0 := by
  unfold runB.sl.v28
  exact guLd _ _ _ c WG _ _ 0 (by decide) (by decide +kernel) _ _
theorem g1 : runB.sl.v78 c WG = gB WG 1 := by
  unfold runB.sl.v78
  exact guLd _ _ _ c WG _ _ 1 (by decide) (by decide +kernel) _ _
theorem g2 : runB.sl.v220 c i WG = gB WG 2 := by
  unfold runB.sl.v220 runB.sl.dma0
  exact guLd _ _ _ c WG _ _ 2 (by decide) (by decide +kernel) _ _
theorem g3 : runB.sl.v220_1 c i WG = gB WG 3 := by
  unfold runB.sl.v220_1 runB.sl.dma4
  exact guLd _ _ _ c WG _ _ 3 (by decide) (by decide +kernel) _ _
theorem g4 : runB.sl.v220_2 c i WG hi1 = gB WG 4 := by
  unfold runB.sl.v220_2 runB.sl.dma12
  exact guLd _ _ _ c WG _ _ 4 (by decide) (by decide +kernel) _ _
theorem g5 : runB.sl.v220_3 c i WG hi1 = gB WG 5 := by
  unfold runB.sl.v220_3 runB.sl.dma21
  exact guLd _ _ _ c WG _ _ 5 (by decide) (by decide +kernel) _ _
theorem g6 : runB.sl.v220_4 c i WG hi1 = gB WG 6 := by
  unfold runB.sl.v220_4 runB.sl.dma30
  exact guLd _ _ _ c WG _ _ 6 (by decide) (by decide +kernel) _ _
theorem g7 : runB.sl.v220_5 c i WG hi1 = gB WG 7 := by
  unfold runB.sl.v220_5 runB.sl.dma39
  exact guLd _ _ _ c WG _ _ 7 (by decide) (by decide +kernel) _ _
theorem g8 : runB.sl.v220_6 c i WG hi1 = gB WG 8 := by
  unfold runB.sl.v220_6 runB.sl.dma48
  exact guLd _ _ _ c WG _ _ 8 (by decide) (by decide +kernel) _ _
theorem g9 : runB.sl.v220_7 c i WG hi1 = gB WG 9 := by
  unfold runB.sl.v220_7 runB.sl.dma57
  exact guLd _ _ _ c WG _ _ 9 (by decide) (by decide +kernel) _ _
theorem g10 : runB.sl.v220_8 c i WG hi1 = gB WG 10 := by
  unfold runB.sl.v220_8 runB.sl.dma66
  exact guLd _ _ _ c WG _ _ 10 (by decide) (by decide +kernel) _ _
theorem d0 : runB.sl.v72 c WD = dB WD 0 := by
  unfold runB.sl.v72
  exact dLd _ _ _ c WD _ _ 0 (by decide) (by decide +kernel) _ _
theorem d1 : runB.sl.v212 c i WD = dB WD 1 := by
  unfold runB.sl.v212 runB.sl.dma0_1
  exact dLd _ _ _ c WD _ _ 1 (by decide) (by decide +kernel) _ _
theorem d2 : runB.sl.v212_1 c i WD = dB WD 2 := by
  unfold runB.sl.v212_1 runB.sl.dma4_1
  exact dLd _ _ _ c WD _ _ 2 (by decide) (by decide +kernel) _ _
theorem d3 : runB.sl.v212_2 c i WD hi1 = dB WD 3 := by
  unfold runB.sl.v212_2 runB.sl.dma12_1
  exact dLd _ _ _ c WD _ _ 3 (by decide) (by decide +kernel) _ _
theorem d4 : runB.sl.v212_3 c i WD hi1 = dB WD 4 := by
  unfold runB.sl.v212_3 runB.sl.dma21_1
  exact dLd _ _ _ c WD _ _ 4 (by decide) (by decide +kernel) _ _
theorem d5 : runB.sl.v212_4 c i WD hi1 = dB WD 5 := by
  unfold runB.sl.v212_4 runB.sl.dma30_1
  exact dLd _ _ _ c WD _ _ 5 (by decide) (by decide +kernel) _ _
theorem d6 : runB.sl.v212_5 c i WD hi1 = dB WD 6 := by
  unfold runB.sl.v212_5 runB.sl.dma39_1
  exact dLd _ _ _ c WD _ _ 6 (by decide) (by decide +kernel) _ _
theorem d7 : runB.sl.v212_6 c i WD hi1 = dB WD 7 := by
  unfold runB.sl.v212_6 runB.sl.dma48_1
  exact dLd _ _ _ c WD _ _ 7 (by decide) (by decide +kernel) _ _
theorem d8 : runB.sl.v212_7 c i WD hi1 = dB WD 8 := by
  unfold runB.sl.v212_7 runB.sl.dma57_1
  exact dLd _ _ _ c WD _ _ 8 (by decide) (by decide +kernel) _ _
theorem d9 : runB.sl.v212_8 c i WD hi1 = dB WD 9 := by
  unfold runB.sl.v212_8 runB.sl.dma66_1
  exact dLd _ _ _ c WD _ _ 9 (by decide) (by decide +kernel) _ _
theorem d10 : runB.sl.v125 c i WD hi1 = dB WD 10 := by
  unfold runB.sl.v125 runB.sl.dma75
  exact dLd _ _ _ c WD _ _ 10 (by decide) (by decide +kernel) _ _

/-! The hidden blocks. -/

theorem h0 : runB.sl.v70 c arg2 x2 WG = hid x2 WG 0 := by
  unfold runB.sl.v70 runB.sl.HH_1
  refine (ldTop _ _ _ _).trans ?_
  unfold runB.sl.v27
  rw [ldWhole arg2 x2, g0]
  exact pay6_eq _ _
theorem h1 : runB.sl.v209 c arg2 x2 WG = hid x2 WG 1 := by
  unfold runB.sl.v209 runB.sl.HH_2
  refine (ldTop _ _ _ _).trans ?_
  rw [ldWhole arg2 x2, g1]
  rfl
theorem h2 : runB.sl.v209_1 c i arg2 x2 WG = hid x2 WG 2 := by
  unfold runB.sl.v209_1 runB.sl.HH_3
  refine (ldTop _ _ _ _).trans ?_
  unfold runB.sl.r runB.sl.r_1
  rw [ldWhole arg2 x2, g2]
  exact pay9_eq _ _
theorem h3 : runB.sl.v209_2 c i arg2 x2 WG = hid x2 WG 3 := by
  unfold runB.sl.v209_2 runB.sl.HH_4
  refine (ldTop _ _ _ _).trans ?_
  unfold runB.sl.r_2 runB.sl.r_3
  rw [ldWhole arg2 x2, g3]
  exact pay9_eq _ _
theorem h4 : runB.sl.v209_3 c i arg2 x2 WG hi1 = hid x2 WG 4 := by
  unfold runB.sl.v209_3 runB.sl.HH_5
  refine (ldTop _ _ _ _).trans ?_
  unfold runB.sl.r_4 runB.sl.r_5
  rw [ldWhole arg2 x2, g4]
  exact pay9_eq _ _
theorem h5 : runB.sl.v209_4 c i arg2 x2 WG hi1 = hid x2 WG 5 := by
  unfold runB.sl.v209_4 runB.sl.HH_6
  refine (ldTop _ _ _ _).trans ?_
  unfold runB.sl.r_6 runB.sl.r_7
  rw [ldWhole arg2 x2, g5]
  exact pay9_eq _ _
theorem h6 : runB.sl.v209_5 c i arg2 x2 WG hi1 = hid x2 WG 6 := by
  unfold runB.sl.v209_5 runB.sl.HH_7
  refine (ldTop _ _ _ _).trans ?_
  unfold runB.sl.r_8 runB.sl.r_9
  rw [ldWhole arg2 x2, g6]
  exact pay9_eq _ _
theorem h7 : runB.sl.v209_6 c i arg2 x2 WG hi1 = hid x2 WG 7 := by
  unfold runB.sl.v209_6 runB.sl.HH_8
  refine (ldTop _ _ _ _).trans ?_
  unfold runB.sl.r_10 runB.sl.r_11
  rw [ldWhole arg2 x2, g7]
  exact pay9_eq _ _
theorem h8 : runB.sl.v209_7 c i arg2 x2 WG hi1 = hid x2 WG 8 := by
  unfold runB.sl.v209_7 runB.sl.HH_9
  refine (ldTop _ _ _ _).trans ?_
  unfold runB.sl.r_12 runB.sl.r_13
  rw [ldWhole arg2 x2, g8]
  exact pay9_eq _ _
theorem h9 : runB.sl.v209_8 c i arg2 x2 WG hi1 = hid x2 WG 9 := by
  unfold runB.sl.v209_8 runB.sl.HH_10
  refine (ldTop _ _ _ _).trans ?_
  unfold runB.sl.r_14 runB.sl.r_15
  rw [ldWhole arg2 x2, g9]
  exact pay9_eq _ _
theorem h10 : runB.sl.v123 c i arg2 x2 WG hi1 = hid x2 WG 10 := by
  unfold runB.sl.v123 runB.sl.HH_11
  refine (ldTop _ _ _ _).trans ?_
  unfold runB.sl.r_16 runB.sl.r_17
  rw [ldWhole arg2 x2, g10]
  exact pay9_eq _ _

/-! The sums. -/

theorem a0 : runB.sl.v195 c arg2 arg7 x2 WG WD = acc x2 WG WD 0 := by
  unfold runB.sl.v195 runB.sl.H7_1
  refine (ldTop _ _ _ _).trans ?_
  rw [h0, d0]
  rfl
theorem a1 : runB.sl.v195_1 c i arg2 arg7 x2 WG WD = acc x2 WG WD 1 := by
  unfold runB.sl.v195_1 runB.sl.H7_2
  refine (ldTop _ _ _ _).trans ?_
  rw [a0, h1, d1]
  rfl
theorem a2 : runB.sl.v195_2 c i arg2 arg7 x2 WG WD = acc x2 WG WD 2 := by
  unfold runB.sl.v195_2 runB.sl.H7_3
  refine (ldTop _ _ _ _).trans ?_
  rw [a1, h2, d2]
  rfl
theorem a3 : runB.sl.v195_3 c i arg2 arg7 x2 WG WD hi1 = acc x2 WG WD 3 := by
  unfold runB.sl.v195_3 runB.sl.H7_4
  refine (ldTop _ _ _ _).trans ?_
  rw [a2, h3, d3]
  rfl
theorem a4 : runB.sl.v195_4 c i arg2 arg7 x2 WG WD hi1 = acc x2 WG WD 4 := by
  unfold runB.sl.v195_4 runB.sl.H7_5
  refine (ldTop _ _ _ _).trans ?_
  rw [a3, h4, d4]
  rfl
theorem a5 : runB.sl.v195_5 c i arg2 arg7 x2 WG WD hi1 = acc x2 WG WD 5 := by
  unfold runB.sl.v195_5 runB.sl.H7_6
  refine (ldTop _ _ _ _).trans ?_
  rw [a4, h5, d5]
  rfl
theorem a6 : runB.sl.v195_6 c i arg2 arg7 x2 WG WD hi1 = acc x2 WG WD 6 := by
  unfold runB.sl.v195_6 runB.sl.H7_7
  refine (ldTop _ _ _ _).trans ?_
  rw [a5, h6, d6]
  rfl
theorem a7 : runB.sl.v195_7 c i arg2 arg7 x2 WG WD hi1 = acc x2 WG WD 7 := by
  unfold runB.sl.v195_7 runB.sl.H7_8
  refine (ldTop _ _ _ _).trans ?_
  rw [a6, h7, d7]
  rfl
theorem a8 : runB.sl.v195_8 c i arg2 arg7 x2 WG WD hi1 = acc x2 WG WD 8 := by
  unfold runB.sl.v195_8 runB.sl.H7_9
  refine (ldTop _ _ _ _).trans ?_
  rw [a7, h8, d8]
  rfl
theorem a9 : runB.sl.v121 c i arg2 arg7 x2 WG WD hi1 = acc x2 WG WD 9 := by
  unfold runB.sl.v121 runB.sl.H7_10
  refine (ldTop _ _ _ _).trans ?_
  rw [a8, h9, d9]
  rfl

/-- The point's stores into the output block, the last one first. -/
theorem last : runB.sl.H7_11 c i arg1 arg2 arg5 arg6 arg7 x1 x2 x5 x6 WG WD hi1 = (⟨Rect.unit (s := S512x2048) ![0, 0] S512x2048.size inb_S512x2048_S512x2048_0_0, fin x1 x2 x5 x6 WG WD⟩ : View.Piece (Elt F) S512x2048 .f32) :: runB.sl.H7_10 c i arg2 arg7 x2 WG WD hi1 := by
  unfold runB.sl.H7_11 runB.sl.r_18
  rw [a9, h10, d10, ldWhole arg1 x1, ldWhole arg5 x5, ldWhole arg6 x6]
  rfl

variable (harg1 : arg1.IsWhole) (harg2 : arg2.IsWhole) (harg5 : arg5.IsWhole) (harg6 : arg6.IsWhole) (harg7 : arg7.IsWhole) (arg8 : Memref sig .tc .vmem S512x2048 .bf16) (harg8 : arg8.IsWhole)

theorem out {sp : Space} (v : View sig .tc sp S512x2048 .f32) (f : v.ty.Contents (Elt F)) :
    v.read (Elt F) (v.writes (Elt F) f (runB c i arg1 harg1 arg2 harg2 arg5 harg5 arg6 harg6 arg7 harg7 arg8 harg8 x1 x2 x5 x6 WG WD hi0 hi1).1) = fin x1 x2 x5 x6 WG WD := by
  refine (congrArg (fun L => v.read (Elt F) (v.writes (Elt F) f L)) ((rfl : (runB c i arg1 harg1 arg2 harg2 arg5 harg5 arg6 harg6 arg7 harg7 arg8 harg8 x1 x2 x5 x6 WG WD hi0 hi1).1 = runB.sl.H7_11 c i arg1 arg2 arg5 arg6 arg7 x1 x2 x5 x6 WG WD hi1).trans
    (last c i arg1 arg2 arg5 arg6 arg7 x1 x2 x5 x6 WG WD hi1))).trans ?_
  exact read_whole2 v f _ _ _

end ValB

end Cert.Kernel2Ideal.Ffn

end
-- ==== Proof.Ffn.ValC.lean ====
module

public import proofs.«01_k».proof.Proof.Ffn.Blocks
public import proofs.«01_k».proof.Proof.Ffn.RunC

@[expose] public section

set_option maxRecDepth 16384
set_option Elab.async false

/-! # What the last point stores, block by block -/

noncomputable section

namespace Cert.Kernel2Ideal.Ffn

open Cert.Kernel2Ideal Cert.Kernel2Ideal.Gen
open Idealize.ShloMosaic
open Idealize.ShloMosaic.TcCoe Idealize.ShloMosaic.Tactic

namespace ValC

variable {F : FTy → Type} [FloatOps F]
variable (c : Dev nD) (i : grid0.Coords) (arg1 : Memref sig .tc .vmem S512x2048 .f32) (arg2 : Memref sig .tc .vmem S512x2048 .bf16) (arg5 arg6 : Memref sig .tc .vmem S1x2048 .f32)
  (arg7 : Memref sig .tc .vmem S512x2048 .f32)
  (x1 : S512x2048.Idx → Elt F .f32) (x2 : S512x2048.Idx → Elt F .bf16) (x5 x6 : S1x2048.Idx → Elt F .f32)
  (WG : Buf (Elt F) (guArr.view.loc (c : Thread nD τ))) (WD : Buf (Elt F) (dArr.view.loc (c : Thread nD τ)))
  (hi0 : ¬(i 0).val = 0) (hi1 : ¬(i 0).val < 31)

theorem g0 : runC.sl.v28 c WG = gB WG 0 := by
  unfold runC.sl.v28
  exact guLd _ _ _ c WG _ _ 0 (by decide) (by decide +kernel) _ _
theorem g1 : runC.sl.v78 c WG = gB WG 1 := by
  unfold runC.sl.v78
  exact guLd _ _ _ c WG _ _ 1 (by decide) (by decide +kernel) _ _
theorem g2 : runC.sl.v220 c i WG = gB WG 2 := by
  unfold runC.sl.v220 runC.sl.dma0
  exact guLd _ _ _ c WG _ _ 2 (by decide) (by decide +kernel) _ _
theorem g3 : runC.sl.v220_1 c i WG = gB WG 3 := by
  unfold runC.sl.v220_1 runC.sl.dma4
  exact guLd _ _ _ c WG _ _ 3 (by decide) (by decide +kernel) _ _
theorem g4 : runC.sl.v220_2 c i WG = gB WG 4 := by
  unfold runC.sl.v220_2 runC.sl.dma12
  exact guLd _ _ _ c WG _ _ 4 (by decide) (by decide +kernel) _ _
theorem g5 : runC.sl.v220_3 c i WG = gB WG 5 := by
  unfold runC.sl.v220_3 runC.sl.dma21
  exact guLd _ _ _ c WG _ _ 5 (by decide) (by decide +kernel) _ _
theorem g6 : runC.sl.v220_4 c i WG = gB WG 6 := by
  unfold runC.sl.v220_4 runC.sl.dma30
  exact guLd _ _ _ c WG _ _ 6 (by decide) (by decide +kernel) _ _
theorem g7 : runC.sl.v220_5 c i WG = gB WG 7 := by
  unfold runC.sl.v220_5 runC.sl.dma39
  exact guLd _ _ _ c WG _ _ 7 (by decide) (by decide +kernel) _ _
theorem g8 : runC.sl.v220_6 c i WG = gB WG 8 := by
  unfold runC.sl.v220_6 runC.sl.dma48
  exact guLd _ _ _ c WG _ _ 8 (by decide) (by decide +kernel) _ _
theorem g9 : runC.sl.v220_7 c i WG = gB WG 9 := by
  unfold runC.sl.v220_7 runC.sl.dma57
  exact guLd _ _ _ c WG _ _ 9 (by decide) (by decide +kernel) _ _
theorem g10 : runC.sl.v220_8 c i WG = gB WG 10 := by
  unfold runC.sl.v220_8 runC.sl.dma66
  exact guLd _ _ _ c WG _ _ 10 (by decide) (by decide +kernel) _ _
theorem d0 : runC.sl.v72 c WD = dB WD 0 := by
  unfold runC.sl.v72
  exact dLd _ _ _ c WD _ _ 0 (by decide) (by decide +kernel) _ _
theorem d1 : runC.sl.v212 c i WD = dB WD 1 := by
  unfold runC.sl.v212 runC.sl.dma0_1
  exact dLd _ _ _ c WD _ _ 1 (by decide) (by decide +kernel) _ _
theorem d2 : runC.sl.v212_1 c i WD = dB WD 2 := by
  unfold runC.sl.v212_1 runC.sl.dma4_1
  exact dLd _ _ _ c WD _ _ 2 (by decide) (by decide +kernel) _ _
theorem d3 : runC.sl.v212_2 c i WD = dB WD 3 := by
  unfold runC.sl.v212_2 runC.sl.dma12_1
  exact dLd _ _ _ c WD _ _ 3 (by decide) (by decide +kernel) _ _
theorem d4 : runC.sl.v212_3 c i WD = dB WD 4 := by
  unfold runC.sl.v212_3 runC.sl.dma21_1
  exact dLd _ _ _ c WD _ _ 4 (by decide) (by decide +kernel) _ _
theorem d5 : runC.sl.v212_4 c i WD = dB WD 5 := by
  unfold runC.sl.v212_4 runC.sl.dma30_1
  exact dLd _ _ _ c WD _ _ 5 (by decide) (by decide +kernel) _ _
theorem d6 : runC.sl.v212_5 c i WD = dB WD 6 := by
  unfold runC.sl.v212_5 runC.sl.dma39_1
  exact dLd _ _ _ c WD _ _ 6 (by decide) (by decide +kernel) _ _
theorem d7 : runC.sl.v212_6 c i WD = dB WD 7 := by
  unfold runC.sl.v212_6 runC.sl.dma48_1
  exact dLd _ _ _ c WD _ _ 7 (by decide) (by decide +kernel) _ _
theorem d8 : runC.sl.v212_7 c i WD = dB WD 8 := by
  unfold runC.sl.v212_7 runC.sl.dma57_1
  exact dLd _ _ _ c WD _ _ 8 (by decide) (by decide +kernel) _ _
theorem d9 : runC.sl.v212_8 c i WD = dB WD 9 := by
  unfold runC.sl.v212_8 runC.sl.dma66_1
  exact dLd _ _ _ c WD _ _ 9 (by decide) (by decide +kernel) _ _
theorem d10 : runC.sl.v125 c i WD = dB WD 10 := by
  unfold runC.sl.v125 runC.sl.dma75
  exact dLd _ _ _ c WD _ _ 10 (by decide) (by decide +kernel) _ _

/-! The hidden blocks. -/

theorem h0 : runC.sl.v70 c arg2 x2 WG = hid x2 WG 0 := by
  unfold runC.sl.v70 runC.sl.HH_1
  refine (ldTop _ _ _ _).trans ?_
  unfold runC.sl.v27
  rw [ldWhole arg2 x2, g0]
  exact pay6_eq _ _
theorem h1 : runC.sl.v209 c arg2 x2 WG = hid x2 WG 1 := by
  unfold runC.sl.v209 runC.sl.HH_2
  refine (ldTop _ _ _ _).trans ?_
  rw [ldWhole arg2 x2, g1]
  rfl
theorem h2 : runC.sl.v209_1 c i arg2 x2 WG = hid x2 WG 2 := by
  unfold runC.sl.v209_1 runC.sl.HH_3
  refine (ldTop _ _ _ _).trans ?_
  unfold runC.sl.r runC.sl.r_1
  rw [ldWhole arg2 x2, g2]
  exact pay9_eq _ _
theorem h3 : runC.sl.v209_2 c i arg2 x2 WG = hid x2 WG 3 := by
  unfold runC.sl.v209_2 runC.sl.HH_4
  refine (ldTop _ _ _ _).trans ?_
  unfold runC.sl.r_2 runC.sl.r_3
  rw [ldWhole arg2 x2, g3]
  exact pay9_eq _ _
theorem h4 : runC.sl.v209_3 c i arg2 x2 WG = hid x2 WG 4 := by
  unfold runC.sl.v209_3 runC.sl.HH_5
  refine (ldTop _ _ _ _).trans ?_
  unfold runC.sl.r_4 runC.sl.r_5
  rw [ldWhole arg2 x2, g4]
  exact pay9_eq _ _
theorem h5 : runC.sl.v209_4 c i arg2 x2 WG = hid x2 WG 5 := by
  unfold runC.sl.v209_4 runC.sl.HH_6
  refine (ldTop _ _ _ _).trans ?_
  unfold runC.sl.r_6 runC.sl.r_7
  rw [ldWhole arg2 x2, g5]
  exact pay9_eq _ _
theorem h6 : runC.sl.v209_5 c i arg2 x2 WG = hid x2 WG 6 := by
  unfold runC.sl.v209_5 runC.sl.HH_7
  refine (ldTop _ _ _ _).trans ?_
  unfold runC.sl.r_8 runC.sl.r_9
  rw [ldWhole arg2 x2, g6]
  exact pay9_eq _ _
theorem h7 : runC.sl.v209_6 c i arg2 x2 WG = hid x2 WG 7 := by
  unfold runC.sl.v209_6 runC.sl.HH_8
  refine (ldTop _ _ _ _).trans ?_
  unfold runC.sl.r_10 runC.sl.r_11
  rw [ldWhole arg2 x2, g7]
  exact pay9_eq _ _
theorem h8 : runC.sl.v209_7 c i arg2 x2 WG = hid x2 WG 8 := by
  unfold runC.sl.v209_7 runC.sl.HH_9
  refine (ldTop _ _ _ _).trans ?_
  unfold runC.sl.r_12 runC.sl.r_13
  rw [ldWhole arg2 x2, g8]
  exact pay9_eq _ _
theorem h9 : runC.sl.v209_8 c i arg2 x2 WG = hid x2 WG 9 := by
  unfold runC.sl.v209_8 runC.sl.HH_10
  refine (ldTop _ _ _ _).trans ?_
  unfold runC.sl.r_14 runC.sl.r_15
  rw [ldWhole arg2 x2, g9]
  exact pay9_eq _ _
theorem h10 : runC.sl.v123 c i arg2 x2 WG = hid x2 WG 10 := by
  unfold runC.sl.v123 runC.sl.HH_11
  refine (ldTop _ _ _ _).trans ?_
  unfold runC.sl.r_16 runC.sl.r_17
  rw [ldWhole arg2 x2, g10]
  exact pay9_eq _ _

/-! The sums. -/

theorem a0 : runC.sl.v195 c arg2 arg7 x2 WG WD = acc x2 WG WD 0 := by
  unfold runC.sl.v195 runC.sl.H7_1
  refine (ldTop _ _ _ _).trans ?_
  rw [h0, d0]
  rfl
theorem a1 : runC.sl.v195_1 c i arg2 arg7 x2 WG WD = acc x2 WG WD 1 := by
  unfold runC.sl.v195_1 runC.sl.H7_2
  refine (ldTop _ _ _ _).trans ?_
  rw [a0, h1, d1]
  rfl
theorem a2 : runC.sl.v195_2 c i arg2 arg7 x2 WG WD = acc x2 WG WD 2 := by
  unfold runC.sl.v195_2 runC.sl.H7_3
  refine (ldTop _ _ _ _).trans ?_
  rw [a1, h2, d2]
  rfl
theorem a3 : runC.sl.v195_3 c i arg2 arg7 x2 WG WD = acc x2 WG WD 3 := by
  unfold runC.sl.v195_3 runC.sl.H7_4
  refine (ldTop _ _ _ _).trans ?_
  rw [a2, h3, d3]
  rfl
theorem a4 : runC.sl.v195_4 c i arg2 arg7 x2 WG WD = acc x2 WG WD 4 := by
  unfold runC.sl.v195_4 runC.sl.H7_5
  refine (ldTop _ _ _ _).trans ?_
  rw [a3, h4, d4]
  rfl
theorem a5 : runC.sl.v195_5 c i arg2 arg7 x2 WG WD = acc x2 WG WD 5 := by
  unfold runC.sl.v195_5 runC.sl.H7_6
  refine (ldTop _ _ _ _).trans ?_
  rw [a4, h5, d5]
  rfl
theorem a6 : runC.sl.v195_6 c i arg2 arg7 x2 WG WD = acc x2 WG WD 6 := by
  unfold runC.sl.v195_6 runC.sl.H7_7
  refine (ldTop _ _ _ _).trans ?_
  rw [a5, h6, d6]
  rfl
theorem a7 : runC.sl.v195_7 c i arg2 arg7 x2 WG WD = acc x2 WG WD 7 := by
  unfold runC.sl.v195_7 runC.sl.H7_8
  refine (ldTop _ _ _ _).trans ?_
  rw [a6, h7, d7]
  rfl
theorem a8 : runC.sl.v195_8 c i arg2 arg7 x2 WG WD = acc x2 WG WD 8 := by
  unfold runC.sl.v195_8 runC.sl.H7_9
  refine (ldTop _ _ _ _).trans ?_
  rw [a7, h8, d8]
  rfl
theorem a9 : runC.sl.v121 c i arg2 arg7 x2 WG WD = acc x2 WG WD 9 := by
  unfold runC.sl.v121 runC.sl.H7_10
  refine (ldTop _ _ _ _).trans ?_
  rw [a8, h9, d9]
  rfl

/-- The point's stores into the output block, the last one first. -/
theorem last : runC.sl.H7_11 c i arg1 arg2 arg5 arg6 arg7 x1 x2 x5 x6 WG WD = (⟨Rect.unit (s := S512x2048) ![0, 0] S512x2048.size inb_S512x2048_S512x2048_0_0, fin x1 x2 x5 x6 WG WD⟩ : View.Piece (Elt F) S512x2048 .f32) :: runC.sl.H7_10 c i arg2 arg7 x2 WG WD := by
  unfold runC.sl.H7_11 runC.sl.r_18
  rw [a9, h10, d10, ldWhole arg1 x1, ldWhole arg5 x5, ldWhole arg6 x6]
  rfl

variable (harg1 : arg1.IsWhole) (harg2 : arg2.IsWhole) (harg5 : arg5.IsWhole) (harg6 : arg6.IsWhole) (harg7 : arg7.IsWhole) (arg8 : Memref sig .tc .vmem S512x2048 .bf16) (harg8 : arg8.IsWhole)

theorem out {sp : Space} (v : View sig .tc sp S512x2048 .f32) (f : v.ty.Contents (Elt F)) :
    v.read (Elt F) (v.writes (Elt F) f (runC c i arg1 harg1 arg2 harg2 arg5 harg5 arg6 harg6 arg7 harg7 arg8 harg8 x1 x2 x5 x6 WG WD hi0 hi1).1) = fin x1 x2 x5 x6 WG WD := by
  refine (congrArg (fun L => v.read (Elt F) (v.writes (Elt F) f L)) ((rfl : (runC c i arg1 harg1 arg2 harg2 arg5 harg5 arg6 harg6 arg7 harg7 arg8 harg8 x1 x2 x5 x6 WG WD hi0 hi1).1 = runC.sl.H7_11 c i arg1 arg2 arg5 arg6 arg7 x1 x2 x5 x6 WG WD).trans
    (last c i arg1 arg2 arg5 arg6 arg7 x1 x2 x5 x6 WG WD))).trans ?_
  exact read_whole2 v f _ _ _

end ValC

end Cert.Kernel2Ideal.Ffn

end
-- ==== Proof.Ffn.Equal.lean ====
module

public import proofs.«01_k».proof.Proof.Ffn.Sum
public import proofs.«01_k».proof.Proof.Ffn.HostRead
public import proofs.«01_k».proof.Proof.Ffn.ValA
public import proofs.«01_k».proof.Proof.Ffn.ValB
public import proofs.«01_k».proof.Proof.Ffn.ValC
public import proofs.«01_k».proof.Defs
public import Idealize.ShloMosaic.Lib.Pipeline.ValueKit.Geometry
public import Idealize.ShloMosaic.Lib.Claim

@[expose] public section

set_option maxRecDepth 16384
set_option Elab.async false

/-! # The feed-forward call computes the reference's rows -/

noncomputable section

namespace Cert.Kernel2Ideal.Ffn

open Cert.Kernel2Ideal Cert.Kernel2Ideal.Gen Cert.FfnRow
open Idealize.ShloMosaic Idealize.ShloMosaic.TcCoe Idealize.ShloMosaic.Tactic

variable (m : (ℓ : Loc nD τ sig) → Buf (Elt Ideal) ℓ)

/-- What a point stores, whichever way it goes. -/
theorem outO_eq (c : Dev nD) (t : Fin cfg0.N) :
    outO (F := Ideal) m c t = fin (F := Ideal) (iblk m c 0 t) (iblk m c 1 t) (iblk m c 2 t) (iblk m c 3 t) (V m c main_v5) (V m c main_v7) := by
  by_cases h0 : t.val = 0
  · rw [outOA m c t h0]
    apply ValA.out
  · by_cases h1 : t.val < 31
    · rw [outOB m c t h0 h1]
      apply ValB.out
    · rw [outOC m c t h0 h1]
      apply ValC.out

theorem idx2_cases {n0 n1 : ℕ} {P : (⟨2, ![n0, n1]⟩ : Shape).Idx → Prop} (h : ∀ x y, P (ix2 x y)) (z : (⟨2, ![n0, n1]⟩ : Shape).Idx) : P z := by
  rw [eq_ix2 z]; exact h _ _

/-- Row `p` of tile `t`. -/
def at_ (t : Fin cfg0.N) (p : Fin 512) : Fin 16384 := ⟨512 * t.val + p.val, by have := t_lt t; omega⟩

theorem index0 : ∀ t : Fin cfg0.N, (cfg0.win 0).index t = ![t.val, 0] := by decide +kernel
theorem emb0 (t : Fin cfg0.N) (a : Fin 512) (b : Fin 2048) :
    ((cfg0.win 0).blk t).view.emb (ix2 a b) = (ix2 (at_ t a) b : S16384x2048.Idx) := by
  funext k
  have h := (cfg0.win 0).rect_emb_val t (ix2 a b) k
  rw [index0] at h
  refine Fin.ext (h.trans ?_)
  clear h
  refine Fin.cases ?_ (fun k => ?_) k
  · show t.val * 512 + a.val = 512 * t.val + a.val; omega
  · refine Fin.cases ?_ (fun k => k.elim0) k
    show 0 * 2048 + b.val = b.val; omega
theorem index1 : ∀ t : Fin cfg0.N, (cfg0.win 1).index t = ![t.val, 0] := by decide +kernel
theorem emb1 (t : Fin cfg0.N) (a : Fin 512) (b : Fin 2048) :
    ((cfg0.win 1).blk t).view.emb (ix2 a b) = (ix2 (at_ t a) b : S16384x2048.Idx) := by
  funext k
  have h := (cfg0.win 1).rect_emb_val t (ix2 a b) k
  rw [index1] at h
  refine Fin.ext (h.trans ?_)
  clear h
  refine Fin.cases ?_ (fun k => ?_) k
  · show t.val * 512 + a.val = 512 * t.val + a.val; omega
  · refine Fin.cases ?_ (fun k => k.elim0) k
    show 0 * 2048 + b.val = b.val; omega
theorem index4 : ∀ t : Fin cfg0.N, (cfg0.win 4).index t = ![t.val, 0] := by decide +kernel
theorem emb4 (t : Fin cfg0.N) (a : Fin 512) (b : Fin 2048) :
    ((cfg0.win 4).blk t).view.emb (ix2 a b) = (ix2 (at_ t a) b : S16384x2048.Idx) := by
  funext k
  have h := (cfg0.win 4).rect_emb_val t (ix2 a b) k
  rw [index4] at h
  refine Fin.ext (h.trans ?_)
  clear h
  refine Fin.cases ?_ (fun k => ?_) k
  · show t.val * 512 + a.val = 512 * t.val + a.val; omega
  · refine Fin.cases ?_ (fun k => k.elim0) k
    show 0 * 2048 + b.val = b.val; omega
theorem index2 : ∀ t : Fin cfg0.N, (cfg0.win 2).index t = ![0, 0] := by decide +kernel
theorem emb2 (t : Fin cfg0.N) (a : Fin 1) (b : Fin 2048) :
    ((cfg0.win 2).blk t).view.emb (ix2 a b) = (ix2 a b : S1x2048.Idx) := by
  funext k
  have h := (cfg0.win 2).rect_emb_val t (ix2 a b) k
  rw [index2] at h
  refine Fin.ext (h.trans ?_)
  clear h
  refine Fin.cases ?_ (fun k => ?_) k
  · show 0 * 1 + a.val = a.val; omega
  · refine Fin.cases ?_ (fun k => k.elim0) k
    show 0 * 2048 + b.val = b.val; omega
theorem index3 : ∀ t : Fin cfg0.N, (cfg0.win 3).index t = ![0, 0] := by decide +kernel
theorem emb3 (t : Fin cfg0.N) (a : Fin 1) (b : Fin 2048) :
    ((cfg0.win 3).blk t).view.emb (ix2 a b) = (ix2 a b : S1x2048.Idx) := by
  funext k
  have h := (cfg0.win 3).rect_emb_val t (ix2 a b) k
  rw [index3] at h
  refine Fin.ext (h.trans ?_)
  clear h
  refine Fin.cases ?_ (fun k => ?_) k
  · show 0 * 1 + a.val = a.val; omega
  · refine Fin.cases ?_ (fun k => k.elim0) k
    show 0 * 2048 + b.val = b.val; omega

theorem blk0_at (c : Dev nD) (t : Fin cfg0.N) (p : Fin 512) (n : Fin 2048) : iblk (F := Ideal) m c 0 t (ix2 p n) = argX m c (ix2 (at_ t p) n) :=
  (congrArg (V m c main_arg0) (emb0 t p n)).trans (congrFun (v0_eq m c) _)
theorem blk1_at (c : Dev nD) (t : Fin cfg0.N) (p : Fin 512) (n : Fin 2048) : iblk (F := Ideal) m c 1 t (ix2 p n) = argX m c (ix2 (at_ t p) n) :=
  (congrArg (V m c main_v8) (emb1 t p n)).trans (congrFun (v8_eq m c) _)
theorem row_at (s : FVec Ideal S2048 .f32) (n : Fin 2048) : broadcastInDim S1x2048 ![1] bcast_S2048_S1x2048_1 s (ix2 0 n) = s (ix1 n) := by
  pointwise []
theorem blk2_at (c : Dev nD) (t : Fin cfg0.N) (n : Fin 2048) : iblk (F := Ideal) m c 2 t (ix2 0 n) = argS m c (ix1 n) :=
  (congrArg (V m c main_v9) (emb2 t 0 n)).trans ((congrFun (v9_eq m c) _).trans (row_at _ n))
theorem blk3_at (c : Dev nD) (t : Fin cfg0.N) (n : Fin 2048) : iblk (F := Ideal) m c 3 t (ix2 0 n) = argB m c (ix1 n) :=
  (congrArg (V m c main_v10) (emb3 t 0 n)).trans ((congrFun (v10_eq m c) _).trans (row_at _ n))

/-- The value the call computes, from the arguments. -/
def outV (c : Dev nD) : FVec Ideal S16384x2048 .f32 :=
  Cert.Reference2Ideal.Ffn.rN (Cert.Reference2Ideal.Ffn.rZ (argX m c) (Cert.Reference2Ideal.Ffn.rH (Cert.Reference2Ideal.Ffn.rG (argX m c) (argG m c)) (Cert.Reference2Ideal.Ffn.rG (argX m c) (argU m c))) (argD m c)) (argS m c) (argB m c)

theorem out_at (c : Dev nD) (t : Fin cfg0.N) (p : Fin 512) (n : Fin 2048) : outO (F := Ideal) m c t (ix2 p n) = outV m c (ix2 (at_ t p) n) := by
  rw [outO_eq, v5_eq, v7_eq]
  refine (fin_at _ _ _ _ _ _ _ p n).trans (Eq.trans ?_ (ref_at _ _ _ _ _ _ (at_ t p) n).symm)
  have e0 : ∀ n, iblk (F := Ideal) m c 0 t (ix2 p n) = argX m c (ix2 (at_ t p) n) := blk0_at m c t p
  have e1 : ∀ n, iblk (F := Ideal) m c 1 t (ix2 p n) = argX m c (ix2 (at_ t p) n) := blk1_at m c t p
  have e2 : ∀ n, iblk (F := Ideal) m c 2 t (ix2 0 n) = argS m c (ix1 n) := blk2_at m c t
  have e3 : ∀ n, iblk (F := Ideal) m c 3 t (ix2 0 n) = argB m c (ix1 n) := blk3_at m c t
  simp only [e0, e1, e2, e3]

theorem arrO (c : Dev nD) : (dats (F := Ideal) m 0 c).arrAt (4 : Fin 6) cfg0.N = outV m c := by
  refine (dats (F := Ideal) m 0 c).arrAt_eq_of_covers (4 : Fin 6) (outV m c) (by decide +kernel) fun t hf y => ?_
  blk_simp
  rw [after4]
  revert y
  refine idx2_cases (n0 := 512) (n1 := 2048) fun a b => ?_
  exact (out_at m c t a b).trans (congrArg (outV m c) (emb4 t a b)).symm

open Idealize.SL.Sem in
/-- Kernel and reference agree, entry by entry. -/
theorem algebraic : Cert.algebraic_Kernel2Ideal_Reference2Ideal := by
  intro m g m' g' hpre hag
  refine ⟨outV m, ?_, ?_⟩
  · exact (θ_run _ _ _).mono (fun r h c => ⟨((h.1.1 c).1 4).trans (arrO m c), h.2.1 c⟩) (θ_run_and (run_main (F := Ideal) m g) (frame (F := Ideal) m g))
  · refine (θ_run _ _ _).mono (fun _ h c => ⟨(h c).1.trans ?_, (h c).2⟩) (Cert.Reference2Ideal.Value.run m' g')
    obtain ⟨h0, h1, h2, h3, h4, h5⟩ := hag c
    rw [Cert.Reference2Ideal.Ffn.res_eq, h0, h1, h2, h3, h4, h5]
    rfl

end Cert.Kernel2Ideal.Ffn

end
-- ==== Proof.Ideal.AttnRun.lean ====
module

public import proofs.«01_k».proof.Proof.Gen.KernelIdeal.Skeleton
public import proofs.«01_k».proof.Proof.Gen.KernelIdeal.Launch
public import Idealize.ShloMosaic.Lib.Pipeline.Frame
public import Idealize.ShloMosaic.Lib.Pipeline.RegionArraysT
public import Idealize.ShloMosaic.Lib.Exec
public import Idealize.ShloMosaic.Lib.Tactic

@[expose] public section

set_option maxRecDepth 16384
set_option Elab.async false

/-! # The attention body on one grid point

The body does one of four things at a grid point, told apart by the two table words it reads: the query
block `i` and the key block `j`. It clears the running maximum and sum where `j = 0`, takes a full key
block where `j < i`, and takes the masked diagonal block and writes the output where `j = i`. -/

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The running maximum, one row per head. -/
abbrev mRef : Memref sig .tc .vmem S8x1024 .f32 := Memref.whole cc1_scratch0
/-- The running weighted sum, 144 rows per head. -/
abbrev accRef : Memref sig .tc .vmem S1152x1024 .f32 := Memref.whole cc1_scratch1
/-- The two score blocks in flight. -/
abbrev scoreRef : Memref sig .tc .vmem S2x1024x1024 .f32 := Memref.whole cc1_scratch2
/-- The table of query blocks. -/
abbrev qTab : Memref sig .tc .smem S136 .i32 := Memref.whole main_c
/-- The table of key blocks. -/
abbrev kTab : Memref sig .tc .smem S136 .i32 := Memref.whole main_c_0

set_option backward.proofsInPublic true in
set_option maxHeartbeats 8000000 in
/-- Path `j = 0 = i`: cleared, then the diagonal block. -/
def runA (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (arg6 : Memref sig .tc .vmem S1024x1024 .bf16) (harg6 : arg6.IsWhole)
    (T0 T1 : S136.Idx → Elt F .i32) (x0 : S2048x1024.Idx → Elt F .bf16) (x1 : S1024x2048.Idx → Elt F .bf16) (x2 : S1152x1024.Idx → Elt F .bf16)
    (hc0 : (Scalar.cmpi .ne (Scalar.extui (Scalar.cmpi .eq (View.readAt (Elt F) kTab.view (Rect.unit (s := S136) (k1_off1 i) S1.size (k1_off1_inb i)).toLoadRect T1 (Shape.Idx.first (numel1_S1.symm ▸ Nat.one_pos))) 0#32)) 0#32) = 1#1)
    (hc1 : ¬((Scalar.cmpi .ne (Scalar.extui (Scalar.cmpi .slt (View.readAt (Elt F) kTab.view (Rect.unit (s := S136) (k1_off1 i) S1.size (k1_off1_inb i)).toLoadRect T1 (Shape.Idx.first (numel1_S1.symm ▸ Nat.one_pos))) (View.readAt (Elt F) qTab.view (Rect.unit (s := S136) (k1_off1 i) S1.size (k1_off1_inb i)).toLoadRect T0 (Shape.Idx.first (numel1_S1.symm ▸ Nat.one_pos))))) 0#32) = 1#1))
    (hc3 : k1_cond3 (View.readAt (Elt F) qTab.view (Rect.unit (s := S136) (k1_off1 i) S1.size (k1_off1_inb i)).toLoadRect T0 (Shape.Idx.first (numel1_S1.symm ▸ Nat.one_pos))) (View.readAt (Elt F) kTab.view (Rect.unit (s := S136) (k1_off1 i) S1.size (k1_off1_inb i)).toLoadRect T1 (Shape.Idx.first (numel1_S1.symm ▸ Nat.one_pos))) = 1#1) :
    Σ' (outO : List (View.Piece (Elt F) S1024x1024 .bf16)) (outM : Buf (Elt F) ((c : Thread nD τ).loc cc1_scratch0)), { outA : Buf (Elt F) ((c : Thread nD τ).loc cc1_scratch1) //
      ∀ (xm : Buf (Elt F) ((c : Thread nD τ).loc cc1_scratch0)) (xa : Buf (Elt F) ((c : Thread nD τ).loc cc1_scratch1)) (xs : Buf (Elt F) ((c : Thread nD τ).loc cc1_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare} T0)
          ∗ (kTab.view.loc (c : Thread nD τ) ↦{fullShare} T1)
          ∗ (∃ d, owns (c : Thread nD τ) arg6 fullShare d)
          ∗ (mRef.view.loc (c : Thread nD τ) ↦{fullShare} xm)
          ∗ (accRef.view.loc (c : Thread nD τ) ↦{fullShare} xa)
          ∗ (scoreRef.view.loc (c : Thread nD τ) ↦{fullShare} xs)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare} T0)
          ∗ (kTab.view.loc (c : Thread nD τ) ↦{fullShare} T1)
          ∗ (∃ f, arg6.view.loc (c : Thread nD τ) ↦[arg6.view.set]{fullShare} arg6.view.writes (Elt F) f outO)
          ∗ (mRef.view.loc (c : Thread nD τ) ↦{fullShare} outM)
          ∗ (accRef.view.loc (c : Thread nD τ) ↦{fullShare} outA)
          ∗ (∃ xs', scoreRef.view.loc (c : Thread nD τ) ↦{fullShare} xs')) -∗ K ⟨⟩))
          ⊢ wp frame (wpE (defs₀ (F := F)) Variants.none c none) Set.univ (cc1_fox_attention i qTab (Memref.isWhole_whole _) kTab (Memref.isWhole_whole _) arg3 harg3 arg4 harg4 arg5 harg5 arg6 harg6 mRef (Memref.isWhole_whole _) accRef (Memref.isWhole_whole _) scoreRef (Memref.isWhole_whole _)) K } :=
  ⟨_, _, _, fun (xm : Buf (Elt F) ((c : Thread nD τ).loc cc1_scratch0)) (xa : Buf (Elt F) ((c : Thread nD τ).loc cc1_scratch1)) xs K => by
    unfold owns
    rw [cc1_fox_attention_eq_skeleton]; unfold cc1_fox_attention_skel
    iintro ⟨H0, H1, H2, HT0, HT1, ⟨%d3, %f3, -, HO⟩, HM, HA, HS, Hk⟩
    have hS0 : mRef.IsWhole := Memref.isWhole_whole _
    have hS1 : accRef.IsWhole := Memref.isWhole_whole _
    have hS2 : scoreRef.IsWhole := Memref.isWhole_whole _
    have hT0 : qTab.IsWhole := Memref.isWhole_whole _
    have hT1 : kTab.IsWhole := Memref.isWhole_whole _
    sl_exec! (disch := first | (guard_target = Scalar.cmpi = _; exact hc0) | (guard_target = ¬(Scalar.cmpi = _); exact hc1) | (guard_target = k1_cond3 _ _ = _; exact hc3))
    sl_step
    iapply Hk
    isplitl [H0]; · iexact H0
    isplitl [H1]; · iexact H1
    isplitl [H2]; · iexact H2
    isplitl [HT0]; · iexact HT0
    isplitl [HT1]; · iexact HT1
    isplitl [HO]
    · iexists _; iexact HO
    isplitl [HM]; · iexact HM
    isplitl [HA]; · iexact HA
    iexists _; iexact HS⟩

set_option backward.proofsInPublic true in
set_option maxHeartbeats 8000000 in
/-- Path `j = 0 < i`: cleared, then a full block. -/
def runB (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (arg6 : Memref sig .tc .vmem S1024x1024 .bf16) (harg6 : arg6.IsWhole)
    (T0 T1 : S136.Idx → Elt F .i32) (x0 : S2048x1024.Idx → Elt F .bf16) (x1 : S1024x2048.Idx → Elt F .bf16) (x2 : S1152x1024.Idx → Elt F .bf16)
    (hc0 : (Scalar.cmpi .ne (Scalar.extui (Scalar.cmpi .eq (View.readAt (Elt F) kTab.view (Rect.unit (s := S136) (k1_off1 i) S1.size (k1_off1_inb i)).toLoadRect T1 (Shape.Idx.first (numel1_S1.symm ▸ Nat.one_pos))) 0#32)) 0#32) = 1#1)
    (hc1 : (Scalar.cmpi .ne (Scalar.extui (Scalar.cmpi .slt (View.readAt (Elt F) kTab.view (Rect.unit (s := S136) (k1_off1 i) S1.size (k1_off1_inb i)).toLoadRect T1 (Shape.Idx.first (numel1_S1.symm ▸ Nat.one_pos))) (View.readAt (Elt F) qTab.view (Rect.unit (s := S136) (k1_off1 i) S1.size (k1_off1_inb i)).toLoadRect T0 (Shape.Idx.first (numel1_S1.symm ▸ Nat.one_pos))))) 0#32) = 1#1)
    (hc3 : ¬(k1_cond3 (View.readAt (Elt F) qTab.view (Rect.unit (s := S136) (k1_off1 i) S1.size (k1_off1_inb i)).toLoadRect T0 (Shape.Idx.first (numel1_S1.symm ▸ Nat.one_pos))) (View.readAt (Elt F) kTab.view (Rect.unit (s := S136) (k1_off1 i) S1.size (k1_off1_inb i)).toLoadRect T1 (Shape.Idx.first (numel1_S1.symm ▸ Nat.one_pos))) = 1#1)) :
    Σ' (outM : Buf (Elt F) ((c : Thread nD τ).loc cc1_scratch0)), { outA : Buf (Elt F) ((c : Thread nD τ).loc cc1_scratch1) //
      ∀ (y : S1024x1024.Idx → Elt F .bf16) (xm : Buf (Elt F) ((c : Thread nD τ).loc cc1_scratch0)) (xa : Buf (Elt F) ((c : Thread nD τ).loc cc1_scratch1)) (xs : Buf (Elt F) ((c : Thread nD τ).loc cc1_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare} T0)
          ∗ (kTab.view.loc (c : Thread nD τ) ↦{fullShare} T1)
          ∗ owns (c : Thread nD τ) arg6 fullShare y
          ∗ (mRef.view.loc (c : Thread nD τ) ↦{fullShare} xm)
          ∗ (accRef.view.loc (c : Thread nD τ) ↦{fullShare} xa)
          ∗ (scoreRef.view.loc (c : Thread nD τ) ↦{fullShare} xs)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare} T0)
          ∗ (kTab.view.loc (c : Thread nD τ) ↦{fullShare} T1)
          ∗ owns (c : Thread nD τ) arg6 fullShare y
          ∗ (mRef.view.loc (c : Thread nD τ) ↦{fullShare} outM)
          ∗ (accRef.view.loc (c : Thread nD τ) ↦{fullShare} outA)
          ∗ (∃ xs', scoreRef.view.loc (c : Thread nD τ) ↦{fullShare} xs')) -∗ K ⟨⟩))
          ⊢ wp frame (wpE (defs₀ (F := F)) Variants.none c none) Set.univ (cc1_fox_attention i qTab (Memref.isWhole_whole _) kTab (Memref.isWhole_whole _) arg3 harg3 arg4 harg4 arg5 harg5 arg6 harg6 mRef (Memref.isWhole_whole _) accRef (Memref.isWhole_whole _) scoreRef (Memref.isWhole_whole _)) K } :=
  ⟨_, _, fun (y : S1024x1024.Idx → Elt F .bf16) (xm : Buf (Elt F) ((c : Thread nD τ).loc cc1_scratch0)) (xa : Buf (Elt F) ((c : Thread nD τ).loc cc1_scratch1)) xs K => by
    unfold owns
    rw [cc1_fox_attention_eq_skeleton]; unfold cc1_fox_attention_skel
    iintro ⟨H0, H1, H2, HT0, HT1, ⟨%f3, %hf3, HO⟩, HM, HA, HS, Hk⟩
    obtain rfl := harg6.eq_unread hf3
    have hS0 : mRef.IsWhole := Memref.isWhole_whole _
    have hS1 : accRef.IsWhole := Memref.isWhole_whole _
    have hS2 : scoreRef.IsWhole := Memref.isWhole_whole _
    have hT0 : qTab.IsWhole := Memref.isWhole_whole _
    have hT1 : kTab.IsWhole := Memref.isWhole_whole _
    sl_exec! (disch := first | (guard_target = Scalar.cmpi = _; exact hc0) | (guard_target = Scalar.cmpi = _; exact hc1) | (guard_target = ¬(k1_cond3 _ _ = _); exact hc3))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg6.read_unread _
      iexact HO
    isplitl [HM]; · iexact HM
    isplitl [HA]; · iexact HA
    iexists _; iexact HS⟩

set_option backward.proofsInPublic true in
set_option maxHeartbeats 8000000 in
/-- Path `0 < j = i`: the diagonal block. -/
def runC (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (arg6 : Memref sig .tc .vmem S1024x1024 .bf16) (harg6 : arg6.IsWhole)
    (T0 T1 : S136.Idx → Elt F .i32) (x0 : S2048x1024.Idx → Elt F .bf16) (x1 : S1024x2048.Idx → Elt F .bf16) (x2 : S1152x1024.Idx → Elt F .bf16) (xm : Buf (Elt F) ((c : Thread nD τ).loc cc1_scratch0)) (xa : Buf (Elt F) ((c : Thread nD τ).loc cc1_scratch1))
    (hc0 : ¬((Scalar.cmpi .ne (Scalar.extui (Scalar.cmpi .eq (View.readAt (Elt F) kTab.view (Rect.unit (s := S136) (k1_off1 i) S1.size (k1_off1_inb i)).toLoadRect T1 (Shape.Idx.first (numel1_S1.symm ▸ Nat.one_pos))) 0#32)) 0#32) = 1#1))
    (hc1 : ¬((Scalar.cmpi .ne (Scalar.extui (Scalar.cmpi .slt (View.readAt (Elt F) kTab.view (Rect.unit (s := S136) (k1_off1 i) S1.size (k1_off1_inb i)).toLoadRect T1 (Shape.Idx.first (numel1_S1.symm ▸ Nat.one_pos))) (View.readAt (Elt F) qTab.view (Rect.unit (s := S136) (k1_off1 i) S1.size (k1_off1_inb i)).toLoadRect T0 (Shape.Idx.first (numel1_S1.symm ▸ Nat.one_pos))))) 0#32) = 1#1))
    (hc3 : k1_cond3 (View.readAt (Elt F) qTab.view (Rect.unit (s := S136) (k1_off1 i) S1.size (k1_off1_inb i)).toLoadRect T0 (Shape.Idx.first (numel1_S1.symm ▸ Nat.one_pos))) (View.readAt (Elt F) kTab.view (Rect.unit (s := S136) (k1_off1 i) S1.size (k1_off1_inb i)).toLoadRect T1 (Shape.Idx.first (numel1_S1.symm ▸ Nat.one_pos))) = 1#1) :
    Σ' (outO : List (View.Piece (Elt F) S1024x1024 .bf16)) (outM : Buf (Elt F) ((c : Thread nD τ).loc cc1_scratch0)), { outA : Buf (Elt F) ((c : Thread nD τ).loc cc1_scratch1) //
      ∀ (xs : Buf (Elt F) ((c : Thread nD τ).loc cc1_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare} T0)
          ∗ (kTab.view.loc (c : Thread nD τ) ↦{fullShare} T1)
          ∗ (∃ d, owns (c : Thread nD τ) arg6 fullShare d)
          ∗ (mRef.view.loc (c : Thread nD τ) ↦{fullShare} xm)
          ∗ (accRef.view.loc (c : Thread nD τ) ↦{fullShare} xa)
          ∗ (scoreRef.view.loc (c : Thread nD τ) ↦{fullShare} xs)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare} T0)
          ∗ (kTab.view.loc (c : Thread nD τ) ↦{fullShare} T1)
          ∗ (∃ f, arg6.view.loc (c : Thread nD τ) ↦[arg6.view.set]{fullShare} arg6.view.writes (Elt F) f outO)
          ∗ (mRef.view.loc (c : Thread nD τ) ↦{fullShare} outM)
          ∗ (accRef.view.loc (c : Thread nD τ) ↦{fullShare} outA)
          ∗ (∃ xs', scoreRef.view.loc (c : Thread nD τ) ↦{fullShare} xs')) -∗ K ⟨⟩))
          ⊢ wp frame (wpE (defs₀ (F := F)) Variants.none c none) Set.univ (cc1_fox_attention i qTab (Memref.isWhole_whole _) kTab (Memref.isWhole_whole _) arg3 harg3 arg4 harg4 arg5 harg5 arg6 harg6 mRef (Memref.isWhole_whole _) accRef (Memref.isWhole_whole _) scoreRef (Memref.isWhole_whole _)) K } :=
  ⟨_, _, _, fun xs K => by
    unfold owns
    rw [cc1_fox_attention_eq_skeleton]; unfold cc1_fox_attention_skel
    iintro ⟨H0, H1, H2, HT0, HT1, ⟨%d3, %f3, -, HO⟩, HM, HA, HS, Hk⟩
    have hS0 : mRef.IsWhole := Memref.isWhole_whole _
    have hS1 : accRef.IsWhole := Memref.isWhole_whole _
    have hS2 : scoreRef.IsWhole := Memref.isWhole_whole _
    have hT0 : qTab.IsWhole := Memref.isWhole_whole _
    have hT1 : kTab.IsWhole := Memref.isWhole_whole _
    sl_exec! (disch := first | (guard_target = ¬(Scalar.cmpi = _); exact hc0) | (guard_target = ¬(Scalar.cmpi = _); exact hc1) | (guard_target = k1_cond3 _ _ = _; exact hc3))
    sl_step
    iapply Hk
    isplitl [H0]; · iexact H0
    isplitl [H1]; · iexact H1
    isplitl [H2]; · iexact H2
    isplitl [HT0]; · iexact HT0
    isplitl [HT1]; · iexact HT1
    isplitl [HO]
    · iexists _; iexact HO
    isplitl [HM]; · iexact HM
    isplitl [HA]; · iexact HA
    iexists _; iexact HS⟩

set_option backward.proofsInPublic true in
set_option maxHeartbeats 8000000 in
/-- Path `0 < j < i`: a full block. -/
def runD (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (arg6 : Memref sig .tc .vmem S1024x1024 .bf16) (harg6 : arg6.IsWhole)
    (T0 T1 : S136.Idx → Elt F .i32) (x0 : S2048x1024.Idx → Elt F .bf16) (x1 : S1024x2048.Idx → Elt F .bf16) (x2 : S1152x1024.Idx → Elt F .bf16) (xm : Buf (Elt F) ((c : Thread nD τ).loc cc1_scratch0)) (xa : Buf (Elt F) ((c : Thread nD τ).loc cc1_scratch1))
    (hc0 : ¬((Scalar.cmpi .ne (Scalar.extui (Scalar.cmpi .eq (View.readAt (Elt F) kTab.view (Rect.unit (s := S136) (k1_off1 i) S1.size (k1_off1_inb i)).toLoadRect T1 (Shape.Idx.first (numel1_S1.symm ▸ Nat.one_pos))) 0#32)) 0#32) = 1#1))
    (hc1 : (Scalar.cmpi .ne (Scalar.extui (Scalar.cmpi .slt (View.readAt (Elt F) kTab.view (Rect.unit (s := S136) (k1_off1 i) S1.size (k1_off1_inb i)).toLoadRect T1 (Shape.Idx.first (numel1_S1.symm ▸ Nat.one_pos))) (View.readAt (Elt F) qTab.view (Rect.unit (s := S136) (k1_off1 i) S1.size (k1_off1_inb i)).toLoadRect T0 (Shape.Idx.first (numel1_S1.symm ▸ Nat.one_pos))))) 0#32) = 1#1)
    (hc3 : ¬(k1_cond3 (View.readAt (Elt F) qTab.view (Rect.unit (s := S136) (k1_off1 i) S1.size (k1_off1_inb i)).toLoadRect T0 (Shape.Idx.first (numel1_S1.symm ▸ Nat.one_pos))) (View.readAt (Elt F) kTab.view (Rect.unit (s := S136) (k1_off1 i) S1.size (k1_off1_inb i)).toLoadRect T1 (Shape.Idx.first (numel1_S1.symm ▸ Nat.one_pos))) = 1#1)) :
    Σ' (outM : Buf (Elt F) ((c : Thread nD τ).loc cc1_scratch0)), { outA : Buf (Elt F) ((c : Thread nD τ).loc cc1_scratch1) //
      ∀ (y : S1024x1024.Idx → Elt F .bf16) (xs : Buf (Elt F) ((c : Thread nD τ).loc cc1_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare} T0)
          ∗ (kTab.view.loc (c : Thread nD τ) ↦{fullShare} T1)
          ∗ owns (c : Thread nD τ) arg6 fullShare y
          ∗ (mRef.view.loc (c : Thread nD τ) ↦{fullShare} xm)
          ∗ (accRef.view.loc (c : Thread nD τ) ↦{fullShare} xa)
          ∗ (scoreRef.view.loc (c : Thread nD τ) ↦{fullShare} xs)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (qTab.view.loc (c : Thread nD τ) ↦{fullShare} T0)
          ∗ (kTab.view.loc (c : Thread nD τ) ↦{fullShare} T1)
          ∗ owns (c : Thread nD τ) arg6 fullShare y
          ∗ (mRef.view.loc (c : Thread nD τ) ↦{fullShare} outM)
          ∗ (accRef.view.loc (c : Thread nD τ) ↦{fullShare} outA)
          ∗ (∃ xs', scoreRef.view.loc (c : Thread nD τ) ↦{fullShare} xs')) -∗ K ⟨⟩))
          ⊢ wp frame (wpE (defs₀ (F := F)) Variants.none c none) Set.univ (cc1_fox_attention i qTab (Memref.isWhole_whole _) kTab (Memref.isWhole_whole _) arg3 harg3 arg4 harg4 arg5 harg5 arg6 harg6 mRef (Memref.isWhole_whole _) accRef (Memref.isWhole_whole _) scoreRef (Memref.isWhole_whole _)) K } :=
  ⟨_, _, fun (y : S1024x1024.Idx → Elt F .bf16) xs K => by
    unfold owns
    rw [cc1_fox_attention_eq_skeleton]; unfold cc1_fox_attention_skel
    iintro ⟨H0, H1, H2, HT0, HT1, ⟨%f3, %hf3, HO⟩, HM, HA, HS, Hk⟩
    obtain rfl := harg6.eq_unread hf3
    have hS0 : mRef.IsWhole := Memref.isWhole_whole _
    have hS1 : accRef.IsWhole := Memref.isWhole_whole _
    have hS2 : scoreRef.IsWhole := Memref.isWhole_whole _
    have hT0 : qTab.IsWhole := Memref.isWhole_whole _
    have hT1 : kTab.IsWhole := Memref.isWhole_whole _
    sl_exec! (disch := first | (guard_target = ¬(Scalar.cmpi = _); exact hc0) | (guard_target = Scalar.cmpi = _; exact hc1) | (guard_target = ¬(k1_cond3 _ _ = _); exact hc3))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg6.read_unread _
      iexact HO
    isplitl [HM]; · iexact HM
    isplitl [HA]; · iexact HA
    iexists _; iexact HS⟩

end Cert.KernelIdeal.Fox

end
-- ==== Proof.Ideal.Sched.lean ====
module

public import proofs.«01_k».proof.Proof.Ideal.AttnRun

@[expose] public section

set_option maxRecDepth 16384
set_option Elab.async false

/-! # The attention's schedule

The two tables list the pairs `(i, j)` with `j ≤ i`, row by row. Everything the proof needs of them is decided
here once, of the literal tables, without the floats. -/

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI

/-- The query block at a grid point. -/
def qW (i : grid1.Coords) : BitVec 32 := lit0 ⟨(i 0).val, (i 0).isLt⟩
/-- The key block at a grid point. -/
def kW (i : grid1.Coords) : BitVec 32 := lit1 ⟨(i 0).val, (i 0).isLt⟩

/-- The element of a table the body reads at a grid point is the point's own. -/
theorem rowMajor_read : ∀ i : grid1.Coords, (S136.rowMajor ((Rect.unit (s := S136) (k1_off1 i) S1.size (k1_off1_inb i)).toLoadRect.idx
    (Shape.Idx.first (numel1_S1.symm ▸ Nat.one_pos)))) = ⟨(i 0).val, (i 0).isLt⟩ := by decide +kernel

/-- The query block of point `t`, as a number. -/
def qb (t : Fin grid1.N) : ℕ := (qW (grid1.coords t)).toNat
/-- The key block of point `t`, as a number. -/
def kb (t : Fin grid1.N) : ℕ := (kW (grid1.coords t)).toNat

/-- What the schedule says at a point: blocks in range and in order, the body's three decisions, where the output block is
    written back, and what comes before the point. -/
abbrev SchedAt (t : Fin grid1.N) : Prop :=
  qb t < 16 ∧ kb t ≤ qb t ∧ t.val = qb t * (qb t + 1) / 2 + kb t
  ∧ ((Scalar.cmpi .ne (Scalar.extui (Scalar.cmpi .eq (kW (grid1.coords t)) 0#32)) 0#32 = 1#1) ↔ kb t = 0)
  ∧ ((Scalar.cmpi .ne (Scalar.extui (Scalar.cmpi .slt (kW (grid1.coords t)) (qW (grid1.coords t)))) 0#32 = 1#1) ↔ kb t < qb t)
  ∧ ((k1_cond3 (qW (grid1.coords t)) (kW (grid1.coords t)) = 1#1) ↔ kb t = qb t)
  ∧ (Pipeline.Window.flushOf grid1 true (fun i => ![(qW i).toNat, 0]) t = true ↔ kb t = qb t)

theorem schedAt : ∀ t : Fin grid1.N, SchedAt t := by decide +kernel

variable {F : FTy → Type} [FloatOps F] [Named F]

/-! ## The tables at any floats -/

/-- The tables' contents. -/
def tabC : pre1.Contents (Elt F) := fun
  | ⟨0, _⟩ => fun i => lit0 (S136.rowMajor i)
  | ⟨1, _⟩ => fun i => lit1 (S136.rowMajor i)
  | ⟨_ + 2, h⟩ => absurd h (Nat.not_lt.2 (Nat.le_add_left _ _))

/-- The word the body reads of the query table, and the one the pipeline's maps read. -/
theorem qWord (i : grid1.Coords) : View.readAt (Elt F) qTab.view (Rect.unit (s := S136) (k1_off1 i) S1.size (k1_off1_inb i)).toLoadRect
    (tabC (F := F) 0) (Shape.Idx.first (numel1_S1.symm ▸ Nat.one_pos)) = qW i :=
  congrArg lit0 (rowMajor_read i)
theorem kWord (i : grid1.Coords) : View.readAt (Elt F) kTab.view (Rect.unit (s := S136) (k1_off1 i) S1.size (k1_off1_inb i)).toLoadRect
    (tabC (F := F) 1) (Shape.Idx.first (numel1_S1.symm ▸ Nat.one_pos)) = kW i :=
  congrArg lit1 (rowMajor_read i)

theorem map0 : cc1_transform_0 k1_off1_inb numel1_S1 (tabC (F := F)) = fun i => ![0, (qW i).toNat] := by
  funext i; exact congrArg (fun b : BitVec 32 => ![0, b.toNat]) (qWord (F := F) i)
theorem map1 : cc1_transform_1 k1_off1_inb numel1_S1 (tabC (F := F)) = fun i => ![(kW i).toNat, 0] := by
  funext i; exact congrArg (fun b : BitVec 32 => ![b.toNat, 0]) (kWord (F := F) i)
theorem map2 : cc1_transform_2 k1_off1_inb numel1_S1 (tabC (F := F)) = fun i => ![0, (kW i).toNat] := by
  funext i; exact congrArg (fun b : BitVec 32 => ![0, b.toNat]) (kWord (F := F) i)
theorem map3 : cc1_transform_3 k1_off1_inb numel1_S1 (tabC (F := F)) = fun i => ![(qW i).toNat, 0] := by
  funext i; exact congrArg (fun b : BitVec 32 => ![b.toNat, 0]) (qWord (F := F) i)

theorem inb0 : ∀ i : grid1.Coords, ∀ a, ((![0, (qW i).toNat] : Fin 2 → ℕ) a + 1) * S2048x1024.size a ≤ S2048x16384.size a := by decide +kernel
theorem inb1 : ∀ i : grid1.Coords, ∀ a, ((![(kW i).toNat, 0] : Fin 2 → ℕ) a + 1) * S1024x2048.size a ≤ S16384x2048.size a := by decide +kernel
theorem inb2 : ∀ i : grid1.Coords, ∀ a, ((![0, (kW i).toNat] : Fin 2 → ℕ) a + 1) * S1152x1024.size a ≤ S1152x16384.size a := by decide +kernel
theorem inb3 : ∀ i : grid1.Coords, ∀ a, ((![(qW i).toNat, 0] : Fin 2 → ℕ) a + 1) * S1024x1024.size a ≤ S16384x1024.size a := by decide +kernel

/-- Every block the tables name lies inside its array. -/
theorem tab_ok : ok1 (tabC (F := F)) :=
  ⟨fun i => ⟨by rw [map0]; exact inb0 i, .inr (Affine.block_words_dvd (s := S2048x16384) (p := EltTy.packing .bf16) (by decide) (by decide))⟩,
   fun i => ⟨by rw [map1]; exact inb1 i, .inr (Affine.block_words_dvd (s := S16384x2048) (p := EltTy.packing .bf16) (by decide) (by decide))⟩,
   fun i => ⟨by rw [map2]; exact inb2 i, .inr (Affine.block_words_dvd (s := S1152x16384) (p := EltTy.packing .bf16) (by decide) (by decide))⟩,
   fun i => ⟨by rw [map3]; exact inb3 i, .inr (Affine.block_words_dvd (s := S16384x1024) (p := EltTy.packing .bf16) (by decide) (by decide))⟩⟩

/-- The tables, admissible, and the attention's pipeline at them. -/
def tabs : (pcfg1 (F := F)).Adm := ⟨tabC, tab_ok⟩
abbrev cfgA : Pipeline.Cfg sig Λ₀ := cfg1 (tabs (F := F))

/-- What the two pipelines are pinned at: the prefetched tables of the second. -/
def adms : (p : Fin 2) → (pcfgs (F := F) p).Adm := fun
  | ⟨0, _⟩ => ⟨Pipeline.Prefetch.Contents.none, trivial⟩
  | ⟨1, _⟩ => tabs
  | ⟨_ + 2, h⟩ => absurd h (Nat.not_lt.2 (Nat.le_add_left _ _))

theorem flush3 (t : Fin (cfgA (F := F)).N) : ((cfgA (F := F)).win 3).flush t = true ↔ kb t = qb t := by
  rw [Pipeline.Window.flush_eq_flushOf]
  have h : ((cfgA (F := F)).win 3).indexMap = fun i => ![(qW i).toNat, 0] := map3 (F := F)
  rw [h]
  exact (schedAt t).2.2.2.2.2.2

/-- The same element by its offsets. -/
theorem rowMajor_off : ∀ i : grid1.Coords, ∃ h : (∀ a, k1_off1 i a + 1 ≤ S136.size a),
    S136.rowMajor (fun a => ⟨k1_off1 i a, h a⟩) = ⟨(i 0).val, (i 0).isLt⟩ := by decide +kernel

theorem qAtD (i : grid1.Coords) : (tabC (F := F)).atD 0 (k1_off1 i) = qW i := by
  obtain ⟨h, e⟩ := rowMajor_off i
  exact (dif_pos h).trans (congrArg lit0 e)
theorem kAtD (i : grid1.Coords) : (tabC (F := F)).atD 1 (k1_off1 i) = kW i := by
  obtain ⟨h, e⟩ := rowMajor_off i
  exact (dif_pos h).trans (congrArg lit1 e)

theorem idle3 (t : Fin (cfgA (F := F)).N) : (cfgA (F := F)).idle 3 ((cfgA (F := F)).grid.coords t) = true ↔ kb t ≠ qb t := by
  have h : (cfgA (F := F)).idle 3 ((cfgA (F := F)).grid.coords t) = !(k1_cond3 (qW (grid1.coords t)) (kW (grid1.coords t)) == 1#1) := by
    have e : (!(k1_cond3 ((tabC (F := F)).atD 0 (k1_off1 (grid1.coords t))) ((tabC (F := F)).atD 1 (k1_off1 (grid1.coords t))) == 1#1))
        = !(k1_cond3 (qW (grid1.coords t)) (kW (grid1.coords t)) == 1#1) := by rw [qAtD, kAtD]
    exact e
  rw [h, Bool.not_eq_true', beq_eq_false_iff_ne, ne_eq, (schedAt t).2.2.2.2.2.1]

end Cert.KernelIdeal.Fox

end
-- ==== Proof.Ideal.AttnData.lean ====
module

public import proofs.«01_k».proof.Proof.Ideal.Sched
public import Idealize.ShloMosaic.Lib.Pipeline.Kit
public import Idealize.ShloMosaic.Lib.Pipeline.TableIdle
public import Idealize.ShloMosaic.Lib.Pipeline.FrameBody
public import Idealize.ShloMosaic.Lib.Ring

@[expose] public section

set_option maxRecDepth 16384
set_option Elab.async false

/-! # The attention pipeline's proof data

The running maximum and sum before each point, what the body leaves in the output block at the diagonal points,
and the body's obligation at every point. `W` is what every buffer holds when the call starts. -/

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F] [Named F]

local notation "𝕄" => MT nD τ sig Unit (Elt F) ℕ (UR sig nD τ) ℕ

/-! ## A point's coordinates, staging buffers, decisions and blocks -/

abbrev crd (t : Fin (cfgA (F := F)).N) : grid1.Coords := grid1.coords t
abbrev ms0 (t : Fin (cfgA (F := F)).N) : Memref sig .tc .vmem S2048x1024 .bf16 := spec1_0.stage ((cfgA (F := F)).slots t (0 : Fin 4))
abbrev hs0 (t : Fin (cfgA (F := F)).N) : (ms0 t).IsWhole := hstage1_0 (((cfgA (F := F)).slots t (0 : Fin 4)).cast nbuf1_0)
abbrev ms1 (t : Fin (cfgA (F := F)).N) : Memref sig .tc .vmem S1024x2048 .bf16 := spec1_1.stage ((cfgA (F := F)).slots t (1 : Fin 4))
abbrev hs1 (t : Fin (cfgA (F := F)).N) : (ms1 t).IsWhole := hstage1_1 (((cfgA (F := F)).slots t (1 : Fin 4)).cast nbuf1_1)
abbrev ms2 (t : Fin (cfgA (F := F)).N) : Memref sig .tc .vmem S1152x1024 .bf16 := spec1_2.stage ((cfgA (F := F)).slots t (2 : Fin 4))
abbrev hs2 (t : Fin (cfgA (F := F)).N) : (ms2 t).IsWhole := hstage1_2 (((cfgA (F := F)).slots t (2 : Fin 4)).cast nbuf1_2)
abbrev ms3 (t : Fin (cfgA (F := F)).N) : Memref sig .tc .vmem S1024x1024 .bf16 := spec1_3.stage ((cfgA (F := F)).slots t (3 : Fin 4))
abbrev hs3 (t : Fin (cfgA (F := F)).N) : (ms3 t).IsWhole := hstage1_3 (((cfgA (F := F)).slots t (3 : Fin 4)).cast nbuf1_3)

theorem P0_iff (t : Fin (cfgA (F := F)).N) : ((Scalar.cmpi .ne (Scalar.extui (Scalar.cmpi .eq (View.readAt (Elt F) kTab.view (Rect.unit (s := S136) (k1_off1 (crd t)) S1.size (k1_off1_inb (crd t))).toLoadRect (tabC (F := F) 1) (Shape.Idx.first (numel1_S1.symm ▸ Nat.one_pos))) 0#32)) 0#32) = 1#1) ↔ kb t = 0 := by
  rw [kWord]; exact (schedAt t).2.2.2.1
theorem P1_iff (t : Fin (cfgA (F := F)).N) : ((Scalar.cmpi .ne (Scalar.extui (Scalar.cmpi .slt (View.readAt (Elt F) kTab.view (Rect.unit (s := S136) (k1_off1 (crd t)) S1.size (k1_off1_inb (crd t))).toLoadRect (tabC (F := F) 1) (Shape.Idx.first (numel1_S1.symm ▸ Nat.one_pos))) (View.readAt (Elt F) qTab.view (Rect.unit (s := S136) (k1_off1 (crd t)) S1.size (k1_off1_inb (crd t))).toLoadRect (tabC (F := F) 0) (Shape.Idx.first (numel1_S1.symm ▸ Nat.one_pos))))) 0#32) = 1#1) ↔ kb t < qb t := by
  rw [kWord, qWord]; exact (schedAt t).2.2.2.2.1
theorem P3_iff (t : Fin (cfgA (F := F)).N) : (k1_cond3 (View.readAt (Elt F) qTab.view (Rect.unit (s := S136) (k1_off1 (crd t)) S1.size (k1_off1_inb (crd t))).toLoadRect (tabC (F := F) 0) (Shape.Idx.first (numel1_S1.symm ▸ Nat.one_pos))) (View.readAt (Elt F) kTab.view (Rect.unit (s := S136) (k1_off1 (crd t)) S1.size (k1_off1_inb (crd t))).toLoadRect (tabC (F := F) 1) (Shape.Idx.first (numel1_S1.symm ▸ Nat.one_pos))) = 1#1) ↔ kb t = qb t := by
  rw [kWord, qWord]; exact (schedAt t).2.2.2.2.2.1

theorem eq_of_not_lt (t : Fin grid1.N) (h : ¬kb t < qb t) : kb t = qb t := le_antisymm (schedAt t).2.1 (not_lt.mp h)
theorem ne_of_lt (t : Fin grid1.N) (h : kb t < qb t) : kb t ≠ qb t := Nat.ne_of_lt h
/-- The first point is at key block 0. -/
theorem t_ne_zero (t : Fin grid1.N) (h : ¬kb t = 0) : t.val ≠ 0 := by
  intro h'; have := (schedAt t).2.2.1; omega

variable (W : Dev nD → Valuation τ sig (Elt F))

/-- Window `w`'s block at point `t`. -/
def blk (c : Dev nD) (w : Fin 4) (t : Fin (cfgA (F := F)).N) : (((cfgA (F := F)).win w).xblock (crd t)).Idx → Elt F ((cfgA (F := F)).win w).elt :=
  (((cfgA (F := F)).win w).blk t).view.read (Elt F) (W c (Proc.devRef .tc (Pipeline.arrRef spec1 w)))

/-! ## The running maximum and sum -/

/-- The two running buffers. -/
abbrev St (c : Dev nD) : Type := Buf (Elt F) ((c : Thread nD τ).loc cc1_scratch0) × Buf (Elt F) ((c : Thread nD τ).loc cc1_scratch1)

/-- What a point leaves in them. -/
def step (c : Dev nD) (t : Fin (cfgA (F := F)).N) (p : St (F := F) c) : St (F := F) c :=
  if h0 : kb t = 0 then
    if h1 : kb t < qb t then ((runB c (crd t) (ms0 t) (hs0 t) (ms1 t) (hs1 t) (ms2 t) (hs2 t) (ms3 t) (hs3 t) (tabC 0) (tabC 1) (blk W c 0 t) (blk W c 1 t) (blk W c 2 t) ((P0_iff t).2 h0) ((P1_iff t).2 h1) (mt (P3_iff t).1 (ne_of_lt t h1))).1, (runB c (crd t) (ms0 t) (hs0 t) (ms1 t) (hs1 t) (ms2 t) (hs2 t) (ms3 t) (hs3 t) (tabC 0) (tabC 1) (blk W c 0 t) (blk W c 1 t) (blk W c 2 t) ((P0_iff t).2 h0) ((P1_iff t).2 h1) (mt (P3_iff t).1 (ne_of_lt t h1))).2.1)
    else ((runA c (crd t) (ms0 t) (hs0 t) (ms1 t) (hs1 t) (ms2 t) (hs2 t) (ms3 t) (hs3 t) (tabC 0) (tabC 1) (blk W c 0 t) (blk W c 1 t) (blk W c 2 t) ((P0_iff t).2 h0) (mt (P1_iff t).1 h1) ((P3_iff t).2 (eq_of_not_lt t h1))).2.1, (runA c (crd t) (ms0 t) (hs0 t) (ms1 t) (hs1 t) (ms2 t) (hs2 t) (ms3 t) (hs3 t) (tabC 0) (tabC 1) (blk W c 0 t) (blk W c 1 t) (blk W c 2 t) ((P0_iff t).2 h0) (mt (P1_iff t).1 h1) ((P3_iff t).2 (eq_of_not_lt t h1))).2.2.1)
  else
    if h1 : kb t < qb t then ((runD c (crd t) (ms0 t) (hs0 t) (ms1 t) (hs1 t) (ms2 t) (hs2 t) (ms3 t) (hs3 t) (tabC 0) (tabC 1) (blk W c 0 t) (blk W c 1 t) (blk W c 2 t) p.1 p.2 (mt (P0_iff t).1 h0) ((P1_iff t).2 h1) (mt (P3_iff t).1 (ne_of_lt t h1))).1, (runD c (crd t) (ms0 t) (hs0 t) (ms1 t) (hs1 t) (ms2 t) (hs2 t) (ms3 t) (hs3 t) (tabC 0) (tabC 1) (blk W c 0 t) (blk W c 1 t) (blk W c 2 t) p.1 p.2 (mt (P0_iff t).1 h0) ((P1_iff t).2 h1) (mt (P3_iff t).1 (ne_of_lt t h1))).2.1)
    else ((runC c (crd t) (ms0 t) (hs0 t) (ms1 t) (hs1 t) (ms2 t) (hs2 t) (ms3 t) (hs3 t) (tabC 0) (tabC 1) (blk W c 0 t) (blk W c 1 t) (blk W c 2 t) p.1 p.2 (mt (P0_iff t).1 h0) (mt (P1_iff t).1 h1) ((P3_iff t).2 (eq_of_not_lt t h1))).2.1, (runC c (crd t) (ms0 t) (hs0 t) (ms1 t) (hs1 t) (ms2 t) (hs2 t) (ms3 t) (hs3 t) (tabC 0) (tabC 1) (blk W c 0 t) (blk W c 1 t) (blk W c 2 t) p.1 p.2 (mt (P0_iff t).1 h0) (mt (P1_iff t).1 h1) ((P3_iff t).2 (eq_of_not_lt t h1))).2.2.1)

theorem stepA (c : Dev nD) (t : Fin (cfgA (F := F)).N) (p : St (F := F) c) (h0 : kb t = 0) (h1 : ¬kb t < qb t) :
    step W c t p = ((runA c (crd t) (ms0 t) (hs0 t) (ms1 t) (hs1 t) (ms2 t) (hs2 t) (ms3 t) (hs3 t) (tabC 0) (tabC 1) (blk W c 0 t) (blk W c 1 t) (blk W c 2 t) ((P0_iff t).2 h0) (mt (P1_iff t).1 h1) ((P3_iff t).2 (eq_of_not_lt t h1))).2.1, (runA c (crd t) (ms0 t) (hs0 t) (ms1 t) (hs1 t) (ms2 t) (hs2 t) (ms3 t) (hs3 t) (tabC 0) (tabC 1) (blk W c 0 t) (blk W c 1 t) (blk W c 2 t) ((P0_iff t).2 h0) (mt (P1_iff t).1 h1) ((P3_iff t).2 (eq_of_not_lt t h1))).2.2.1) := by unfold step; simp only [dif_pos h0, dif_neg h1]
theorem stepB (c : Dev nD) (t : Fin (cfgA (F := F)).N) (p : St (F := F) c) (h0 : kb t = 0) (h1 : kb t < qb t) :
    step W c t p = ((runB c (crd t) (ms0 t) (hs0 t) (ms1 t) (hs1 t) (ms2 t) (hs2 t) (ms3 t) (hs3 t) (tabC 0) (tabC 1) (blk W c 0 t) (blk W c 1 t) (blk W c 2 t) ((P0_iff t).2 h0) ((P1_iff t).2 h1) (mt (P3_iff t).1 (ne_of_lt t h1))).1, (runB c (crd t) (ms0 t) (hs0 t) (ms1 t) (hs1 t) (ms2 t) (hs2 t) (ms3 t) (hs3 t) (tabC 0) (tabC 1) (blk W c 0 t) (blk W c 1 t) (blk W c 2 t) ((P0_iff t).2 h0) ((P1_iff t).2 h1) (mt (P3_iff t).1 (ne_of_lt t h1))).2.1) := by unfold step; simp only [dif_pos h0, dif_pos h1]
theorem stepC (c : Dev nD) (t : Fin (cfgA (F := F)).N) (p : St (F := F) c) (h0 : ¬kb t = 0) (h1 : ¬kb t < qb t) :
    step W c t p = ((runC c (crd t) (ms0 t) (hs0 t) (ms1 t) (hs1 t) (ms2 t) (hs2 t) (ms3 t) (hs3 t) (tabC 0) (tabC 1) (blk W c 0 t) (blk W c 1 t) (blk W c 2 t) p.1 p.2 (mt (P0_iff t).1 h0) (mt (P1_iff t).1 h1) ((P3_iff t).2 (eq_of_not_lt t h1))).2.1, (runC c (crd t) (ms0 t) (hs0 t) (ms1 t) (hs1 t) (ms2 t) (hs2 t) (ms3 t) (hs3 t) (tabC 0) (tabC 1) (blk W c 0 t) (blk W c 1 t) (blk W c 2 t) p.1 p.2 (mt (P0_iff t).1 h0) (mt (P1_iff t).1 h1) ((P3_iff t).2 (eq_of_not_lt t h1))).2.2.1) := by unfold step; simp only [dif_neg h0, dif_neg h1]
theorem stepD (c : Dev nD) (t : Fin (cfgA (F := F)).N) (p : St (F := F) c) (h0 : ¬kb t = 0) (h1 : kb t < qb t) :
    step W c t p = ((runD c (crd t) (ms0 t) (hs0 t) (ms1 t) (hs1 t) (ms2 t) (hs2 t) (ms3 t) (hs3 t) (tabC 0) (tabC 1) (blk W c 0 t) (blk W c 1 t) (blk W c 2 t) p.1 p.2 (mt (P0_iff t).1 h0) ((P1_iff t).2 h1) (mt (P3_iff t).1 (ne_of_lt t h1))).1, (runD c (crd t) (ms0 t) (hs0 t) (ms1 t) (hs1 t) (ms2 t) (hs2 t) (ms3 t) (hs3 t) (tabC 0) (tabC 1) (blk W c 0 t) (blk W c 1 t) (blk W c 2 t) p.1 p.2 (mt (P0_iff t).1 h0) ((P1_iff t).2 h1) (mt (P3_iff t).1 (ne_of_lt t h1))).2.1) := by unfold step; simp only [dif_neg h0, dif_pos h1]

/-- The running buffers before point `n`. -/
def st (c : Dev nD) : ℕ → St (F := F) c
  | 0 => (fun _ => default, fun _ => default)
  | n + 1 => if h : n < (cfgA (F := F)).N then step W c ⟨n, h⟩ (st c n) else st c n

theorem st_succ (c : Dev nD) (t : Fin (cfgA (F := F)).N) : st W c (t.val + 1) = step W c t (st W c t.val) := by
  rw [st, dif_pos t.isLt]

/-- The buffer through which the output block's contents are read. -/
abbrev VO : View sig .tc .vmem S1024x1024 .bf16 := (Memref.whole cc1_stg3_0 : Memref sig .tc .vmem S1024x1024 .bf16).view

/-- What a diagonal point leaves in the output block. -/
def outBlk (c : Dev nD) (t : Fin (cfgA (F := F)).N) (p : St (F := F) c) : S1024x1024.Idx → Elt F .bf16 :=
  if h1 : kb t < qb t then VO.read (Elt F) VO.junk
  else if h0 : kb t = 0 then VO.read (Elt F) (VO.writes (Elt F) VO.junk (runA c (crd t) (ms0 t) (hs0 t) (ms1 t) (hs1 t) (ms2 t) (hs2 t) (ms3 t) (hs3 t) (tabC 0) (tabC 1) (blk W c 0 t) (blk W c 1 t) (blk W c 2 t) ((P0_iff t).2 h0) (mt (P1_iff t).1 h1) ((P3_iff t).2 (eq_of_not_lt t h1))).1)
  else VO.read (Elt F) (VO.writes (Elt F) VO.junk (runC c (crd t) (ms0 t) (hs0 t) (ms1 t) (hs1 t) (ms2 t) (hs2 t) (ms3 t) (hs3 t) (tabC 0) (tabC 1) (blk W c 0 t) (blk W c 1 t) (blk W c 2 t) p.1 p.2 (mt (P0_iff t).1 h0) (mt (P1_iff t).1 h1) ((P3_iff t).2 (eq_of_not_lt t h1))).1)

theorem outA (c : Dev nD) (t : Fin (cfgA (F := F)).N) (p : St (F := F) c) (h0 : kb t = 0) (h1 : ¬kb t < qb t) :
    outBlk W c t p = VO.read (Elt F) (VO.writes (Elt F) VO.junk (runA c (crd t) (ms0 t) (hs0 t) (ms1 t) (hs1 t) (ms2 t) (hs2 t) (ms3 t) (hs3 t) (tabC 0) (tabC 1) (blk W c 0 t) (blk W c 1 t) (blk W c 2 t) ((P0_iff t).2 h0) (mt (P1_iff t).1 h1) ((P3_iff t).2 (eq_of_not_lt t h1))).1) := by unfold outBlk; simp only [dif_pos h0, dif_neg h1]
theorem outC (c : Dev nD) (t : Fin (cfgA (F := F)).N) (p : St (F := F) c) (h0 : ¬kb t = 0) (h1 : ¬kb t < qb t) :
    outBlk W c t p = VO.read (Elt F) (VO.writes (Elt F) VO.junk (runC c (crd t) (ms0 t) (hs0 t) (ms1 t) (hs1 t) (ms2 t) (hs2 t) (ms3 t) (hs3 t) (tabC 0) (tabC 1) (blk W c 0 t) (blk W c 1 t) (blk W c 2 t) p.1 p.2 (mt (P0_iff t).1 h0) (mt (P1_iff t).1 h1) ((P3_iff t).2 (eq_of_not_lt t h1))).1) := by unfold outBlk; simp only [dif_neg h0, dif_neg h1]

/-! ## The proof data -/

/-- The buffers of the first call, which this one leaves alone. -/
def restBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The invariant before point `t`: the running buffers at the trajectory once a point has run, the score
    blocks at anything, the tables. -/
def Phi (c : Dev nD) (t : Fin ((cfgA (F := F)).N + 1)) : sProp 𝕄 :=
  iprop((∃ a, ⌜t.val ≠ 0 → a = (st W c t.val).1⌝ ∗ (mRef.view.loc (c : Thread nD τ) ↦{fullShare} a))
    ∗ (∃ a, ⌜t.val ≠ 0 → a = (st W c t.val).2⌝ ∗ (accRef.view.loc (c : Thread nD τ) ↦{fullShare} a))
    ∗ (∃ a, (scoreRef.view.loc (c : Thread nD τ) ↦{fullShare} a))
    ∗ (qTab.view.loc (c : Thread nD τ) ↦{fullShare} tabC (F := F) 0) ∗ (kTab.view.loc (c : Thread nD τ) ↦{fullShare} tabC (F := F) 1)
    ∗ restBufs c)

/-- The attention pipeline's proof data on core `c`. -/
def dat1 (c : Dev nD) : Dat τ (Elt F) Unit ℕ (UR sig nD τ) ℕ (cfgA (F := F)) c where
  A w := W c (Proc.devRef .tc (Pipeline.arrRef spec1 w))
  after w t := match w with
    | ⟨0, _⟩ => blk W c (0 : Fin 4) t
    | ⟨1, _⟩ => blk W c (1 : Fin 4) t
    | ⟨2, _⟩ => blk W c (2 : Fin 4) t
    | ⟨3, _⟩ => outBlk W c t (st W c t.val)
  Φ t := Phi W c t
  q _ := fullShare
  owed _ := 0

theorem after0 (c : Dev nD) (t : Fin (cfgA (F := F)).N) : (dat1 W c).after (0 : Fin 4) t = blk W c (0 : Fin 4) t := rfl
theorem after1 (c : Dev nD) (t : Fin (cfgA (F := F)).N) : (dat1 W c).after (1 : Fin 4) t = blk W c (1 : Fin 4) t := rfl
theorem after2 (c : Dev nD) (t : Fin (cfgA (F := F)).N) : (dat1 W c).after (2 : Fin 4) t = blk W c (2 : Fin 4) t := rfl
theorem after3 (c : Dev nD) (t : Fin (cfgA (F := F)).N) : (dat1 W c).after (3 : Fin 4) t = outBlk W c t (st W c t.val) := rfl

theorem before0 (c : Dev nD) (t : Fin (cfgA (F := F)).N) (d) : (dat1 W c).before (0 : Fin 4) t d = blk W c (0 : Fin 4) t :=
  ((dat1 W c).before_in_eq_fetched (0 : Fin 4) rfl (fun _ => rfl) (fun _ _ _ => rfl) (fun t => by rw [after0]; unfold Dat.blockOf blk; rfl) t d).trans
    (by unfold Dat.fetched Dat.blockOf blk; rfl)
theorem before1 (c : Dev nD) (t : Fin (cfgA (F := F)).N) (d) : (dat1 W c).before (1 : Fin 4) t d = blk W c (1 : Fin 4) t :=
  ((dat1 W c).before_in_eq_fetched (1 : Fin 4) rfl (fun _ => rfl) (fun _ _ _ => rfl) (fun t => by rw [after1]; unfold Dat.blockOf blk; rfl) t d).trans
    (by unfold Dat.fetched Dat.blockOf blk; rfl)
theorem before2 (c : Dev nD) (t : Fin (cfgA (F := F)).N) (d) : (dat1 W c).before (2 : Fin 4) t d = blk W c (2 : Fin 4) t :=
  ((dat1 W c).before_in_eq_fetched (2 : Fin 4) rfl (fun _ => rfl) (fun _ _ _ => rfl) (fun t => by rw [after2]; unfold Dat.blockOf blk; rfl) t d).trans
    (by unfold Dat.fetched Dat.blockOf blk; rfl)

/-! ## The body's obligation, path by path -/

/-- The body at point `t` on its staging buffers. -/
abbrev bodyAt (t : Fin (cfgA (F := F)).N) : Prog (TpuEff nD τ sig (Elt F) Λ₀ .tc) PUnit :=
  cc1_fox_attention (crd t) qTab (Memref.isWhole_whole _) kTab (Memref.isWhole_whole _) (ms0 t) (hs0 t) (ms1 t) (hs1 t) (ms2 t) (hs2 t) (ms3 t) (hs3 t) mRef (Memref.isWhole_whole _) accRef (Memref.isWhole_whole _) scoreRef (Memref.isWhole_whole _)

/-- The obligation at point `t`. -/
def BodyGoal (c : Dev nD) (t : Fin (cfgA (F := F)).N) : Prop :=
    iprop((dat1 W c).Φ t.castSucc ∗ (dat1 W c).owesAt () t.castSucc
        ∗ (∃ d, owns (c : Thread nD τ) (ms0 t) fullShare ((dat1 W c).before (0 : Fin 4) t d))
        ∗ (∃ d, owns (c : Thread nD τ) (ms1 t) fullShare ((dat1 W c).before (1 : Fin 4) t d))
        ∗ (∃ d, owns (c : Thread nD τ) (ms2 t) fullShare ((dat1 W c).before (2 : Fin 4) t d))
        ∗ (∃ d, owns (c : Thread nD τ) (ms3 t) fullShare ((dat1 W c).before (3 : Fin 4) t d)))
      ⊢ wp frame (wpE (defs₀ (F := F)) Variants.none c none) Set.univ (bodyAt t) fun _ =>
          iprop((dat1 W c).Φ t.succ ∗ (dat1 W c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dat1 W c).before w t d))
                  | true => owns (c : Thread nD τ) (((cfgA (F := F)).win w).stage ((cfgA (F := F)).slots t w)) fullShare ((dat1 W c).after w t)
                | false => owns (c : Thread nD τ) (((cfgA (F := F)).win w).stage ((cfgA (F := F)).slots t w)) fullShare ((dat1 W c).after w t))

set_option backward.proofsInPublic true
/-- The output block of path A is written whole, head by head. -/
theorem coverA (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (arg6 : Memref sig .tc .vmem S1024x1024 .bf16) (harg6 : arg6.IsWhole)
    (T0 T1 : S136.Idx → Elt F .i32) (x0 : S2048x1024.Idx → Elt F .bf16) (x1 : S1024x2048.Idx → Elt F .bf16) (x2 : S1152x1024.Idx → Elt F .bf16) (hc0) (hc1) (hc3) (y : S1024x1024.Idx) :
    ∃ pc ∈ (runA c i arg3 harg3 arg4 harg4 arg5 harg5 arg6 harg6 T0 T1 x0 x1 x2 hc0 hc1 hc3).1, y ∈ pc.1.set :=
  View.cover_of_tiledL (runA c i arg3 harg3 arg4 harg4 arg5 harg5 arg6 harg6 T0 T1 x0 x1 x2 hc0 hc1 hc3).1 S1024x128.size (by sl_kernel_rfl) y

/-- The output block of path C is written whole, head by head. -/
theorem coverC (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (arg6 : Memref sig .tc .vmem S1024x1024 .bf16) (harg6 : arg6.IsWhole)
    (T0 T1 : S136.Idx → Elt F .i32) (x0 : S2048x1024.Idx → Elt F .bf16) (x1 : S1024x2048.Idx → Elt F .bf16) (x2 : S1152x1024.Idx → Elt F .bf16) (xm : Buf (Elt F) ((c : Thread nD τ).loc cc1_scratch0)) (xa : Buf (Elt F) ((c : Thread nD τ).loc cc1_scratch1)) (hc0) (hc1) (hc3) (y : S1024x1024.Idx) :
    ∃ pc ∈ (runC c i arg3 harg3 arg4 harg4 arg5 harg5 arg6 harg6 T0 T1 x0 x1 x2 xm xa hc0 hc1 hc3).1, y ∈ pc.1.set :=
  View.cover_of_tiledL (runC c i arg3 harg3 arg4 harg4 arg5 harg5 arg6 harg6 T0 T1 x0 x1 x2 xm xa hc0 hc1 hc3).1 S1024x128.size (by sl_kernel_rfl) y

set_option maxHeartbeats 4000000 in
theorem bodyA (W : Dev nD → Valuation τ sig (Elt F)) (c : Dev nD) (t : Fin (cfgA (F := F)).N) (h0 : kb t = 0) (h1 : ¬kb t < qb t) : BodyGoal W c t := by
  have ho : ((cfgA (F := F)).idle (3 : Fin 4) ((cfgA (F := F)).grid.coords t)) = false := Bool.eq_false_iff.mpr (mt (idle3 t).1 (not_not.mpr (eq_of_not_lt t h1)))
  have hf : ((cfgA (F := F)).win (3 : Fin 4)).flush t = true := (flush3 t).2 (eq_of_not_lt t h1)
  unfold BodyGoal
  rw [bigSep_W1]
  rewrite [ho]
  simp only [before0, before1, before2, after0, after1, after2, after3, hf]
  rewrite [show (dat1 W c).Φ t.succ = Phi W c t.succ from rfl, show (dat1 W c).Φ t.castSucc = Phi W c t.castSucc from rfl,
    show (dat1 W c).owesAt () t.succ = (dat1 W c).owesAt () t.castSucc from rfl]
  unfold Phi; simp only [Fin.val_castSucc, Fin.val_succ, st_succ W c t, stepA W c t _ h0 h1, outA W c t _ h0 h1]
  iintro ⟨⟨⟨%xm, %hm, HM⟩, ⟨%xa, %ha, HA⟩, ⟨%xs, HS⟩, HT0, HT1, HR⟩, Ho, ⟨%d0, H0⟩, ⟨%d1, H1⟩, ⟨%d2, H2⟩, ⟨%d3, H3⟩⟩
  iapply ((runA c (crd t) (ms0 t) (hs0 t) (ms1 t) (hs1 t) (ms2 t) (hs2 t) (ms3 t) (hs3 t) (tabC 0) (tabC 1) (blk W c 0 t) (blk W c 1 t) (blk W c 2 t) ((P0_iff t).2 h0) (mt (P1_iff t).1 h1) ((P3_iff t).2 (eq_of_not_lt t h1))).2.2.2 xm xa xs _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HM]; · iexact HM
  isplitl [HA]; · iexact HA
  isplitl [HS]; · iexact HS
  iintro ⟨H0, H1, H2, HT0, HT1, ⟨%e3, H3⟩, HM, HA, HS⟩
  isplitl [HM HA HS HT0 HT1 HR]
  · isplitl [HM]
    · iexists _; isplitr; swap
      · iexact HM
      · ipureintro; exact fun _ => rfl
    isplitl [HA]
    · iexists _; isplitr; swap
      · iexact HA
      · ipureintro; exact fun _ => rfl
    isplitl [HS]; · iexact HS
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  unfold owns; iexists _; isplitr; swap
  · iexact H3
  · ipureintro; exact View.read_writes_of_cover _ _ _ _ _ (coverA c _ _ _ _ _ _ _ _ _ _ _ _ _ _ _ _ _)

set_option maxHeartbeats 4000000 in
theorem bodyB (W : Dev nD → Valuation τ sig (Elt F)) (c : Dev nD) (t : Fin (cfgA (F := F)).N) (h0 : kb t = 0) (h1 : kb t < qb t) : BodyGoal W c t := by
  have ho : ((cfgA (F := F)).idle (3 : Fin 4) ((cfgA (F := F)).grid.coords t)) = true := (idle3 t).2 (ne_of_lt t h1)
  have hf : ((cfgA (F := F)).win (3 : Fin 4)).flush t = false := Bool.eq_false_iff.mpr (mt (flush3 t).1 (ne_of_lt t h1))
  unfold BodyGoal
  rw [bigSep_W1]
  rewrite [ho]
  simp only [before0, before1, before2, after0, after1, after2, after3, hf]
  rewrite [show (dat1 W c).Φ t.succ = Phi W c t.succ from rfl, show (dat1 W c).Φ t.castSucc = Phi W c t.castSucc from rfl,
    show (dat1 W c).owesAt () t.succ = (dat1 W c).owesAt () t.castSucc from rfl]
  unfold Phi; simp only [Fin.val_castSucc, Fin.val_succ, st_succ W c t, stepB W c t _ h0 h1]
  iintro ⟨⟨⟨%xm, %hm, HM⟩, ⟨%xa, %ha, HA⟩, ⟨%xs, HS⟩, HT0, HT1, HR⟩, Ho, ⟨%d0, H0⟩, ⟨%d1, H1⟩, ⟨%d2, H2⟩, ⟨%d3, H3⟩⟩
  iapply ((runB c (crd t) (ms0 t) (hs0 t) (ms1 t) (hs1 t) (ms2 t) (hs2 t) (ms3 t) (hs3 t) (tabC 0) (tabC 1) (blk W c 0 t) (blk W c 1 t) (blk W c 2 t) ((P0_iff t).2 h0) ((P1_iff t).2 h1) (mt (P3_iff t).1 (ne_of_lt t h1))).2.2 _ xm xa xs _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HM]; · iexact HM
  isplitl [HA]; · iexact HA
  isplitl [HS]; · iexact HS
  iintro ⟨H0, H1, H2, HT0, HT1, H3, HM, HA, HS⟩
  isplitl [HM HA HS HT0 HT1 HR]
  · isplitl [HM]
    · iexists _; isplitr; swap
      · iexact HM
      · ipureintro; exact fun _ => rfl
    isplitl [HA]
    · iexists _; isplitr; swap
      · iexact HA
      · ipureintro; exact fun _ => rfl
    isplitl [HS]; · iexact HS
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  iexists _; iexact H3

set_option maxHeartbeats 4000000 in
theorem bodyC (W : Dev nD → Valuation τ sig (Elt F)) (c : Dev nD) (t : Fin (cfgA (F := F)).N) (h0 : ¬kb t = 0) (h1 : ¬kb t < qb t) : BodyGoal W c t := by
  have ho : ((cfgA (F := F)).idle (3 : Fin 4) ((cfgA (F := F)).grid.coords t)) = false := Bool.eq_false_iff.mpr (mt (idle3 t).1 (not_not.mpr (eq_of_not_lt t h1)))
  have hf : ((cfgA (F := F)).win (3 : Fin 4)).flush t = true := (flush3 t).2 (eq_of_not_lt t h1)
  unfold BodyGoal
  rw [bigSep_W1]
  rewrite [ho]
  simp only [before0, before1, before2, after0, after1, after2, after3, hf]
  rewrite [show (dat1 W c).Φ t.succ = Phi W c t.succ from rfl, show (dat1 W c).Φ t.castSucc = Phi W c t.castSucc from rfl,
    show (dat1 W c).owesAt () t.succ = (dat1 W c).owesAt () t.castSucc from rfl]
  unfold Phi; simp only [Fin.val_castSucc, Fin.val_succ, st_succ W c t, stepC W c t _ h0 h1, outC W c t _ h0 h1]
  iintro ⟨⟨⟨%xm, %hm, HM⟩, ⟨%xa, %ha, HA⟩, ⟨%xs, HS⟩, HT0, HT1, HR⟩, Ho, ⟨%d0, H0⟩, ⟨%d1, H1⟩, ⟨%d2, H2⟩, ⟨%d3, H3⟩⟩
  obtain rfl := hm (t_ne_zero t h0)
  obtain rfl := ha (t_ne_zero t h0)
  iapply ((runC c (crd t) (ms0 t) (hs0 t) (ms1 t) (hs1 t) (ms2 t) (hs2 t) (ms3 t) (hs3 t) (tabC 0) (tabC 1) (blk W c 0 t) (blk W c 1 t) (blk W c 2 t) (st W c t.val).1 (st W c t.val).2 (mt (P0_iff t).1 h0) (mt (P1_iff t).1 h1) ((P3_iff t).2 (eq_of_not_lt t h1))).2.2.2 xs _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HM]; · iexact HM
  isplitl [HA]; · iexact HA
  isplitl [HS]; · iexact HS
  iintro ⟨H0, H1, H2, HT0, HT1, ⟨%e3, H3⟩, HM, HA, HS⟩
  isplitl [HM HA HS HT0 HT1 HR]
  · isplitl [HM]
    · iexists _; isplitr; swap
      · iexact HM
      · ipureintro; exact fun _ => rfl
    isplitl [HA]
    · iexists _; isplitr; swap
      · iexact HA
      · ipureintro; exact fun _ => rfl
    isplitl [HS]; · iexact HS
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  unfold owns; iexists _; isplitr; swap
  · iexact H3
  · ipureintro; exact View.read_writes_of_cover _ _ _ _ _ (coverC c _ _ _ _ _ _ _ _ _ _ _ _ _ _ _ _ _ _ _)

set_option maxHeartbeats 4000000 in
theorem bodyD (W : Dev nD → Valuation τ sig (Elt F)) (c : Dev nD) (t : Fin (cfgA (F := F)).N) (h0 : ¬kb t = 0) (h1 : kb t < qb t) : BodyGoal W c t := by
  have ho : ((cfgA (F := F)).idle (3 : Fin 4) ((cfgA (F := F)).grid.coords t)) = true := (idle3 t).2 (ne_of_lt t h1)
  have hf : ((cfgA (F := F)).win (3 : Fin 4)).flush t = false := Bool.eq_false_iff.mpr (mt (flush3 t).1 (ne_of_lt t h1))
  unfold BodyGoal
  rw [bigSep_W1]
  rewrite [ho]
  simp only [before0, before1, before2, after0, after1, after2, after3, hf]
  rewrite [show (dat1 W c).Φ t.succ = Phi W c t.succ from rfl, show (dat1 W c).Φ t.castSucc = Phi W c t.castSucc from rfl,
    show (dat1 W c).owesAt () t.succ = (dat1 W c).owesAt () t.castSucc from rfl]
  unfold Phi; simp only [Fin.val_castSucc, Fin.val_succ, st_succ W c t, stepD W c t _ h0 h1]
  iintro ⟨⟨⟨%xm, %hm, HM⟩, ⟨%xa, %ha, HA⟩, ⟨%xs, HS⟩, HT0, HT1, HR⟩, Ho, ⟨%d0, H0⟩, ⟨%d1, H1⟩, ⟨%d2, H2⟩, ⟨%d3, H3⟩⟩
  obtain rfl := hm (t_ne_zero t h0)
  obtain rfl := ha (t_ne_zero t h0)
  iapply ((runD c (crd t) (ms0 t) (hs0 t) (ms1 t) (hs1 t) (ms2 t) (hs2 t) (ms3 t) (hs3 t) (tabC 0) (tabC 1) (blk W c 0 t) (blk W c 1 t) (blk W c 2 t) (st W c t.val).1 (st W c t.val).2 (mt (P0_iff t).1 h0) ((P1_iff t).2 h1) (mt (P3_iff t).1 (ne_of_lt t h1))).2.2 _ xs _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HM]; · iexact HM
  isplitl [HA]; · iexact HA
  isplitl [HS]; · iexact HS
  iintro ⟨H0, H1, H2, HT0, HT1, H3, HM, HA, HS⟩
  isplitl [HM HA HS HT0 HT1 HR]
  · isplitl [HM]
    · iexists _; isplitr; swap
      · iexact HM
      · ipureintro; exact fun _ => rfl
    isplitl [HA]
    · iexists _; isplitr; swap
      · iexact HA
      · ipureintro; exact fun _ => rfl
    isplitl [HS]; · iexact HS
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  iexists _; iexact H3

/-- The obligation at every point. -/
theorem bodyGoal (c : Dev nD) (t : Fin (cfgA (F := F)).N) : BodyGoal W c t := by
  by_cases h0 : kb t = 0
  · by_cases h1 : kb t < qb t
    · exact bodyB W c t h0 h1
    · exact bodyA W c t h0 h1
  · by_cases h1 : kb t < qb t
    · exact bodyD W c t h0 h1
    · exact bodyC W c t h0 h1

set_option maxHeartbeats 1000000 in
theorem hbody1 (c : Dev nD) : BodyObligation (dat1 W c) (defs₀ (F := F)) Variants.none () Set.univ := fun t => by
  have := bodyGoal W c t
  unfold BodyGoal at this
  rw [bigSep_W1 (fun w : Fin 4 => iprop(∃ d, owns (c : Thread nD τ) (((cfgA (F := F)).win w).stage ((cfgA (F := F)).slots t w)) fullShare ((dat1 W c).before w t d)))]
  exact this

end Cert.KernelIdeal.Fox

end
-- ==== Proof.Ideal.PrepRun.lean ====
module

public import proofs.«01_k».proof.Proof.Ideal.AttnRun
public import Idealize.ShloMosaic.Lib.Pipeline.Kit
public import Idealize.ShloMosaic.Lib.Pipeline.TableIdle
public import Idealize.ShloMosaic.Lib.Pipeline.FrameBody
public import Idealize.ShloMosaic.Lib.Ring

@[expose] public section

set_option maxRecDepth 16384
set_option Elab.async false

/-! # The preparation body on one block of 1024 rows -/

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F] [Named F]

local notation "𝕄" => MT nD τ sig Unit (Elt F) ℕ (UR sig nD τ) ℕ

set_option backward.proofsInPublic true in
set_option maxHeartbeats 8000000 in
/-- The body on one block of rows: what it writes to the query, key and value blocks. -/
def prepRun (c : Dev nD) (i : grid0.Coords) (arg1 : Memref sig .tc .vmem S1024x3072 .bf16) (harg1 : arg1.IsWhole) (arg2 : Memref sig .tc .vmem S1024x128 .f32) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole)
    (x0 : S1024x3072.Idx → Elt F .bf16) (x1 : S1024x128.Idx → Elt F .f32) :
    Σ' (outQ : List (View.Piece (Elt F) S2048x1024 .bf16)) (outK : List (View.Piece (Elt F) S1024x2048 .bf16)), { outV : List (View.Piece (Elt F) S1152x1024 .bf16) //
      ∀ (K : PUnit → sProp 𝕄),
        iprop((arg1.view.loc (c : Thread nD τ) ↦[arg1.view.set]{fullShare} arg1.view.rep x0)
          ∗ (arg2.view.loc (c : Thread nD τ) ↦[arg2.view.set]{fullShare} arg2.view.rep x1)
          ∗ (∃ d, owns (c : Thread nD τ) arg3 fullShare d) ∗ (∃ d, owns (c : Thread nD τ) arg4 fullShare d) ∗ (∃ d, owns (c : Thread nD τ) arg5 fullShare d)
          ∗ (iprop((arg1.view.loc (c : Thread nD τ) ↦[arg1.view.set]{fullShare} arg1.view.rep x0)
          ∗ (arg2.view.loc (c : Thread nD τ) ↦[arg2.view.set]{fullShare} arg2.view.rep x1)
          ∗ (∃ f, arg3.view.loc (c : Thread nD τ) ↦[arg3.view.set]{fullShare} arg3.view.writes (Elt F) f outQ) ∗ (∃ f, arg4.view.loc (c : Thread nD τ) ↦[arg4.view.set]{fullShare} arg4.view.writes (Elt F) f outK) ∗ (∃ f, arg5.view.loc (c : Thread nD τ) ↦[arg5.view.set]{fullShare} arg5.view.writes (Elt F) f outV)) -∗ K ⟨⟩))
          ⊢ wp frame (wpE (defs₀ (F := F)) Variants.none c none) Set.univ (cc0_fox_prep i arg1 harg1 arg2 harg2 arg3 harg3 arg4 harg4 arg5 harg5) K } :=
  ⟨_, _, _, fun K => by
    unfold owns
    rw [cc0_fox_prep_eq_skeleton]; unfold cc0_fox_prep_skel
    iintro ⟨H0, H1, ⟨%d2, %f2, -, H2⟩, ⟨%d3, %f3, -, H3⟩, ⟨%d4, %f4, -, H4⟩, Hk⟩
    sl_exec!
    sl_step
    iapply Hk
    isplitl [H0]; · iexact H0
    isplitl [H1]; · iexact H1
    isplitl [H2]; · iexists _; iexact H2
    isplitl [H3]; · iexists _; iexact H3
    iexists _; iexact H4⟩

theorem coverPQ (c : Dev nD) (i : grid0.Coords) (arg1 : Memref sig .tc .vmem S1024x3072 .bf16) (harg1 : arg1.IsWhole) (arg2 : Memref sig .tc .vmem S1024x128 .f32) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (x0 : S1024x3072.Idx → Elt F .bf16) (x1 : S1024x128.Idx → Elt F .f32) (y : S2048x1024.Idx) :
    ∃ pc ∈ (prepRun c i arg1 harg1 arg2 harg2 arg3 harg3 arg4 harg4 arg5 harg5 x0 x1).1, y ∈ pc.1.set :=
  View.cover_of_tiledL (prepRun c i arg1 harg1 arg2 harg2 arg3 harg3 arg4 harg4 arg5 harg5 x0 x1).1 S128x1024.size (by sl_kernel_rfl) y

theorem coverPK (c : Dev nD) (i : grid0.Coords) (arg1 : Memref sig .tc .vmem S1024x3072 .bf16) (harg1 : arg1.IsWhole) (arg2 : Memref sig .tc .vmem S1024x128 .f32) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (x0 : S1024x3072.Idx → Elt F .bf16) (x1 : S1024x128.Idx → Elt F .f32) (y : S1024x2048.Idx) :
    ∃ pc ∈ (prepRun c i arg1 harg1 arg2 harg2 arg3 harg3 arg4 harg4 arg5 harg5 x0 x1).2.1, y ∈ pc.1.set :=
  View.cover_of_tiledL (prepRun c i arg1 harg1 arg2 harg2 arg3 harg3 arg4 harg4 arg5 harg5 x0 x1).2.1 S1024x128.size (by sl_kernel_rfl) y

theorem coverPV (c : Dev nD) (i : grid0.Coords) (arg1 : Memref sig .tc .vmem S1024x3072 .bf16) (harg1 : arg1.IsWhole) (arg2 : Memref sig .tc .vmem S1024x128 .f32) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (x0 : S1024x3072.Idx → Elt F .bf16) (x1 : S1024x128.Idx → Elt F .f32) (y : S1152x1024.Idx) :
    ∃ pc ∈ (prepRun c i arg1 harg1 arg2 harg2 arg3 harg3 arg4 harg4 arg5 harg5 x0 x1).2.2.1, y ∈ pc.1.set :=
  by
    exact View.cover_of_tiledBy (prepRun c i arg1 harg1 arg2 harg2 arg3 harg3 arg4 harg4 arg5 harg5 x0 x1).2.2.1 S16x1024.size (by sl_kernel_rfl) y

end Cert.KernelIdeal.Fox

end
-- ==== Proof.Ideal.PrepData.lean ====
module

public import proofs.«01_k».proof.Proof.Ideal.PrepRun
public import proofs.«01_k».proof.Proof.Gen.KernelIdeal.Points
public import Idealize.ShloMosaic.Lib.Pipeline.Kit
public import Idealize.ShloMosaic.Lib.Pipeline.TableIdle
public import Idealize.ShloMosaic.Lib.Pipeline.FrameBody
public import Idealize.ShloMosaic.Lib.Ring

@[expose] public section

set_option maxRecDepth 16384
set_option Elab.async false

/-! # The preparation pipeline

Its proof data and the body's obligation at every point. `W` is what every
buffer holds when the call starts. -/

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F] [Named F]

local notation "𝕄" => MT nD τ sig Unit (Elt F) ℕ (UR sig nD τ) ℕ

/-! ## The proof data -/

abbrev mp0 (t : Fin (cfg0).N) : Memref sig .tc .vmem S1024x3072 .bf16 := win0_0.stage (cfg0.slots t 0)
abbrev hp0 (t : Fin (cfg0).N) : (mp0 t).IsWhole := hstage0_0 ((cfg0.slots t 0).cast nbuf0_0)
abbrev mp1 (t : Fin (cfg0).N) : Memref sig .tc .vmem S1024x128 .f32 := win0_1.stage (cfg0.slots t 1)
abbrev hp1 (t : Fin (cfg0).N) : (mp1 t).IsWhole := hstage0_1 ((cfg0.slots t 1).cast nbuf0_1)
abbrev mp2 (t : Fin (cfg0).N) : Memref sig .tc .vmem S2048x1024 .bf16 := win0_2.stage (cfg0.slots t 2)
abbrev hp2 (t : Fin (cfg0).N) : (mp2 t).IsWhole := hstage0_2 ((cfg0.slots t 2).cast nbuf0_2)
abbrev mp3 (t : Fin (cfg0).N) : Memref sig .tc .vmem S1024x2048 .bf16 := win0_3.stage (cfg0.slots t 3)
abbrev hp3 (t : Fin (cfg0).N) : (mp3 t).IsWhole := hstage0_3 ((cfg0.slots t 3).cast nbuf0_3)
abbrev mp4 (t : Fin (cfg0).N) : Memref sig .tc .vmem S1152x1024 .bf16 := win0_4.stage (cfg0.slots t 4)
abbrev hp4 (t : Fin (cfg0).N) : (mp4 t).IsWhole := hstage0_4 ((cfg0.slots t 4).cast nbuf0_4)

variable (W : Dev nD → Valuation τ sig (Elt F))

/-- Window `w`'s block at point `t`. -/
def pblk (c : Dev nD) (w : Fin 5) (t : Fin cfg0.N) : ((cfg0.win w).xblock (grid0.coords t)).Idx → Elt F (cfg0.win w).elt :=
  ((cfg0.win w).blk t).view.read (Elt F) (W c (Proc.devRef .tc (Pipeline.arrRef spec0 w)))

/-- The buffers through which the three outputs' contents are read. -/
abbrev VQ : View sig .tc .vmem S2048x1024 .bf16 := (Memref.whole cc0_stg2_0 : Memref sig .tc .vmem S2048x1024 .bf16).view
abbrev VK : View sig .tc .vmem S1024x2048 .bf16 := (Memref.whole cc0_stg3_0 : Memref sig .tc .vmem S1024x2048 .bf16).view
abbrev VV : View sig .tc .vmem S1152x1024 .bf16 := (Memref.whole cc0_stg4_0 : Memref sig .tc .vmem S1152x1024 .bf16).view

/-- What the body leaves in the query, key and value blocks. -/
def qOut (c : Dev nD) (t : Fin cfg0.N) : S2048x1024.Idx → Elt F .bf16 := VQ.read (Elt F) (VQ.writes (Elt F) VQ.junk (prepRun c (grid0.coords t) (mp0 t) (hp0 t) (mp1 t) (hp1 t) (mp2 t) (hp2 t) (mp3 t) (hp3 t) (mp4 t) (hp4 t) (pblk W c 0 t) (pblk W c 1 t)).1)
def kOut (c : Dev nD) (t : Fin cfg0.N) : S1024x2048.Idx → Elt F .bf16 := VK.read (Elt F) (VK.writes (Elt F) VK.junk (prepRun c (grid0.coords t) (mp0 t) (hp0 t) (mp1 t) (hp1 t) (mp2 t) (hp2 t) (mp3 t) (hp3 t) (mp4 t) (hp4 t) (pblk W c 0 t) (pblk W c 1 t)).2.1)
def vOut (c : Dev nD) (t : Fin cfg0.N) : S1152x1024.Idx → Elt F .bf16 := VV.read (Elt F) (VV.writes (Elt F) VV.junk (prepRun c (grid0.coords t) (mp0 t) (hp0 t) (mp1 t) (hp1 t) (mp2 t) (hp2 t) (mp3 t) (hp3 t) (mp4 t) (hp4 t) (pblk W c 0 t) (pblk W c 1 t)).2.2.1)

/-- The preparation pipeline's proof data on core `c`. -/
def dat0 (c : Dev nD) : Dat τ (Elt F) Unit ℕ (UR sig nD τ) ℕ cfg0 c where
  A w := W c (Proc.devRef .tc (Pipeline.arrRef spec0 w))
  after w t := match w with
    | ⟨0, _⟩ => pblk W c (0 : Fin 5) t
    | ⟨1, _⟩ => pblk W c (1 : Fin 5) t
    | ⟨2, _⟩ => qOut W c t
    | ⟨3, _⟩ => kOut W c t
    | ⟨4, _⟩ => vOut W c t
  Φ _ := Pipeline.scopedRest spec0 c
  q _ := fullShare
  owed _ := 0

theorem pafter0 (c : Dev nD) (t : Fin cfg0.N) : (dat0 W c).after (0 : Fin 5) t = pblk W c (0 : Fin 5) t := rfl
theorem pafter1 (c : Dev nD) (t : Fin cfg0.N) : (dat0 W c).after (1 : Fin 5) t = pblk W c (1 : Fin 5) t := rfl
theorem pafter2 (c : Dev nD) (t : Fin cfg0.N) : (dat0 W c).after (2 : Fin 5) t = qOut W c t := by dsimp only [dat0]
theorem pafter3 (c : Dev nD) (t : Fin cfg0.N) : (dat0 W c).after (3 : Fin 5) t = kOut W c t := by dsimp only [dat0]
theorem pafter4 (c : Dev nD) (t : Fin cfg0.N) : (dat0 W c).after (4 : Fin 5) t = vOut W c t := by dsimp only [dat0]

theorem pbefore0 (c : Dev nD) (t : Fin cfg0.N) (d) : (dat0 W c).before (0 : Fin 5) t d = pblk W c (0 : Fin 5) t :=
  ((dat0 W c).before_in_eq_fetched (0 : Fin 5) rfl (fun _ => rfl) (fun _ _ _ => rfl) (fun t => by rw [pafter0]; unfold Dat.blockOf pblk; rfl) t d).trans
    (by unfold Dat.fetched Dat.blockOf pblk; rfl)
theorem pbefore1 (c : Dev nD) (t : Fin cfg0.N) (d) : (dat0 W c).before (1 : Fin 5) t d = pblk W c (1 : Fin 5) t :=
  ((dat0 W c).before_in_eq_fetched (1 : Fin 5) rfl (fun _ => rfl) (fun _ _ _ => rfl) (fun t => by rw [pafter1]; unfold Dat.blockOf pblk; rfl) t d).trans
    (by unfold Dat.fetched Dat.blockOf pblk; rfl)

set_option maxHeartbeats 4000000 in
/-- The body's obligation at every point. -/
theorem hbody0 (c : Dev nD) : BodyObligation (dat0 W c) (defs₀ (F := F)) Variants.none () Set.univ := fun t => by
  rw [bigSep_W0 (fun w : Fin 5 => iprop(∃ d, owns (c : Thread nD τ) ((cfg0.win w).stage (cfg0.slots t w)) fullShare ((dat0 W c).before w t d))), bigSep_W0]
  simp only [pbefore0, pbefore1, pafter0, pafter1, pafter2, pafter3, pafter4]
  rewrite [show (dat0 W c).Φ t.succ = (dat0 W c).Φ t.castSucc from rfl, show (dat0 W c).owesAt () t.succ = (dat0 W c).owesAt () t.castSucc from rfl]
  iintro ⟨HR, Ho, ⟨%d0, H0⟩, ⟨%d1, H1⟩, H2, H3, H4⟩
  iapply ((prepRun c (grid0.coords t) (mp0 t) (hp0 t) (mp1 t) (hp1 t) (mp2 t) (hp2 t) (mp3 t) (hp3 t) (mp4 t) (hp4 t) (pblk W c 0 t) (pblk W c 1 t)).2.2.2 _)
  isplitl [H0]; · iapply rep_of_owns; iexact H0
  isplitl [H1]; · iapply rep_of_owns; iexact H1
  isplitl [H2]; · icases H2 with ⟨%d2, H2⟩; iexists _; iexact H2
  isplitl [H3]; · icases H3 with ⟨%d3, H3⟩; iexists _; iexact H3
  isplitl [H4]; · icases H4 with ⟨%d4, H4⟩; iexists _; iexact H4
  iintro ⟨H0, H1, ⟨%e2, H2⟩, ⟨%e3, H3⟩, ⟨%e4, H4⟩⟩
  isplitl [HR]; · iexact HR
  isplitl [Ho]; · iexact Ho
  isplitl [H0]; · iapply owns_of_rep; iexact H0
  isplitl [H1]; · iapply owns_of_rep; iexact H1
  isplitl [H2]
  · unfold owns; iexists _; isplitr; swap
    · iexact H2
    · ipureintro; exact View.read_writes_of_cover _ _ _ _ _ (coverPQ c _ _ _ _ _ _ _ _ _ _ _ _ _)
  isplitl [H3]
  · unfold owns; iexists _; isplitr; swap
    · iexact H3
    · ipureintro; exact View.read_writes_of_cover _ _ _ _ _ (coverPK c _ _ _ _ _ _ _ _ _ _ _ _ _)
  unfold owns; iexists _; isplitr; swap
  · iexact H4
  · ipureintro; exact View.read_writes_of_cover _ _ _ _ _ (coverPV c _ _ _ _ _ _ _ _ _ _ _ _ _)

end Cert.KernelIdeal.Fox

end
-- ==== Proof.Ideal.Run.lean ====
module

public import proofs.«01_k».proof.Proof.Ideal.AttnData
public import proofs.«01_k».proof.Proof.Ideal.PrepData
public import proofs.«01_k».proof.Proof.Gen.KernelIdeal.Regions
public import Idealize.ShloMosaic.Lib.Pipeline.RegionArraysT
public import Idealize.ShloMosaic.Lib.Pipeline.Regions

@[expose] public section

set_option maxRecDepth 16384
set_option Elab.async false

/-! # The whole program's run

Both pipelines as segments between the host operations, and what every final state holds: the arguments as
launched and the result as the attention pipeline leaves it. -/

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the two calls and at the end -/

/-- After the preparation. -/
def V3' (c : Dev nD) : Valuation τ sig (Elt F) :=
  Function.update (Function.update (Function.update (V2 m c)
    main_v3_0 ((dat0 (V2 m) c).arrAt (2 : Fin 5) cfg0.N)) main_v3_1 ((dat0 (V2 m) c).arrAt (3 : Fin 5) cfg0.N)) main_v3_2 ((dat0 (V2 m) c).arrAt (4 : Fin 5) cfg0.N)
/-- After the attention. -/
def V4' (c : Dev nD) : Valuation τ sig (Elt F) :=
  Function.update (V3' m c) main_v4 ((dat1 (V3' m) c).arrAt (3 : Fin 4) (cfgA (F := F)).N)

theorem V3'_of (c : Dev nD) (b : DevRef τ sig) (h0 : b ≠ Proc.devRef .tc main_v3_0) (h1 : b ≠ Proc.devRef .tc main_v3_1) (h2 : b ≠ Proc.devRef .tc main_v3_2) :
    V3' m c b = V2 m c b := by
  unfold V3'; rw [Function.update_of_ne h2, Function.update_of_ne h1, Function.update_of_ne h0]
theorem V3'_q (c : Dev nD) : V3' m c (Proc.devRef .tc main_v3_0) = (dat0 (V2 m) c).arrAt (2 : Fin 5) cfg0.N := by
  unfold V3'
  rw [Function.update_of_ne (StableHlo.devRef_ne_of_ne (by decide : (main_v3_0 : Ref sig .tc) ≠ main_v3_2)),
    Function.update_of_ne (StableHlo.devRef_ne_of_ne (by decide : (main_v3_0 : Ref sig .tc) ≠ main_v3_1)), Function.update_self]
theorem V3'_k (c : Dev nD) : V3' m c (Proc.devRef .tc main_v3_1) = (dat0 (V2 m) c).arrAt (3 : Fin 5) cfg0.N := by
  unfold V3'
  rw [Function.update_of_ne (StableHlo.devRef_ne_of_ne (by decide : (main_v3_1 : Ref sig .tc) ≠ main_v3_2)), Function.update_self]
theorem V3'_v (c : Dev nD) : V3' m c (Proc.devRef .tc main_v3_2) = (dat0 (V2 m) c).arrAt (4 : Fin 5) cfg0.N := by
  unfold V3'
  rw [Function.update_self]
theorem V4'_of (c : Dev nD) (b : DevRef τ sig) (h : b ≠ Proc.devRef .tc main_v4) : V4' m c b = V3' m c b := by
  unfold V4'; rw [Function.update_of_ne h]
theorem V4'_out (c : Dev nD) : V4' m c (Proc.devRef .tc main_v4) = (dat1 (V3' m) c).arrAt (3 : Fin 4) (cfgA (F := F)).N := by
  unfold V4'; rw [Function.update_self]

/-- The two tables hold the literals from the first host operations on. -/
theorem V2_tab0 (c : Dev nD) : V2 m c (Proc.devRef .tc main_c) = tabC (F := F) 0 :=
  (V2_of m c main_c (by decide)).trans <|
    (StableHlo.after_of_writes_sub (W := [main_c_0, main_v0, main_v1, main_c_1]) (hostOps0 (F := F)).tail _ (StableHlo.forall_writes_sub_of_map rfl) (by decide)).trans <|
    StableHlo.nullary_result main_c _ _ _
theorem V2_tab1 (c : Dev nD) : V2 m c (Proc.devRef .tc main_c_0) = tabC (F := F) 1 :=
  (V2_of m c main_c_0 (by decide)).trans <|
    (StableHlo.after_of_writes_sub (W := [main_v0, main_v1, main_c_1]) (hostOps0 (F := F)).tail.tail (StableHlo.after ((hostOps0 (F := F)).take 2) (V0 m c))
      (StableHlo.forall_writes_sub_of_map rfl) (by decide)).trans <|
    StableHlo.nullary_result main_c_0 _ _ (StableHlo.after ((hostOps0 (F := F)).take 1) (V0 m c))

/-- No item writes an argument. -/
theorem V4'_arg (c : Dev nD) (r : Ref sig .tc) (h4 : r ≠ main_v4) (h0 : r ≠ main_v3_0) (h1 : r ≠ main_v3_1) (h2 : r ≠ main_v3_2)
    (h : r ∉ hostOps0_1_W) (h' : r ∉ hostOps0_W) : V4' m c (Proc.devRef .tc r) = m ((c : Thread nD τ).loc r) := by
  rw [V4'_of m c _ (StableHlo.devRef_ne_of_ne h4), V3'_of m c _ (StableHlo.devRef_ne_of_ne h0) (StableHlo.devRef_ne_of_ne h1) (StableHlo.devRef_ne_of_ne h2),
    V2_of m c r h, V1_of m c r h']

/-! ## The regions' records -/

/-- Both pipelines' proof data. -/
def pdats : (p : Fin 2) → (c : Dev nD) → Dat τ (Elt F) Unit ℕ (UR sig nD τ) ℕ (Pipeline.pin (pcfgs (F := F)) adms p) c
  | ⟨0, _⟩ => fun c => dat0 (V2 m) c
  | ⟨1, _⟩ => fun c => dat1 (V3' m) c

/-- Every counter of a TensorCore is waited on at the one index; no core owes another anything. -/
abbrev lvI (g : GSem nD τ sig) : Finset Unit := if g.1.2 = .tc then {()} else ∅
abbrev lv (_ : GSem nD τ sig) (_ : Unit) : ℕ := 0
abbrev noDue (_ : Dev nD) : CellTallies nD τ sig Unit := 0

theorem levelCut (p : Fin 2) : Pipeline.LevelCut (pcfgs (F := F)) adms () lvI lv p noDue (fun _ => 0) where
  hι c w s := by simp [lvI]
  hιb _ _ _ := le_rfl
  hD c g i h := absurd h (lt_irrefl 0)

/-- What rides beside the held buffers: the core owes nothing. -/
abbrev owesNone (c : Dev nD) : sProp 𝕄 := iprop(∃ Wd, owes (c : Thread nD τ) (0 : CellTallies nD τ sig Unit) Wd)
/-- No resource. -/
abbrev nothing (_ : Dev nD) : sProp 𝕄 := iprop(emp)

/-- A pipeline's arrays are unscoped buffers. -/
theorem arrs0_sub : Pipeline.arrRefs (τ := τ) spec0 ⊆ Pipeline.ucRefs τ sig := Pipeline.arrRefs_sub_ucRefs spec0 (by decide)
theorem arrs1_sub : Pipeline.arrRefs (τ := τ) spec1 ⊆ Pipeline.ucRefs τ sig := Pipeline.arrRefs_sub_ucRefs spec1 (by decide)

theorem dat0_share (W : Dev nD → Valuation τ sig (Elt F)) (c : Dev nD) (w : Fin 5) : (dat0 W c).share w = fullShare := by unfold Dat.share; split <;> rfl
theorem dat1_share (W : Dev nD → Valuation τ sig (Elt F)) (c : Dev nD) (w : Fin 4) : (dat1 W c).share w = fullShare := by unfold Dat.share; split <;> rfl

theorem dat0_A (W : Dev nD → Valuation τ sig (Elt F)) (c : Dev nD) (w : Fin 5) : (dat0 W c).arrAt w 0 = W c (Proc.devRef .tc (Pipeline.arrRef spec0 w)) := rfl
theorem dat1_A (W : Dev nD → Valuation τ sig (Elt F)) (c : Dev nD) (w : Fin 4) : (dat1 W c).arrAt w 0 = W c (Proc.devRef .tc (Pipeline.arrRef spec1 w)) := rfl

/-- The arrays at the preparation's end: its inputs as they were. -/
theorem arrs0_end (c : Dev nD) : ∀ w : Fin 5, (dat0 (V2 m) c).arrAt w cfg0.N = V3' m c (Proc.devRef .tc (Pipeline.arrRef spec0 w))
  | ⟨0, _⟩ => ((dat0 (V2 m) c).arrAt_in (0 : Fin 5) rfl _).trans ((dat0_A (V2 m) c 0).trans
      (V3'_of m c _ (StableHlo.devRef_ne_of_ne (by decide)) (StableHlo.devRef_ne_of_ne (by decide)) (StableHlo.devRef_ne_of_ne (by decide))).symm)
  | ⟨1, _⟩ => ((dat0 (V2 m) c).arrAt_in (1 : Fin 5) rfl _).trans ((dat0_A (V2 m) c 1).trans
      (V3'_of m c _ (StableHlo.devRef_ne_of_ne (by decide)) (StableHlo.devRef_ne_of_ne (by decide)) (StableHlo.devRef_ne_of_ne (by decide))).symm)
  | ⟨2, _⟩ => (V3'_q m c).symm
  | ⟨3, _⟩ => (V3'_k m c).symm
  | ⟨4, _⟩ => (V3'_v m c).symm

/-- The arrays at the attention's end: its inputs as they were. -/
theorem arrs1_end (c : Dev nD) : ∀ w : Fin 4, (dat1 (V3' m) c).arrAt w (cfgA (F := F)).N = V4' m c (Proc.devRef .tc (Pipeline.arrRef spec1 w))
  | ⟨0, _⟩ => ((dat1 (V3' m) c).arrAt_in (0 : Fin 4) rfl _).trans ((dat1_A (V3' m) c 0).trans (V4'_of m c _ (StableHlo.devRef_ne_of_ne (by decide))).symm)
  | ⟨1, _⟩ => ((dat1 (V3' m) c).arrAt_in (1 : Fin 4) rfl _).trans ((dat1_A (V3' m) c 1).trans (V4'_of m c _ (StableHlo.devRef_ne_of_ne (by decide))).symm)
  | ⟨2, _⟩ => ((dat1 (V3' m) c).arrAt_in (2 : Fin 4) rfl _).trans ((dat1_A (V3' m) c 2).trans (V4'_of m c _ (StableHlo.devRef_ne_of_ne (by decide))).symm)
  | ⟨3, _⟩ => (V4'_out m c).symm

/-- The tables as the attention's call finds them. -/
theorem tabs_at (c : Dev nD) : ∀ k : Fin 2, (tabs (F := F)).1 k = V3' m c (Proc.devRef .tc (pre1.ref k))
  | ⟨0, _⟩ => ((V3'_of m c _ (StableHlo.devRef_ne_of_ne (by decide)) (StableHlo.devRef_ne_of_ne (by decide)) (StableHlo.devRef_ne_of_ne (by decide))).trans (V2_tab0 m c)).symm
  | ⟨1, _⟩ => ((V3'_of m c _ (StableHlo.devRef_ne_of_ne (by decide)) (StableHlo.devRef_ne_of_ne (by decide)) (StableHlo.devRef_ne_of_ne (by decide))).trans (V2_tab1 m c)).symm
theorem tabs_end (c : Dev nD) : ∀ k : Fin 2, (tabs (F := F)).1 k = V4' m c (Proc.devRef .tc (pre1.ref k))
  | ⟨0, _⟩ => (tabs_at m c 0).trans (V4'_of m c _ (StableHlo.devRef_ne_of_ne (by decide))).symm
  | ⟨1, _⟩ => (tabs_at m c 1).trans (V4'_of m c _ (StableHlo.devRef_ne_of_ne (by decide))).symm

set_option backward.isDefEq.respectTransparency.types false in
/-- The preparation's record. -/
def R0 : RegionSeg (pcfgs (F := F)) adms (pdats m) () defs₀ Variants.none lvI lv 0 :=
  Pipeline.RegionSeg.ofHeld (pcfgs (F := F)) adms (pdats m) () defs₀ Variants.none lvI lv 0 noDue nothing nothing
    launch0 rfl (fun c => (hbody0 (V2 m) c).loose) (fun _ _ => rfl) (fun _ => rfl)
    (fun c => dat0_share (V2 m) c)
    (fun c => show iprop(Pipeline.scopedRest spec0 c ∗ nothing c) ⊢ (Pipeline.scopedRest spec0 c : sProp 𝕄) by iintro ⟨H, -⟩; iexact H)
    (fun c => show (Pipeline.scopedRest spec0 c : sProp 𝕄) ⊢ iprop(Pipeline.scopedRest spec0 c ∗ nothing c) by
      iintro H; isplitl [H]; · iexact H
      iempintro) (fun _ => 0) (levelCut 0)
    (fun c => StableHlo.held (c : Thread nD τ) (Pipeline.ucRefs τ sig \ Pipeline.arrRefs (τ := τ) spec0) (V2 m c))
    (V2 m) (V3' m) (fun c w => dat0_A (V2 m) c w) (fun c w => arrs0_end m c w)

theorem pre0_of (c : Dev nD) : iprop(StableHlo.held (c : Thread nD τ) (Pipeline.ucRefs τ sig) (V2 m c) ∗ owesNone c) ⊢ (R0 m).pre c := by
  show _ ⊢ iprop(StableHlo.held (c : Thread nD τ) (Pipeline.arrRefs (τ := τ) spec0) (V2 m c) ∗ nothing c
    ∗ StableHlo.held (c : Thread nD τ) (Pipeline.ucRefs τ sig \ Pipeline.arrRefs (τ := τ) spec0) (V2 m c) ∗ owesNone c)
  rw [StableHlo.held_sub_split (c : Thread nD τ) arrs0_sub (V2 m c)]
  iintro ⟨⟨Ha, Hr⟩, HO⟩
  isplitl [Ha]; · iexact Ha
  isplitr; · iempintro
  isplitl [Hr] <;> iassumption

theorem rest0_eq (c : Dev nD) : ∀ b ∈ Pipeline.ucRefs τ sig \ Pipeline.arrRefs (τ := τ) spec0, V3' m c b = V2 m c b := fun b hb => by
  have hn : b ∉ Pipeline.arrRefs (τ := τ) spec0 := (Finset.mem_sdiff.mp hb).2
  exact V3'_of m c b (by rintro rfl; exact hn (by decide)) (by rintro rfl; exact hn (by decide)) (by rintro rfl; exact hn (by decide))

theorem post0_of (c : Dev nD) : (R0 m).post c ⊢ iprop(StableHlo.held (c : Thread nD τ) (Pipeline.ucRefs τ sig) (V3' m c) ∗ owesNone c) := by
  show iprop(StableHlo.held (c : Thread nD τ) (Pipeline.arrRefs (τ := τ) spec0) (V3' m c) ∗ nothing c
    ∗ StableHlo.held (c : Thread nD τ) (Pipeline.ucRefs τ sig \ Pipeline.arrRefs (τ := τ) spec0) (V2 m c) ∗ owesNone c) ⊢ _
  rw [StableHlo.held_sub_split (c : Thread nD τ) arrs0_sub (V3' m c),
    StableHlo.held_congr (c : Thread nD τ) (S := Pipeline.ucRefs τ sig \ Pipeline.arrRefs (τ := τ) spec0) (rest0_eq m c)]
  iintro ⟨Ha, -, Hr, HO⟩
  isplitl [Ha Hr]; · isplitl [Ha] <;> iassumption
  iexact HO

/-- The tables as a call is handed them, one by one. -/
theorem tables_eq (c : Dev nD) :
    (Pipeline.tablesAt (Ix := Unit) (Name := ℕ) (U := UR sig nD τ) (Lvl := ℕ) (pcfgs (F := F)) adms 1 c : sProp 𝕄)
      = iprop((qTab.view.loc (c : Thread nD τ) ↦{fullShare} tabC (F := F) 0) ∗ (kTab.view.loc (c : Thread nD τ) ↦{fullShare} tabC (F := F) 1)) := by
  unfold Pipeline.tablesAt Pipeline.prefHeld
  show (bigSep (Finset.univ : Finset (Fin 2)) _ : sProp 𝕄) = _
  rw [show (Finset.univ : Finset (Fin 2)) = insert (0 : Fin 2) {(1 : Fin 2)} from by decide, bigSep_insert (by decide), bigSep_singleton]
  rfl

theorem phi_intro (W : Dev nD → Valuation τ sig (Elt F)) (c : Dev nD) :
    iprop(iprop(Pipeline.scopedRest spec1 c ∗ nothing c) ∗ Pipeline.tablesAt (pcfgs (F := F)) adms 1 c) ⊢ Phi W c 0 := by
  rw [tables_eq, scopedRest1_eq]
  unfold Phi restBufs
  iintro ⟨⟨⟨R0, R1, R2, R3, R4, R5, R6, R7, R8, R9, ⟨%a0, HM⟩, ⟨%a1, HA⟩, HS⟩, -⟩, HT0, HT1⟩
  isplitl [HM]
  · iexists a0; isplitr; swap
    · iexact HM
    · ipureintro; exact fun h => absurd rfl h
  isplitl [HA]
  · iexists a1; isplitr; swap
    · iexact HA
    · ipureintro; exact fun h => absurd rfl h
  isplitl [HS]; · iexact HS
  isplitl [HT0]; · iexact HT0
  isplitl [HT1]; · iexact HT1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

theorem phi_elim (W : Dev nD → Valuation τ sig (Elt F)) (c : Dev nD) (t) :
    Phi W c t ⊢ iprop(iprop(Pipeline.scopedRest spec1 c ∗ nothing c) ∗ Pipeline.tablesAt (pcfgs (F := F)) adms 1 c) := by
  rw [tables_eq, scopedRest1_eq]
  unfold Phi restBufs
  iintro ⟨⟨%a0, -, HM⟩, ⟨%a1, -, HA⟩, HS, HT0, HT1, R0, R1, R2, R3, R4, R5, R6, R7, R8, R9⟩
  isplitl [HM HA HS R0 R1 R2 R3 R4 R5 R6 R7 R8 R9]
  · isplitl [HM HA HS R0 R1 R2 R3 R4 R5 R6 R7 R8 R9]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [HM]; · iexists _; iexact HM
      isplitl [HA]; · iexists _; iexact HA
      iexact HS
    · iempintro
  isplitl [HT0] <;> iassumption

/-- The buffers the attention's call leaves alone. -/
abbrev rest1 : Finset (DevRef τ sig) := (Pipeline.ucRefs τ sig \ Pipeline.arrRefs (τ := τ) spec1) \ Pipeline.tblRefs (τ := τ) pre1

set_option backward.isDefEq.respectTransparency.types false in
/-- The attention's record. -/
def R1 : RegionSeg (pcfgs (F := F)) adms (pdats m) () defs₀ Variants.none lvI lv 1 :=
  Pipeline.RegionSeg.ofHeldT (pcfgs (F := F)) adms (pdats m) () defs₀ Variants.none lvI lv 1 noDue nothing nothing
    launch1 (fun c => (hbody1 (V3' m) c).loose) (fun _ _ => rfl) (fun _ => rfl)
    (fun c => dat1_share (V3' m) c) (fun c => phi_intro (V3' m) c) (fun c => phi_elim (V3' m) c _) (fun _ => 0) (levelCut 1)
    (fun c => StableHlo.held (c : Thread nD τ) rest1 (V3' m c))
    (V3' m) (V4' m) (fun c w => dat1_A (V3' m) c w) (fun c k => tabs_at m c k) (fun c w => arrs1_end m c w) (fun c k => tabs_end m c k)

theorem tbls_sub : Pipeline.tblRefs (τ := τ) pre1 ⊆ Pipeline.ucRefs τ sig \ Pipeline.arrRefs (τ := τ) spec1 := by decide

theorem pre1_of (c : Dev nD) : iprop(StableHlo.held (c : Thread nD τ) (Pipeline.ucRefs τ sig) (V3' m c) ∗ owesNone c) ⊢ (R1 m).pre c := by
  show _ ⊢ iprop(StableHlo.held (c : Thread nD τ) (Pipeline.arrRefs (τ := τ) spec1) (V3' m c) ∗ StableHlo.held (c : Thread nD τ) (Pipeline.tblRefs (τ := τ) pre1) (V3' m c)
    ∗ nothing c ∗ StableHlo.held (c : Thread nD τ) rest1 (V3' m c) ∗ owesNone c)
  rw [StableHlo.held_sub_split (c : Thread nD τ) arrs1_sub (V3' m c), StableHlo.held_sub_split (c : Thread nD τ) tbls_sub (V3' m c)]
  iintro ⟨⟨Ha, Ht, Hr⟩, HO⟩
  isplitl [Ha]; · iexact Ha
  isplitl [Ht]; · iexact Ht
  isplitr; · iempintro
  isplitl [Hr] <;> iassumption

theorem rest1_eq (c : Dev nD) : ∀ b ∈ rest1, V4' m c b = V3' m c b := fun b hb => by
  have hn : b ∉ Pipeline.arrRefs (τ := τ) spec1 := (Finset.mem_sdiff.mp (Finset.mem_sdiff.mp hb).1).2
  exact V4'_of m c b (by rintro rfl; exact hn (by decide))

theorem post1_of (c : Dev nD) : (R1 m).post c ⊢ iprop(StableHlo.held (c : Thread nD τ) (Pipeline.ucRefs τ sig) (V4' m c) ∗ owesNone c) := by
  show iprop(StableHlo.held (c : Thread nD τ) (Pipeline.arrRefs (τ := τ) spec1) (V4' m c) ∗ StableHlo.held (c : Thread nD τ) (Pipeline.tblRefs (τ := τ) pre1) (V4' m c)
    ∗ nothing c ∗ StableHlo.held (c : Thread nD τ) rest1 (V3' m c) ∗ owesNone c) ⊢ _
  rw [StableHlo.held_sub_split (c : Thread nD τ) arrs1_sub (V4' m c), StableHlo.held_sub_split (c : Thread nD τ) tbls_sub (V4' m c),
    StableHlo.held_congr (c : Thread nD τ) (S := rest1) (rest1_eq m c)]
  iintro ⟨Ha, Ht, -, Hr, HO⟩
  isplitl [Ha Ht Hr]
  · isplitl [Ha]; · iexact Ha
    isplitl [Ht] <;> iassumption
  iexact HO

/-! ## The run -/

/-- The pipelines' launch element. -/
def u₀ : UR sig nD τ :=
  initOf (Pipeline.cells (Pipeline.pin (pcfgs (F := F)) adms) (cellOf_inj adms)) (Pipeline.launchToks (Pipeline.pin (pcfgs (F := F)) adms) (cellOf_inj adms))

/-- What the host operations carry along. -/
abbrev carry (_ : Fin 3) (c : Dev nD) : sProp 𝕄 := owesNone c

set_option backward.isDefEq.respectTransparency.types false in
set_option maxHeartbeats 1000000 in
/-- Every weakly fair execution from memory `m` with zero counters ends, with the arguments as launched, the result
    as the attention pipeline leaves it, and every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v4) = (dat1 (V3' m) c).arrAt (3 : Fin 4) (cfgA (F := F)).N)
      ∧ r.2.sem = fun _ => 0) := by
  refine Pipeline.θ_run_regions_kit_dev_sems (pcfgs (F := F)) adms (pdats m) () (cellOf_inj adms) Idealize.ShloMosaic.emb₁ defs₀ Variants.none lvI lv m ρ main
    (segs m Variants.none lvI lv carry () adms (pdats m) (R0 m) (R1 m))
    (fun c Q => by
      rewrite [main_chain c, Seg.run_eq_chain,
        show (segs m Variants.none lvI lv carry () adms (pdats m) (R0 m) (R1 m) c).map Seg.prog = [
          StableHlo.seq hostOps0,
          StableHlo.seq hostOps0_1,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) noDue (fun g h => if_neg h) nothing (u₀ (F := F)) ?_
    (T₀ := fun c => iprop(StableHlo.held (c : Thread nD τ) (Pipeline.ucRefs τ sig) (V0 m c) ∗ owesNone c))
    (Tₙ := fun c => StableHlo.held (c : Thread nD τ) (Pipeline.ucRefs τ sig) (V4' m c))
    (hch := fun c => ⟨.rfl, .rfl, pre0_of m c, (post0_of m c).trans (pre1_of m c), post1_of m c⟩)
    (hinit := ?_) (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ s.mem ((c.tc : Thread nD τ).loc main_v4) = (dat1 (V3' m) c).arrAt (3 : Fin 4) (cfgA (F := F)).N)
    (hfin := fun c s' => ?_) (hQ := fun _ h hz => ⟨h, funext fun g => hz g (.inr (regions_no_unscoped g.2))⟩)
  · iintro H
    imodintro
    isplitl [H]
    · iapply (show (ownU _ : sProp 𝕄) ⊢ BI.own (Idealize.ShloMosaic.emb₁ (u₀ (F := F))) from .rfl) $$ H
    · iapply (show (BI.emp : sProp 𝕄) ⊢ bigSep Finset.univ nothing from by exact (show (bigSep Finset.univ (fun _ : Dev nD => (BI.emp : sProp 𝕄))) = BI.emp from BI.bigSep_emp_const _).symm ▸ .rfl)
      iempintro
  · have hsplit (c : Dev nD) : iprop(unscopedBufs c (fun b => m ((c.tc : Thread nD τ).loc b)) ∗ unscopedSems0 c
          ∗ owes (c.tc : Thread nD τ) (noDue c) ∅ ∗ Pipeline.launchCred noDue c ∗ prngReg c (ρ c) ∗ nothing c)
        ⊢ (iprop(StableHlo.held (c : Thread nD τ) (Pipeline.ucRefs τ sig) (V0 m c) ∗ owesNone c) : sProp 𝕄) := by
      rw [← Pipeline.unscopedBufs_held (Ix := Unit) (Name := ℕ) (U := UR sig nD τ) (Lvl := ℕ) c (V0 m c)]
      iintro ⟨Hb, -, HO, -⟩
      isplitl [Hb]; · iexact Hb
      iexists _; iexact HO
    iintro ⟨H, -⟩
    imodintro
    iapply (show _ ⊢ (bigSep Finset.univ fun c : Dev nD => iprop(StableHlo.held (c : Thread nD τ) (Pipeline.ucRefs τ sig) (V0 m c) ∗ owesNone c) : sProp 𝕄)
      from bigSep_mono fun c _ => hsplit c)
    iexact H
  · unfold StableHlo.held
    iintro ⟨Hh, HSI⟩
    ihave Hr := (pointsTo_read_all (Pipeline.ucRefs τ sig) (fun b => ((c : Thread nD τ).1, b)) (V4' m c) s') $$ [Hh HSI]
    · isplitl [Hh] <;> iassumption
    icases Hr with ⟨%h, HSI⟩
    imodintro
    isplitr
    · ipureintro
      have hm (r : Ref sig .tc) (hr : ¬(Proc.devRef .tc r : DevRef τ sig).isScoped) := h (Proc.devRef .tc r) (Finset.mem_filter.mpr ⟨StableHlo.devRef_mem_tcRefs r, hr⟩)
      exact ⟨⟨(hm main_arg0 (by decide)).trans (V4'_arg m c main_arg0 (by decide) (by decide) (by decide) (by decide) (by decide) (by decide)),
        (hm main_arg1 (by decide)).trans (V4'_arg m c main_arg1 (by decide) (by decide) (by decide) (by decide) (by decide) (by decide)),
        (hm main_arg2 (by decide)).trans (V4'_arg m c main_arg2 (by decide) (by decide) (by decide) (by decide) (by decide) (by decide)),
        (hm main_arg3 (by decide)).trans (V4'_arg m c main_arg3 (by decide) (by decide) (by decide) (by decide) (by decide) (by decide))⟩,
        (hm main_v4 (by decide)).trans (V4'_out m c)⟩
    · iexact HSI

end Cert.KernelIdeal.Fox

end
-- ==== Proof.Ideal.Head.lean ====
module

public import proofs.«01_k».proof.Proof.Gen.KernelIdeal.Skeleton
public import Idealize.ShloMosaic.Lib.Pointwise
public import Idealize.ShloMosaic.Lib.WordCmp

@[expose] public section

set_option maxRecDepth 16384

/-! # One head of the attention body, read at an index

At the ideal reading the arithmetic of one head on one block is: a score matrix (keys by queries), the running
maximum raised by the score columns, and the running sum rescaled and raised by the weighted values. -/

noncomputable section

namespace Cert.KernelIdeal.Fox

open Cert.KernelIdeal Cert.KernelIdeal.Gen
open Idealize.ShloMosaic Idealize.ShloMosaic.TcCoe

theorem kappa_mask : κ "mask" = some (⊥ : EReal) := rfl

theorem named_mask : Named.named (F := Ideal) κ "mask" (φ := .f32) 0xF149F2CA#32 = (⊥ : EReal) :=
  IdealRules.named_const.ideal_named_scalar κ "mask" _ _ rfl

theorem neg_inf : Ideal.ofBits .f32 0xFF800000#32 = (⊥ : EReal) := by
  simp [Ideal.ofBits, Ideal.ieee]

/-- The score matrix of one head: keys times queries. -/
theorem pay9_at (a : FVec Ideal S1024x256 .bf16) (b : FVec Ideal S256x1024 .bf16) (j i : Fin 1024) :
    k1_pay9 (F := Ideal) a b (ix3 0 j i) = ∑ k : Fin 256, a (ix2 j k) * b (ix2 k i) := by
  pointwise [k1_pay9]

/-- The largest entry of a column. -/
theorem red_at (x : FVec Ideal S1024x1024 .f32) (i : Fin 1024) :
    multiReduction (F := Ideal) .maximumf [0] S1024 x 0xFF800000#32 reduces_S1024x1024_S1024 (.inl rfl) rfl (Idealize.ShloMosaic.ix1 i)
      = Finset.univ.fold max (⊥ : EReal) fun j : Fin 1024 => x (ix2 j i) := by
  have h := neg_inf
  pointwise
  rw [h]

theorem row_at (x : FVec Ideal S1024 .f32) (i : Fin 1024) :
    shapeCast S1x1024 x shapeCasts_S1024_S1x1024 (ix2 0 i) = x (Idealize.ShloMosaic.ix1 i) := by
  pointwise

theorem pay4_at (s : FVec Ideal S1x1024x1024 .f32) (j i : Fin 1024) : k1_pay4 (F := Ideal) s (ix2 j i) = s (ix3 0 j i) := by
  pointwise [k1_pay4]

/-- The raised maximum. -/
theorem pay5_at (s : FVec Ideal S1x1024x1024 .f32) (m : FVec Ideal S1x1024 .f32) (i : Fin 1024) :
    k1_pay5 (F := Ideal) s m (ix2 0 i) = max (m (ix2 0 i)) (Finset.univ.fold max (⊥ : EReal) fun j : Fin 1024 => s (ix3 0 j i)) := by
  refine congrArg (max (m (ix2 0 i) : EReal)) (((row_at _ i).trans (red_at _ i)).trans ?_)
  simp only [pay4_at]

theorem pay6_at (s : FVec Ideal S1x1024x1024 .f32) (m : FVec Ideal S1x1024 .f32) (i : Fin 1024) :
    k1_pay6 (F := Ideal) s m (ix2 0 i) = max (m (ix2 0 i)) (Finset.univ.fold max ⊥ fun j : Fin 1024 => s (ix3 0 j i)) := by
  rw [← pay5_at]; pointwise [k1_pay6]

/-- The raised sum. -/
theorem pay7_at (s : FVec Ideal S1x1024x1024 .f32) (m : FVec Ideal S1x1024 .f32) (a : FVec Ideal S144x1024 .f32) (v : FVec Ideal S144x1024 .bf16)
    (r : Fin 144) (i : Fin 1024) (M : EReal) (hM : k1_pay6 (F := Ideal) s m (ix2 0 i) = M) :
    k1_pay7 (F := Ideal) s m a v (ix2 r i) = Ideal.exp2 (m (ix2 0 i) - M) * a (ix2 r i)
      + ∑ j : Fin 1024, v (ix2 r j) * Ideal.exp2 (s (ix3 0 j i) - M) := by
  have h5 : k1_pay5 (F := Ideal) s m (ix2 0 i) = M := by rw [← hM]; pointwise [k1_pay6]
  pointwise [k1_pay7, k1_pay4, h5]
  rfl

/-- The quotient written out. -/
theorem pay8_at (a : FVec Ideal S128x1024 .f32) (l : FVec Ideal S1x1024 .f32) (i : Fin 1024) (d : Fin 128) :
    k1_pay8 (F := Ideal) a l (ix2 i d) = Ideal.div (a (ix2 d i)) (l (ix2 0 i)) := by
  pointwise [k1_pay8]

/-- A score on the diagonal block: below the diagonal it is `⊥`. -/
def mskd (s : FVec Ideal S1x1024x1024 .f32) (j i : Fin 1024) : EReal := if j.val ≤ i.val then s (ix3 0 j i) else ⊥

theorem pay102_at (s : FVec Ideal S1x1024x1024 .f32) (j i : Fin 1024) :
    k1_pay102 (F := Ideal) k1_pay58 s (ix2 j i) = mskd s j i := by
  pointwise [k1_pay102, k1_pay58, mskd, named_mask]
  rw [Idealize.ShloMosaic.WordCmp.cmpi_sle_ofNat (by have := j.isLt; norm_num; omega) (by have := i.isLt; norm_num; omega)]
  by_cases h : j.val ≤ i.val <;> simp [h, Scalar.select]

theorem pay103_at (s : FVec Ideal S1x1024x1024 .f32) (m : FVec Ideal S1x1024 .f32) (i : Fin 1024) :
    k1_pay103 (F := Ideal) k1_pay58 s m (ix2 0 i) = max (m (ix2 0 i)) (Finset.univ.fold max ⊥ fun j : Fin 1024 => mskd s j i) := by
  refine congrArg (max (m (ix2 0 i) : EReal)) (((row_at _ i).trans (red_at _ i)).trans ?_)
  simp only [pay102_at]

theorem pay106_at (s : FVec Ideal S1x1024x1024 .f32) (m : FVec Ideal S1x1024 .f32) (i : Fin 1024) :
    k1_pay106 (F := Ideal) k1_pay58 s m (ix2 0 i) = max (m (ix2 0 i)) (Finset.univ.fold max ⊥ fun j : Fin 1024 => mskd s j i) := by
  rw [← pay103_at]; pointwise [k1_pay106]

theorem pay107_at (s : FVec Ideal S1x1024x1024 .f32) (m : FVec Ideal S1x1024 .f32) (a : FVec Ideal S144x1024 .f32) (v : FVec Ideal S144x1024 .bf16)
    (r : Fin 144) (i : Fin 1024) (M : EReal) (hM : k1_pay106 (F := Ideal) k1_pay58 s m (ix2 0 i) = M) :
    k1_pay107 (F := Ideal) (k1_pay104 k1_pay58 s m) (k1_pay105 k1_pay58 s m) a v (ix2 r i) = Ideal.exp2 (m (ix2 0 i) - M) * a (ix2 r i)
      + ∑ j : Fin 1024, v (ix2 r j) * Ideal.exp2 (mskd s j i - M) := by
  have h5 : k1_pay103 (F := Ideal) k1_pay58 s m (ix2 0 i) = M := by rw [← hM]; pointwise [k1_pay106]
  pointwise [k1_pay107, k1_pay104, k1_pay105, h5, pay102_at]
  rfl

theorem pay1_at (h : Fin 8) (i : Fin 1024) : k1_pay1 (F := Ideal) (ix2 h i) = (⊥ : EReal) := by
  pointwise [k1_pay1, named_mask]
theorem pay2_at (h : Fin 1152) (i : Fin 1024) : k1_pay2 (F := Ideal) (ix2 h i) = (0 : EReal) := by
  pointwise [k1_pay2]

end Cert.KernelIdeal.Fox

end
-- ==== Proof.Ideal.Pieces.lean ====
module

public import proofs.«01_k».proof.Proof.Ideal.Head
public import proofs.«01_k».proof.Proof.Ideal.AttnData
public import Idealize.ShloMosaic.Lib.Pipeline.CanonAppend

@[expose] public section

set_option maxRecDepth 16384

/-! # What the attention body stores, head by head

The new running maximum, running sum and quotient as functions of the scores, the old running buffers and the
value block, and the step from one head's store to them. -/

noncomputable section

namespace Cert.KernelIdeal.Fox

open Cert.KernelIdeal Cert.KernelIdeal.Gen
open Idealize.ShloMosaic Idealize.ShloMosaic.TcCoe

/-- Scores: head, key, query. -/
abbrev Sc : Type := Fin 8 → Fin 1024 → Fin 1024 → EReal

/-- The scores of a block: rows `256 h …` of the keys and queries belong to head `h`. -/
def sc (x0 : FVec Ideal S2048x1024 .bf16) (x1 : FVec Ideal S1024x2048 .bf16) : Sc := fun h j i =>
  ∑ k : Fin 256, x1 (ix2 j (⟨256 * h.val + k.val, by omega⟩ : Fin 2048)) * x0 (ix2 (⟨256 * h.val + k.val, by omega⟩ : Fin 2048) i)

/-- The scores of a diagonal block: `⊥` where the key is after the query. -/
def scm (S : Sc) : Sc := fun h j i => if j.val ≤ i.val then S h j i else ⊥

/-- The raised running maximum. -/
def gm (S : Sc) (m : FVec Ideal S8x1024 .f32) (h : Fin 8) (i : Fin 1024) : EReal :=
  max (m (ix2 h i)) (Finset.univ.fold max (⊥ : EReal) fun j : Fin 1024 => S h j i)
def GM (S : Sc) (m : FVec Ideal S8x1024 .f32) : FVec Ideal S8x1024 .f32 := fun y => gm S m (y 0) (y 1)

/-- The raised running sum. -/
def ga (S : Sc) (m : FVec Ideal S8x1024 .f32) (a : FVec Ideal S1152x1024 .f32) (v : FVec Ideal S1152x1024 .bf16)
    (h : Fin 8) (r : Fin 1152) (i : Fin 1024) : EReal :=
  Ideal.exp2 (m (ix2 h i) - gm S m h i) * a (ix2 r i) + ∑ j : Fin 1024, v (ix2 r j) * Ideal.exp2 (S h j i - gm S m h i)
/-- The head a row of the running sum belongs to. -/
def hd (r : Fin 1152) : Fin 8 := ⟨r.val / 144, by omega⟩
def GA (S : Sc) (m : FVec Ideal S8x1024 .f32) (a : FVec Ideal S1152x1024 .f32) (v : FVec Ideal S1152x1024 .bf16) :
    FVec Ideal S1152x1024 .f32 := fun y => ga S m a v (hd (y 0)) (y 0) (y 1)

/-- The quotient of the running sum's value rows by its weight row. -/
def go (A : FVec Ideal S1152x1024 .f32) (i l : Fin 1024) : EReal :=
  Ideal.div (A (ix2 (⟨144 * (l.val / 128) + l.val % 128, by omega⟩ : Fin 1152) i)) (A (ix2 (⟨144 * (l.val / 128) + 128, by omega⟩ : Fin 1152) i))
def GO (A : FVec Ideal S1152x1024 .f32) : FVec Ideal S1024x1024 .bf16 := fun y => go A (y 0) (y 1)

/-! ## Rectangles -/

theorem unit2_idx {n0 n1 p q a b : ℕ} (inb) (x : Fin p) (y : Fin q) (r : Fin n0) (l : Fin n1) (hr : r.val = a + x.val) (hl : l.val = b + y.val) :
    (Rect.unit (s := ⟨2, ![n0, n1]⟩) ![a, b] ![p, q] inb).idx (ix2 x y) = ix2 r l := by
  funext k
  refine Fin.cases ?_ (fun k => ?_) k
  · exact Fin.ext (by show a + 1 * x.val = r.val; omega)
  · refine Fin.cases ?_ (fun k => k.elim0) k
    exact Fin.ext (by show b + 1 * y.val = l.val; omega)

theorem idx2_cases {n0 n1 : ℕ} {P : (⟨2, ![n0, n1]⟩ : Shape).Idx → Prop} (h : ∀ x y, P (ix2 x y)) (z) : P z := by
  rw [eq_ix2 z]; exact h _ _

variable {S : Sc} {m : FVec Ideal S8x1024 .f32} {a : FVec Ideal S1152x1024 .f32} {v : FVec Ideal S1152x1024 .bf16}

/-- A head's store into the running maximum. -/
theorem pieceM {o : ℕ} (h : Fin 8) (ho : o = h.val) (inb) {w m' : FVec Ideal S1x1024 .f32}
    (hm : ∀ i, m' (ix2 0 i) = m (ix2 h i))
    (hw : ∀ i, w (ix2 0 i) = max (m' (ix2 0 i)) (Finset.univ.fold max (⊥ : EReal) fun j : Fin 1024 => S h j i)) (x : S1x1024.Idx) :
    w x = GM S m ((Rect.unit (s := S8x1024) ![o, 0] S1x1024.size inb).emb x) := by
  revert x
  refine idx2_cases fun u i => ?_
  obtain rfl : u = 0 := Subsingleton.elim _ _
  refine (hw i).trans ?_
  rw [hm]
  refine Eq.symm (congrArg (GM S m) ?_ |>.trans (rfl : GM S m (ix2 h i) = _))
  exact unit2_idx (n0 := 8) (n1 := 1024) (p := 1) (q := 1024) inb 0 i h i (by simp [ho]) (by simp)

/-- A head's store into the running sum. -/
theorem pieceA {o : ℕ} (h : Fin 8) (ho : o = 144 * h.val) (inb) {w a' : FVec Ideal S144x1024 .f32} {v' : FVec Ideal S144x1024 .bf16}
    (ha : ∀ (r : Fin 144) i, a' (ix2 r i) = a (ix2 (⟨144 * h.val + r.val, by omega⟩ : Fin 1152) i))
    (hv : ∀ (r : Fin 144) i, v' (ix2 r i) = v (ix2 (⟨144 * h.val + r.val, by omega⟩ : Fin 1152) i))
    (hw : ∀ r i, w (ix2 r i) = Ideal.exp2 (m (ix2 h i) - gm S m h i) * a' (ix2 r i)
      + ∑ j : Fin 1024, v' (ix2 r j) * Ideal.exp2 (S h j i - gm S m h i)) (x : S144x1024.Idx) :
    w x = GA S m a v ((Rect.unit (s := S1152x1024) ![o, 0] S144x1024.size inb).emb x) := by
  revert x
  refine idx2_cases fun r i => ?_
  refine (hw r i).trans ?_
  simp only [ha, hv]
  have e := unit2_idx (n0 := 1152) (n1 := 1024) (p := 144) (q := 1024) inb r i (⟨144 * h.val + r.val, by omega⟩ : Fin 1152) i (by simp [ho]) (by simp)
  refine Eq.symm ((congrArg (GA S m a v) e).trans ?_)
  have e' : hd (⟨144 * h.val + r.val, by omega⟩ : Fin 1152) = h := Fin.ext (by show (144 * h.val + r.val) / 144 = h.val; omega)
  show ga S m a v (hd (⟨144 * h.val + r.val, by omega⟩ : Fin 1152)) _ i = _
  rw [e']; rfl

/-- A head's store into the output block. -/
theorem pieceO {o : ℕ} (h : Fin 8) (ho : o = 128 * h.val) (inb) {A : FVec Ideal S1152x1024 .f32} {w : FVec Ideal S1024x128 .bf16}
    {n' : FVec Ideal S128x1024 .f32} {l' : FVec Ideal S1x1024 .f32}
    (hn : ∀ (r : Fin 128) i, n' (ix2 r i) = A (ix2 (⟨144 * h.val + r.val, by omega⟩ : Fin 1152) i))
    (hl : ∀ i, l' (ix2 0 i) = A (ix2 (⟨144 * h.val + 128, by omega⟩ : Fin 1152) i))
    (hw : w = k1_pay8 n' l') (x : S1024x128.Idx) :
    w x = GO A ((Rect.unit (s := S1024x1024) ![0, o] S1024x128.size inb).emb x) := by
  subst hw
  revert x
  refine idx2_cases fun i d => ?_
  refine (pay8_at n' l' i d).trans ?_
  have e := unit2_idx (n0 := 1024) (n1 := 1024) (p := 1024) (q := 128) inb i d i (⟨128 * h.val + d.val, by omega⟩ : Fin 1024) (by simp) (by simp [ho])
  refine Eq.symm ((congrArg (GO A) e).trans ?_)
  show go A i (⟨128 * h.val + d.val, by omega⟩ : Fin 1024) = _
  rw [hn, hl]
  unfold go
  have e1 : (128 * h.val + d.val) / 128 = h.val := by omega
  have e2 : (128 * h.val + d.val) % 128 = d.val := by omega
  simp only [e1, e2]

/-! ## Loads -/

/-- A load of a piece of a block. -/
theorem ld2 {sp : Space} {e : EltTy} {n0 n1 p q a b : ℕ} (w : View sig .tc sp ⟨2, ![n0, n1]⟩ e) (X : w.ty.Contents (Elt Ideal)) (inb) (x : Fin p) (y : Fin q)
    (r : Fin n0) (l : Fin n1) (hr : r.val = a + x.val) (hl : l.val = b + y.val) :
    View.readAt (Elt Ideal) w (Rect.unit (s := ⟨2, ![n0, n1]⟩) ![a, b] ![p, q] inb).toLoadRect X (ix2 x y) = w.read (Elt Ideal) X (ix2 r l) := by
  rw [View.readAt_eq_ld]
  exact congrArg _ (unit2_idx inb x y r l hr hl)

theorem ldc2 {sp : Space} {e : EltTy} {n0 n1 p q a b : ℕ} (w : View sig .tc sp ⟨2, ![n0, n1]⟩ e) (L : List (View.Piece (Elt Ideal) ⟨2, ![n0, n1]⟩ e)) (inb) (x : Fin p) (y : Fin q)
    (r : Fin n0) (l : Fin n1) (hr : r.val = a + x.val) (hl : l.val = b + y.val) :
    w.readCov L (Rect.unit (s := ⟨2, ![n0, n1]⟩) ![a, b] ![p, q] inb).toLoadRect (ix2 x y) = View.canon L (ix2 r l) := by
  rw [View.readCov_eq_canon']
  exact congrArg _ (unit2_idx inb x y r l hr hl)

/-- A head's score matrix, once its two operands are loaded. -/
theorem score_of {o : ℕ} (h : Fin 8) (ho : o = 256 * h.val) {arg3 : Memref sig .tc .vmem S2048x1024 .bf16} {arg4 : Memref sig .tc .vmem S1024x2048 .bf16}
    {x0 : FVec Ideal S2048x1024 .bf16} {x1 : FVec Ideal S1024x2048 .bf16} (i3 i4) {s : FVec Ideal S1x1024x1024 .f32}
    (hs : s = k1_pay9 (View.readAt (Elt Ideal) arg4.view (Rect.unit (s := S1024x2048) ![0, o] S1024x256.size i4).toLoadRect (arg4.view.rep x1))
      (View.readAt (Elt Ideal) arg3.view (Rect.unit (s := S2048x1024) ![o, 0] S256x1024.size i3).toLoadRect (arg3.view.rep x0))) (j i : Fin 1024) :
    s (ix3 0 j i) = sc x0 x1 h j i := by
  subst hs
  refine (pay9_at _ _ j i).trans (Finset.sum_congr rfl fun k _ => ?_)
  refine congrArg₂ (fun a b : EReal => a * b) ?_ ?_
  · refine (ld2 (n0 := 1024) (n1 := 2048) (p := 1024) (q := 256) arg4.view _ i4 j k j (⟨256 * h.val + k.val, by omega⟩ : Fin 2048) (by simp) (by simp [ho])).trans ?_
    rw [View.read_rep]
  · refine (ld2 (n0 := 2048) (n1 := 1024) (p := 256) (q := 1024) arg3.view _ i3 k i (⟨256 * h.val + k.val, by omega⟩ : Fin 2048) i (by simp [ho]) (by simp)).trans ?_
    rw [View.read_rep]

/-- A load of a rectangle passes a store to a disjoint one. -/
theorem skip {sp : Space} {s : Shape} {e : EltTy} (V : View sig .tc sp s e) (r r' : Rect s) (w : r.shape.Idx → Elt Ideal e) (L : List (View.Piece (Elt Ideal) s e))
    (h : Disjoint r.set r'.set) : V.readCov (⟨r, w⟩ :: L) r'.toLoadRect = V.readCov L r'.toLoadRect :=
  View.readCov_cons_of_disjoint V _ L _ h

theorem sep3 (a b : ℕ) (h : a + 1 ≤ b ∨ b + 1 ≤ a) (inb inb') :
    Disjoint (Rect.unit (s := S2x1024x1024) ![a, 0, 0] S1x1024x1024.size inb).set (Rect.unit (s := S2x1024x1024) ![b, 0, 0] S1x1024x1024.size inb').set :=
  Rect.unit_disjoint (0 : Fin 3) h

/-- A load of a score slot takes the last store into it, past a store into the other slot. -/
theorem slot0 (inb inb') (w w' : FVec Ideal S1x1024x1024 .f32) (L : List (View.Piece (Elt Ideal) S2x1024x1024 .f32)) :
    View.readCov (Val := Elt Ideal) scoreRef.view (⟨Rect.unit (s := S2x1024x1024) ![1, 0, 0] S1x1024x1024.size inb, w'⟩ :: ⟨Rect.unit (s := S2x1024x1024) ![0, 0, 0] S1x1024x1024.size inb', w⟩ :: L)
      (Rect.unit (s := S2x1024x1024) ![0, 0, 0] S1x1024x1024.size inb').toLoadRect = w := by
  rw [skip scoreRef.view (Rect.unit (s := S2x1024x1024) ![1, 0, 0] S1x1024x1024.size inb) (Rect.unit (s := S2x1024x1024) ![0, 0, 0] S1x1024x1024.size inb') w' _ (sep3 1 0 (by decide) inb inb'), View.readCov_cons_toLoadRect]
theorem slot1 (inb inb') (w w' : FVec Ideal S1x1024x1024 .f32) (L : List (View.Piece (Elt Ideal) S2x1024x1024 .f32)) :
    View.readCov (Val := Elt Ideal) scoreRef.view (⟨Rect.unit (s := S2x1024x1024) ![0, 0, 0] S1x1024x1024.size inb, w'⟩ :: ⟨Rect.unit (s := S2x1024x1024) ![1, 0, 0] S1x1024x1024.size inb', w⟩ :: L)
      (Rect.unit (s := S2x1024x1024) ![1, 0, 0] S1x1024x1024.size inb').toLoadRect = w := by
  rw [skip scoreRef.view (Rect.unit (s := S2x1024x1024) ![0, 0, 0] S1x1024x1024.size inb) (Rect.unit (s := S2x1024x1024) ![1, 0, 0] S1x1024x1024.size inb') w' _ (sep3 0 1 (by decide) inb inb'), View.readCov_cons_toLoadRect]
theorem slotTop (inb) (w : FVec Ideal S1x1024x1024 .f32) (L : List (View.Piece (Elt Ideal) S2x1024x1024 .f32)) :
    View.readCov (Val := Elt Ideal) scoreRef.view (⟨Rect.unit (s := S2x1024x1024) ![1, 0, 0] S1x1024x1024.size inb, w⟩ :: L)
      (Rect.unit (s := S2x1024x1024) ![1, 0, 0] S1x1024x1024.size inb).toLoadRect = w := by
  rw [View.readCov_cons_toLoadRect]

/-- A load of a head's rows passes an earlier head's store. -/
theorem skipM {o o' : ℕ} (h : o < o') (inb inb') (w : FVec Ideal S1x1024 .f32) (L : List (View.Piece (Elt Ideal) S8x1024 .f32)) :
    View.readCov (Val := Elt Ideal) mRef.view (⟨Rect.unit (s := S8x1024) ![o, 0] S1x1024.size inb, w⟩ :: L) (Rect.unit (s := S8x1024) ![o', 0] S1x1024.size inb').toLoadRect
      = View.readCov (Val := Elt Ideal) mRef.view L (Rect.unit (s := S8x1024) ![o', 0] S1x1024.size inb').toLoadRect :=
  skip mRef.view (Rect.unit (s := S8x1024) ![o, 0] S1x1024.size inb) (Rect.unit (s := S8x1024) ![o', 0] S1x1024.size inb') w L (Rect.unit_disjoint (0 : Fin 2) (Or.inl h))
theorem skipA {o o' : ℕ} (h : o + 144 ≤ o') (inb inb') (w : FVec Ideal S144x1024 .f32) (L : List (View.Piece (Elt Ideal) S1152x1024 .f32)) :
    View.readCov (Val := Elt Ideal) accRef.view (⟨Rect.unit (s := S1152x1024) ![o, 0] S144x1024.size inb, w⟩ :: L) (Rect.unit (s := S1152x1024) ![o', 0] S144x1024.size inb').toLoadRect
      = View.readCov (Val := Elt Ideal) accRef.view L (Rect.unit (s := S1152x1024) ![o', 0] S144x1024.size inb').toLoadRect :=
  skip accRef.view (Rect.unit (s := S1152x1024) ![o, 0] S144x1024.size inb) (Rect.unit (s := S1152x1024) ![o', 0] S144x1024.size inb') w L (Rect.unit_disjoint (0 : Fin 2) (Or.inl h))

/-- A head's row of the running maximum. -/
theorem ldM {o : ℕ} (h : Fin 8) (ho : o = h.val) (X : mRef.view.ty.Contents (Elt Ideal)) (inb) (i : Fin 1024) :
    (View.readAt (Elt Ideal) mRef.view (Rect.unit (s := S8x1024) ![o, 0] S1x1024.size inb).toLoadRect X : FVec Ideal S1x1024 .f32) (ix2 0 i) = mRef.view.read (Elt Ideal) X (ix2 h i) :=
  ld2 (n0 := 8) (n1 := 1024) (p := 1) (q := 1024) mRef.view X inb 0 i h i (by simp [ho]) (by simp)
/-- A head's rows of the running sum. -/
theorem ldA {o : ℕ} (h : Fin 8) (ho : o = 144 * h.val) (X : accRef.view.ty.Contents (Elt Ideal)) (inb) (r : Fin 144) (i : Fin 1024) :
    (View.readAt (Elt Ideal) accRef.view (Rect.unit (s := S1152x1024) ![o, 0] S144x1024.size inb).toLoadRect X : FVec Ideal S144x1024 .f32) (ix2 r i)
      = accRef.view.read (Elt Ideal) X (ix2 (⟨144 * h.val + r.val, by omega⟩ : Fin 1152) i) :=
  ld2 (n0 := 1152) (n1 := 1024) (p := 144) (q := 1024) accRef.view X inb r i _ i (by simp [ho]) (by simp)
/-- A head's rows of the values. -/
theorem ldV {o : ℕ} (h : Fin 8) (ho : o = 144 * h.val) (arg5 : Memref sig .tc .vmem S1152x1024 .bf16) (x2 : FVec Ideal S1152x1024 .bf16) (inb) (r : Fin 144) (i : Fin 1024) :
    (View.readAt (Elt Ideal) arg5.view (Rect.unit (s := S1152x1024) ![o, 0] S144x1024.size inb).toLoadRect (arg5.view.rep x2) : FVec Ideal S144x1024 .bf16) (ix2 r i)
      = x2 (ix2 (⟨144 * h.val + r.val, by omega⟩ : Fin 1152) i) := by
  refine (ld2 (n0 := 1152) (n1 := 1024) (p := 144) (q := 1024) arg5.view (arg5.view.rep x2) inb r i (⟨144 * h.val + r.val, by omega⟩ : Fin 1152) i (by simp [ho]) (by simp)).trans ?_
  rw [View.read_rep]
/-- A head's value rows of the new running sum. -/
theorem ldN {o : ℕ} (h : Fin 8) (ho : o = 144 * h.val) {L : List (View.Piece (Elt Ideal) S1152x1024 .f32)} {A : FVec Ideal S1152x1024 .f32}
    (hL : ∀ y, View.canon L y = A y) (inb) (r : Fin 128) (i : Fin 1024) :
    (View.readCov (Val := Elt Ideal) accRef.view L (Rect.unit (s := S1152x1024) ![o, 0] S128x1024.size inb).toLoadRect : FVec Ideal S128x1024 .f32) (ix2 r i)
      = A (ix2 (⟨144 * h.val + r.val, by omega⟩ : Fin 1152) i) :=
  (ldc2 (n0 := 1152) (n1 := 1024) (p := 128) (q := 1024) accRef.view L inb r i _ i (by simp [ho]) (by simp)).trans (hL _)
/-- A head's weight row of the new running sum. -/
theorem ldD {o : ℕ} (h : Fin 8) (ho : o = 144 * h.val + 128) {L : List (View.Piece (Elt Ideal) S1152x1024 .f32)} {A : FVec Ideal S1152x1024 .f32}
    (hL : ∀ y, View.canon L y = A y) (inb) (i : Fin 1024) :
    (View.readCov (Val := Elt Ideal) accRef.view L (Rect.unit (s := S1152x1024) ![o, 0] S1x1024.size inb).toLoadRect : FVec Ideal S1x1024 .f32) (ix2 0 i)
      = A (ix2 (⟨144 * h.val + 128, by omega⟩ : Fin 1152) i) :=
  (ldc2 (n0 := 1152) (n1 := 1024) (p := 1) (q := 1024) accRef.view L inb 0 i _ i (by simp [ho]) (by simp)).trans (hL _)

/-- The cleared buffers, read through a head's rows. -/
theorem clearedM {o : ℕ} (h : Fin 8) (ho : o = h.val) (inb inb') (i : Fin 1024) :
    (View.readCov (Val := Elt Ideal) mRef.view [⟨Rect.unit (s := S8x1024) ![0, 0] S8x1024.size inb, k1_pay1 (F := Ideal)⟩] (Rect.unit (s := S8x1024) ![o, 0] S1x1024.size inb').toLoadRect : FVec Ideal S1x1024 .f32) (ix2 0 i) = (⊥ : EReal) := by
  refine (ldc2 (n0 := 8) (n1 := 1024) (p := 1) (q := 1024) mRef.view _ inb' 0 i h i (by simp [ho]) (by simp)).trans ?_
  refine Eq.trans (congrArg (View.canon _) (unit2_idx (n0 := 8) (n1 := 1024) (p := 8) (q := 1024) (a := 0) (b := 0) inb h i h i (by simp) (by simp)).symm) ?_
  exact (View.canon_cons_emb _ _ _ _).trans (pay1_at h i)

theorem clearedA {o : ℕ} (h : Fin 8) (ho : o = 144 * h.val) (inb inb') (r : Fin 144) (i : Fin 1024) :
    (View.readCov (Val := Elt Ideal) accRef.view [⟨Rect.unit (s := S1152x1024) ![0, 0] S1152x1024.size inb, k1_pay2 (F := Ideal)⟩] (Rect.unit (s := S1152x1024) ![o, 0] S144x1024.size inb').toLoadRect : FVec Ideal S144x1024 .f32) (ix2 r i) = (0 : EReal) := by
  refine (ldc2 (n0 := 1152) (n1 := 1024) (p := 144) (q := 1024) accRef.view _ inb' r i (⟨144 * h.val + r.val, by omega⟩ : Fin 1152) i (by simp [ho]) (by simp)).trans ?_
  refine Eq.trans (congrArg (View.canon _) (unit2_idx (n0 := 1152) (n1 := 1024) (p := 1152) (q := 1024) (a := 0) (b := 0) inb (⟨144 * h.val + r.val, by omega⟩ : Fin 1152) i (⟨144 * h.val + r.val, by omega⟩ : Fin 1152) i (by simp) (by simp)).symm) ?_
  exact (View.canon_cons_emb _ _ _ _).trans (pay2_at _ i)

/-! ## A head's two stores, plain and on the diagonal -/

section
variable {s : FVec Ideal S1x1024x1024 .f32} {m' : FVec Ideal S1x1024 .f32} (h : Fin 8)

theorem maxPlain {S : Sc} (hs : ∀ j i, s (ix3 0 j i) = S h j i) {w : FVec Ideal S1x1024 .f32} (hw : w = k1_pay6 s m') (i : Fin 1024) :
    w (ix2 0 i) = max (m' (ix2 0 i)) (Finset.univ.fold max (⊥ : EReal) fun j : Fin 1024 => S h j i) := by
  subst hw; rw [pay6_at]; simp only [hs]

theorem mskd_of {S : Sc} (hs : ∀ j i, s (ix3 0 j i) = S h j i) (j i : Fin 1024) : mskd s j i = scm S h j i := by
  unfold mskd scm; rw [hs]

theorem maxDiag {S : Sc} (hs : ∀ j i, s (ix3 0 j i) = S h j i) {w : FVec Ideal S1x1024 .f32} (hw : w = k1_pay106 k1_pay58 s m') (i : Fin 1024) :
    w (ix2 0 i) = max (m' (ix2 0 i)) (Finset.univ.fold max (⊥ : EReal) fun j : Fin 1024 => scm S h j i) := by
  subst hw; rw [pay106_at]; simp only [mskd_of h hs]

theorem sumPlain {S : Sc} (hs : ∀ j i, s (ix3 0 j i) = S h j i) {m : FVec Ideal S8x1024 .f32} (hm : ∀ i, m' (ix2 0 i) = m (ix2 h i))
    {a' : FVec Ideal S144x1024 .f32} {v' : FVec Ideal S144x1024 .bf16} {w : FVec Ideal S144x1024 .f32} (hw : w = k1_pay7 s m' a' v') (r : Fin 144) (i : Fin 1024) :
    w (ix2 r i) = Ideal.exp2 (m (ix2 h i) - gm S m h i) * a' (ix2 r i) + ∑ j : Fin 1024, v' (ix2 r j) * Ideal.exp2 (S h j i - gm S m h i) := by
  subst hw
  have e : k1_pay6 (F := Ideal) s m' (ix2 0 i) = gm S m h i := by
    rw [maxPlain h hs rfl i, hm]; rfl
  rw [pay7_at s m' a' v' r i _ e, hm]; simp only [hs]

theorem sumDiag {S : Sc} (hs : ∀ j i, s (ix3 0 j i) = S h j i) {m : FVec Ideal S8x1024 .f32} (hm : ∀ i, m' (ix2 0 i) = m (ix2 h i))
    {a' : FVec Ideal S144x1024 .f32} {v' : FVec Ideal S144x1024 .bf16} {w : FVec Ideal S144x1024 .f32}
    (hw : w = k1_pay107 (k1_pay104 k1_pay58 s m') (k1_pay105 k1_pay58 s m') a' v') (r : Fin 144) (i : Fin 1024) :
    w (ix2 r i) = Ideal.exp2 (m (ix2 h i) - gm (scm S) m h i) * a' (ix2 r i) + ∑ j : Fin 1024, v' (ix2 r j) * Ideal.exp2 (scm S h j i - gm (scm S) m h i) := by
  subst hw
  have e : k1_pay106 (F := Ideal) k1_pay58 s m' (ix2 0 i) = gm (scm S) m h i := by
    rw [maxDiag h hs rfl i, hm]; rfl
  rw [pay107_at s m' a' v' r i _ e, hm]; simp only [mskd_of h hs]
end

end Cert.KernelIdeal.Fox

end
-- ==== Proof.Ideal.PathA.lean ====
module

public import proofs.«01_k».proof.Proof.Ideal.Pieces

@[expose] public section

set_option maxRecDepth 16384

/-! # The attention body's stores: cleared, then the diagonal block -/

noncomputable section

namespace Cert.KernelIdeal.Fox

open Cert.KernelIdeal Cert.KernelIdeal.Gen
open Idealize.ShloMosaic Idealize.ShloMosaic.TcCoe Idealize.ShloMosaic.Tactic

section
variable (c : Dev nD) (arg3 : Memref sig .tc .vmem S2048x1024 .bf16) (arg4 : Memref sig .tc .vmem S1024x2048 .bf16) (arg5 : Memref sig .tc .vmem S1152x1024 .bf16)
  (x0 : FVec Ideal S2048x1024 .bf16) (x1 : FVec Ideal S1024x2048 .bf16) (x2 : FVec Ideal S1152x1024 .bf16)
  (xm : Buf (Elt Ideal) ((c : Thread nD τ).loc cc1_scratch0)) (xa : Buf (Elt Ideal) ((c : Thread nD τ).loc cc1_scratch1))

theorem sA0 (j i : Fin 1024) : (runA.sl.v32 (F := Ideal) arg3 arg4 x0 x1 : FVec Ideal S1x1024x1024 .f32) (ix3 0 j i) = sc x0 x1 0 j i := by
  refine score_of (o := 0) (arg3 := arg3) (arg4 := arg4) 0 rfl (by decide +kernel) (by decide +kernel) ?_ j i
  unfold runA.sl.v32 runA.sl.HS_2
  refine Eq.trans (slot0 _ _ _ _ _) ?_
  rfl

theorem sA1 (j i : Fin 1024) : (runA.sl.v67 (F := Ideal) arg3 arg4 x0 x1 : FVec Ideal S1x1024x1024 .f32) (ix3 0 j i) = sc x0 x1 1 j i := by
  refine score_of (o := 256) (arg3 := arg3) (arg4 := arg4) 1 rfl (by decide +kernel) (by decide +kernel) ?_ j i
  unfold runA.sl.v67 runA.sl.HS_3 runA.sl.HS_2
  refine Eq.trans (slot1 _ _ _ _ _) ?_
  rfl

theorem sA2 (j i : Fin 1024) : (runA.sl.v102 (F := Ideal) arg3 arg4 x0 x1 : FVec Ideal S1x1024x1024 .f32) (ix3 0 j i) = sc x0 x1 2 j i := by
  refine score_of (o := 512) (arg3 := arg3) (arg4 := arg4) 2 rfl (by decide +kernel) (by decide +kernel) ?_ j i
  unfold runA.sl.v102 runA.sl.HS_4 runA.sl.HS_3
  refine Eq.trans (slot0 _ _ _ _ _) ?_
  rfl

theorem sA3 (j i : Fin 1024) : (runA.sl.v137 (F := Ideal) arg3 arg4 x0 x1 : FVec Ideal S1x1024x1024 .f32) (ix3 0 j i) = sc x0 x1 3 j i := by
  refine score_of (o := 768) (arg3 := arg3) (arg4 := arg4) 3 rfl (by decide +kernel) (by decide +kernel) ?_ j i
  unfold runA.sl.v137 runA.sl.HS_5 runA.sl.HS_4
  refine Eq.trans (slot1 _ _ _ _ _) ?_
  rfl

theorem sA4 (j i : Fin 1024) : (runA.sl.v172 (F := Ideal) arg3 arg4 x0 x1 : FVec Ideal S1x1024x1024 .f32) (ix3 0 j i) = sc x0 x1 4 j i := by
  refine score_of (o := 1024) (arg3 := arg3) (arg4 := arg4) 4 rfl (by decide +kernel) (by decide +kernel) ?_ j i
  unfold runA.sl.v172 runA.sl.HS_6 runA.sl.HS_5
  refine Eq.trans (slot0 _ _ _ _ _) ?_
  rfl

theorem sA5 (j i : Fin 1024) : (runA.sl.v207 (F := Ideal) arg3 arg4 x0 x1 : FVec Ideal S1x1024x1024 .f32) (ix3 0 j i) = sc x0 x1 5 j i := by
  refine score_of (o := 1280) (arg3 := arg3) (arg4 := arg4) 5 rfl (by decide +kernel) (by decide +kernel) ?_ j i
  unfold runA.sl.v207 runA.sl.HS_7 runA.sl.HS_6
  refine Eq.trans (slot1 _ _ _ _ _) ?_
  rfl

theorem sA6 (j i : Fin 1024) : (runA.sl.v242 (F := Ideal) arg3 arg4 x0 x1 : FVec Ideal S1x1024x1024 .f32) (ix3 0 j i) = sc x0 x1 6 j i := by
  refine score_of (o := 1536) (arg3 := arg3) (arg4 := arg4) 6 rfl (by decide +kernel) (by decide +kernel) ?_ j i
  unfold runA.sl.v242 runA.sl.HS_8 runA.sl.HS_7
  refine Eq.trans (slot0 _ _ _ _ _) ?_
  rfl

theorem sA7 (j i : Fin 1024) : (runA.sl.v269 (F := Ideal) arg3 arg4 x0 x1 : FVec Ideal S1x1024x1024 .f32) (ix3 0 j i) = sc x0 x1 7 j i := by
  refine score_of (o := 1792) (arg3 := arg3) (arg4 := arg4) 7 rfl (by decide +kernel) (by decide +kernel) ?_ j i
  unfold runA.sl.v269 runA.sl.HS_8
  refine Eq.trans (slotTop _ _ _) ?_
  rfl

/-- The cleared running maximum. -/
abbrev m0A : FVec Ideal S8x1024 .f32 := fun _ => (⊥ : EReal)

/-- The cleared running sum. -/
abbrev a0A : FVec Ideal S1152x1024 .f32 := fun _ => (0 : EReal)

theorem mA0 (i : Fin 1024) : (mRef.view.readCov (runA.sl.HM_1 (F := Ideal)) (Rect.unit (s := S8x1024) ![0, 0] S1x1024.size (by decide +kernel)).toLoadRect : FVec Ideal S1x1024 .f32) (ix2 0 i) = (⊥ : EReal) := by
  refine (congrFun (show _ = mRef.view.readCov (runA.sl.HM_1 (F := Ideal)) (Rect.unit (s := S8x1024) ![0, 0] S1x1024.size (by decide +kernel)).toLoadRect from rfl) (ix2 0 i)).trans ?_
  exact clearedM 0 rfl _ _ i

theorem mA1 (i : Fin 1024) : (mRef.view.readCov (runA.sl.HM_2 (F := Ideal) arg3 arg4 x0 x1) (Rect.unit (s := S8x1024) ![1, 0] S1x1024.size (by decide +kernel)).toLoadRect : FVec Ideal S1x1024 .f32) (ix2 0 i) = (⊥ : EReal) := by
  refine (congrFun (show _ = mRef.view.readCov (runA.sl.HM_1 (F := Ideal)) (Rect.unit (s := S8x1024) ![1, 0] S1x1024.size (by decide +kernel)).toLoadRect from (skipM (by decide) _ _ _ _).trans (rfl)) (ix2 0 i)).trans ?_
  exact clearedM 1 rfl _ _ i

theorem mA2 (i : Fin 1024) : (mRef.view.readCov (runA.sl.HM_3 (F := Ideal) arg3 arg4 x0 x1) (Rect.unit (s := S8x1024) ![2, 0] S1x1024.size (by decide +kernel)).toLoadRect : FVec Ideal S1x1024 .f32) (ix2 0 i) = (⊥ : EReal) := by
  refine (congrFun (show _ = mRef.view.readCov (runA.sl.HM_1 (F := Ideal)) (Rect.unit (s := S8x1024) ![2, 0] S1x1024.size (by decide +kernel)).toLoadRect from (skipM (by decide) _ _ _ _).trans ((skipM (by decide) _ _ _ _).trans (rfl))) (ix2 0 i)).trans ?_
  exact clearedM 2 rfl _ _ i

theorem mA3 (i : Fin 1024) : (mRef.view.readCov (runA.sl.HM_4 (F := Ideal) arg3 arg4 x0 x1) (Rect.unit (s := S8x1024) ![3, 0] S1x1024.size (by decide +kernel)).toLoadRect : FVec Ideal S1x1024 .f32) (ix2 0 i) = (⊥ : EReal) := by
  refine (congrFun (show _ = mRef.view.readCov (runA.sl.HM_1 (F := Ideal)) (Rect.unit (s := S8x1024) ![3, 0] S1x1024.size (by decide +kernel)).toLoadRect from (skipM (by decide) _ _ _ _).trans ((skipM (by decide) _ _ _ _).trans ((skipM (by decide) _ _ _ _).trans (rfl)))) (ix2 0 i)).trans ?_
  exact clearedM 3 rfl _ _ i

theorem mA4 (i : Fin 1024) : (mRef.view.readCov (runA.sl.HM_5 (F := Ideal) arg3 arg4 x0 x1) (Rect.unit (s := S8x1024) ![4, 0] S1x1024.size (by decide +kernel)).toLoadRect : FVec Ideal S1x1024 .f32) (ix2 0 i) = (⊥ : EReal) := by
  refine (congrFun (show _ = mRef.view.readCov (runA.sl.HM_1 (F := Ideal)) (Rect.unit (s := S8x1024) ![4, 0] S1x1024.size (by decide +kernel)).toLoadRect from (skipM (by decide) _ _ _ _).trans ((skipM (by decide) _ _ _ _).trans ((skipM (by decide) _ _ _ _).trans ((skipM (by decide) _ _ _ _).trans (rfl))))) (ix2 0 i)).trans ?_
  exact clearedM 4 rfl _ _ i

theorem mA5 (i : Fin 1024) : (mRef.view.readCov (runA.sl.HM_6 (F := Ideal) arg3 arg4 x0 x1) (Rect.unit (s := S8x1024) ![5, 0] S1x1024.size (by decide +kernel)).toLoadRect : FVec Ideal S1x1024 .f32) (ix2 0 i) = (⊥ : EReal) := by
  refine (congrFun (show _ = mRef.view.readCov (runA.sl.HM_1 (F := Ideal)) (Rect.unit (s := S8x1024) ![5, 0] S1x1024.size (by decide +kernel)).toLoadRect from (skipM (by decide) _ _ _ _).trans ((skipM (by decide) _ _ _ _).trans ((skipM (by decide) _ _ _ _).trans ((skipM (by decide) _ _ _ _).trans ((skipM (by decide) _ _ _ _).trans (rfl)))))) (ix2 0 i)).trans ?_
  exact clearedM 5 rfl _ _ i

theorem mA6 (i : Fin 1024) : (mRef.view.readCov (runA.sl.HM_7 (F := Ideal) arg3 arg4 x0 x1) (Rect.unit (s := S8x1024) ![6, 0] S1x1024.size (by decide +kernel)).toLoadRect : FVec Ideal S1x1024 .f32) (ix2 0 i) = (⊥ : EReal) := by
  refine (congrFun (show _ = mRef.view.readCov (runA.sl.HM_1 (F := Ideal)) (Rect.unit (s := S8x1024) ![6, 0] S1x1024.size (by decide +kernel)).toLoadRect from (skipM (by decide) _ _ _ _).trans ((skipM (by decide) _ _ _ _).trans ((skipM (by decide) _ _ _ _).trans ((skipM (by decide) _ _ _ _).trans ((skipM (by decide) _ _ _ _).trans ((skipM (by decide) _ _ _ _).trans (rfl))))))) (ix2 0 i)).trans ?_
  exact clearedM 6 rfl _ _ i

theorem mA7 (i : Fin 1024) : (mRef.view.readCov (runA.sl.HM_8 (F := Ideal) arg3 arg4 x0 x1) (Rect.unit (s := S8x1024) ![7, 0] S1x1024.size (by decide +kernel)).toLoadRect : FVec Ideal S1x1024 .f32) (ix2 0 i) = (⊥ : EReal) := by
  refine (congrFun (show _ = mRef.view.readCov (runA.sl.HM_1 (F := Ideal)) (Rect.unit (s := S8x1024) ![7, 0] S1x1024.size (by decide +kernel)).toLoadRect from (skipM (by decide) _ _ _ _).trans ((skipM (by decide) _ _ _ _).trans ((skipM (by decide) _ _ _ _).trans ((skipM (by decide) _ _ _ _).trans ((skipM (by decide) _ _ _ _).trans ((skipM (by decide) _ _ _ _).trans ((skipM (by decide) _ _ _ _).trans (rfl)))))))) (ix2 0 i)).trans ?_
  exact clearedM 7 rfl _ _ i

theorem canonMA (y : S8x1024.Idx) : View.canon (runA.sl.HM_9 (F := Ideal) arg3 arg4 x0 x1) y = GM (scm (sc x0 x1)) m0A y := by
  refine View.canon_append_of_pieces (GM (scm (sc x0 x1)) m0A) (runA.sl.HM_1 (F := Ideal)) ((runA.sl.HM_9 (F := Ideal) arg3 arg4 x0 x1).take 8) ?_ y ?_
  · show ∀ p ∈ [_, _, _, _, _, _, _, _], _
    simp only [List.forall_mem_cons, List.not_mem_nil, false_imp_iff, implies_true, and_true]
    exact ⟨pieceM (S := (scm (sc x0 x1))) (m := m0A) 7 rfl (by decide +kernel) (fun i => mA7 arg3 arg4 x0 x1 i) (maxDiag 7 (sA7 arg3 arg4 x0 x1) rfl),
      pieceM (S := (scm (sc x0 x1))) (m := m0A) 6 rfl (by decide +kernel) (fun i => mA6 arg3 arg4 x0 x1 i) (maxDiag 6 (sA6 arg3 arg4 x0 x1) rfl),
      pieceM (S := (scm (sc x0 x1))) (m := m0A) 5 rfl (by decide +kernel) (fun i => mA5 arg3 arg4 x0 x1 i) (maxDiag 5 (sA5 arg3 arg4 x0 x1) rfl),
      pieceM (S := (scm (sc x0 x1))) (m := m0A) 4 rfl (by decide +kernel) (fun i => mA4 arg3 arg4 x0 x1 i) (maxDiag 4 (sA4 arg3 arg4 x0 x1) rfl),
      pieceM (S := (scm (sc x0 x1))) (m := m0A) 3 rfl (by decide +kernel) (fun i => mA3 arg3 arg4 x0 x1 i) (maxDiag 3 (sA3 arg3 arg4 x0 x1) rfl),
      pieceM (S := (scm (sc x0 x1))) (m := m0A) 2 rfl (by decide +kernel) (fun i => mA2 arg3 arg4 x0 x1 i) (maxDiag 2 (sA2 arg3 arg4 x0 x1) rfl),
      pieceM (S := (scm (sc x0 x1))) (m := m0A) 1 rfl (by decide +kernel) (fun i => mA1 arg3 arg4 x0 x1 i) (maxDiag 1 (sA1 arg3 arg4 x0 x1) rfl),
      pieceM (S := (scm (sc x0 x1))) (m := m0A) 0 rfl (by decide +kernel) (fun i => mA0 i) (maxDiag 0 (sA0 arg3 arg4 x0 x1) rfl)⟩
  · exact View.cover_of_tiledL ((runA.sl.HM_9 (F := Ideal) arg3 arg4 x0 x1).take 8) S1x1024.size (by sl_kernel_rfl) y

theorem aA0 (r : Fin 144) (i : Fin 1024) : (accRef.view.readCov (runA.sl.HA_1 (F := Ideal)) (Rect.unit (s := S1152x1024) ![0, 0] S144x1024.size (by decide +kernel)).toLoadRect : FVec Ideal S144x1024 .f32) (ix2 r i) = (0 : EReal) := by
  refine (congrFun (show _ = accRef.view.readCov (runA.sl.HA_1 (F := Ideal)) (Rect.unit (s := S1152x1024) ![0, 0] S144x1024.size (by decide +kernel)).toLoadRect from rfl) (ix2 r i)).trans ?_
  exact clearedA (o := 0) 0 rfl _ _ r i

theorem aA1 (r : Fin 144) (i : Fin 1024) : (accRef.view.readCov (runA.sl.HA_2 (F := Ideal) arg3 arg4 arg5 x0 x1 x2) (Rect.unit (s := S1152x1024) ![144, 0] S144x1024.size (by decide +kernel)).toLoadRect : FVec Ideal S144x1024 .f32) (ix2 r i) = (0 : EReal) := by
  refine (congrFun (show _ = accRef.view.readCov (runA.sl.HA_1 (F := Ideal)) (Rect.unit (s := S1152x1024) ![144, 0] S144x1024.size (by decide +kernel)).toLoadRect from (skipA (by decide) _ _ _ _).trans (rfl)) (ix2 r i)).trans ?_
  exact clearedA (o := 144) 1 rfl _ _ r i

theorem aA2 (r : Fin 144) (i : Fin 1024) : (accRef.view.readCov (runA.sl.HA_3 (F := Ideal) arg3 arg4 arg5 x0 x1 x2) (Rect.unit (s := S1152x1024) ![288, 0] S144x1024.size (by decide +kernel)).toLoadRect : FVec Ideal S144x1024 .f32) (ix2 r i) = (0 : EReal) := by
  refine (congrFun (show _ = accRef.view.readCov (runA.sl.HA_1 (F := Ideal)) (Rect.unit (s := S1152x1024) ![288, 0] S144x1024.size (by decide +kernel)).toLoadRect from (skipA (by decide) _ _ _ _).trans ((skipA (by decide) _ _ _ _).trans (rfl))) (ix2 r i)).trans ?_
  exact clearedA (o := 288) 2 rfl _ _ r i

theorem aA3 (r : Fin 144) (i : Fin 1024) : (accRef.view.readCov (runA.sl.HA_4 (F := Ideal) arg3 arg4 arg5 x0 x1 x2) (Rect.unit (s := S1152x1024) ![432, 0] S144x1024.size (by decide +kernel)).toLoadRect : FVec Ideal S144x1024 .f32) (ix2 r i) = (0 : EReal) := by
  refine (congrFun (show _ = accRef.view.readCov (runA.sl.HA_1 (F := Ideal)) (Rect.unit (s := S1152x1024) ![432, 0] S144x1024.size (by decide +kernel)).toLoadRect from (skipA (by decide) _ _ _ _).trans ((skipA (by decide) _ _ _ _).trans ((skipA (by decide) _ _ _ _).trans (rfl)))) (ix2 r i)).trans ?_
  exact clearedA (o := 432) 3 rfl _ _ r i

theorem aA4 (r : Fin 144) (i : Fin 1024) : (accRef.view.readCov (runA.sl.HA_5 (F := Ideal) arg3 arg4 arg5 x0 x1 x2) (Rect.unit (s := S1152x1024) ![576, 0] S144x1024.size (by decide +kernel)).toLoadRect : FVec Ideal S144x1024 .f32) (ix2 r i) = (0 : EReal) := by
  refine (congrFun (show _ = accRef.view.readCov (runA.sl.HA_1 (F := Ideal)) (Rect.unit (s := S1152x1024) ![576, 0] S144x1024.size (by decide +kernel)).toLoadRect from (skipA (by decide) _ _ _ _).trans ((skipA (by decide) _ _ _ _).trans ((skipA (by decide) _ _ _ _).trans ((skipA (by decide) _ _ _ _).trans (rfl))))) (ix2 r i)).trans ?_
  exact clearedA (o := 576) 4 rfl _ _ r i

theorem aA5 (r : Fin 144) (i : Fin 1024) : (accRef.view.readCov (runA.sl.HA_6 (F := Ideal) arg3 arg4 arg5 x0 x1 x2) (Rect.unit (s := S1152x1024) ![720, 0] S144x1024.size (by decide +kernel)).toLoadRect : FVec Ideal S144x1024 .f32) (ix2 r i) = (0 : EReal) := by
  refine (congrFun (show _ = accRef.view.readCov (runA.sl.HA_1 (F := Ideal)) (Rect.unit (s := S1152x1024) ![720, 0] S144x1024.size (by decide +kernel)).toLoadRect from (skipA (by decide) _ _ _ _).trans ((skipA (by decide) _ _ _ _).trans ((skipA (by decide) _ _ _ _).trans ((skipA (by decide) _ _ _ _).trans ((skipA (by decide) _ _ _ _).trans (rfl)))))) (ix2 r i)).trans ?_
  exact clearedA (o := 720) 5 rfl _ _ r i

theorem aA6 (r : Fin 144) (i : Fin 1024) : (accRef.view.readCov (runA.sl.HA_7 (F := Ideal) arg3 arg4 arg5 x0 x1 x2) (Rect.unit (s := S1152x1024) ![864, 0] S144x1024.size (by decide +kernel)).toLoadRect : FVec Ideal S144x1024 .f32) (ix2 r i) = (0 : EReal) := by
  refine (congrFun (show _ = accRef.view.readCov (runA.sl.HA_1 (F := Ideal)) (Rect.unit (s := S1152x1024) ![864, 0] S144x1024.size (by decide +kernel)).toLoadRect from (skipA (by decide) _ _ _ _).trans ((skipA (by decide) _ _ _ _).trans ((skipA (by decide) _ _ _ _).trans ((skipA (by decide) _ _ _ _).trans ((skipA (by decide) _ _ _ _).trans ((skipA (by decide) _ _ _ _).trans (rfl))))))) (ix2 r i)).trans ?_
  exact clearedA (o := 864) 6 rfl _ _ r i

theorem aA7 (r : Fin 144) (i : Fin 1024) : (accRef.view.readCov (runA.sl.HA_8 (F := Ideal) arg3 arg4 arg5 x0 x1 x2) (Rect.unit (s := S1152x1024) ![1008, 0] S144x1024.size (by decide +kernel)).toLoadRect : FVec Ideal S144x1024 .f32) (ix2 r i) = (0 : EReal) := by
  refine (congrFun (show _ = accRef.view.readCov (runA.sl.HA_1 (F := Ideal)) (Rect.unit (s := S1152x1024) ![1008, 0] S144x1024.size (by decide +kernel)).toLoadRect from (skipA (by decide) _ _ _ _).trans ((skipA (by decide) _ _ _ _).trans ((skipA (by decide) _ _ _ _).trans ((skipA (by decide) _ _ _ _).trans ((skipA (by decide) _ _ _ _).trans ((skipA (by decide) _ _ _ _).trans ((skipA (by decide) _ _ _ _).trans (rfl)))))))) (ix2 r i)).trans ?_
  exact clearedA (o := 1008) 7 rfl _ _ r i

theorem canonAA (y : S1152x1024.Idx) : View.canon (runA.sl.HA_9 (F := Ideal) arg3 arg4 arg5 x0 x1 x2) y = GA (scm (sc x0 x1)) m0A a0A x2 y := by
  refine View.canon_append_of_pieces (GA (scm (sc x0 x1)) m0A a0A x2) (runA.sl.HA_1 (F := Ideal)) ((runA.sl.HA_9 (F := Ideal) arg3 arg4 arg5 x0 x1 x2).take 8) ?_ y ?_
  · show ∀ p ∈ [_, _, _, _, _, _, _, _], _
    simp only [List.forall_mem_cons, List.not_mem_nil, false_imp_iff, implies_true, and_true]
    exact ⟨pieceA (S := (scm (sc x0 x1))) (m := m0A) (a := a0A) (v := x2) 7 rfl (by decide +kernel) (fun r i => aA7 arg3 arg4 arg5 x0 x1 x2 r i) (fun r i => ldV 7 rfl arg5 x2 _ r i) (sumDiag 7 (sA7 arg3 arg4 x0 x1) (m := m0A) (fun i => mA7 arg3 arg4 x0 x1 i) rfl),
      pieceA (S := (scm (sc x0 x1))) (m := m0A) (a := a0A) (v := x2) 6 rfl (by decide +kernel) (fun r i => aA6 arg3 arg4 arg5 x0 x1 x2 r i) (fun r i => ldV 6 rfl arg5 x2 _ r i) (sumDiag 6 (sA6 arg3 arg4 x0 x1) (m := m0A) (fun i => mA6 arg3 arg4 x0 x1 i) rfl),
      pieceA (S := (scm (sc x0 x1))) (m := m0A) (a := a0A) (v := x2) 5 rfl (by decide +kernel) (fun r i => aA5 arg3 arg4 arg5 x0 x1 x2 r i) (fun r i => ldV 5 rfl arg5 x2 _ r i) (sumDiag 5 (sA5 arg3 arg4 x0 x1) (m := m0A) (fun i => mA5 arg3 arg4 x0 x1 i) rfl),
      pieceA (S := (scm (sc x0 x1))) (m := m0A) (a := a0A) (v := x2) 4 rfl (by decide +kernel) (fun r i => aA4 arg3 arg4 arg5 x0 x1 x2 r i) (fun r i => ldV 4 rfl arg5 x2 _ r i) (sumDiag 4 (sA4 arg3 arg4 x0 x1) (m := m0A) (fun i => mA4 arg3 arg4 x0 x1 i) rfl),
      pieceA (S := (scm (sc x0 x1))) (m := m0A) (a := a0A) (v := x2) 3 rfl (by decide +kernel) (fun r i => aA3 arg3 arg4 arg5 x0 x1 x2 r i) (fun r i => ldV 3 rfl arg5 x2 _ r i) (sumDiag 3 (sA3 arg3 arg4 x0 x1) (m := m0A) (fun i => mA3 arg3 arg4 x0 x1 i) rfl),
      pieceA (S := (scm (sc x0 x1))) (m := m0A) (a := a0A) (v := x2) 2 rfl (by decide +kernel) (fun r i => aA2 arg3 arg4 arg5 x0 x1 x2 r i) (fun r i => ldV 2 rfl arg5 x2 _ r i) (sumDiag 2 (sA2 arg3 arg4 x0 x1) (m := m0A) (fun i => mA2 arg3 arg4 x0 x1 i) rfl),
      pieceA (S := (scm (sc x0 x1))) (m := m0A) (a := a0A) (v := x2) 1 rfl (by decide +kernel) (fun r i => aA1 arg3 arg4 arg5 x0 x1 x2 r i) (fun r i => ldV 1 rfl arg5 x2 _ r i) (sumDiag 1 (sA1 arg3 arg4 x0 x1) (m := m0A) (fun i => mA1 arg3 arg4 x0 x1 i) rfl),
      pieceA (S := (scm (sc x0 x1))) (m := m0A) (a := a0A) (v := x2) 0 rfl (by decide +kernel) (fun r i => aA0 r i) (fun r i => ldV 0 rfl arg5 x2 _ r i) (sumDiag 0 (sA0 arg3 arg4 x0 x1) (m := m0A) (fun i => mA0 i) rfl)⟩
  · exact View.cover_of_tiledL ((runA.sl.HA_9 (F := Ideal) arg3 arg4 arg5 x0 x1 x2).take 8) S144x1024.size (by sl_kernel_rfl) y

theorem canonOA (y : S1024x1024.Idx) : View.canon (runA.sl.HO_8 (F := Ideal) arg3 arg4 arg5 x0 x1 x2) y = GO (GA (scm (sc x0 x1)) m0A a0A x2) y := by
  refine View.canon_append_of_pieces (GO (GA (scm (sc x0 x1)) m0A a0A x2)) [] ((runA.sl.HO_8 (F := Ideal) arg3 arg4 arg5 x0 x1 x2).take 8) ?_ y ?_
  · show ∀ p ∈ [_, _, _, _, _, _, _, _], _
    simp only [List.forall_mem_cons, List.not_mem_nil, false_imp_iff, implies_true, and_true]
    exact ⟨pieceO (A := GA (scm (sc x0 x1)) m0A a0A x2) 7 rfl (by decide +kernel) (fun r i => ldN 7 rfl (canonAA arg3 arg4 arg5 x0 x1 x2) _ r i) (fun i => ldD 7 rfl (canonAA arg3 arg4 arg5 x0 x1 x2) _ i) rfl,
      pieceO (A := GA (scm (sc x0 x1)) m0A a0A x2) 6 rfl (by decide +kernel) (fun r i => ldN 6 rfl (canonAA arg3 arg4 arg5 x0 x1 x2) _ r i) (fun i => ldD 6 rfl (canonAA arg3 arg4 arg5 x0 x1 x2) _ i) rfl,
      pieceO (A := GA (scm (sc x0 x1)) m0A a0A x2) 5 rfl (by decide +kernel) (fun r i => ldN 5 rfl (canonAA arg3 arg4 arg5 x0 x1 x2) _ r i) (fun i => ldD 5 rfl (canonAA arg3 arg4 arg5 x0 x1 x2) _ i) rfl,
      pieceO (A := GA (scm (sc x0 x1)) m0A a0A x2) 4 rfl (by decide +kernel) (fun r i => ldN 4 rfl (canonAA arg3 arg4 arg5 x0 x1 x2) _ r i) (fun i => ldD 4 rfl (canonAA arg3 arg4 arg5 x0 x1 x2) _ i) rfl,
      pieceO (A := GA (scm (sc x0 x1)) m0A a0A x2) 3 rfl (by decide +kernel) (fun r i => ldN 3 rfl (canonAA arg3 arg4 arg5 x0 x1 x2) _ r i) (fun i => ldD 3 rfl (canonAA arg3 arg4 arg5 x0 x1 x2) _ i) rfl,
      pieceO (A := GA (scm (sc x0 x1)) m0A a0A x2) 2 rfl (by decide +kernel) (fun r i => ldN 2 rfl (canonAA arg3 arg4 arg5 x0 x1 x2) _ r i) (fun i => ldD 2 rfl (canonAA arg3 arg4 arg5 x0 x1 x2) _ i) rfl,
      pieceO (A := GA (scm (sc x0 x1)) m0A a0A x2) 1 rfl (by decide +kernel) (fun r i => ldN 1 rfl (canonAA arg3 arg4 arg5 x0 x1 x2) _ r i) (fun i => ldD 1 rfl (canonAA arg3 arg4 arg5 x0 x1 x2) _ i) rfl,
      pieceO (A := GA (scm (sc x0 x1)) m0A a0A x2) 0 rfl (by decide +kernel) (fun r i => ldN 0 rfl (canonAA arg3 arg4 arg5 x0 x1 x2) _ r i) (fun i => ldD 0 rfl (canonAA arg3 arg4 arg5 x0 x1 x2) _ i) rfl⟩
  · exact View.cover_of_tiledL ((runA.sl.HO_8 (F := Ideal) arg3 arg4 arg5 x0 x1 x2).take 8) S1024x128.size (by sl_kernel_rfl) y

end

end Cert.KernelIdeal.Fox

end
-- ==== Proof.Ideal.PathB.lean ====
module

public import proofs.«01_k».proof.Proof.Ideal.Pieces

@[expose] public section

set_option maxRecDepth 16384

/-! # The attention body's stores: cleared, then a full block -/

noncomputable section

namespace Cert.KernelIdeal.Fox

open Cert.KernelIdeal Cert.KernelIdeal.Gen
open Idealize.ShloMosaic Idealize.ShloMosaic.TcCoe Idealize.ShloMosaic.Tactic

section
variable (c : Dev nD) (arg3 : Memref sig .tc .vmem S2048x1024 .bf16) (arg4 : Memref sig .tc .vmem S1024x2048 .bf16) (arg5 : Memref sig .tc .vmem S1152x1024 .bf16)
  (x0 : FVec Ideal S2048x1024 .bf16) (x1 : FVec Ideal S1024x2048 .bf16) (x2 : FVec Ideal S1152x1024 .bf16)
  (xm : Buf (Elt Ideal) ((c : Thread nD τ).loc cc1_scratch0)) (xa : Buf (Elt Ideal) ((c : Thread nD τ).loc cc1_scratch1))

theorem sB0 (j i : Fin 1024) : (runB.sl.v29 (F := Ideal) arg3 arg4 x0 x1 : FVec Ideal S1x1024x1024 .f32) (ix3 0 j i) = sc x0 x1 0 j i := by
  refine score_of (o := 0) (arg3 := arg3) (arg4 := arg4) 0 rfl (by decide +kernel) (by decide +kernel) ?_ j i
  unfold runB.sl.v29 runB.sl.HS_2
  refine Eq.trans (slot0 _ _ _ _ _) ?_
  rfl

theorem sB1 (j i : Fin 1024) : (runB.sl.v62 (F := Ideal) arg3 arg4 x0 x1 : FVec Ideal S1x1024x1024 .f32) (ix3 0 j i) = sc x0 x1 1 j i := by
  refine score_of (o := 256) (arg3 := arg3) (arg4 := arg4) 1 rfl (by decide +kernel) (by decide +kernel) ?_ j i
  unfold runB.sl.v62 runB.sl.HS_3 runB.sl.HS_2
  refine Eq.trans (slot1 _ _ _ _ _) ?_
  rfl

theorem sB2 (j i : Fin 1024) : (runB.sl.v95 (F := Ideal) arg3 arg4 x0 x1 : FVec Ideal S1x1024x1024 .f32) (ix3 0 j i) = sc x0 x1 2 j i := by
  refine score_of (o := 512) (arg3 := arg3) (arg4 := arg4) 2 rfl (by decide +kernel) (by decide +kernel) ?_ j i
  unfold runB.sl.v95 runB.sl.HS_4 runB.sl.HS_3
  refine Eq.trans (slot0 _ _ _ _ _) ?_
  rfl

theorem sB3 (j i : Fin 1024) : (runB.sl.v128 (F := Ideal) arg3 arg4 x0 x1 : FVec Ideal S1x1024x1024 .f32) (ix3 0 j i) = sc x0 x1 3 j i := by
  refine score_of (o := 768) (arg3 := arg3) (arg4 := arg4) 3 rfl (by decide +kernel) (by decide +kernel) ?_ j i
  unfold runB.sl.v128 runB.sl.HS_5 runB.sl.HS_4
  refine Eq.trans (slot1 _ _ _ _ _) ?_
  rfl

theorem sB4 (j i : Fin 1024) : (runB.sl.v161 (F := Ideal) arg3 arg4 x0 x1 : FVec Ideal S1x1024x1024 .f32) (ix3 0 j i) = sc x0 x1 4 j i := by
  refine score_of (o := 1024) (arg3 := arg3) (arg4 := arg4) 4 rfl (by decide +kernel) (by decide +kernel) ?_ j i
  unfold runB.sl.v161 runB.sl.HS_6 runB.sl.HS_5
  refine Eq.trans (slot0 _ _ _ _ _) ?_
  rfl

theorem sB5 (j i : Fin 1024) : (runB.sl.v194 (F := Ideal) arg3 arg4 x0 x1 : FVec Ideal S1x1024x1024 .f32) (ix3 0 j i) = sc x0 x1 5 j i := by
  refine score_of (o := 1280) (arg3 := arg3) (arg4 := arg4) 5 rfl (by decide +kernel) (by decide +kernel) ?_ j i
  unfold runB.sl.v194 runB.sl.HS_7 runB.sl.HS_6
  refine Eq.trans (slot1 _ _ _ _ _) ?_
  rfl

theorem sB6 (j i : Fin 1024) : (runB.sl.v227 (F := Ideal) arg3 arg4 x0 x1 : FVec Ideal S1x1024x1024 .f32) (ix3 0 j i) = sc x0 x1 6 j i := by
  refine score_of (o := 1536) (arg3 := arg3) (arg4 := arg4) 6 rfl (by decide +kernel) (by decide +kernel) ?_ j i
  unfold runB.sl.v227 runB.sl.HS_8 runB.sl.HS_7
  refine Eq.trans (slot0 _ _ _ _ _) ?_
  rfl

theorem sB7 (j i : Fin 1024) : (runB.sl.v252 (F := Ideal) arg3 arg4 x0 x1 : FVec Ideal S1x1024x1024 .f32) (ix3 0 j i) = sc x0 x1 7 j i := by
  refine score_of (o := 1792) (arg3 := arg3) (arg4 := arg4) 7 rfl (by decide +kernel) (by decide +kernel) ?_ j i
  unfold runB.sl.v252 runB.sl.HS_8
  refine Eq.trans (slotTop _ _ _) ?_
  rfl

/-- The cleared running maximum. -/
abbrev m0B : FVec Ideal S8x1024 .f32 := fun _ => (⊥ : EReal)

/-- The cleared running sum. -/
abbrev a0B : FVec Ideal S1152x1024 .f32 := fun _ => (0 : EReal)

theorem mB0 (i : Fin 1024) : (mRef.view.readCov (runB.sl.HM_1 (F := Ideal)) (Rect.unit (s := S8x1024) ![0, 0] S1x1024.size (by decide +kernel)).toLoadRect : FVec Ideal S1x1024 .f32) (ix2 0 i) = (⊥ : EReal) := by
  refine (congrFun (show _ = mRef.view.readCov (runB.sl.HM_1 (F := Ideal)) (Rect.unit (s := S8x1024) ![0, 0] S1x1024.size (by decide +kernel)).toLoadRect from rfl) (ix2 0 i)).trans ?_
  exact clearedM 0 rfl _ _ i

theorem mB1 (i : Fin 1024) : (mRef.view.readCov (runB.sl.HM_2 (F := Ideal) arg3 arg4 x0 x1) (Rect.unit (s := S8x1024) ![1, 0] S1x1024.size (by decide +kernel)).toLoadRect : FVec Ideal S1x1024 .f32) (ix2 0 i) = (⊥ : EReal) := by
  refine (congrFun (show _ = mRef.view.readCov (runB.sl.HM_1 (F := Ideal)) (Rect.unit (s := S8x1024) ![1, 0] S1x1024.size (by decide +kernel)).toLoadRect from (skipM (by decide) _ _ _ _).trans (rfl)) (ix2 0 i)).trans ?_
  exact clearedM 1 rfl _ _ i

theorem mB2 (i : Fin 1024) : (mRef.view.readCov (runB.sl.HM_3 (F := Ideal) arg3 arg4 x0 x1) (Rect.unit (s := S8x1024) ![2, 0] S1x1024.size (by decide +kernel)).toLoadRect : FVec Ideal S1x1024 .f32) (ix2 0 i) = (⊥ : EReal) := by
  refine (congrFun (show _ = mRef.view.readCov (runB.sl.HM_1 (F := Ideal)) (Rect.unit (s := S8x1024) ![2, 0] S1x1024.size (by decide +kernel)).toLoadRect from (skipM (by decide) _ _ _ _).trans ((skipM (by decide) _ _ _ _).trans (rfl))) (ix2 0 i)).trans ?_
  exact clearedM 2 rfl _ _ i

theorem mB3 (i : Fin 1024) : (mRef.view.readCov (runB.sl.HM_4 (F := Ideal) arg3 arg4 x0 x1) (Rect.unit (s := S8x1024) ![3, 0] S1x1024.size (by decide +kernel)).toLoadRect : FVec Ideal S1x1024 .f32) (ix2 0 i) = (⊥ : EReal) := by
  refine (congrFun (show _ = mRef.view.readCov (runB.sl.HM_1 (F := Ideal)) (Rect.unit (s := S8x1024) ![3, 0] S1x1024.size (by decide +kernel)).toLoadRect from (skipM (by decide) _ _ _ _).trans ((skipM (by decide) _ _ _ _).trans ((skipM (by decide) _ _ _ _).trans (rfl)))) (ix2 0 i)).trans ?_
  exact clearedM 3 rfl _ _ i

theorem mB4 (i : Fin 1024) : (mRef.view.readCov (runB.sl.HM_5 (F := Ideal) arg3 arg4 x0 x1) (Rect.unit (s := S8x1024) ![4, 0] S1x1024.size (by decide +kernel)).toLoadRect : FVec Ideal S1x1024 .f32) (ix2 0 i) = (⊥ : EReal) := by
  refine (congrFun (show _ = mRef.view.readCov (runB.sl.HM_1 (F := Ideal)) (Rect.unit (s := S8x1024) ![4, 0] S1x1024.size (by decide +kernel)).toLoadRect from (skipM (by decide) _ _ _ _).trans ((skipM (by decide) _ _ _ _).trans ((skipM (by decide) _ _ _ _).trans ((skipM (by decide) _ _ _ _).trans (rfl))))) (ix2 0 i)).trans ?_
  exact clearedM 4 rfl _ _ i

theorem mB5 (i : Fin 1024) : (mRef.view.readCov (runB.sl.HM_6 (F := Ideal) arg3 arg4 x0 x1) (Rect.unit (s := S8x1024) ![5, 0] S1x1024.size (by decide +kernel)).toLoadRect : FVec Ideal S1x1024 .f32) (ix2 0 i) = (⊥ : EReal) := by
  refine (congrFun (show _ = mRef.view.readCov (runB.sl.HM_1 (F := Ideal)) (Rect.unit (s := S8x1024) ![5, 0] S1x1024.size (by decide +kernel)).toLoadRect from (skipM (by decide) _ _ _ _).trans ((skipM (by decide) _ _ _ _).trans ((skipM (by decide) _ _ _ _).trans ((skipM (by decide) _ _ _ _).trans ((skipM (by decide) _ _ _ _).trans (rfl)))))) (ix2 0 i)).trans ?_
  exact clearedM 5 rfl _ _ i

theorem mB6 (i : Fin 1024) : (mRef.view.readCov (runB.sl.HM_7 (F := Ideal) arg3 arg4 x0 x1) (Rect.unit (s := S8x1024) ![6, 0] S1x1024.size (by decide +kernel)).toLoadRect : FVec Ideal S1x1024 .f32) (ix2 0 i) = (⊥ : EReal) := by
  refine (congrFun (show _ = mRef.view.readCov (runB.sl.HM_1 (F := Ideal)) (Rect.unit (s := S8x1024) ![6, 0] S1x1024.size (by decide +kernel)).toLoadRect from (skipM (by decide) _ _ _ _).trans ((skipM (by decide) _ _ _ _).trans ((skipM (by decide) _ _ _ _).trans ((skipM (by decide) _ _ _ _).trans ((skipM (by decide) _ _ _ _).trans ((skipM (by decide) _ _ _ _).trans (rfl))))))) (ix2 0 i)).trans ?_
  exact clearedM 6 rfl _ _ i

theorem mB7 (i : Fin 1024) : (mRef.view.readCov (runB.sl.HM_8 (F := Ideal) arg3 arg4 x0 x1) (Rect.unit (s := S8x1024) ![7, 0] S1x1024.size (by decide +kernel)).toLoadRect : FVec Ideal S1x1024 .f32) (ix2 0 i) = (⊥ : EReal) := by
  refine (congrFun (show _ = mRef.view.readCov (runB.sl.HM_1 (F := Ideal)) (Rect.unit (s := S8x1024) ![7, 0] S1x1024.size (by decide +kernel)).toLoadRect from (skipM (by decide) _ _ _ _).trans ((skipM (by decide) _ _ _ _).trans ((skipM (by decide) _ _ _ _).trans ((skipM (by decide) _ _ _ _).trans ((skipM (by decide) _ _ _ _).trans ((skipM (by decide) _ _ _ _).trans ((skipM (by decide) _ _ _ _).trans (rfl)))))))) (ix2 0 i)).trans ?_
  exact clearedM 7 rfl _ _ i

theorem canonMB (y : S8x1024.Idx) : View.canon (runB.sl.HM_9 (F := Ideal) arg3 arg4 x0 x1) y = GM (sc x0 x1) m0B y := by
  refine View.canon_append_of_pieces (GM (sc x0 x1) m0B) (runB.sl.HM_1 (F := Ideal)) ((runB.sl.HM_9 (F := Ideal) arg3 arg4 x0 x1).take 8) ?_ y ?_
  · show ∀ p ∈ [_, _, _, _, _, _, _, _], _
    simp only [List.forall_mem_cons, List.not_mem_nil, false_imp_iff, implies_true, and_true]
    exact ⟨pieceM (S := (sc x0 x1)) (m := m0B) 7 rfl (by decide +kernel) (fun i => mB7 arg3 arg4 x0 x1 i) (maxPlain 7 (sB7 arg3 arg4 x0 x1) rfl),
      pieceM (S := (sc x0 x1)) (m := m0B) 6 rfl (by decide +kernel) (fun i => mB6 arg3 arg4 x0 x1 i) (maxPlain 6 (sB6 arg3 arg4 x0 x1) rfl),
      pieceM (S := (sc x0 x1)) (m := m0B) 5 rfl (by decide +kernel) (fun i => mB5 arg3 arg4 x0 x1 i) (maxPlain 5 (sB5 arg3 arg4 x0 x1) rfl),
      pieceM (S := (sc x0 x1)) (m := m0B) 4 rfl (by decide +kernel) (fun i => mB4 arg3 arg4 x0 x1 i) (maxPlain 4 (sB4 arg3 arg4 x0 x1) rfl),
      pieceM (S := (sc x0 x1)) (m := m0B) 3 rfl (by decide +kernel) (fun i => mB3 arg3 arg4 x0 x1 i) (maxPlain 3 (sB3 arg3 arg4 x0 x1) rfl),
      pieceM (S := (sc x0 x1)) (m := m0B) 2 rfl (by decide +kernel) (fun i => mB2 arg3 arg4 x0 x1 i) (maxPlain 2 (sB2 arg3 arg4 x0 x1) rfl),
      pieceM (S := (sc x0 x1)) (m := m0B) 1 rfl (by decide +kernel) (fun i => mB1 arg3 arg4 x0 x1 i) (maxPlain 1 (sB1 arg3 arg4 x0 x1) rfl),
      pieceM (S := (sc x0 x1)) (m := m0B) 0 rfl (by decide +kernel) (fun i => mB0 i) (maxPlain 0 (sB0 arg3 arg4 x0 x1) rfl)⟩
  · exact View.cover_of_tiledL ((runB.sl.HM_9 (F := Ideal) arg3 arg4 x0 x1).take 8) S1x1024.size (by sl_kernel_rfl) y

theorem aB0 (r : Fin 144) (i : Fin 1024) : (accRef.view.readCov (runB.sl.HA_1 (F := Ideal)) (Rect.unit (s := S1152x1024) ![0, 0] S144x1024.size (by decide +kernel)).toLoadRect : FVec Ideal S144x1024 .f32) (ix2 r i) = (0 : EReal) := by
  refine (congrFun (show _ = accRef.view.readCov (runB.sl.HA_1 (F := Ideal)) (Rect.unit (s := S1152x1024) ![0, 0] S144x1024.size (by decide +kernel)).toLoadRect from rfl) (ix2 r i)).trans ?_
  exact clearedA (o := 0) 0 rfl _ _ r i

theorem aB1 (r : Fin 144) (i : Fin 1024) : (accRef.view.readCov (runB.sl.HA_2 (F := Ideal) arg3 arg4 arg5 x0 x1 x2) (Rect.unit (s := S1152x1024) ![144, 0] S144x1024.size (by decide +kernel)).toLoadRect : FVec Ideal S144x1024 .f32) (ix2 r i) = (0 : EReal) := by
  refine (congrFun (show _ = accRef.view.readCov (runB.sl.HA_1 (F := Ideal)) (Rect.unit (s := S1152x1024) ![144, 0] S144x1024.size (by decide +kernel)).toLoadRect from (skipA (by decide) _ _ _ _).trans (rfl)) (ix2 r i)).trans ?_
  exact clearedA (o := 144) 1 rfl _ _ r i

theorem aB2 (r : Fin 144) (i : Fin 1024) : (accRef.view.readCov (runB.sl.HA_3 (F := Ideal) arg3 arg4 arg5 x0 x1 x2) (Rect.unit (s := S1152x1024) ![288, 0] S144x1024.size (by decide +kernel)).toLoadRect : FVec Ideal S144x1024 .f32) (ix2 r i) = (0 : EReal) := by
  refine (congrFun (show _ = accRef.view.readCov (runB.sl.HA_1 (F := Ideal)) (Rect.unit (s := S1152x1024) ![288, 0] S144x1024.size (by decide +kernel)).toLoadRect from (skipA (by decide) _ _ _ _).trans ((skipA (by decide) _ _ _ _).trans (rfl))) (ix2 r i)).trans ?_
  exact clearedA (o := 288) 2 rfl _ _ r i

theorem aB3 (r : Fin 144) (i : Fin 1024) : (accRef.view.readCov (runB.sl.HA_4 (F := Ideal) arg3 arg4 arg5 x0 x1 x2) (Rect.unit (s := S1152x1024) ![432, 0] S144x1024.size (by decide +kernel)).toLoadRect : FVec Ideal S144x1024 .f32) (ix2 r i) = (0 : EReal) := by
  refine (congrFun (show _ = accRef.view.readCov (runB.sl.HA_1 (F := Ideal)) (Rect.unit (s := S1152x1024) ![432, 0] S144x1024.size (by decide +kernel)).toLoadRect from (skipA (by decide) _ _ _ _).trans ((skipA (by decide) _ _ _ _).trans ((skipA (by decide) _ _ _ _).trans (rfl)))) (ix2 r i)).trans ?_
  exact clearedA (o := 432) 3 rfl _ _ r i

theorem aB4 (r : Fin 144) (i : Fin 1024) : (accRef.view.readCov (runB.sl.HA_5 (F := Ideal) arg3 arg4 arg5 x0 x1 x2) (Rect.unit (s := S1152x1024) ![576, 0] S144x1024.size (by decide +kernel)).toLoadRect : FVec Ideal S144x1024 .f32) (ix2 r i) = (0 : EReal) := by
  refine (congrFun (show _ = accRef.view.readCov (runB.sl.HA_1 (F := Ideal)) (Rect.unit (s := S1152x1024) ![576, 0] S144x1024.size (by decide +kernel)).toLoadRect from (skipA (by decide) _ _ _ _).trans ((skipA (by decide) _ _ _ _).trans ((skipA (by decide) _ _ _ _).trans ((skipA (by decide) _ _ _ _).trans (rfl))))) (ix2 r i)).trans ?_
  exact clearedA (o := 576) 4 rfl _ _ r i

theorem aB5 (r : Fin 144) (i : Fin 1024) : (accRef.view.readCov (runB.sl.HA_6 (F := Ideal) arg3 arg4 arg5 x0 x1 x2) (Rect.unit (s := S1152x1024) ![720, 0] S144x1024.size (by decide +kernel)).toLoadRect : FVec Ideal S144x1024 .f32) (ix2 r i) = (0 : EReal) := by
  refine (congrFun (show _ = accRef.view.readCov (runB.sl.HA_1 (F := Ideal)) (Rect.unit (s := S1152x1024) ![720, 0] S144x1024.size (by decide +kernel)).toLoadRect from (skipA (by decide) _ _ _ _).trans ((skipA (by decide) _ _ _ _).trans ((skipA (by decide) _ _ _ _).trans ((skipA (by decide) _ _ _ _).trans ((skipA (by decide) _ _ _ _).trans (rfl)))))) (ix2 r i)).trans ?_
  exact clearedA (o := 720) 5 rfl _ _ r i

theorem aB6 (r : Fin 144) (i : Fin 1024) : (accRef.view.readCov (runB.sl.HA_7 (F := Ideal) arg3 arg4 arg5 x0 x1 x2) (Rect.unit (s := S1152x1024) ![864, 0] S144x1024.size (by decide +kernel)).toLoadRect : FVec Ideal S144x1024 .f32) (ix2 r i) = (0 : EReal) := by
  refine (congrFun (show _ = accRef.view.readCov (runB.sl.HA_1 (F := Ideal)) (Rect.unit (s := S1152x1024) ![864, 0] S144x1024.size (by decide +kernel)).toLoadRect from (skipA (by decide) _ _ _ _).trans ((skipA (by decide) _ _ _ _).trans ((skipA (by decide) _ _ _ _).trans ((skipA (by decide) _ _ _ _).trans ((skipA (by decide) _ _ _ _).trans ((skipA (by decide) _ _ _ _).trans (rfl))))))) (ix2 r i)).trans ?_
  exact clearedA (o := 864) 6 rfl _ _ r i

theorem aB7 (r : Fin 144) (i : Fin 1024) : (accRef.view.readCov (runB.sl.HA_8 (F := Ideal) arg3 arg4 arg5 x0 x1 x2) (Rect.unit (s := S1152x1024) ![1008, 0] S144x1024.size (by decide +kernel)).toLoadRect : FVec Ideal S144x1024 .f32) (ix2 r i) = (0 : EReal) := by
  refine (congrFun (show _ = accRef.view.readCov (runB.sl.HA_1 (F := Ideal)) (Rect.unit (s := S1152x1024) ![1008, 0] S144x1024.size (by decide +kernel)).toLoadRect from (skipA (by decide) _ _ _ _).trans ((skipA (by decide) _ _ _ _).trans ((skipA (by decide) _ _ _ _).trans ((skipA (by decide) _ _ _ _).trans ((skipA (by decide) _ _ _ _).trans ((skipA (by decide) _ _ _ _).trans ((skipA (by decide) _ _ _ _).trans (rfl)))))))) (ix2 r i)).trans ?_
  exact clearedA (o := 1008) 7 rfl _ _ r i

theorem canonAB (y : S1152x1024.Idx) : View.canon (runB.sl.HA_9 (F := Ideal) arg3 arg4 arg5 x0 x1 x2) y = GA (sc x0 x1) m0B a0B x2 y := by
  refine View.canon_append_of_pieces (GA (sc x0 x1) m0B a0B x2) (runB.sl.HA_1 (F := Ideal)) ((runB.sl.HA_9 (F := Ideal) arg3 arg4 arg5 x0 x1 x2).take 8) ?_ y ?_
  · show ∀ p ∈ [_, _, _, _, _, _, _, _], _
    simp only [List.forall_mem_cons, List.not_mem_nil, false_imp_iff, implies_true, and_true]
    exact ⟨pieceA (S := (sc x0 x1)) (m := m0B) (a := a0B) (v := x2) 7 rfl (by decide +kernel) (fun r i => aB7 arg3 arg4 arg5 x0 x1 x2 r i) (fun r i => ldV 7 rfl arg5 x2 _ r i) (sumPlain 7 (sB7 arg3 arg4 x0 x1) (m := m0B) (fun i => mB7 arg3 arg4 x0 x1 i) rfl),
      pieceA (S := (sc x0 x1)) (m := m0B) (a := a0B) (v := x2) 6 rfl (by decide +kernel) (fun r i => aB6 arg3 arg4 arg5 x0 x1 x2 r i) (fun r i => ldV 6 rfl arg5 x2 _ r i) (sumPlain 6 (sB6 arg3 arg4 x0 x1) (m := m0B) (fun i => mB6 arg3 arg4 x0 x1 i) rfl),
      pieceA (S := (sc x0 x1)) (m := m0B) (a := a0B) (v := x2) 5 rfl (by decide +kernel) (fun r i => aB5 arg3 arg4 arg5 x0 x1 x2 r i) (fun r i => ldV 5 rfl arg5 x2 _ r i) (sumPlain 5 (sB5 arg3 arg4 x0 x1) (m := m0B) (fun i => mB5 arg3 arg4 x0 x1 i) rfl),
      pieceA (S := (sc x0 x1)) (m := m0B) (a := a0B) (v := x2) 4 rfl (by decide +kernel) (fun r i => aB4 arg3 arg4 arg5 x0 x1 x2 r i) (fun r i => ldV 4 rfl arg5 x2 _ r i) (sumPlain 4 (sB4 arg3 arg4 x0 x1) (m := m0B) (fun i => mB4 arg3 arg4 x0 x1 i) rfl),
      pieceA (S := (sc x0 x1)) (m := m0B) (a := a0B) (v := x2) 3 rfl (by decide +kernel) (fun r i => aB3 arg3 arg4 arg5 x0 x1 x2 r i) (fun r i => ldV 3 rfl arg5 x2 _ r i) (sumPlain 3 (sB3 arg3 arg4 x0 x1) (m := m0B) (fun i => mB3 arg3 arg4 x0 x1 i) rfl),
      pieceA (S := (sc x0 x1)) (m := m0B) (a := a0B) (v := x2) 2 rfl (by decide +kernel) (fun r i => aB2 arg3 arg4 arg5 x0 x1 x2 r i) (fun r i => ldV 2 rfl arg5 x2 _ r i) (sumPlain 2 (sB2 arg3 arg4 x0 x1) (m := m0B) (fun i => mB2 arg3 arg4 x0 x1 i) rfl),
      pieceA (S := (sc x0 x1)) (m := m0B) (a := a0B) (v := x2) 1 rfl (by decide +kernel) (fun r i => aB1 arg3 arg4 arg5 x0 x1 x2 r i) (fun r i => ldV 1 rfl arg5 x2 _ r i) (sumPlain 1 (sB1 arg3 arg4 x0 x1) (m := m0B) (fun i => mB1 arg3 arg4 x0 x1 i) rfl),
      pieceA (S := (sc x0 x1)) (m := m0B) (a := a0B) (v := x2) 0 rfl (by decide +kernel) (fun r i => aB0 r i) (fun r i => ldV 0 rfl arg5 x2 _ r i) (sumPlain 0 (sB0 arg3 arg4 x0 x1) (m := m0B) (fun i => mB0 i) rfl)⟩
  · exact View.cover_of_tiledL ((runB.sl.HA_9 (F := Ideal) arg3 arg4 arg5 x0 x1 x2).take 8) S144x1024.size (by sl_kernel_rfl) y

end

end Cert.KernelIdeal.Fox

end
-- ==== Proof.Ideal.PathC.lean ====
module

public import proofs.«01_k».proof.Proof.Ideal.Pieces

@[expose] public section

set_option maxRecDepth 16384

/-! # The attention body's stores: the diagonal block -/

noncomputable section

namespace Cert.KernelIdeal.Fox

open Cert.KernelIdeal Cert.KernelIdeal.Gen
open Idealize.ShloMosaic Idealize.ShloMosaic.TcCoe Idealize.ShloMosaic.Tactic

section
variable (c : Dev nD) (arg3 : Memref sig .tc .vmem S2048x1024 .bf16) (arg4 : Memref sig .tc .vmem S1024x2048 .bf16) (arg5 : Memref sig .tc .vmem S1152x1024 .bf16)
  (x0 : FVec Ideal S2048x1024 .bf16) (x1 : FVec Ideal S1024x2048 .bf16) (x2 : FVec Ideal S1152x1024 .bf16)
  (xm : Buf (Elt Ideal) ((c : Thread nD τ).loc cc1_scratch0)) (xa : Buf (Elt Ideal) ((c : Thread nD τ).loc cc1_scratch1))

theorem sC0 (j i : Fin 1024) : (runC.sl.v32 (F := Ideal) arg3 arg4 x0 x1 : FVec Ideal S1x1024x1024 .f32) (ix3 0 j i) = sc x0 x1 0 j i := by
  refine score_of (o := 0) (arg3 := arg3) (arg4 := arg4) 0 rfl (by decide +kernel) (by decide +kernel) ?_ j i
  unfold runC.sl.v32 runC.sl.HS_2
  refine Eq.trans (slot0 _ _ _ _ _) ?_
  rfl

theorem sC1 (j i : Fin 1024) : (runC.sl.v67 (F := Ideal) arg3 arg4 x0 x1 : FVec Ideal S1x1024x1024 .f32) (ix3 0 j i) = sc x0 x1 1 j i := by
  refine score_of (o := 256) (arg3 := arg3) (arg4 := arg4) 1 rfl (by decide +kernel) (by decide +kernel) ?_ j i
  unfold runC.sl.v67 runC.sl.HS_3 runC.sl.HS_2
  refine Eq.trans (slot1 _ _ _ _ _) ?_
  rfl

theorem sC2 (j i : Fin 1024) : (runC.sl.v102 (F := Ideal) arg3 arg4 x0 x1 : FVec Ideal S1x1024x1024 .f32) (ix3 0 j i) = sc x0 x1 2 j i := by
  refine score_of (o := 512) (arg3 := arg3) (arg4 := arg4) 2 rfl (by decide +kernel) (by decide +kernel) ?_ j i
  unfold runC.sl.v102 runC.sl.HS_4 runC.sl.HS_3
  refine Eq.trans (slot0 _ _ _ _ _) ?_
  rfl

theorem sC3 (j i : Fin 1024) : (runC.sl.v137 (F := Ideal) arg3 arg4 x0 x1 : FVec Ideal S1x1024x1024 .f32) (ix3 0 j i) = sc x0 x1 3 j i := by
  refine score_of (o := 768) (arg3 := arg3) (arg4 := arg4) 3 rfl (by decide +kernel) (by decide +kernel) ?_ j i
  unfold runC.sl.v137 runC.sl.HS_5 runC.sl.HS_4
  refine Eq.trans (slot1 _ _ _ _ _) ?_
  rfl

theorem sC4 (j i : Fin 1024) : (runC.sl.v172 (F := Ideal) arg3 arg4 x0 x1 : FVec Ideal S1x1024x1024 .f32) (ix3 0 j i) = sc x0 x1 4 j i := by
  refine score_of (o := 1024) (arg3 := arg3) (arg4 := arg4) 4 rfl (by decide +kernel) (by decide +kernel) ?_ j i
  unfold runC.sl.v172 runC.sl.HS_6 runC.sl.HS_5
  refine Eq.trans (slot0 _ _ _ _ _) ?_
  rfl

theorem sC5 (j i : Fin 1024) : (runC.sl.v207 (F := Ideal) arg3 arg4 x0 x1 : FVec Ideal S1x1024x1024 .f32) (ix3 0 j i) = sc x0 x1 5 j i := by
  refine score_of (o := 1280) (arg3 := arg3) (arg4 := arg4) 5 rfl (by decide +kernel) (by decide +kernel) ?_ j i
  unfold runC.sl.v207 runC.sl.HS_7 runC.sl.HS_6
  refine Eq.trans (slot1 _ _ _ _ _) ?_
  rfl

theorem sC6 (j i : Fin 1024) : (runC.sl.v242 (F := Ideal) arg3 arg4 x0 x1 : FVec Ideal S1x1024x1024 .f32) (ix3 0 j i) = sc x0 x1 6 j i := by
  refine score_of (o := 1536) (arg3 := arg3) (arg4 := arg4) 6 rfl (by decide +kernel) (by decide +kernel) ?_ j i
  unfold runC.sl.v242 runC.sl.HS_8 runC.sl.HS_7
  refine Eq.trans (slot0 _ _ _ _ _) ?_
  rfl

theorem sC7 (j i : Fin 1024) : (runC.sl.v269 (F := Ideal) arg3 arg4 x0 x1 : FVec Ideal S1x1024x1024 .f32) (ix3 0 j i) = sc x0 x1 7 j i := by
  refine score_of (o := 1792) (arg3 := arg3) (arg4 := arg4) 7 rfl (by decide +kernel) (by decide +kernel) ?_ j i
  unfold runC.sl.v269 runC.sl.HS_8
  refine Eq.trans (slotTop _ _ _) ?_
  rfl

theorem canonMC (y : S8x1024.Idx) : View.canon (runC.sl.HM_8 (F := Ideal) c arg3 arg4 x0 x1 xm) y = GM (scm (sc x0 x1)) (mRef.view.read (Elt Ideal) xm) y := by
  refine View.canon_append_of_pieces (GM (scm (sc x0 x1)) (mRef.view.read (Elt Ideal) xm)) [] ((runC.sl.HM_8 (F := Ideal) c arg3 arg4 x0 x1 xm).take 8) ?_ y ?_
  · show ∀ p ∈ [_, _, _, _, _, _, _, _], _
    simp only [List.forall_mem_cons, List.not_mem_nil, false_imp_iff, implies_true, and_true]
    exact ⟨pieceM (S := (scm (sc x0 x1))) (m := (mRef.view.read (Elt Ideal) xm)) 7 rfl (by decide +kernel) (fun i => ldM 7 rfl xm _ i) (maxDiag 7 (sC7 arg3 arg4 x0 x1) rfl),
      pieceM (S := (scm (sc x0 x1))) (m := (mRef.view.read (Elt Ideal) xm)) 6 rfl (by decide +kernel) (fun i => ldM 6 rfl xm _ i) (maxDiag 6 (sC6 arg3 arg4 x0 x1) rfl),
      pieceM (S := (scm (sc x0 x1))) (m := (mRef.view.read (Elt Ideal) xm)) 5 rfl (by decide +kernel) (fun i => ldM 5 rfl xm _ i) (maxDiag 5 (sC5 arg3 arg4 x0 x1) rfl),
      pieceM (S := (scm (sc x0 x1))) (m := (mRef.view.read (Elt Ideal) xm)) 4 rfl (by decide +kernel) (fun i => ldM 4 rfl xm _ i) (maxDiag 4 (sC4 arg3 arg4 x0 x1) rfl),
      pieceM (S := (scm (sc x0 x1))) (m := (mRef.view.read (Elt Ideal) xm)) 3 rfl (by decide +kernel) (fun i => ldM 3 rfl xm _ i) (maxDiag 3 (sC3 arg3 arg4 x0 x1) rfl),
      pieceM (S := (scm (sc x0 x1))) (m := (mRef.view.read (Elt Ideal) xm)) 2 rfl (by decide +kernel) (fun i => ldM 2 rfl xm _ i) (maxDiag 2 (sC2 arg3 arg4 x0 x1) rfl),
      pieceM (S := (scm (sc x0 x1))) (m := (mRef.view.read (Elt Ideal) xm)) 1 rfl (by decide +kernel) (fun i => ldM 1 rfl xm _ i) (maxDiag 1 (sC1 arg3 arg4 x0 x1) rfl),
      pieceM (S := (scm (sc x0 x1))) (m := (mRef.view.read (Elt Ideal) xm)) 0 rfl (by decide +kernel) (fun i => ldM 0 rfl xm _ i) (maxDiag 0 (sC0 arg3 arg4 x0 x1) rfl)⟩
  · exact View.cover_of_tiledL ((runC.sl.HM_8 (F := Ideal) c arg3 arg4 x0 x1 xm).take 8) S1x1024.size (by sl_kernel_rfl) y

theorem canonAC (y : S1152x1024.Idx) : View.canon (runC.sl.HA_8 (F := Ideal) c arg3 arg4 arg5 x0 x1 x2 xm xa) y = GA (scm (sc x0 x1)) (mRef.view.read (Elt Ideal) xm) (accRef.view.read (Elt Ideal) xa) x2 y := by
  refine View.canon_append_of_pieces (GA (scm (sc x0 x1)) (mRef.view.read (Elt Ideal) xm) (accRef.view.read (Elt Ideal) xa) x2) [] ((runC.sl.HA_8 (F := Ideal) c arg3 arg4 arg5 x0 x1 x2 xm xa).take 8) ?_ y ?_
  · show ∀ p ∈ [_, _, _, _, _, _, _, _], _
    simp only [List.forall_mem_cons, List.not_mem_nil, false_imp_iff, implies_true, and_true]
    exact ⟨pieceA (S := (scm (sc x0 x1))) (m := (mRef.view.read (Elt Ideal) xm)) (a := (accRef.view.read (Elt Ideal) xa)) (v := x2) 7 rfl (by decide +kernel) (fun r i => ldA 7 rfl xa _ r i) (fun r i => ldV 7 rfl arg5 x2 _ r i) (sumDiag 7 (sC7 arg3 arg4 x0 x1) (m := (mRef.view.read (Elt Ideal) xm)) (fun i => ldM 7 rfl xm _ i) rfl),
      pieceA (S := (scm (sc x0 x1))) (m := (mRef.view.read (Elt Ideal) xm)) (a := (accRef.view.read (Elt Ideal) xa)) (v := x2) 6 rfl (by decide +kernel) (fun r i => ldA 6 rfl xa _ r i) (fun r i => ldV 6 rfl arg5 x2 _ r i) (sumDiag 6 (sC6 arg3 arg4 x0 x1) (m := (mRef.view.read (Elt Ideal) xm)) (fun i => ldM 6 rfl xm _ i) rfl),
      pieceA (S := (scm (sc x0 x1))) (m := (mRef.view.read (Elt Ideal) xm)) (a := (accRef.view.read (Elt Ideal) xa)) (v := x2) 5 rfl (by decide +kernel) (fun r i => ldA 5 rfl xa _ r i) (fun r i => ldV 5 rfl arg5 x2 _ r i) (sumDiag 5 (sC5 arg3 arg4 x0 x1) (m := (mRef.view.read (Elt Ideal) xm)) (fun i => ldM 5 rfl xm _ i) rfl),
      pieceA (S := (scm (sc x0 x1))) (m := (mRef.view.read (Elt Ideal) xm)) (a := (accRef.view.read (Elt Ideal) xa)) (v := x2) 4 rfl (by decide +kernel) (fun r i => ldA 4 rfl xa _ r i) (fun r i => ldV 4 rfl arg5 x2 _ r i) (sumDiag 4 (sC4 arg3 arg4 x0 x1) (m := (mRef.view.read (Elt Ideal) xm)) (fun i => ldM 4 rfl xm _ i) rfl),
      pieceA (S := (scm (sc x0 x1))) (m := (mRef.view.read (Elt Ideal) xm)) (a := (accRef.view.read (Elt Ideal) xa)) (v := x2) 3 rfl (by decide +kernel) (fun r i => ldA 3 rfl xa _ r i) (fun r i => ldV 3 rfl arg5 x2 _ r i) (sumDiag 3 (sC3 arg3 arg4 x0 x1) (m := (mRef.view.read (Elt Ideal) xm)) (fun i => ldM 3 rfl xm _ i) rfl),
      pieceA (S := (scm (sc x0 x1))) (m := (mRef.view.read (Elt Ideal) xm)) (a := (accRef.view.read (Elt Ideal) xa)) (v := x2) 2 rfl (by decide +kernel) (fun r i => ldA 2 rfl xa _ r i) (fun r i => ldV 2 rfl arg5 x2 _ r i) (sumDiag 2 (sC2 arg3 arg4 x0 x1) (m := (mRef.view.read (Elt Ideal) xm)) (fun i => ldM 2 rfl xm _ i) rfl),
      pieceA (S := (scm (sc x0 x1))) (m := (mRef.view.read (Elt Ideal) xm)) (a := (accRef.view.read (Elt Ideal) xa)) (v := x2) 1 rfl (by decide +kernel) (fun r i => ldA 1 rfl xa _ r i) (fun r i => ldV 1 rfl arg5 x2 _ r i) (sumDiag 1 (sC1 arg3 arg4 x0 x1) (m := (mRef.view.read (Elt Ideal) xm)) (fun i => ldM 1 rfl xm _ i) rfl),
      pieceA (S := (scm (sc x0 x1))) (m := (mRef.view.read (Elt Ideal) xm)) (a := (accRef.view.read (Elt Ideal) xa)) (v := x2) 0 rfl (by decide +kernel) (fun r i => ldA 0 rfl xa _ r i) (fun r i => ldV 0 rfl arg5 x2 _ r i) (sumDiag 0 (sC0 arg3 arg4 x0 x1) (m := (mRef.view.read (Elt Ideal) xm)) (fun i => ldM 0 rfl xm _ i) rfl)⟩
  · exact View.cover_of_tiledL ((runC.sl.HA_8 (F := Ideal) c arg3 arg4 arg5 x0 x1 x2 xm xa).take 8) S144x1024.size (by sl_kernel_rfl) y

theorem canonOC (y : S1024x1024.Idx) : View.canon (runC.sl.HO_8 (F := Ideal) c arg3 arg4 arg5 x0 x1 x2 xm xa) y = GO (GA (scm (sc x0 x1)) (mRef.view.read (Elt Ideal) xm) (accRef.view.read (Elt Ideal) xa) x2) y := by
  refine View.canon_append_of_pieces (GO (GA (scm (sc x0 x1)) (mRef.view.read (Elt Ideal) xm) (accRef.view.read (Elt Ideal) xa) x2)) [] ((runC.sl.HO_8 (F := Ideal) c arg3 arg4 arg5 x0 x1 x2 xm xa).take 8) ?_ y ?_
  · show ∀ p ∈ [_, _, _, _, _, _, _, _], _
    simp only [List.forall_mem_cons, List.not_mem_nil, false_imp_iff, implies_true, and_true]
    exact ⟨pieceO (A := GA (scm (sc x0 x1)) (mRef.view.read (Elt Ideal) xm) (accRef.view.read (Elt Ideal) xa) x2) 7 rfl (by decide +kernel) (fun r i => ldN 7 rfl (canonAC c arg3 arg4 arg5 x0 x1 x2 xm xa) _ r i) (fun i => ldD 7 rfl (canonAC c arg3 arg4 arg5 x0 x1 x2 xm xa) _ i) rfl,
      pieceO (A := GA (scm (sc x0 x1)) (mRef.view.read (Elt Ideal) xm) (accRef.view.read (Elt Ideal) xa) x2) 6 rfl (by decide +kernel) (fun r i => ldN 6 rfl (canonAC c arg3 arg4 arg5 x0 x1 x2 xm xa) _ r i) (fun i => ldD 6 rfl (canonAC c arg3 arg4 arg5 x0 x1 x2 xm xa) _ i) rfl,
      pieceO (A := GA (scm (sc x0 x1)) (mRef.view.read (Elt Ideal) xm) (accRef.view.read (Elt Ideal) xa) x2) 5 rfl (by decide +kernel) (fun r i => ldN 5 rfl (canonAC c arg3 arg4 arg5 x0 x1 x2 xm xa) _ r i) (fun i => ldD 5 rfl (canonAC c arg3 arg4 arg5 x0 x1 x2 xm xa) _ i) rfl,
      pieceO (A := GA (scm (sc x0 x1)) (mRef.view.read (Elt Ideal) xm) (accRef.view.read (Elt Ideal) xa) x2) 4 rfl (by decide +kernel) (fun r i => ldN 4 rfl (canonAC c arg3 arg4 arg5 x0 x1 x2 xm xa) _ r i) (fun i => ldD 4 rfl (canonAC c arg3 arg4 arg5 x0 x1 x2 xm xa) _ i) rfl,
      pieceO (A := GA (scm (sc x0 x1)) (mRef.view.read (Elt Ideal) xm) (accRef.view.read (Elt Ideal) xa) x2) 3 rfl (by decide +kernel) (fun r i => ldN 3 rfl (canonAC c arg3 arg4 arg5 x0 x1 x2 xm xa) _ r i) (fun i => ldD 3 rfl (canonAC c arg3 arg4 arg5 x0 x1 x2 xm xa) _ i) rfl,
      pieceO (A := GA (scm (sc x0 x1)) (mRef.view.read (Elt Ideal) xm) (accRef.view.read (Elt Ideal) xa) x2) 2 rfl (by decide +kernel) (fun r i => ldN 2 rfl (canonAC c arg3 arg4 arg5 x0 x1 x2 xm xa) _ r i) (fun i => ldD 2 rfl (canonAC c arg3 arg4 arg5 x0 x1 x2 xm xa) _ i) rfl,
      pieceO (A := GA (scm (sc x0 x1)) (mRef.view.read (Elt Ideal) xm) (accRef.view.read (Elt Ideal) xa) x2) 1 rfl (by decide +kernel) (fun r i => ldN 1 rfl (canonAC c arg3 arg4 arg5 x0 x1 x2 xm xa) _ r i) (fun i => ldD 1 rfl (canonAC c arg3 arg4 arg5 x0 x1 x2 xm xa) _ i) rfl,
      pieceO (A := GA (scm (sc x0 x1)) (mRef.view.read (Elt Ideal) xm) (accRef.view.read (Elt Ideal) xa) x2) 0 rfl (by decide +kernel) (fun r i => ldN 0 rfl (canonAC c arg3 arg4 arg5 x0 x1 x2 xm xa) _ r i) (fun i => ldD 0 rfl (canonAC c arg3 arg4 arg5 x0 x1 x2 xm xa) _ i) rfl⟩
  · exact View.cover_of_tiledL ((runC.sl.HO_8 (F := Ideal) c arg3 arg4 arg5 x0 x1 x2 xm xa).take 8) S1024x128.size (by sl_kernel_rfl) y

end

end Cert.KernelIdeal.Fox

end
-- ==== Proof.Ideal.PathD.lean ====
module

public import proofs.«01_k».proof.Proof.Ideal.Pieces

@[expose] public section

set_option maxRecDepth 16384

/-! # The attention body's stores: a full block -/

noncomputable section

namespace Cert.KernelIdeal.Fox

open Cert.KernelIdeal Cert.KernelIdeal.Gen
open Idealize.ShloMosaic Idealize.ShloMosaic.TcCoe Idealize.ShloMosaic.Tactic

section
variable (c : Dev nD) (arg3 : Memref sig .tc .vmem S2048x1024 .bf16) (arg4 : Memref sig .tc .vmem S1024x2048 .bf16) (arg5 : Memref sig .tc .vmem S1152x1024 .bf16)
  (x0 : FVec Ideal S2048x1024 .bf16) (x1 : FVec Ideal S1024x2048 .bf16) (x2 : FVec Ideal S1152x1024 .bf16)
  (xm : Buf (Elt Ideal) ((c : Thread nD τ).loc cc1_scratch0)) (xa : Buf (Elt Ideal) ((c : Thread nD τ).loc cc1_scratch1))

theorem sD0 (j i : Fin 1024) : (runD.sl.v29 (F := Ideal) arg3 arg4 x0 x1 : FVec Ideal S1x1024x1024 .f32) (ix3 0 j i) = sc x0 x1 0 j i := by
  refine score_of (o := 0) (arg3 := arg3) (arg4 := arg4) 0 rfl (by decide +kernel) (by decide +kernel) ?_ j i
  unfold runD.sl.v29 runD.sl.HS_2
  refine Eq.trans (slot0 _ _ _ _ _) ?_
  rfl

theorem sD1 (j i : Fin 1024) : (runD.sl.v62 (F := Ideal) arg3 arg4 x0 x1 : FVec Ideal S1x1024x1024 .f32) (ix3 0 j i) = sc x0 x1 1 j i := by
  refine score_of (o := 256) (arg3 := arg3) (arg4 := arg4) 1 rfl (by decide +kernel) (by decide +kernel) ?_ j i
  unfold runD.sl.v62 runD.sl.HS_3 runD.sl.HS_2
  refine Eq.trans (slot1 _ _ _ _ _) ?_
  rfl

theorem sD2 (j i : Fin 1024) : (runD.sl.v95 (F := Ideal) arg3 arg4 x0 x1 : FVec Ideal S1x1024x1024 .f32) (ix3 0 j i) = sc x0 x1 2 j i := by
  refine score_of (o := 512) (arg3 := arg3) (arg4 := arg4) 2 rfl (by decide +kernel) (by decide +kernel) ?_ j i
  unfold runD.sl.v95 runD.sl.HS_4 runD.sl.HS_3
  refine Eq.trans (slot0 _ _ _ _ _) ?_
  rfl

theorem sD3 (j i : Fin 1024) : (runD.sl.v128 (F := Ideal) arg3 arg4 x0 x1 : FVec Ideal S1x1024x1024 .f32) (ix3 0 j i) = sc x0 x1 3 j i := by
  refine score_of (o := 768) (arg3 := arg3) (arg4 := arg4) 3 rfl (by decide +kernel) (by decide +kernel) ?_ j i
  unfold runD.sl.v128 runD.sl.HS_5 runD.sl.HS_4
  refine Eq.trans (slot1 _ _ _ _ _) ?_
  rfl

theorem sD4 (j i : Fin 1024) : (runD.sl.v161 (F := Ideal) arg3 arg4 x0 x1 : FVec Ideal S1x1024x1024 .f32) (ix3 0 j i) = sc x0 x1 4 j i := by
  refine score_of (o := 1024) (arg3 := arg3) (arg4 := arg4) 4 rfl (by decide +kernel) (by decide +kernel) ?_ j i
  unfold runD.sl.v161 runD.sl.HS_6 runD.sl.HS_5
  refine Eq.trans (slot0 _ _ _ _ _) ?_
  rfl

theorem sD5 (j i : Fin 1024) : (runD.sl.v194 (F := Ideal) arg3 arg4 x0 x1 : FVec Ideal S1x1024x1024 .f32) (ix3 0 j i) = sc x0 x1 5 j i := by
  refine score_of (o := 1280) (arg3 := arg3) (arg4 := arg4) 5 rfl (by decide +kernel) (by decide +kernel) ?_ j i
  unfold runD.sl.v194 runD.sl.HS_7 runD.sl.HS_6
  refine Eq.trans (slot1 _ _ _ _ _) ?_
  rfl

theorem sD6 (j i : Fin 1024) : (runD.sl.v227 (F := Ideal) arg3 arg4 x0 x1 : FVec Ideal S1x1024x1024 .f32) (ix3 0 j i) = sc x0 x1 6 j i := by
  refine score_of (o := 1536) (arg3 := arg3) (arg4 := arg4) 6 rfl (by decide +kernel) (by decide +kernel) ?_ j i
  unfold runD.sl.v227 runD.sl.HS_8 runD.sl.HS_7
  refine Eq.trans (slot0 _ _ _ _ _) ?_
  rfl

theorem sD7 (j i : Fin 1024) : (runD.sl.v252 (F := Ideal) arg3 arg4 x0 x1 : FVec Ideal S1x1024x1024 .f32) (ix3 0 j i) = sc x0 x1 7 j i := by
  refine score_of (o := 1792) (arg3 := arg3) (arg4 := arg4) 7 rfl (by decide +kernel) (by decide +kernel) ?_ j i
  unfold runD.sl.v252 runD.sl.HS_8
  refine Eq.trans (slotTop _ _ _) ?_
  rfl

theorem canonMD (y : S8x1024.Idx) : View.canon (runD.sl.HM_8 (F := Ideal) c arg3 arg4 x0 x1 xm) y = GM (sc x0 x1) (mRef.view.read (Elt Ideal) xm) y := by
  refine View.canon_append_of_pieces (GM (sc x0 x1) (mRef.view.read (Elt Ideal) xm)) [] ((runD.sl.HM_8 (F := Ideal) c arg3 arg4 x0 x1 xm).take 8) ?_ y ?_
  · show ∀ p ∈ [_, _, _, _, _, _, _, _], _
    simp only [List.forall_mem_cons, List.not_mem_nil, false_imp_iff, implies_true, and_true]
    exact ⟨pieceM (S := (sc x0 x1)) (m := (mRef.view.read (Elt Ideal) xm)) 7 rfl (by decide +kernel) (fun i => ldM 7 rfl xm _ i) (maxPlain 7 (sD7 arg3 arg4 x0 x1) rfl),
      pieceM (S := (sc x0 x1)) (m := (mRef.view.read (Elt Ideal) xm)) 6 rfl (by decide +kernel) (fun i => ldM 6 rfl xm _ i) (maxPlain 6 (sD6 arg3 arg4 x0 x1) rfl),
      pieceM (S := (sc x0 x1)) (m := (mRef.view.read (Elt Ideal) xm)) 5 rfl (by decide +kernel) (fun i => ldM 5 rfl xm _ i) (maxPlain 5 (sD5 arg3 arg4 x0 x1) rfl),
      pieceM (S := (sc x0 x1)) (m := (mRef.view.read (Elt Ideal) xm)) 4 rfl (by decide +kernel) (fun i => ldM 4 rfl xm _ i) (maxPlain 4 (sD4 arg3 arg4 x0 x1) rfl),
      pieceM (S := (sc x0 x1)) (m := (mRef.view.read (Elt Ideal) xm)) 3 rfl (by decide +kernel) (fun i => ldM 3 rfl xm _ i) (maxPlain 3 (sD3 arg3 arg4 x0 x1) rfl),
      pieceM (S := (sc x0 x1)) (m := (mRef.view.read (Elt Ideal) xm)) 2 rfl (by decide +kernel) (fun i => ldM 2 rfl xm _ i) (maxPlain 2 (sD2 arg3 arg4 x0 x1) rfl),
      pieceM (S := (sc x0 x1)) (m := (mRef.view.read (Elt Ideal) xm)) 1 rfl (by decide +kernel) (fun i => ldM 1 rfl xm _ i) (maxPlain 1 (sD1 arg3 arg4 x0 x1) rfl),
      pieceM (S := (sc x0 x1)) (m := (mRef.view.read (Elt Ideal) xm)) 0 rfl (by decide +kernel) (fun i => ldM 0 rfl xm _ i) (maxPlain 0 (sD0 arg3 arg4 x0 x1) rfl)⟩
  · exact View.cover_of_tiledL ((runD.sl.HM_8 (F := Ideal) c arg3 arg4 x0 x1 xm).take 8) S1x1024.size (by sl_kernel_rfl) y

theorem canonAD (y : S1152x1024.Idx) : View.canon (runD.sl.HA_8 (F := Ideal) c arg3 arg4 arg5 x0 x1 x2 xm xa) y = GA (sc x0 x1) (mRef.view.read (Elt Ideal) xm) (accRef.view.read (Elt Ideal) xa) x2 y := by
  refine View.canon_append_of_pieces (GA (sc x0 x1) (mRef.view.read (Elt Ideal) xm) (accRef.view.read (Elt Ideal) xa) x2) [] ((runD.sl.HA_8 (F := Ideal) c arg3 arg4 arg5 x0 x1 x2 xm xa).take 8) ?_ y ?_
  · show ∀ p ∈ [_, _, _, _, _, _, _, _], _
    simp only [List.forall_mem_cons, List.not_mem_nil, false_imp_iff, implies_true, and_true]
    exact ⟨pieceA (S := (sc x0 x1)) (m := (mRef.view.read (Elt Ideal) xm)) (a := (accRef.view.read (Elt Ideal) xa)) (v := x2) 7 rfl (by decide +kernel) (fun r i => ldA 7 rfl xa _ r i) (fun r i => ldV 7 rfl arg5 x2 _ r i) (sumPlain 7 (sD7 arg3 arg4 x0 x1) (m := (mRef.view.read (Elt Ideal) xm)) (fun i => ldM 7 rfl xm _ i) rfl),
      pieceA (S := (sc x0 x1)) (m := (mRef.view.read (Elt Ideal) xm)) (a := (accRef.view.read (Elt Ideal) xa)) (v := x2) 6 rfl (by decide +kernel) (fun r i => ldA 6 rfl xa _ r i) (fun r i => ldV 6 rfl arg5 x2 _ r i) (sumPlain 6 (sD6 arg3 arg4 x0 x1) (m := (mRef.view.read (Elt Ideal) xm)) (fun i => ldM 6 rfl xm _ i) rfl),
      pieceA (S := (sc x0 x1)) (m := (mRef.view.read (Elt Ideal) xm)) (a := (accRef.view.read (Elt Ideal) xa)) (v := x2) 5 rfl (by decide +kernel) (fun r i => ldA 5 rfl xa _ r i) (fun r i => ldV 5 rfl arg5 x2 _ r i) (sumPlain 5 (sD5 arg3 arg4 x0 x1) (m := (mRef.view.read (Elt Ideal) xm)) (fun i => ldM 5 rfl xm _ i) rfl),
      pieceA (S := (sc x0 x1)) (m := (mRef.view.read (Elt Ideal) xm)) (a := (accRef.view.read (Elt Ideal) xa)) (v := x2) 4 rfl (by decide +kernel) (fun r i => ldA 4 rfl xa _ r i) (fun r i => ldV 4 rfl arg5 x2 _ r i) (sumPlain 4 (sD4 arg3 arg4 x0 x1) (m := (mRef.view.read (Elt Ideal) xm)) (fun i => ldM 4 rfl xm _ i) rfl),
      pieceA (S := (sc x0 x1)) (m := (mRef.view.read (Elt Ideal) xm)) (a := (accRef.view.read (Elt Ideal) xa)) (v := x2) 3 rfl (by decide +kernel) (fun r i => ldA 3 rfl xa _ r i) (fun r i => ldV 3 rfl arg5 x2 _ r i) (sumPlain 3 (sD3 arg3 arg4 x0 x1) (m := (mRef.view.read (Elt Ideal) xm)) (fun i => ldM 3 rfl xm _ i) rfl),
      pieceA (S := (sc x0 x1)) (m := (mRef.view.read (Elt Ideal) xm)) (a := (accRef.view.read (Elt Ideal) xa)) (v := x2) 2 rfl (by decide +kernel) (fun r i => ldA 2 rfl xa _ r i) (fun r i => ldV 2 rfl arg5 x2 _ r i) (sumPlain 2 (sD2 arg3 arg4 x0 x1) (m := (mRef.view.read (Elt Ideal) xm)) (fun i => ldM 2 rfl xm _ i) rfl),
      pieceA (S := (sc x0 x1)) (m := (mRef.view.read (Elt Ideal) xm)) (a := (accRef.view.read (Elt Ideal) xa)) (v := x2) 1 rfl (by decide +kernel) (fun r i => ldA 1 rfl xa _ r i) (fun r i => ldV 1 rfl arg5 x2 _ r i) (sumPlain 1 (sD1 arg3 arg4 x0 x1) (m := (mRef.view.read (Elt Ideal) xm)) (fun i => ldM 1 rfl xm _ i) rfl),
      pieceA (S := (sc x0 x1)) (m := (mRef.view.read (Elt Ideal) xm)) (a := (accRef.view.read (Elt Ideal) xa)) (v := x2) 0 rfl (by decide +kernel) (fun r i => ldA 0 rfl xa _ r i) (fun r i => ldV 0 rfl arg5 x2 _ r i) (sumPlain 0 (sD0 arg3 arg4 x0 x1) (m := (mRef.view.read (Elt Ideal) xm)) (fun i => ldM 0 rfl xm _ i) rfl)⟩
  · exact View.cover_of_tiledL ((runD.sl.HA_8 (F := Ideal) c arg3 arg4 arg5 x0 x1 x2 xm xa).take 8) S144x1024.size (by sl_kernel_rfl) y

end

end Cert.KernelIdeal.Fox

end
-- ==== Proof.Ideal.Steps.lean ====
module

public import proofs.«01_k».proof.Proof.Ideal.PathA
public import proofs.«01_k».proof.Proof.Ideal.PathB
public import proofs.«01_k».proof.Proof.Ideal.PathC
public import proofs.«01_k».proof.Proof.Ideal.PathD
public import proofs.«01_k».proof.Proof.Ideal.AttnData

@[expose] public section

set_option maxRecDepth 16384
set_option Elab.async false

/-! # What one schedule point makes of the running maximum and the running sums -/

noncomputable section

namespace Cert.KernelIdeal.Fox

open Cert.KernelIdeal Cert.KernelIdeal.Gen
open Idealize.ShloMosaic Idealize.ShloMosaic.TcCoe Idealize.ShloMosaic.Tactic

section
variable (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (arg6 : Memref sig .tc .vmem S1024x1024 .bf16) (harg6 : arg6.IsWhole)
    (T : pre1.Contents (Elt Ideal)) (x0 : S2048x1024.Idx → Elt Ideal .bf16) (x1 : S1024x2048.Idx → Elt Ideal .bf16) (x2 : S1152x1024.Idx → Elt Ideal .bf16)
    (hc0 : (Scalar.cmpi .ne (Scalar.extui (Scalar.cmpi .eq (View.readAt (Elt Ideal) kTab.view (Rect.unit (s := S136) (k1_off1 i) S1.size (k1_off1_inb i)).toLoadRect (T 1) (Shape.Idx.first (numel1_S1.symm ▸ Nat.one_pos))) 0#32)) 0#32) = 1#1)
    (hc1 : ¬((Scalar.cmpi .ne (Scalar.extui (Scalar.cmpi .slt (View.readAt (Elt Ideal) kTab.view (Rect.unit (s := S136) (k1_off1 i) S1.size (k1_off1_inb i)).toLoadRect (T 1) (Shape.Idx.first (numel1_S1.symm ▸ Nat.one_pos))) (View.readAt (Elt Ideal) qTab.view (Rect.unit (s := S136) (k1_off1 i) S1.size (k1_off1_inb i)).toLoadRect (T 0) (Shape.Idx.first (numel1_S1.symm ▸ Nat.one_pos))))) 0#32) = 1#1))
    (hc3 : k1_cond3 (View.readAt (Elt Ideal) qTab.view (Rect.unit (s := S136) (k1_off1 i) S1.size (k1_off1_inb i)).toLoadRect (T 0) (Shape.Idx.first (numel1_S1.symm ▸ Nat.one_pos))) (View.readAt (Elt Ideal) kTab.view (Rect.unit (s := S136) (k1_off1 i) S1.size (k1_off1_inb i)).toLoadRect (T 1) (Shape.Idx.first (numel1_S1.symm ▸ Nat.one_pos))) = 1#1)

theorem leftMA : View.read (Elt Ideal) (View.whole cc1_scratch0) (runA (F := Ideal) c i arg3 harg3 arg4 harg4 arg5 harg5 arg6 harg6 (T 0) (T 1) x0 x1 x2 hc0 hc1 hc3).2.1 = GM (scm (sc x0 x1)) m0A := by
  unfold runA; dsimp only
  refine Eq.trans (View.read_writes_junk_eq_canon (View.whole cc1_scratch0) (runA.sl.HM_9 (F := Ideal) arg3 arg4 x0 x1)) ?_
  funext y; exact canonMA arg3 arg4 x0 x1 y
theorem leftAA : View.read (Elt Ideal) (View.whole cc1_scratch1) (runA (F := Ideal) c i arg3 harg3 arg4 harg4 arg5 harg5 arg6 harg6 (T 0) (T 1) x0 x1 x2 hc0 hc1 hc3).2.2.1 = GA (scm (sc x0 x1)) m0A a0A x2 := by
  unfold runA; dsimp only
  refine Eq.trans (View.read_writes_junk_eq_canon (View.whole cc1_scratch1) (runA.sl.HA_9 (F := Ideal) arg3 arg4 arg5 x0 x1 x2)) ?_
  funext y; exact canonAA arg3 arg4 arg5 x0 x1 x2 y
theorem leftOA : VO.read (Elt Ideal) (VO.writes (Elt Ideal) VO.junk (runA (F := Ideal) c i arg3 harg3 arg4 harg4 arg5 harg5 arg6 harg6 (T 0) (T 1) x0 x1 x2 hc0 hc1 hc3).1) = GO (GA (scm (sc x0 x1)) m0A a0A x2) := by
  unfold runA; dsimp only
  refine Eq.trans (View.read_writes_junk_eq_canon VO (runA.sl.HO_8 (F := Ideal) arg3 arg4 arg5 x0 x1 x2)) ?_
  funext y; exact canonOA arg3 arg4 arg5 x0 x1 x2 y

end

section
variable (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (arg6 : Memref sig .tc .vmem S1024x1024 .bf16) (harg6 : arg6.IsWhole)
    (T : pre1.Contents (Elt Ideal)) (x0 : S2048x1024.Idx → Elt Ideal .bf16) (x1 : S1024x2048.Idx → Elt Ideal .bf16) (x2 : S1152x1024.Idx → Elt Ideal .bf16)
    (hc0 : (Scalar.cmpi .ne (Scalar.extui (Scalar.cmpi .eq (View.readAt (Elt Ideal) kTab.view (Rect.unit (s := S136) (k1_off1 i) S1.size (k1_off1_inb i)).toLoadRect (T 1) (Shape.Idx.first (numel1_S1.symm ▸ Nat.one_pos))) 0#32)) 0#32) = 1#1)
    (hc1 : (Scalar.cmpi .ne (Scalar.extui (Scalar.cmpi .slt (View.readAt (Elt Ideal) kTab.view (Rect.unit (s := S136) (k1_off1 i) S1.size (k1_off1_inb i)).toLoadRect (T 1) (Shape.Idx.first (numel1_S1.symm ▸ Nat.one_pos))) (View.readAt (Elt Ideal) qTab.view (Rect.unit (s := S136) (k1_off1 i) S1.size (k1_off1_inb i)).toLoadRect (T 0) (Shape.Idx.first (numel1_S1.symm ▸ Nat.one_pos))))) 0#32) = 1#1)
    (hc3 : ¬(k1_cond3 (View.readAt (Elt Ideal) qTab.view (Rect.unit (s := S136) (k1_off1 i) S1.size (k1_off1_inb i)).toLoadRect (T 0) (Shape.Idx.first (numel1_S1.symm ▸ Nat.one_pos))) (View.readAt (Elt Ideal) kTab.view (Rect.unit (s := S136) (k1_off1 i) S1.size (k1_off1_inb i)).toLoadRect (T 1) (Shape.Idx.first (numel1_S1.symm ▸ Nat.one_pos))) = 1#1))

theorem leftMB : View.read (Elt Ideal) (View.whole cc1_scratch0) (runB (F := Ideal) c i arg3 harg3 arg4 harg4 arg5 harg5 arg6 harg6 (T 0) (T 1) x0 x1 x2 hc0 hc1 hc3).1 = GM (sc x0 x1) m0B := by
  unfold runB; dsimp only
  refine Eq.trans (View.read_writes_junk_eq_canon (View.whole cc1_scratch0) (runB.sl.HM_9 (F := Ideal) arg3 arg4 x0 x1)) ?_
  funext y; exact canonMB arg3 arg4 x0 x1 y
theorem leftAB : View.read (Elt Ideal) (View.whole cc1_scratch1) (runB (F := Ideal) c i arg3 harg3 arg4 harg4 arg5 harg5 arg6 harg6 (T 0) (T 1) x0 x1 x2 hc0 hc1 hc3).2.1 = GA (sc x0 x1) m0B a0B x2 := by
  unfold runB; dsimp only
  refine Eq.trans (View.read_writes_junk_eq_canon (View.whole cc1_scratch1) (runB.sl.HA_9 (F := Ideal) arg3 arg4 arg5 x0 x1 x2)) ?_
  funext y; exact canonAB arg3 arg4 arg5 x0 x1 x2 y

end

section
variable (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (arg6 : Memref sig .tc .vmem S1024x1024 .bf16) (harg6 : arg6.IsWhole)
    (T : pre1.Contents (Elt Ideal)) (x0 : S2048x1024.Idx → Elt Ideal .bf16) (x1 : S1024x2048.Idx → Elt Ideal .bf16) (x2 : S1152x1024.Idx → Elt Ideal .bf16) (xm : Buf (Elt Ideal) ((c : Thread nD τ).loc cc1_scratch0)) (xa : Buf (Elt Ideal) ((c : Thread nD τ).loc cc1_scratch1))
    (hc0 : ¬((Scalar.cmpi .ne (Scalar.extui (Scalar.cmpi .eq (View.readAt (Elt Ideal) kTab.view (Rect.unit (s := S136) (k1_off1 i) S1.size (k1_off1_inb i)).toLoadRect (T 1) (Shape.Idx.first (numel1_S1.symm ▸ Nat.one_pos))) 0#32)) 0#32) = 1#1))
    (hc1 : ¬((Scalar.cmpi .ne (Scalar.extui (Scalar.cmpi .slt (View.readAt (Elt Ideal) kTab.view (Rect.unit (s := S136) (k1_off1 i) S1.size (k1_off1_inb i)).toLoadRect (T 1) (Shape.Idx.first (numel1_S1.symm ▸ Nat.one_pos))) (View.readAt (Elt Ideal) qTab.view (Rect.unit (s := S136) (k1_off1 i) S1.size (k1_off1_inb i)).toLoadRect (T 0) (Shape.Idx.first (numel1_S1.symm ▸ Nat.one_pos))))) 0#32) = 1#1))
    (hc3 : k1_cond3 (View.readAt (Elt Ideal) qTab.view (Rect.unit (s := S136) (k1_off1 i) S1.size (k1_off1_inb i)).toLoadRect (T 0) (Shape.Idx.first (numel1_S1.symm ▸ Nat.one_pos))) (View.readAt (Elt Ideal) kTab.view (Rect.unit (s := S136) (k1_off1 i) S1.size (k1_off1_inb i)).toLoadRect (T 1) (Shape.Idx.first (numel1_S1.symm ▸ Nat.one_pos))) = 1#1)

theorem leftMC : View.read (Elt Ideal) (View.whole cc1_scratch0) (runC (F := Ideal) c i arg3 harg3 arg4 harg4 arg5 harg5 arg6 harg6 (T 0) (T 1) x0 x1 x2 xm xa hc0 hc1 hc3).2.1 = GM (scm (sc x0 x1)) (mRef.view.read (Elt Ideal) xm) := by
  unfold runC; dsimp only
  refine Eq.trans (View.read_writes_junk_eq_canon (View.whole cc1_scratch0) (runC.sl.HM_8 (F := Ideal) c arg3 arg4 x0 x1 xm)) ?_
  funext y; exact canonMC c arg3 arg4 x0 x1 xm y
theorem leftAC : View.read (Elt Ideal) (View.whole cc1_scratch1) (runC (F := Ideal) c i arg3 harg3 arg4 harg4 arg5 harg5 arg6 harg6 (T 0) (T 1) x0 x1 x2 xm xa hc0 hc1 hc3).2.2.1 = GA (scm (sc x0 x1)) (mRef.view.read (Elt Ideal) xm) (accRef.view.read (Elt Ideal) xa) x2 := by
  unfold runC; dsimp only
  refine Eq.trans (View.read_writes_junk_eq_canon (View.whole cc1_scratch1) (runC.sl.HA_8 (F := Ideal) c arg3 arg4 arg5 x0 x1 x2 xm xa)) ?_
  funext y; exact canonAC c arg3 arg4 arg5 x0 x1 x2 xm xa y
theorem leftOC : VO.read (Elt Ideal) (VO.writes (Elt Ideal) VO.junk (runC (F := Ideal) c i arg3 harg3 arg4 harg4 arg5 harg5 arg6 harg6 (T 0) (T 1) x0 x1 x2 xm xa hc0 hc1 hc3).1) = GO (GA (scm (sc x0 x1)) (mRef.view.read (Elt Ideal) xm) (accRef.view.read (Elt Ideal) xa) x2) := by
  unfold runC; dsimp only
  refine Eq.trans (View.read_writes_junk_eq_canon VO (runC.sl.HO_8 (F := Ideal) c arg3 arg4 arg5 x0 x1 x2 xm xa)) ?_
  funext y; exact canonOC c arg3 arg4 arg5 x0 x1 x2 xm xa y

end

section
variable (c : Dev nD) (i : grid1.Coords) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole) (arg6 : Memref sig .tc .vmem S1024x1024 .bf16) (harg6 : arg6.IsWhole)
    (T : pre1.Contents (Elt Ideal)) (x0 : S2048x1024.Idx → Elt Ideal .bf16) (x1 : S1024x2048.Idx → Elt Ideal .bf16) (x2 : S1152x1024.Idx → Elt Ideal .bf16) (xm : Buf (Elt Ideal) ((c : Thread nD τ).loc cc1_scratch0)) (xa : Buf (Elt Ideal) ((c : Thread nD τ).loc cc1_scratch1))
    (hc0 : ¬((Scalar.cmpi .ne (Scalar.extui (Scalar.cmpi .eq (View.readAt (Elt Ideal) kTab.view (Rect.unit (s := S136) (k1_off1 i) S1.size (k1_off1_inb i)).toLoadRect (T 1) (Shape.Idx.first (numel1_S1.symm ▸ Nat.one_pos))) 0#32)) 0#32) = 1#1))
    (hc1 : (Scalar.cmpi .ne (Scalar.extui (Scalar.cmpi .slt (View.readAt (Elt Ideal) kTab.view (Rect.unit (s := S136) (k1_off1 i) S1.size (k1_off1_inb i)).toLoadRect (T 1) (Shape.Idx.first (numel1_S1.symm ▸ Nat.one_pos))) (View.readAt (Elt Ideal) qTab.view (Rect.unit (s := S136) (k1_off1 i) S1.size (k1_off1_inb i)).toLoadRect (T 0) (Shape.Idx.first (numel1_S1.symm ▸ Nat.one_pos))))) 0#32) = 1#1)
    (hc3 : ¬(k1_cond3 (View.readAt (Elt Ideal) qTab.view (Rect.unit (s := S136) (k1_off1 i) S1.size (k1_off1_inb i)).toLoadRect (T 0) (Shape.Idx.first (numel1_S1.symm ▸ Nat.one_pos))) (View.readAt (Elt Ideal) kTab.view (Rect.unit (s := S136) (k1_off1 i) S1.size (k1_off1_inb i)).toLoadRect (T 1) (Shape.Idx.first (numel1_S1.symm ▸ Nat.one_pos))) = 1#1))

theorem leftMD : View.read (Elt Ideal) (View.whole cc1_scratch0) (runD (F := Ideal) c i arg3 harg3 arg4 harg4 arg5 harg5 arg6 harg6 (T 0) (T 1) x0 x1 x2 xm xa hc0 hc1 hc3).1 = GM (sc x0 x1) (mRef.view.read (Elt Ideal) xm) := by
  unfold runD; dsimp only
  refine Eq.trans (View.read_writes_junk_eq_canon (View.whole cc1_scratch0) (runD.sl.HM_8 (F := Ideal) c arg3 arg4 x0 x1 xm)) ?_
  funext y; exact canonMD c arg3 arg4 x0 x1 xm y
theorem leftAD : View.read (Elt Ideal) (View.whole cc1_scratch1) (runD (F := Ideal) c i arg3 harg3 arg4 harg4 arg5 harg5 arg6 harg6 (T 0) (T 1) x0 x1 x2 xm xa hc0 hc1 hc3).2.1 = GA (sc x0 x1) (mRef.view.read (Elt Ideal) xm) (accRef.view.read (Elt Ideal) xa) x2 := by
  unfold runD; dsimp only
  refine Eq.trans (View.read_writes_junk_eq_canon (View.whole cc1_scratch1) (runD.sl.HA_8 (F := Ideal) c arg3 arg4 arg5 x0 x1 x2 xm xa)) ?_
  funext y; exact canonAD c arg3 arg4 arg5 x0 x1 x2 xm xa y

end

/-- The running maximum, read as an array. -/
def rdM {c : Dev nD} (p : St (F := Ideal) c) : FVec Ideal S8x1024 .f32 := mRef.view.read (Elt Ideal) p.1
/-- The running sums, read as an array. -/
def rdA {c : Dev nD} (p : St (F := Ideal) c) : FVec Ideal S1152x1024 .f32 := accRef.view.read (Elt Ideal) p.2

/-- The scores of a point: on the diagonal block the later keys are masked. -/
def scAt (d : Bool) (x0 : FVec Ideal S2048x1024 .bf16) (x1 : FVec Ideal S1024x2048 .bf16) : Sc := if d then scm (sc x0 x1) else sc x0 x1

variable (W : Dev nD → Valuation τ sig (Elt Ideal))

/-- The maximum a point starts from. -/
def mIn {c : Dev nD} (t : Fin (cfgA (F := Ideal)).N) (p : St (F := Ideal) c) : FVec Ideal S8x1024 .f32 := if kb t = 0 then fun _ => ⊥ else rdM p
/-- The sums a point starts from. -/
def aIn {c : Dev nD} (t : Fin (cfgA (F := Ideal)).N) (p : St (F := Ideal) c) : FVec Ideal S1152x1024 .f32 := if kb t = 0 then fun _ => 0 else rdA p
/-- The scores at a point. -/
def sAt (c : Dev nD) (t : Fin (cfgA (F := Ideal)).N) : Sc := scAt (decide (¬ kb t < qb t)) (blk W c 0 t) (blk W c 1 t)

theorem sAtA (c : Dev nD) (t : Fin (cfgA (F := Ideal)).N) (h1 : ¬kb t < qb t) : sAt W c t = scm (sc (blk W c 0 t) (blk W c 1 t)) := if_pos (decide_eq_true h1)
theorem stepMA (c : Dev nD) (t : Fin (cfgA (F := Ideal)).N) (p : St (F := Ideal) c) (h0 : kb t = 0) (h1 : ¬kb t < qb t) :
    rdM (step W c t p) = GM (sAt W c t) (mIn t p) := by
  have hm : mIn t p = m0A := if_pos h0
  rw [sAtA W c t h1, hm, stepA W c t p h0 h1]
  unfold rdM
  dsimp only
  exact leftMA c (crd (F := Ideal) t) (ms0 (F := Ideal) t) (hs0 (F := Ideal) t) (ms1 (F := Ideal) t) (hs1 (F := Ideal) t) (ms2 (F := Ideal) t) (hs2 (F := Ideal) t) (ms3 (F := Ideal) t) (hs3 (F := Ideal) t) (tabC (F := Ideal)) (blk (F := Ideal) W c 0 t) (blk (F := Ideal) W c 1 t) (blk (F := Ideal) W c 2 t) ((P0_iff (F := Ideal) t).2 h0) (mt (P1_iff (F := Ideal) t).1 h1) ((P3_iff (F := Ideal) t).2 (eq_of_not_lt t h1))
theorem stepAA (c : Dev nD) (t : Fin (cfgA (F := Ideal)).N) (p : St (F := Ideal) c) (h0 : kb t = 0) (h1 : ¬kb t < qb t) :
    rdA (step W c t p) = GA (sAt W c t) (mIn t p) (aIn t p) (blk W c 2 t) := by
  have hm : mIn t p = m0A := if_pos h0
  have ha : aIn t p = a0A := if_pos h0
  rw [sAtA W c t h1, hm, ha, stepA W c t p h0 h1]
  unfold rdA
  dsimp only
  exact leftAA c (crd (F := Ideal) t) (ms0 (F := Ideal) t) (hs0 (F := Ideal) t) (ms1 (F := Ideal) t) (hs1 (F := Ideal) t) (ms2 (F := Ideal) t) (hs2 (F := Ideal) t) (ms3 (F := Ideal) t) (hs3 (F := Ideal) t) (tabC (F := Ideal)) (blk (F := Ideal) W c 0 t) (blk (F := Ideal) W c 1 t) (blk (F := Ideal) W c 2 t) ((P0_iff (F := Ideal) t).2 h0) (mt (P1_iff (F := Ideal) t).1 h1) ((P3_iff (F := Ideal) t).2 (eq_of_not_lt t h1))
theorem outBlkA (c : Dev nD) (t : Fin (cfgA (F := Ideal)).N) (p : St (F := Ideal) c) (h0 : kb t = 0) (h1 : ¬kb t < qb t) :
    outBlk W c t p = GO (rdA (step W c t p)) := by
  have hm : mIn t p = m0A := if_pos h0
  have ha : aIn t p = a0A := if_pos h0
  rw [stepAA W c t p h0 h1, outA W c t p h0 h1, sAtA W c t h1, hm, ha]
  exact leftOA c (crd (F := Ideal) t) (ms0 (F := Ideal) t) (hs0 (F := Ideal) t) (ms1 (F := Ideal) t) (hs1 (F := Ideal) t) (ms2 (F := Ideal) t) (hs2 (F := Ideal) t) (ms3 (F := Ideal) t) (hs3 (F := Ideal) t) (tabC (F := Ideal)) (blk (F := Ideal) W c 0 t) (blk (F := Ideal) W c 1 t) (blk (F := Ideal) W c 2 t) ((P0_iff (F := Ideal) t).2 h0) (mt (P1_iff (F := Ideal) t).1 h1) ((P3_iff (F := Ideal) t).2 (eq_of_not_lt t h1))

theorem sAtB (c : Dev nD) (t : Fin (cfgA (F := Ideal)).N) (h1 : kb t < qb t) : sAt W c t = sc (blk W c 0 t) (blk W c 1 t) := if_neg (by simp [h1])
theorem stepMB (c : Dev nD) (t : Fin (cfgA (F := Ideal)).N) (p : St (F := Ideal) c) (h0 : kb t = 0) (h1 : kb t < qb t) :
    rdM (step W c t p) = GM (sAt W c t) (mIn t p) := by
  have hm : mIn t p = m0B := if_pos h0
  rw [sAtB W c t h1, hm, stepB W c t p h0 h1]
  unfold rdM
  dsimp only
  exact leftMB c (crd (F := Ideal) t) (ms0 (F := Ideal) t) (hs0 (F := Ideal) t) (ms1 (F := Ideal) t) (hs1 (F := Ideal) t) (ms2 (F := Ideal) t) (hs2 (F := Ideal) t) (ms3 (F := Ideal) t) (hs3 (F := Ideal) t) (tabC (F := Ideal)) (blk (F := Ideal) W c 0 t) (blk (F := Ideal) W c 1 t) (blk (F := Ideal) W c 2 t) ((P0_iff (F := Ideal) t).2 h0) ((P1_iff (F := Ideal) t).2 h1) (mt (P3_iff (F := Ideal) t).1 (ne_of_lt t h1))
theorem stepAB (c : Dev nD) (t : Fin (cfgA (F := Ideal)).N) (p : St (F := Ideal) c) (h0 : kb t = 0) (h1 : kb t < qb t) :
    rdA (step W c t p) = GA (sAt W c t) (mIn t p) (aIn t p) (blk W c 2 t) := by
  have hm : mIn t p = m0B := if_pos h0
  have ha : aIn t p = a0B := if_pos h0
  rw [sAtB W c t h1, hm, ha, stepB W c t p h0 h1]
  unfold rdA
  dsimp only
  exact leftAB c (crd (F := Ideal) t) (ms0 (F := Ideal) t) (hs0 (F := Ideal) t) (ms1 (F := Ideal) t) (hs1 (F := Ideal) t) (ms2 (F := Ideal) t) (hs2 (F := Ideal) t) (ms3 (F := Ideal) t) (hs3 (F := Ideal) t) (tabC (F := Ideal)) (blk (F := Ideal) W c 0 t) (blk (F := Ideal) W c 1 t) (blk (F := Ideal) W c 2 t) ((P0_iff (F := Ideal) t).2 h0) ((P1_iff (F := Ideal) t).2 h1) (mt (P3_iff (F := Ideal) t).1 (ne_of_lt t h1))

theorem sAtC (c : Dev nD) (t : Fin (cfgA (F := Ideal)).N) (h1 : ¬kb t < qb t) : sAt W c t = scm (sc (blk W c 0 t) (blk W c 1 t)) := if_pos (decide_eq_true h1)
theorem stepMC (c : Dev nD) (t : Fin (cfgA (F := Ideal)).N) (p : St (F := Ideal) c) (h0 : ¬kb t = 0) (h1 : ¬kb t < qb t) :
    rdM (step W c t p) = GM (sAt W c t) (mIn t p) := by
  have hm : mIn t p = mRef.view.read (Elt Ideal) p.1 := if_neg h0
  rw [sAtC W c t h1, hm, stepC W c t p h0 h1]
  unfold rdM
  dsimp only
  exact leftMC c (crd (F := Ideal) t) (ms0 (F := Ideal) t) (hs0 (F := Ideal) t) (ms1 (F := Ideal) t) (hs1 (F := Ideal) t) (ms2 (F := Ideal) t) (hs2 (F := Ideal) t) (ms3 (F := Ideal) t) (hs3 (F := Ideal) t) (tabC (F := Ideal)) (blk (F := Ideal) W c 0 t) (blk (F := Ideal) W c 1 t) (blk (F := Ideal) W c 2 t) p.1 p.2 (mt (P0_iff (F := Ideal) t).1 h0) (mt (P1_iff (F := Ideal) t).1 h1) ((P3_iff (F := Ideal) t).2 (eq_of_not_lt t h1))
theorem stepAC (c : Dev nD) (t : Fin (cfgA (F := Ideal)).N) (p : St (F := Ideal) c) (h0 : ¬kb t = 0) (h1 : ¬kb t < qb t) :
    rdA (step W c t p) = GA (sAt W c t) (mIn t p) (aIn t p) (blk W c 2 t) := by
  have hm : mIn t p = mRef.view.read (Elt Ideal) p.1 := if_neg h0
  have ha : aIn t p = accRef.view.read (Elt Ideal) p.2 := if_neg h0
  rw [sAtC W c t h1, hm, ha, stepC W c t p h0 h1]
  unfold rdA
  dsimp only
  exact leftAC c (crd (F := Ideal) t) (ms0 (F := Ideal) t) (hs0 (F := Ideal) t) (ms1 (F := Ideal) t) (hs1 (F := Ideal) t) (ms2 (F := Ideal) t) (hs2 (F := Ideal) t) (ms3 (F := Ideal) t) (hs3 (F := Ideal) t) (tabC (F := Ideal)) (blk (F := Ideal) W c 0 t) (blk (F := Ideal) W c 1 t) (blk (F := Ideal) W c 2 t) p.1 p.2 (mt (P0_iff (F := Ideal) t).1 h0) (mt (P1_iff (F := Ideal) t).1 h1) ((P3_iff (F := Ideal) t).2 (eq_of_not_lt t h1))
theorem outBlkC (c : Dev nD) (t : Fin (cfgA (F := Ideal)).N) (p : St (F := Ideal) c) (h0 : ¬kb t = 0) (h1 : ¬kb t < qb t) :
    outBlk W c t p = GO (rdA (step W c t p)) := by
  have hm : mIn t p = mRef.view.read (Elt Ideal) p.1 := if_neg h0
  have ha : aIn t p = accRef.view.read (Elt Ideal) p.2 := if_neg h0
  rw [stepAC W c t p h0 h1, outC W c t p h0 h1, sAtC W c t h1, hm, ha]
  exact leftOC c (crd (F := Ideal) t) (ms0 (F := Ideal) t) (hs0 (F := Ideal) t) (ms1 (F := Ideal) t) (hs1 (F := Ideal) t) (ms2 (F := Ideal) t) (hs2 (F := Ideal) t) (ms3 (F := Ideal) t) (hs3 (F := Ideal) t) (tabC (F := Ideal)) (blk (F := Ideal) W c 0 t) (blk (F := Ideal) W c 1 t) (blk (F := Ideal) W c 2 t) p.1 p.2 (mt (P0_iff (F := Ideal) t).1 h0) (mt (P1_iff (F := Ideal) t).1 h1) ((P3_iff (F := Ideal) t).2 (eq_of_not_lt t h1))

theorem sAtD (c : Dev nD) (t : Fin (cfgA (F := Ideal)).N) (h1 : kb t < qb t) : sAt W c t = sc (blk W c 0 t) (blk W c 1 t) := if_neg (by simp [h1])
theorem stepMD (c : Dev nD) (t : Fin (cfgA (F := Ideal)).N) (p : St (F := Ideal) c) (h0 : ¬kb t = 0) (h1 : kb t < qb t) :
    rdM (step W c t p) = GM (sAt W c t) (mIn t p) := by
  have hm : mIn t p = mRef.view.read (Elt Ideal) p.1 := if_neg h0
  rw [sAtD W c t h1, hm, stepD W c t p h0 h1]
  unfold rdM
  dsimp only
  exact leftMD c (crd (F := Ideal) t) (ms0 (F := Ideal) t) (hs0 (F := Ideal) t) (ms1 (F := Ideal) t) (hs1 (F := Ideal) t) (ms2 (F := Ideal) t) (hs2 (F := Ideal) t) (ms3 (F := Ideal) t) (hs3 (F := Ideal) t) (tabC (F := Ideal)) (blk (F := Ideal) W c 0 t) (blk (F := Ideal) W c 1 t) (blk (F := Ideal) W c 2 t) p.1 p.2 (mt (P0_iff (F := Ideal) t).1 h0) ((P1_iff (F := Ideal) t).2 h1) (mt (P3_iff (F := Ideal) t).1 (ne_of_lt t h1))
theorem stepAD (c : Dev nD) (t : Fin (cfgA (F := Ideal)).N) (p : St (F := Ideal) c) (h0 : ¬kb t = 0) (h1 : kb t < qb t) :
    rdA (step W c t p) = GA (sAt W c t) (mIn t p) (aIn t p) (blk W c 2 t) := by
  have hm : mIn t p = mRef.view.read (Elt Ideal) p.1 := if_neg h0
  have ha : aIn t p = accRef.view.read (Elt Ideal) p.2 := if_neg h0
  rw [sAtD W c t h1, hm, ha, stepD W c t p h0 h1]
  unfold rdA
  dsimp only
  exact leftAD c (crd (F := Ideal) t) (ms0 (F := Ideal) t) (hs0 (F := Ideal) t) (ms1 (F := Ideal) t) (hs1 (F := Ideal) t) (ms2 (F := Ideal) t) (hs2 (F := Ideal) t) (ms3 (F := Ideal) t) (hs3 (F := Ideal) t) (tabC (F := Ideal)) (blk (F := Ideal) W c 0 t) (blk (F := Ideal) W c 1 t) (blk (F := Ideal) W c 2 t) p.1 p.2 (mt (P0_iff (F := Ideal) t).1 h0) ((P1_iff (F := Ideal) t).2 h1) (mt (P3_iff (F := Ideal) t).1 (ne_of_lt t h1))

theorem rdM_step (c : Dev nD) (t : Fin (cfgA (F := Ideal)).N) (p : St (F := Ideal) c) : rdM (step W c t p) = GM (sAt W c t) (mIn t p) := by
  by_cases h0 : kb t = 0 <;> by_cases h1 : kb t < qb t
  · exact stepMB W c t p h0 h1
  · exact stepMA W c t p h0 h1
  · exact stepMD W c t p h0 h1
  · exact stepMC W c t p h0 h1

theorem rdA_step (c : Dev nD) (t : Fin (cfgA (F := Ideal)).N) (p : St (F := Ideal) c) : rdA (step W c t p) = GA (sAt W c t) (mIn t p) (aIn t p) (blk W c 2 t) := by
  by_cases h0 : kb t = 0 <;> by_cases h1 : kb t < qb t
  · exact stepAB W c t p h0 h1
  · exact stepAA W c t p h0 h1
  · exact stepAD W c t p h0 h1
  · exact stepAC W c t p h0 h1

theorem outBlk_eq (c : Dev nD) (t : Fin (cfgA (F := Ideal)).N) (p : St (F := Ideal) c) (h1 : ¬kb t < qb t) : outBlk W c t p = GO (rdA (step W c t p)) := by
  by_cases h0 : kb t = 0
  · exact outBlkA W c t p h0 h1
  · exact outBlkC W c t p h0 h1

end Cert.KernelIdeal.Fox
-- ==== Proof.Ideal.Online.lean ====
module

public import proofs.«01_k».proof.Proof.Ideal.Pieces

@[expose] public section

/-! # The running softmax over the extended reals

A score is a real number or masked. `Wt x p` says what a score weighs: `2` to it, or nothing. However the running maximum
is chosen, as long as it is real, the running sums are the weighted sums times `2` to its opposite. -/

noncomputable section

namespace Cert.KernelIdeal.Fox

open Idealize.ShloMosaic

/-- The score `x` weighs `p`. -/
def Wt (x : EReal) (p : ℝ) : Prop := (∃ s : ℝ, x = (s : EReal) ∧ p = (2 : ℝ) ^ s) ∨ (x = ⊥ ∧ p = 0)

theorem Wt.nonneg {x : EReal} {p : ℝ} (h : Wt x p) : 0 ≤ p := by
  rcases h with ⟨s, _, rfl⟩ | ⟨_, rfl⟩
  · exact (Real.rpow_pos_of_pos two_pos s).le
  · exact le_rfl

theorem Wt.ne_top {x : EReal} {p : ℝ} (h : Wt x p) : x ≠ ⊤ := by
  rcases h with ⟨s, rfl, _⟩ | ⟨rfl, _⟩
  · exact EReal.coe_ne_top s
  · exact bot_ne_top

theorem Wt.exp2_sub {x : EReal} {p : ℝ} (h : Wt x p) (M : ℝ) : Ideal.exp2 (x - (M : EReal)) = ((p * (2 : ℝ) ^ (-M) : ℝ) : EReal) := by
  rcases h with ⟨s, rfl, rfl⟩ | ⟨rfl, rfl⟩
  · rw [← EReal.coe_sub, Ideal.exp2_coe, ← Real.rpow_add two_pos, ← sub_eq_add_neg]; rfl
  · rw [EReal.bot_sub, Ideal.exp2_bot, zero_mul]; rfl

theorem coe_sum {ι : Type} (s : Finset ι) (f : ι → ℝ) : ((∑ j ∈ s, f j : ℝ) : EReal) = ∑ j ∈ s, ((f j : ℝ) : EReal) := by
  classical
  induction s using Finset.induction_on with
  | empty => simp
  | insert a s ha ih => rw [Finset.sum_insert ha, Finset.sum_insert ha, EReal.coe_add, ih]

theorem fold_max_ne_top {n : ℕ} (f : Fin n → EReal) (h : ∀ j, f j ≠ ⊤) : Finset.univ.fold max (⊥ : EReal) f ≠ ⊤ := by
  have : Finset.univ.fold max (⊥ : EReal) f < ⊤ := by
    rw [Finset.fold_max_lt]
    exact ⟨bot_lt_top, fun j _ => lt_top_iff_ne_top.2 (h j)⟩
  exact this.ne

theorem le_fold_max {n : ℕ} (f : Fin n → EReal) (j : Fin n) : f j ≤ Finset.univ.fold max (⊥ : EReal) f :=
  (Finset.le_fold_max (f j)).2 (.inr ⟨j, Finset.mem_univ j, le_rfl⟩)

/-- The running maximum `m` is real, and the running sum `a` is `A` on its scale. -/
def Run (m a : EReal) (A : ℝ) : Prop := ∃ M : ℝ, m = (M : EReal) ∧ a = ((A * (2 : ℝ) ^ (-M) : ℝ) : EReal)

/-- Another block of scores, where the maximum so far is real or nothing has been summed yet. -/
theorem Run.step {n : ℕ} {m a : EReal} {A : ℝ} (x v : Fin n → EReal) (p w : Fin n → ℝ) (hx : ∀ j, Wt (x j) (p j)) (hv : ∀ j, v j = (w j : EReal))
    (h : Run m a A ∨ (m = ⊥ ∧ a = 0 ∧ A = 0 ∧ ∃ j, x j ≠ ⊥)) :
    Run (max m (Finset.univ.fold max (⊥ : EReal) x))
      (Ideal.exp2 (m - max m (Finset.univ.fold max (⊥ : EReal) x)) * a + ∑ j, v j * Ideal.exp2 (x j - max m (Finset.univ.fold max (⊥ : EReal) x)))
      (A + ∑ j, w j * p j) := by
  have ht : max m (Finset.univ.fold max (⊥ : EReal) x) ≠ ⊤ := by
    have h1 : m ≠ ⊤ := by
      rcases h with ⟨M, rfl, _⟩ | ⟨rfl, _⟩
      · exact EReal.coe_ne_top M
      · exact bot_ne_top
    have h2 := fold_max_ne_top x fun j => (hx j).ne_top
    exact (max_lt (lt_top_iff_ne_top.2 h1) (lt_top_iff_ne_top.2 h2)).ne
  have hb : max m (Finset.univ.fold max (⊥ : EReal) x) ≠ ⊥ := by
    rcases h with ⟨M, rfl, _⟩ | ⟨rfl, _, _, j, hj⟩
    · exact (lt_of_lt_of_le (EReal.bot_lt_coe M) (le_max_left _ _)).ne'
    · exact (lt_of_lt_of_le (bot_lt_iff_ne_bot.2 hj) ((le_fold_max x j).trans (le_max_right _ _))).ne'
  obtain ⟨M', hM'⟩ : ∃ M' : ℝ, max m (Finset.univ.fold max (⊥ : EReal) x) = (M' : EReal) := ⟨_, (EReal.coe_toReal ht hb).symm⟩
  refine ⟨M', hM', ?_⟩
  rw [hM']
  have hs : (∑ j, v j * Ideal.exp2 (x j - (M' : EReal))) = (((∑ j, w j * p j) * (2 : ℝ) ^ (-M') : ℝ) : EReal) := by
    rw [Finset.sum_mul, coe_sum]
    exact Finset.sum_congr rfl fun j _ => by rw [hv j, (hx j).exp2_sub, ← EReal.coe_mul, mul_assoc]
  have ha : Ideal.exp2 (m - (M' : EReal)) * a = ((A * (2 : ℝ) ^ (-M') : ℝ) : EReal) := by
    rcases h with ⟨M, rfl, rfl⟩ | ⟨rfl, rfl, rfl, _⟩
    · have hW : Wt (M : EReal) ((2 : ℝ) ^ M) := .inl ⟨M, rfl, rfl⟩
      rw [hW.exp2_sub, ← EReal.coe_mul]
      congr 1
      have h1 : (2 : ℝ) ^ M * (2 : ℝ) ^ (-M) = 1 := by rw [← Real.rpow_add two_pos, add_neg_cancel, Real.rpow_zero]
      calc (2 : ℝ) ^ M * 2 ^ (-M') * (A * 2 ^ (-M)) = (2 : ℝ) ^ M * (2 : ℝ) ^ (-M) * (A * 2 ^ (-M')) := by ring
        _ = _ := by rw [h1, one_mul]
    · rw [mul_zero, zero_mul]; rfl
  rw [ha, hs, ← EReal.coe_add, ← add_mul]

/-- The quotient of two running sums of one row forgets the scale. -/
theorem Run.div {m a b : EReal} {A B : ℝ} (ha : Run m a A) (hb : Run m b B) (h0 : B ≠ 0) : Ideal.div a b = ((A / B : ℝ) : EReal) := by
  obtain ⟨M, hm, rfl⟩ := ha
  obtain ⟨M', hm', rfl⟩ := hb
  obtain rfl : M = M' := EReal.coe_injective (hm.symm.trans hm')
  have h2 : (2 : ℝ) ^ (-M) ≠ 0 := (Real.rpow_pos_of_pos two_pos _).ne'
  rw [Ideal.div_coe (mul_ne_zero h0 h2), ← EReal.coe_mul]
  congr 1
  field_simp

/-- A softmax whose maximum is subtracted: the scores `y` are real or masked, one of them is real, and `e` to a score is a
    fixed multiple of the weight `p`. -/
theorem softmax_row {n : ℕ} (y v : Fin n → EReal) (p w : Fin n → ℝ) (C : ℝ) (hC : 0 < C)
    (hy : ∀ j, (∃ s : ℝ, y j = (s : EReal) ∧ Real.exp s = C * p j) ∨ (y j = ⊥ ∧ p j = 0)) (hv : ∀ j, v j = (w j : EReal)) (j0 : Fin n) (h0 : y j0 ≠ ⊥) :
    (∑ j, Ideal.div (Ideal.exp (y j - Finset.univ.fold max (⊥ : EReal) y)) (∑ k, Ideal.exp (y k - Finset.univ.fold max (⊥ : EReal) y)) * v j)
      = (((∑ j, w j * p j) / (∑ j, p j) : ℝ) : EReal) := by
  have ht := fold_max_ne_top y fun j => by
    rcases hy j with ⟨s, h, _⟩ | ⟨h, _⟩ <;> rw [h]
    · exact EReal.coe_ne_top s
    · exact bot_ne_top
  have hb : Finset.univ.fold max (⊥ : EReal) y ≠ ⊥ := (lt_of_lt_of_le (bot_lt_iff_ne_bot.2 h0) (le_fold_max y j0)).ne'
  obtain ⟨M, hM⟩ : ∃ M : ℝ, Finset.univ.fold max (⊥ : EReal) y = (M : EReal) := ⟨_, (EReal.coe_toReal ht hb).symm⟩
  rw [hM]
  have he : ∀ j, Ideal.exp (y j - (M : EReal)) = ((C * p j * Real.exp (-M) : ℝ) : EReal) := fun j => by
    rcases hy j with ⟨s, h, h'⟩ | ⟨h, h'⟩
    · rw [h, ← EReal.coe_sub, Ideal.exp_coe, sub_eq_add_neg, Real.exp_add, h']
    · rw [h, EReal.bot_sub, Ideal.exp_bot, h', mul_zero, zero_mul]; rfl
  have hp : ∀ j, 0 ≤ p j := fun j => by
    rcases hy j with ⟨s, _, h'⟩ | ⟨_, h'⟩
    · exact (pos_of_mul_pos_right (h' ▸ Real.exp_pos s) hC.le).le
    · exact h'.ge
  have hp0 : 0 < p j0 := by
    rcases hy j0 with ⟨s, _, h'⟩ | ⟨h, _⟩
    · exact pos_of_mul_pos_right (h' ▸ Real.exp_pos s) hC.le
    · exact absurd h h0
  have hP : 0 < ∑ j, p j := Finset.sum_pos' (fun j _ => hp j) ⟨j0, Finset.mem_univ _, hp0⟩
  have hZ : (∑ k, Ideal.exp (y k - (M : EReal))) = ((C * Real.exp (-M) * ∑ j, p j : ℝ) : EReal) := by
    rw [Finset.mul_sum, coe_sum]
    exact Finset.sum_congr rfl fun j _ => by rw [he j]; congr 1; ring
  have hE := Real.exp_pos (-M)
  rw [hZ, Finset.sum_div, coe_sum]
  refine Finset.sum_congr rfl fun j _ => ?_
  rw [he j, hv j, Ideal.div_coe (by positivity), ← EReal.coe_mul, ← EReal.coe_mul]
  congr 1
  field_simp

end Cert.KernelIdeal.Fox
-- ==== Proof.Ideal.Traj.lean ====
module

public import proofs.«01_k».proof.Proof.Ideal.Steps
public import proofs.«01_k».proof.Proof.Ideal.Online
public import Idealize.ShloMosaic.Lib.Pipeline.ValueKit
public import Idealize.ShloMosaic.Lib.Pipeline.Value

@[expose] public section

set_option maxRecDepth 16384
set_option Elab.async false

/-! # The attention's result array

Along one query block's schedule points the running sums collect the weighted values of all keys up to the point's block. -/

noncomputable section

namespace Cert.KernelIdeal.Fox

open Cert.KernelIdeal Cert.KernelIdeal.Gen
open Idealize.ShloMosaic Idealize.ShloMosaic.TcCoe Idealize.ShloMosaic.Tactic

variable (W : Dev nD → Valuation τ sig (Elt Ideal))

theorem qb_lt (t : Fin (cfgA (F := Ideal)).N) : qb t < 16 := (schedAt t).1
theorem kb_le (t : Fin (cfgA (F := Ideal)).N) : kb t ≤ qb t := (schedAt t).2.1
theorem kb_lt (t : Fin (cfgA (F := Ideal)).N) : kb t < 16 := lt_of_le_of_lt (kb_le t) (qb_lt t)

/-! ## The blocks -/

theorem index0 (t : Fin (cfgA (F := Ideal)).N) : ((cfgA (F := Ideal)).win 0).index t = ![0, qb t] :=
  congrFun (map0 (F := Ideal)) (grid1.coords t)
theorem index1 (t : Fin (cfgA (F := Ideal)).N) : ((cfgA (F := Ideal)).win 1).index t = ![kb t, 0] :=
  congrFun (map1 (F := Ideal)) (grid1.coords t)
theorem index2 (t : Fin (cfgA (F := Ideal)).N) : ((cfgA (F := Ideal)).win 2).index t = ![0, kb t] :=
  congrFun (map2 (F := Ideal)) (grid1.coords t)
theorem index3 (t : Fin (cfgA (F := Ideal)).N) : ((cfgA (F := Ideal)).win 3).index t = ![qb t, 0] :=
  congrFun (map3 (F := Ideal)) (grid1.coords t)

/-- Row or column `b` of block `n`. -/
abbrev at1024 (n : ℕ) (hn : n < 16) (b : Fin 1024) : Fin 16384 := ⟨1024 * n + b.val, by omega⟩

theorem emb0 (t : Fin (cfgA (F := Ideal)).N) (a : Fin 2048) (b : Fin 1024) :
    (((cfgA (F := Ideal)).win 0).blk t).view.emb (ix2 a b) = (ix2 a (at1024 (qb t) (qb_lt t) b) : S2048x16384.Idx) := by
  funext k
  have h := (((cfgA (F := Ideal)).win 0)).rect_emb_val t (ix2 a b) k
  rw [index0] at h
  refine Fin.ext (h.trans ?_)
  clear h
  refine Fin.cases ?_ (fun k => ?_) k
  · show 0 * 2048 + a.val = a.val; omega
  · refine Fin.cases ?_ (fun k => k.elim0) k
    show qb t * 1024 + b.val = 1024 * qb t + b.val; omega
theorem emb1 (t : Fin (cfgA (F := Ideal)).N) (a : Fin 1024) (b : Fin 2048) :
    (((cfgA (F := Ideal)).win 1).blk t).view.emb (ix2 a b) = (ix2 (at1024 (kb t) (kb_lt t) a) b : S16384x2048.Idx) := by
  funext k
  have h := (((cfgA (F := Ideal)).win 1)).rect_emb_val t (ix2 a b) k
  rw [index1] at h
  refine Fin.ext (h.trans ?_)
  clear h
  refine Fin.cases ?_ (fun k => ?_) k
  · show kb t * 1024 + a.val = 1024 * kb t + a.val; omega
  · refine Fin.cases ?_ (fun k => k.elim0) k
    show 0 * 2048 + b.val = b.val; omega
theorem emb2 (t : Fin (cfgA (F := Ideal)).N) (a : Fin 1152) (b : Fin 1024) :
    (((cfgA (F := Ideal)).win 2).blk t).view.emb (ix2 a b) = (ix2 a (at1024 (kb t) (kb_lt t) b) : S1152x16384.Idx) := by
  funext k
  have h := (((cfgA (F := Ideal)).win 2)).rect_emb_val t (ix2 a b) k
  rw [index2] at h
  refine Fin.ext (h.trans ?_)
  clear h
  refine Fin.cases ?_ (fun k => ?_) k
  · show 0 * 1152 + a.val = a.val; omega
  · refine Fin.cases ?_ (fun k => k.elim0) k
    show kb t * 1024 + b.val = 1024 * kb t + b.val; omega
theorem emb3 (t : Fin (cfgA (F := Ideal)).N) (a b : Fin 1024) :
    (((cfgA (F := Ideal)).win 3).blk t).view.emb (ix2 a b) = (ix2 (at1024 (qb t) (qb_lt t) a) b : S16384x1024.Idx) := by
  funext k
  have h := (((cfgA (F := Ideal)).win 3)).rect_emb_val t (ix2 a b) k
  rw [index3] at h
  refine Fin.ext (h.trans ?_)
  clear h
  refine Fin.cases ?_ (fun k => ?_) k
  · show qb t * 1024 + a.val = 1024 * qb t + a.val; omega
  · refine Fin.cases ?_ (fun k => k.elim0) k
    show 0 * 1024 + b.val = b.val; omega

/-- The three arrays the attention reads. -/
def aQ (c : Dev nD) : FVec Ideal S2048x16384 .bf16 := W c (Proc.devRef .tc main_v3_0)
def aK (c : Dev nD) : FVec Ideal S16384x2048 .bf16 := W c (Proc.devRef .tc main_v3_1)
def aV (c : Dev nD) : FVec Ideal S1152x16384 .bf16 := W c (Proc.devRef .tc main_v3_2)

theorem blk0_at (c : Dev nD) (t : Fin (cfgA (F := Ideal)).N) (a : Fin 2048) (b : Fin 1024) :
    (blk W c 0 t : FVec Ideal S2048x1024 .bf16) (ix2 a b) = aQ W c (ix2 a (at1024 (qb t) (qb_lt t) b)) := by
  unfold blk aQ
  blk_simp
  exact congrArg _ (emb0 t a b)
theorem blk1_at (c : Dev nD) (t : Fin (cfgA (F := Ideal)).N) (a : Fin 1024) (b : Fin 2048) :
    (blk W c 1 t : FVec Ideal S1024x2048 .bf16) (ix2 a b) = aK W c (ix2 (at1024 (kb t) (kb_lt t) a) b) := by
  unfold blk aK
  blk_simp
  exact congrArg _ (emb1 t a b)
theorem blk2_at (c : Dev nD) (t : Fin (cfgA (F := Ideal)).N) (a : Fin 1152) (b : Fin 1024) :
    (blk W c 2 t : FVec Ideal S1152x1024 .bf16) (ix2 a b) = aV W c (ix2 a (at1024 (kb t) (kb_lt t) b)) := by
  unfold blk aV
  blk_simp
  exact congrArg _ (emb2 t a b)

/-! ## Scores and weights -/

/-- The score of key `J` for query `I`. -/
def gs (c : Dev nD) (h : Fin 8) (J I : Fin 16384) : EReal :=
  ∑ k : Fin 256, aK W c (ix2 J ⟨256 * h.val + k.val, by omega⟩) * aQ W c (ix2 (⟨256 * h.val + k.val, by omega⟩ : Fin 2048) I)

theorem sAt_at (c : Dev nD) (t : Fin (cfgA (F := Ideal)).N) (h : Fin 8) (j i : Fin 1024) :
    sAt W c t h j i = if 1024 * kb t + j.val ≤ 1024 * qb t + i.val then gs W c h (at1024 (kb t) (kb_lt t) j) (at1024 (qb t) (qb_lt t) i) else ⊥ := by
  have hs : sc (blk W c 0 t) (blk W c 1 t) h j i = gs W c h (at1024 (kb t) (kb_lt t) j) (at1024 (qb t) (qb_lt t) i) := by
    unfold sc gs
    exact Finset.sum_congr rfl fun k _ => by rw [blk0_at, blk1_at]
  have hle := kb_le t
  by_cases hd : kb t < qb t
  · have e : sAt W c t = sc (blk W c 0 t) (blk W c 1 t) := if_neg (by simp [hd])
    rw [e, hs, if_pos (by omega)]
  · have e : sAt W c t = scm (sc (blk W c 0 t) (blk W c 1 t)) := if_pos (by simp [hd])
    have hq : kb t = qb t := by omega
    rw [e]; unfold scm
    rw [hs]
    by_cases hj : j.val ≤ i.val
    · rw [if_pos hj, if_pos (by omega)]
    · rw [if_neg hj, if_neg (by omega)]

/-- What key `J` weighs for query `I`, its score being `s`. -/
def wt (s : Fin 8 → Fin 16384 → Fin 16384 → ℝ) (h : Fin 8) (I J : Fin 16384) : ℝ := if J.val ≤ I.val then (2 : ℝ) ^ (s h J I) else 0

theorem prev_point : ∀ t : Fin grid1.N, kb t ≠ 0 →
    qb (⟨t.val - 1, lt_of_le_of_lt (Nat.sub_le _ _) t.isLt⟩ : Fin grid1.N) = qb t
      ∧ kb (⟨t.val - 1, lt_of_le_of_lt (Nat.sub_le _ _) t.isLt⟩ : Fin grid1.N) + 1 = kb t ∧ t.val ≠ 0 := by decide +kernel

theorem last_point : ∀ Q : Fin 16, ∃ t : Fin grid1.N, qb t = Q.val ∧ kb t = Q.val := by decide +kernel

section
variable (c : Dev nD) (s : Fin 8 → Fin 16384 → Fin 16384 → ℝ) (w : Fin 1152 → Fin 16384 → ℝ)

/-- Key `n`'s term of a weighted sum. -/
def term (r : Fin 1152) (I : Fin 16384) (n : ℕ) : ℝ := w r (Fin.ofNat 16384 n) * wt s (hd r) I (Fin.ofNat 16384 n)

theorem ofNat_at (n : ℕ) (hn : n < 16) (b : Fin 1024) : Fin.ofNat 16384 (1024 * n + b.val) = at1024 n hn b :=
  Fin.ext (Nat.mod_eq_of_lt (by have := b.isLt; omega))

variable (hs : ∀ h J I, gs W c h J I = (s h J I : EReal)) (hw : ∀ r J, aV W c (ix2 r J) = (w r J : EReal))
include hs hw

/-- One point adds its block of keys. -/
theorem run_point (t : Fin (cfgA (F := Ideal)).N) (r : Fin 1152) (i : Fin 1024) (A : ℝ) (p : St (F := Ideal) c)
    (h : Run (mIn t p (ix2 (hd r) i)) (aIn t p (ix2 r i)) A ∨ (mIn t p (ix2 (hd r) i) = ⊥ ∧ aIn t p (ix2 r i) = 0 ∧ A = 0 ∧ kb t = 0)) :
    Run (rdM (step W c t p) (ix2 (hd r) i)) (rdA (step W c t p) (ix2 r i))
      (A + ∑ j : Fin 1024, term s w r (at1024 (qb t) (qb_lt t) i) (1024 * kb t + j.val)) := by
  rw [rdM_step, rdA_step]
  refine Run.step (fun j => sAt W c t (hd r) j i) (fun j => (blk W c 2 t : FVec Ideal S1152x1024 .bf16) (ix2 r j))
    (fun j => wt s (hd r) (at1024 (qb t) (qb_lt t) i) (Fin.ofNat 16384 (1024 * kb t + j.val))) (fun j => w r (Fin.ofNat 16384 (1024 * kb t + j.val))) ?_ ?_ ?_
  · intro j
    rw [ofNat_at _ (kb_lt t)]
    show Wt (sAt W c t (hd r) j i) _
    rw [sAt_at, hs]
    unfold wt
    by_cases hj : 1024 * kb t + j.val ≤ 1024 * qb t + i.val
    · rw [if_pos hj, if_pos hj]; exact .inl ⟨_, rfl, rfl⟩
    · rw [if_neg hj, if_neg hj]; exact .inr ⟨rfl, rfl⟩
  · intro j
    show (blk W c 2 t : FVec Ideal S1152x1024 .bf16) (ix2 r j) = _
    rw [ofNat_at _ (kb_lt t), blk2_at, hw]
  · rcases h with h | ⟨h1, h2, h3, h4⟩
    · exact .inl h
    · refine .inr ⟨h1, h2, h3, ⟨0, by norm_num⟩, ?_⟩
      show sAt W c t (hd r) ⟨0, _⟩ i ≠ ⊥
      rw [sAt_at, if_pos (by simp [h4]), hs]
      exact EReal.coe_ne_bot _

/-- After a point, the running sums hold all keys up to its block. -/
theorem run_upto (r : Fin 1152) (i : Fin 1024) : ∀ (n : ℕ) (t : Fin (cfgA (F := Ideal)).N), kb t = n →
    Run (rdM (st W c (t.val + 1)) (ix2 (hd r) i)) (rdA (st W c (t.val + 1)) (ix2 r i))
      (∑ k ∈ Finset.range (1024 * (n + 1)), term s w r (at1024 (qb t) (qb_lt t) i) k)
  | 0, t, h => by
    rw [st_succ]
    have hA := run_point W c s w hs hw t r i 0 (st W c t.val)
      (.inr ⟨by unfold mIn; rw [if_pos h], by unfold aIn; rw [if_pos h], rfl, h⟩)
    rw [h, zero_add] at hA
    simp only [mul_zero, zero_add] at hA
    rw [zero_add, mul_one, Finset.sum_range]
    exact hA
  | n + 1, t, h => by
    have hk : kb t ≠ 0 := by omega
    obtain ⟨e1, e2, e3⟩ := prev_point t hk
    have ih := run_upto r i n ⟨t.val - 1, lt_of_le_of_lt (Nat.sub_le _ _) t.isLt⟩ (by omega)
    have e4 : t.val - 1 + 1 = t.val := by omega
    have e5 : at1024 (qb ⟨t.val - 1, lt_of_le_of_lt (Nat.sub_le _ _) t.isLt⟩) (qb_lt _) i = at1024 (qb t) (qb_lt t) i := by
      refine Fin.ext ?_; show 1024 * _ + _ = 1024 * _ + _; rw [e1]
    rw [e5] at ih
    simp only [e4] at ih
    rw [st_succ]
    have hA := run_point W c s w hs hw t r i _ (st W c t.val)
      (.inl (by unfold mIn aIn; rw [if_neg hk, if_neg hk]; exact ih))
    rw [h] at hA
    rw [show 1024 * (n + 1 + 1) = 1024 * (n + 1) + 1024 by ring, Finset.sum_range_add, Finset.sum_range (n := 1024)]
    exact hA

end

end Cert.KernelIdeal.Fox

end
-- ==== Proof.Ideal.PrepPay.lean ====
module

public import proofs.«01_k».proof.Proof.Ideal.PrepData
public import proofs.«01_k».proof.Proof.Ideal.Pieces
public import Idealize.ShloMosaic.Lib.Pointwise
public import Idealize.ShloMosaic.Lib.WordCmp

@[expose] public section

set_option maxRecDepth 16384
set_option Elab.async false

/-! # What the preparation stores, entry by entry -/

noncomputable section

namespace Cert.KernelIdeal.Fox

open Cert.KernelIdeal Cert.KernelIdeal.Gen
open Idealize.ShloMosaic Idealize.ShloMosaic.TcCoe Idealize.ShloMosaic.Tactic

/-- The score scale over `log 2`. -/
def cS : ℝ := (11863283 / 134217728) * (Real.log 2)⁻¹
/-- The opposite of `1 / log 2`. -/
def cN : ℝ := -(Real.log 2)⁻¹

theorem named_scale : Named.named (F := Ideal) κ "scale_log2e" (φ := .f32) 0x3E0293EE#32 = (cS : EReal) :=
  IdealRules.named_const.ideal_named_scalar κ "scale_log2e" _ _ rfl
theorem named_neg : Named.named (F := Ideal) κ "neg_log2e" (φ := .f32) 0xBFB8AA3B#32 = (cN : EReal) :=
  IdealRules.named_const.ideal_named_scalar κ "neg_log2e" _ _ rfl

theorem int_one : (FloatOps.sitofp FTy.f32 1#32 : Ideal .f32) = (1 : EReal) := by
  show (((1#32 : BitVec 32).toInt : ℝ) : EReal) = 1
  norm_num
theorem int_zero : (FloatOps.sitofp FTy.f32 0#32 : Ideal .f32) = (0 : EReal) := by
  show (((0#32 : BitVec 32).toInt : ℝ) : EReal) = 0
  norm_num

theorem ppay2_at (x : FVec Ideal S1024x128 .f32) (i : Fin 1024) (k : Fin 128) : k0_pay2 (F := Ideal) x (ix2 i k) = x (ix2 i k) * (cN : EReal) := by
  pointwise [k0_pay2, named_neg]

theorem ppay5_at (x : FVec Ideal S1024x128 .bf16) (k : Fin 128) (i : Fin 1024) : k0_pay5 (F := Ideal) x (ix2 k i) = x (ix2 i k) * (cS : EReal) := by
  pointwise [k0_pay5, named_scale]

theorem ppay6_at (x : FVec Ideal S1024x128 .bf16) (k : Fin 128) (i : Fin 1024) : k0_pay6 (F := Ideal) x (ix2 k i) = x (ix2 i k) := by
  pointwise [k0_pay6]

theorem ppay9_at (x : FVec Ideal S1024x128 .bf16) (i : Fin 1024) (k : Fin 128) : k0_pay9 (F := Ideal) x (ix2 i k) = x (ix2 i k) := by
  pointwise [k0_pay9]

theorem ppay3_at (k : Fin 128) (i : Fin 1024) : k0_pay3 (F := Ideal) (ix2 k i) = if k.val < 3 then 1 else 0 := by
  pointwise [k0_pay3]
  rw [Idealize.ShloMosaic.WordCmp.cmpi_slt_ofNat (by have := k.isLt; norm_num; omega) (by norm_num)]
  by_cases h : k.val < 3 <;> simp [h, int_one, int_zero]

theorem ppay4_at (k : Fin 16) (i : Fin 1024) : k0_pay4 (F := Ideal) (ix2 k i) = if k.val < 1 then 1 else 0 := by
  pointwise [k0_pay4]
  rw [Idealize.ShloMosaic.WordCmp.cmpi_slt_ofNat (by have := k.isLt; norm_num; omega) (by norm_num)]
  by_cases h : k.val < 1 <;> simp [h, int_one, int_zero]

theorem ppay10_at (b : FVec Ideal S1024x128 .f32) (i : Fin 1024) (k : Fin 128) :
    k0_pay10 (F := Ideal) prepRun.sl.v0 b (truncf .bf16 b bitsLt_bf16_f32) (ix2 i k)
      = if k.val = 0 then b (ix2 i k) else if k.val = 1 then b (ix2 i k) - b (ix2 i k)
        else if k.val = 2 then (b (ix2 i k) - b (ix2 i k)) - (b (ix2 i k) - b (ix2 i k)) else 0 := by
  pointwise [k0_pay10, prepRun.sl.v0]
  have e : ∀ n : ℕ, n < 128 → IntOp.cmpi .eq (BitVec.ofNat 32 k.val) (BitVec.ofNat 32 n) = BitVec.ofBool (decide (k.val = n)) := fun n hn => by
    rw [Idealize.ShloMosaic.WordCmp.cmpi_eq_eq_toNat]
    congr 1
    simp only [BitVec.toNat_ofNat]
    rw [Nat.mod_eq_of_lt (by have := k.isLt; omega), Nat.mod_eq_of_lt (by omega)]
  rw [e 0 (by norm_num), e 1 (by norm_num), e 2 (by norm_num)]
  by_cases h0 : k.val = 0
  · simp [h0, Scalar.select]
  · by_cases h1 : k.val = 1
    · simp [h1, Scalar.select]
    · by_cases h2 : k.val = 2 <;> simp [h0, h1, h2, Scalar.select]

/-! ## The stored blocks -/

/-- The transposed queries: a head's 128 scaled entries, then three rows of ones, then zeros. -/
def QF (x : FVec Ideal S1024x3072 .bf16) : FVec Ideal S2048x1024 .bf16 := fun y => qf x (y 0) (y 1)
where
  /-- Row `a`, column `i`. -/
  qf (x : FVec Ideal S1024x3072 .bf16) (a : Fin 2048) (i : Fin 1024) : EReal :=
    if a.val % 256 < 128 then x (ix2 i ⟨128 * (a.val / 256) + a.val % 256 % 128, by omega⟩) * (cS : EReal) else if a.val % 256 < 131 then 1 else 0

/-- The keys: a head's 128 entries, then the bias and its two remainders, then zeros. -/
def KF (x : FVec Ideal S1024x3072 .bf16) (z : FVec Ideal S1024x128 .f32) : FVec Ideal S1024x2048 .bf16 := fun y => kf x z (y 0) (y 1)
where
  /-- The bias of row `i`. -/
  bias (z : FVec Ideal S1024x128 .f32) (i : Fin 1024) (h : ℕ) : EReal := z (ix2 i (Fin.ofNat 128 h)) * (cN : EReal)
  /-- Row `i`, column `a`. -/
  kf (x : FVec Ideal S1024x3072 .bf16) (z : FVec Ideal S1024x128 .f32) (i : Fin 1024) (a : Fin 2048) : EReal :=
    if a.val % 256 < 128 then x (ix2 i ⟨1024 + 128 * (a.val / 256) + a.val % 256 % 128, by omega⟩)
    else if a.val % 256 = 128 then bias z i (a.val / 256)
    else if a.val % 256 = 129 then bias z i (a.val / 256) - bias z i (a.val / 256)
    else if a.val % 256 = 130 then (bias z i (a.val / 256) - bias z i (a.val / 256)) - (bias z i (a.val / 256) - bias z i (a.val / 256)) else 0

/-- The transposed values: a head's 128 entries, then a row of ones, then zeros. -/
def VF (x : FVec Ideal S1024x3072 .bf16) : FVec Ideal S1152x1024 .bf16 := fun y => vf x (y 0) (y 1)
where
  /-- Row `r`, column `j`. -/
  vf (x : FVec Ideal S1024x3072 .bf16) (r : Fin 1152) (j : Fin 1024) : EReal :=
    if r.val % 144 < 128 then x (ix2 j ⟨2048 + 128 * (r.val / 144) + r.val % 144 % 128, by omega⟩) else if r.val % 144 < 129 then 1 else 0

/-- A head's 128 columns of the projections' block, loaded. -/
theorem ldX {o : ℕ} (arg1 : Memref sig .tc .vmem S1024x3072 .bf16) (x0 : FVec Ideal S1024x3072 .bf16) (inb) (i : Fin 1024) (k : Fin 128) (l : Fin 3072) (hl : l.val = o + k.val) :
    (View.readAt (Elt Ideal) arg1.view (Rect.unit (s := S1024x3072) ![0, o] S1024x128.size inb).toLoadRect (arg1.view.rep x0) : FVec Ideal S1024x128 .bf16) (ix2 i k)
      = x0 (ix2 i l) := by
  refine (ld2 (n0 := 1024) (n1 := 3072) (p := 1024) (q := 128) arg1.view (arg1.view.rep x0) inb i k i l (by simp) hl).trans ?_
  rw [View.read_rep]

variable {arg1 : Memref sig .tc .vmem S1024x3072 .bf16} {x0 : FVec Ideal S1024x3072 .bf16} {x1 : FVec Ideal S1024x128 .f32}

theorem pieceQ {o o' : ℕ} (h : Fin 8) (ho : o = 256 * h.val) (ho' : o' = 128 * h.val) (inb i1) {w : FVec Ideal S128x1024 .bf16}
    (hw : w = k0_pay5 (View.readAt (Elt Ideal) arg1.view (Rect.unit (s := S1024x3072) ![0, o'] S1024x128.size i1).toLoadRect (arg1.view.rep x0))) (x : S128x1024.Idx) :
    w x = QF x0 ((Rect.unit (s := S2048x1024) ![o, 0] S128x1024.size inb).emb x) := by
  subst hw
  revert x
  refine idx2_cases fun k i => ?_
  refine (ppay5_at _ k i).trans ?_
  have e := unit2_idx (n0 := 2048) (n1 := 1024) (p := 128) (q := 1024) inb k i (⟨256 * h.val + k.val, by omega⟩ : Fin 2048) i (by simp [ho]) (by simp)
  refine Eq.symm ((congrArg (QF x0) e).trans ?_)
  show QF.qf x0 (⟨256 * h.val + k.val, by omega⟩ : Fin 2048) i = _
  unfold QF.qf
  have hk := k.isLt
  rw [if_pos (by show (256 * h.val + k.val) % 256 < 128; omega)]
  exact congrArg (fun z : EReal => z * (cS : EReal)) (ldX arg1 x0 i1 i k (⟨128 * ((256 * h.val + k.val) / 256) + (256 * h.val + k.val) % 256 % 128, by omega⟩ : Fin 3072) (by show 128 * ((256 * h.val + k.val) / 256) + (256 * h.val + k.val) % 256 % 128 = o' + k.val; omega)).symm

theorem pieceQ1 {o : ℕ} (h : Fin 8) (ho : o = 256 * h.val + 128) (inb) {w : FVec Ideal S128x1024 .bf16}
    (hw : w = k0_pay3) (x : S128x1024.Idx) :
    w x = QF x0 ((Rect.unit (s := S2048x1024) ![o, 0] S128x1024.size inb).emb x) := by
  subst hw
  revert x
  refine idx2_cases fun k i => ?_
  refine (ppay3_at k i).trans ?_
  have e := unit2_idx (n0 := 2048) (n1 := 1024) (p := 128) (q := 1024) inb k i (⟨256 * h.val + 128 + k.val, by omega⟩ : Fin 2048) i (by simp [ho]) (by simp)
  refine Eq.symm ((congrArg (QF x0) e).trans ?_)
  show QF.qf x0 (⟨256 * h.val + 128 + k.val, by omega⟩ : Fin 2048) i = _
  unfold QF.qf
  have hk := k.isLt
  have em : (256 * h.val + 128 + k.val) % 256 = 128 + k.val := by omega
  simp only [em]
  rw [if_neg (by omega)]
  by_cases h3 : k.val < 3
  · rw [if_pos (by omega), if_pos h3]
  · rw [if_neg (by omega), if_neg h3]

theorem pieceV {o o' : ℕ} (h : Fin 8) (ho : o = 144 * h.val) (ho' : o' = 2048 + 128 * h.val) (inb i1) {w : FVec Ideal S128x1024 .bf16}
    (hw : w = k0_pay6 (View.readAt (Elt Ideal) arg1.view (Rect.unit (s := S1024x3072) ![0, o'] S1024x128.size i1).toLoadRect (arg1.view.rep x0))) (x : S128x1024.Idx) :
    w x = VF x0 ((Rect.unit (s := S1152x1024) ![o, 0] S128x1024.size inb).emb x) := by
  subst hw
  revert x
  refine idx2_cases fun k i => ?_
  refine (ppay6_at _ k i).trans ?_
  have e := unit2_idx (n0 := 1152) (n1 := 1024) (p := 128) (q := 1024) inb k i (⟨144 * h.val + k.val, by omega⟩ : Fin 1152) i (by simp [ho]) (by simp)
  refine Eq.symm ((congrArg (VF x0) e).trans ?_)
  show VF.vf x0 (⟨144 * h.val + k.val, by omega⟩ : Fin 1152) i = _
  unfold VF.vf
  have hk := k.isLt
  rw [if_pos (by show (144 * h.val + k.val) % 144 < 128; omega)]
  exact (ldX arg1 x0 i1 i k (⟨2048 + 128 * ((144 * h.val + k.val) / 144) + (144 * h.val + k.val) % 144 % 128, by omega⟩ : Fin 3072) (by show 2048 + 128 * ((144 * h.val + k.val) / 144) + (144 * h.val + k.val) % 144 % 128 = o' + k.val; omega)).symm

theorem pieceV1 {o : ℕ} (h : Fin 8) (ho : o = 144 * h.val + 128) (inb) {w : FVec Ideal S16x1024 .bf16}
    (hw : w = k0_pay4) (x : S16x1024.Idx) :
    w x = VF x0 ((Rect.unit (s := S1152x1024) ![o, 0] S16x1024.size inb).emb x) := by
  subst hw
  revert x
  refine idx2_cases fun k i => ?_
  refine (ppay4_at k i).trans ?_
  have e := unit2_idx (n0 := 1152) (n1 := 1024) (p := 16) (q := 1024) inb k i (⟨144 * h.val + 128 + k.val, by omega⟩ : Fin 1152) i (by simp [ho]) (by simp)
  refine Eq.symm ((congrArg (VF x0) e).trans ?_)
  show VF.vf x0 (⟨144 * h.val + 128 + k.val, by omega⟩ : Fin 1152) i = _
  unfold VF.vf
  have hk := k.isLt
  have em : (144 * h.val + 128 + k.val) % 144 = 128 + k.val := by omega
  simp only [em]
  rw [if_neg (by omega)]
  by_cases h3 : k.val < 1
  · rw [if_pos (by omega), if_pos h3]
  · rw [if_neg (by omega), if_neg h3]

theorem pieceK {o o' : ℕ} (h : Fin 8) (ho : o = 256 * h.val) (ho' : o' = 1024 + 128 * h.val) (inb i1) {w : FVec Ideal S1024x128 .bf16}
    (hw : w = k0_pay9 (View.readAt (Elt Ideal) arg1.view (Rect.unit (s := S1024x3072) ![0, o'] S1024x128.size i1).toLoadRect (arg1.view.rep x0))) (x : S1024x128.Idx) :
    w x = KF x0 x1 ((Rect.unit (s := S1024x2048) ![0, o] S1024x128.size inb).emb x) := by
  subst hw
  revert x
  refine idx2_cases fun i k => ?_
  refine (ppay9_at _ i k).trans ?_
  have e := unit2_idx (n0 := 1024) (n1 := 2048) (p := 1024) (q := 128) inb i k i (⟨256 * h.val + k.val, by omega⟩ : Fin 2048) (by simp) (by simp [ho])
  refine Eq.symm ((congrArg (KF x0 x1) e).trans ?_)
  show KF.kf x0 x1 i (⟨256 * h.val + k.val, by omega⟩ : Fin 2048) = _
  unfold KF.kf
  have hk := k.isLt
  rw [if_pos (by show (256 * h.val + k.val) % 256 < 128; omega)]
  exact (ldX arg1 x0 i1 i k (⟨1024 + 128 * ((256 * h.val + k.val) / 256) + (256 * h.val + k.val) % 256 % 128, by omega⟩ : Fin 3072) (by show 1024 + 128 * ((256 * h.val + k.val) / 256) + (256 * h.val + k.val) % 256 % 128 = o' + k.val; omega)).symm

/-- Column `h` of the bias, along all lanes. -/
def lanes (h : ℕ) (hs : S1024x128.Slices ![0, h] S1024x1) (v : FVec Ideal S1024x128 .f32) : FVec Ideal S1024x128 .f32 :=
  broadcastTo S1024x128 (shapeCast S1024x1 (extractStridedSlice S1024x1 ![0, h] v hs) shapeCasts_S1024x1_S1024x1) broadcasts_S1024x1_S1024x128

theorem lanes_at (h : ℕ) (hh : h < 128) (hs : S1024x128.Slices ![0, h] S1024x1) (v : FVec Ideal S1024x128 .f32) (i : Fin 1024) (k : Fin 128) :
    lanes h hs v (ix2 i k) = v (ix2 i (Fin.ofNat 128 h)) := by
  pointwise [lanes]
  refine congrArg v ?_
  funext a
  refine Fin.cases ?_ (fun a => Fin.cases ?_ (fun a => a.elim0) a) a <;> apply Fin.ext <;> simp [Nat.mod_eq_of_lt hh]

theorem pieceK1 {o : ℕ} (h : Fin 8) (ho : o = 256 * h.val + 128) (hs) (inb) {w : FVec Ideal S1024x128 .bf16} {b : FVec Ideal S1024x128 .f32}
    (hb : ∀ i k, b (ix2 i k) = x1 (ix2 i k) * (cN : EReal))
    (hw : w = k0_pay10 prepRun.sl.v0 (lanes h.val hs b) (truncf .bf16 (lanes h.val hs b) bitsLt_bf16_f32)) (x : S1024x128.Idx) :
    w x = KF x0 x1 ((Rect.unit (s := S1024x2048) ![0, o] S1024x128.size inb).emb x) := by
  subst hw
  revert x
  refine idx2_cases fun i k => ?_
  refine (ppay10_at _ i k).trans ?_
  have e := unit2_idx (n0 := 1024) (n1 := 2048) (p := 1024) (q := 128) inb i k i (⟨256 * h.val + 128 + k.val, by omega⟩ : Fin 2048) (by simp) (by simp [ho])
  refine Eq.symm ((congrArg (KF x0 x1) e).trans ?_)
  show KF.kf x0 x1 i (⟨256 * h.val + 128 + k.val, by omega⟩ : Fin 2048) = _
  unfold KF.kf KF.bias
  have hk := k.isLt
  rw [lanes_at h.val (by omega) hs b i k, hb]
  have em : (256 * h.val + 128 + k.val) % 256 = 128 + k.val := by omega
  have ed : (256 * h.val + 128 + k.val) / 256 = h.val := by omega
  simp only [em, ed]
  rw [if_neg (by omega)]
  by_cases h0 : k.val = 0
  · rw [if_pos (by omega), if_pos h0]
  · rw [if_neg (by omega), if_neg h0]
    by_cases h1 : k.val = 1
    · rw [if_pos (by omega), if_pos h1]
    · rw [if_neg (by omega), if_neg h1]
      by_cases h2 : k.val = 2
      · rw [if_pos (by omega), if_pos h2]
      · rw [if_neg (by omega), if_neg h2]

end Cert.KernelIdeal.Fox

end
-- ==== Proof.Ideal.PrepBlocks.lean ====
module

public import proofs.«01_k».proof.Proof.Ideal.PrepPay

@[expose] public section

set_option maxRecDepth 16384
set_option Elab.async false

/-! # The three blocks the preparation leaves -/

noncomputable section

namespace Cert.KernelIdeal.Fox

open Cert.KernelIdeal Cert.KernelIdeal.Gen
open Idealize.ShloMosaic Idealize.ShloMosaic.TcCoe Idealize.ShloMosaic.Tactic

section
variable (c : Dev nD) (i : grid0.Coords) (arg1 : Memref sig .tc .vmem S1024x3072 .bf16) (harg1 : arg1.IsWhole) (arg2 : Memref sig .tc .vmem S1024x128 .f32) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S1152x1024 .bf16) (harg5 : arg5.IsWhole)
    (x0 : FVec Ideal S1024x3072 .bf16) (x1 : FVec Ideal S1024x128 .f32)

/-- The bias block. -/
def biasB : FVec Ideal S1024x128 .f32 := k0_pay2 (View.readAt (Elt Ideal) arg2.view (Rect.unit (s := S1024x128) ![0, 0] S1024x128.size inb_S1024x128_S1024x128_0_0).toLoadRect (arg2.view.rep x1))
theorem biasB_at (i : Fin 1024) (k : Fin 128) : biasB arg2 x1 (ix2 i k) = x1 (ix2 i k) * (cN : EReal) := by
  refine (ppay2_at _ i k).trans (congrArg (fun z : EReal => z * (cN : EReal)) ?_)
  refine (ld2 (n0 := 1024) (n1 := 128) (p := 1024) (q := 128) arg2.view (arg2.view.rep x1) _ i k i k (by simp) (by simp)).trans ?_
  rw [View.read_rep]

theorem canonPQ (y : S2048x1024.Idx) : View.canon (prepRun.sl.H2_16 (F := Ideal) arg1 x0) y = QF x0 y := by
  refine View.canon_append_of_pieces (QF x0) [] ((prepRun.sl.H2_16 (F := Ideal) arg1 x0).take 16) ?_ y ?_
  · show ∀ p ∈ [_, _, _, _, _, _, _, _, _, _, _, _, _, _, _, _], _
    simp only [List.forall_mem_cons, List.not_mem_nil, false_imp_iff, implies_true, and_true]
    exact ⟨pieceQ1 (x0 := x0) 7 rfl (by decide +kernel) rfl,
      pieceQ (arg1 := arg1) 7 rfl rfl (by decide +kernel) _ rfl,
      pieceQ1 (x0 := x0) 6 rfl (by decide +kernel) rfl,
      pieceQ (arg1 := arg1) 6 rfl rfl (by decide +kernel) _ rfl,
      pieceQ1 (x0 := x0) 5 rfl (by decide +kernel) rfl,
      pieceQ (arg1 := arg1) 5 rfl rfl (by decide +kernel) _ rfl,
      pieceQ1 (x0 := x0) 4 rfl (by decide +kernel) rfl,
      pieceQ (arg1 := arg1) 4 rfl rfl (by decide +kernel) _ rfl,
      pieceQ1 (x0 := x0) 3 rfl (by decide +kernel) rfl,
      pieceQ (arg1 := arg1) 3 rfl rfl (by decide +kernel) _ rfl,
      pieceQ1 (x0 := x0) 2 rfl (by decide +kernel) rfl,
      pieceQ (arg1 := arg1) 2 rfl rfl (by decide +kernel) _ rfl,
      pieceQ1 (x0 := x0) 1 rfl (by decide +kernel) rfl,
      pieceQ (arg1 := arg1) 1 rfl rfl (by decide +kernel) _ rfl,
      pieceQ1 (x0 := x0) 0 rfl (by decide +kernel) rfl,
      pieceQ (arg1 := arg1) 0 rfl rfl (by decide +kernel) _ rfl⟩
  · exact View.cover_of_tiledL ((prepRun.sl.H2_16 (F := Ideal) arg1 x0).take 16) S128x1024.size (by sl_kernel_rfl) y

theorem canonPK (y : S1024x2048.Idx) : View.canon (prepRun.sl.H3_16 (F := Ideal) arg1 arg2 x0 x1) y = KF x0 x1 y := by
  refine View.canon_append_of_pieces (KF x0 x1) [] ((prepRun.sl.H3_16 (F := Ideal) arg1 arg2 x0 x1).take 16) ?_ y ?_
  · show ∀ p ∈ [_, _, _, _, _, _, _, _, _, _, _, _, _, _, _, _], _
    simp only [List.forall_mem_cons, List.not_mem_nil, false_imp_iff, implies_true, and_true]
    exact ⟨pieceK1 7 rfl slices_S1024x128_o0_7_S1024x1 (by decide +kernel) (biasB_at arg2 x1) rfl,
      pieceK (arg1 := arg1) 7 rfl rfl (by decide +kernel) _ rfl,
      pieceK1 6 rfl slices_S1024x128_o0_6_S1024x1 (by decide +kernel) (biasB_at arg2 x1) rfl,
      pieceK (arg1 := arg1) 6 rfl rfl (by decide +kernel) _ rfl,
      pieceK1 5 rfl slices_S1024x128_o0_5_S1024x1 (by decide +kernel) (biasB_at arg2 x1) rfl,
      pieceK (arg1 := arg1) 5 rfl rfl (by decide +kernel) _ rfl,
      pieceK1 4 rfl slices_S1024x128_o0_4_S1024x1 (by decide +kernel) (biasB_at arg2 x1) rfl,
      pieceK (arg1 := arg1) 4 rfl rfl (by decide +kernel) _ rfl,
      pieceK1 3 rfl slices_S1024x128_o0_3_S1024x1 (by decide +kernel) (biasB_at arg2 x1) rfl,
      pieceK (arg1 := arg1) 3 rfl rfl (by decide +kernel) _ rfl,
      pieceK1 2 rfl slices_S1024x128_o0_2_S1024x1 (by decide +kernel) (biasB_at arg2 x1) rfl,
      pieceK (arg1 := arg1) 2 rfl rfl (by decide +kernel) _ rfl,
      pieceK1 1 rfl slices_S1024x128_o0_1_S1024x1 (by decide +kernel) (biasB_at arg2 x1) rfl,
      pieceK (arg1 := arg1) 1 rfl rfl (by decide +kernel) _ rfl,
      pieceK1 0 rfl slices_S1024x128_o0_0_S1024x1 (by decide +kernel) (biasB_at arg2 x1) rfl,
      pieceK (arg1 := arg1) 0 rfl rfl (by decide +kernel) _ rfl⟩
  · exact View.cover_of_tiledL ((prepRun.sl.H3_16 (F := Ideal) arg1 arg2 x0 x1).take 16) S1024x128.size (by sl_kernel_rfl) y

theorem canonPV (y : S1152x1024.Idx) : View.canon (prepRun.sl.H4_16 (F := Ideal) arg1 x0) y = VF x0 y := by
  refine View.canon_append_of_pieces (VF x0) [] ((prepRun.sl.H4_16 (F := Ideal) arg1 x0).take 16) ?_ y ?_
  · show ∀ p ∈ [_, _, _, _, _, _, _, _, _, _, _, _, _, _, _, _], _
    simp only [List.forall_mem_cons, List.not_mem_nil, false_imp_iff, implies_true, and_true]
    exact ⟨pieceV1 (x0 := x0) 7 rfl (by decide +kernel) rfl,
      pieceV (arg1 := arg1) 7 rfl rfl (by decide +kernel) _ rfl,
      pieceV1 (x0 := x0) 6 rfl (by decide +kernel) rfl,
      pieceV (arg1 := arg1) 6 rfl rfl (by decide +kernel) _ rfl,
      pieceV1 (x0 := x0) 5 rfl (by decide +kernel) rfl,
      pieceV (arg1 := arg1) 5 rfl rfl (by decide +kernel) _ rfl,
      pieceV1 (x0 := x0) 4 rfl (by decide +kernel) rfl,
      pieceV (arg1 := arg1) 4 rfl rfl (by decide +kernel) _ rfl,
      pieceV1 (x0 := x0) 3 rfl (by decide +kernel) rfl,
      pieceV (arg1 := arg1) 3 rfl rfl (by decide +kernel) _ rfl,
      pieceV1 (x0 := x0) 2 rfl (by decide +kernel) rfl,
      pieceV (arg1 := arg1) 2 rfl rfl (by decide +kernel) _ rfl,
      pieceV1 (x0 := x0) 1 rfl (by decide +kernel) rfl,
      pieceV (arg1 := arg1) 1 rfl rfl (by decide +kernel) _ rfl,
      pieceV1 (x0 := x0) 0 rfl (by decide +kernel) rfl,
      pieceV (arg1 := arg1) 0 rfl rfl (by decide +kernel) _ rfl⟩
  · exact View.cover_of_tiledBy ((prepRun.sl.H4_16 (F := Ideal) arg1 x0).take 16) S16x1024.size (by sl_kernel_rfl) y

theorem leftQ : VQ.read (Elt Ideal) (VQ.writes (Elt Ideal) VQ.junk (prepRun (F := Ideal) c i arg1 harg1 arg2 harg2 arg3 harg3 arg4 harg4 arg5 harg5 x0 x1).1) = QF x0 := by
  unfold prepRun; dsimp only
  refine Eq.trans (View.read_writes_junk_eq_canon VQ (prepRun.sl.H2_16 (F := Ideal) arg1 x0)) ?_
  funext y; exact canonPQ arg1 x0 y
theorem leftK : VK.read (Elt Ideal) (VK.writes (Elt Ideal) VK.junk (prepRun (F := Ideal) c i arg1 harg1 arg2 harg2 arg3 harg3 arg4 harg4 arg5 harg5 x0 x1).2.1) = KF x0 x1 := by
  unfold prepRun; dsimp only
  refine Eq.trans (View.read_writes_junk_eq_canon VK (prepRun.sl.H3_16 (F := Ideal) arg1 arg2 x0 x1)) ?_
  funext y; exact canonPK arg1 arg2 x0 x1 y
theorem leftV : VV.read (Elt Ideal) (VV.writes (Elt Ideal) VV.junk (prepRun (F := Ideal) c i arg1 harg1 arg2 harg2 arg3 harg3 arg4 harg4 arg5 harg5 x0 x1).2.2.1) = VF x0 := by
  unfold prepRun; dsimp only
  refine Eq.trans (View.read_writes_junk_eq_canon VV (prepRun.sl.H4_16 (F := Ideal) arg1 x0)) ?_
  funext y; exact canonPV arg1 x0 y
end

variable (W : Dev nD → Valuation τ sig (Elt Ideal))

theorem qOut_eq (c : Dev nD) (t : Fin cfg0.N) : qOut W c t = QF (pblk W c 0 t) := by
  unfold qOut
  exact leftQ c (grid0.coords t) (mp0 t) (hp0 t) (mp1 t) (hp1 t) (mp2 t) (hp2 t) (mp3 t) (hp3 t) (mp4 t) (hp4 t) (pblk W c 0 t) (pblk W c 1 t)
theorem kOut_eq (c : Dev nD) (t : Fin cfg0.N) : kOut W c t = KF (pblk W c 0 t) (pblk W c 1 t) := by
  unfold kOut
  exact leftK c (grid0.coords t) (mp0 t) (hp0 t) (mp1 t) (hp1 t) (mp2 t) (hp2 t) (mp3 t) (hp3 t) (mp4 t) (hp4 t) (pblk W c 0 t) (pblk W c 1 t)
theorem vOut_eq (c : Dev nD) (t : Fin cfg0.N) : vOut W c t = VF (pblk W c 0 t) := by
  unfold vOut
  exact leftV c (grid0.coords t) (mp0 t) (hp0 t) (mp1 t) (hp1 t) (mp2 t) (hp2 t) (mp3 t) (hp3 t) (mp4 t) (hp4 t) (pblk W c 0 t) (pblk W c 1 t)

end Cert.KernelIdeal.Fox

end
-- ==== Proof.Ideal.PrepArr.lean ====
module

public import proofs.«01_k».proof.Proof.Ideal.PrepBlocks
public import Idealize.ShloMosaic.Lib.Pipeline.ValueKit.Geometry

@[expose] public section

set_option maxRecDepth 16384
set_option Elab.async false

/-! # The three arrays the preparation leaves -/

noncomputable section

namespace Cert.KernelIdeal.Fox

open Cert.KernelIdeal Cert.KernelIdeal.Gen
open Idealize.ShloMosaic Idealize.ShloMosaic.TcCoe Idealize.ShloMosaic.Tactic
open Idealize.ShloMosaic.Pipeline (Dat Cfg Window)

/-! ## Where a block lies -/

theorem pt_lt (t : Fin cfg0.N) : t.val < 16 := lt_of_lt_of_eq t.isLt (by decide)

theorem pindex0 : ∀ t : Fin cfg0.N, (cfg0.win 0).index t = ![t.val, 0] := by decide +kernel
theorem pindex1 : ∀ t : Fin cfg0.N, (cfg0.win 1).index t = ![t.val, 0] := by decide +kernel
theorem pindex2 : ∀ t : Fin cfg0.N, (cfg0.win 2).index t = ![0, t.val] := by decide +kernel
theorem pindex3 : ∀ t : Fin cfg0.N, (cfg0.win 3).index t = ![t.val, 0] := by decide +kernel
theorem pindex4 : ∀ t : Fin cfg0.N, (cfg0.win 4).index t = ![0, t.val] := by decide +kernel

/-- Row or column `b` of block `t`. -/
abbrev pat (t : Fin cfg0.N) (b : Fin 1024) : Fin 16384 := ⟨1024 * t.val + b.val, by have := pt_lt t; omega⟩

theorem pemb0 (t : Fin cfg0.N) (a : Fin 1024) (b : Fin 3072) :
    ((cfg0.win 0).blk t).view.emb (ix2 a b) = (ix2 (pat t a) b : S16384x3072.Idx) := by
  funext k
  have h := (cfg0.win 0).rect_emb_val t (ix2 a b) k
  rw [pindex0] at h
  refine Fin.ext (h.trans ?_)
  clear h
  refine Fin.cases ?_ (fun k => ?_) k
  · show t.val * 1024 + a.val = 1024 * t.val + a.val; omega
  · refine Fin.cases ?_ (fun k => k.elim0) k
    show 0 * 3072 + b.val = b.val; omega
theorem pemb1 (t : Fin cfg0.N) (a : Fin 1024) (b : Fin 128) :
    ((cfg0.win 1).blk t).view.emb (ix2 a b) = (ix2 (pat t a) b : S16384x128.Idx) := by
  funext k
  have h := (cfg0.win 1).rect_emb_val t (ix2 a b) k
  rw [pindex1] at h
  refine Fin.ext (h.trans ?_)
  clear h
  refine Fin.cases ?_ (fun k => ?_) k
  · show t.val * 1024 + a.val = 1024 * t.val + a.val; omega
  · refine Fin.cases ?_ (fun k => k.elim0) k
    show 0 * 128 + b.val = b.val; omega
theorem pemb2 (t : Fin cfg0.N) (a : Fin 2048) (b : Fin 1024) :
    ((cfg0.win 2).blk t).view.emb (ix2 a b) = (ix2 a (pat t b) : S2048x16384.Idx) := by
  funext k
  have h := (cfg0.win 2).rect_emb_val t (ix2 a b) k
  rw [pindex2] at h
  refine Fin.ext (h.trans ?_)
  clear h
  refine Fin.cases ?_ (fun k => ?_) k
  · show 0 * 2048 + a.val = a.val; omega
  · refine Fin.cases ?_ (fun k => k.elim0) k
    show t.val * 1024 + b.val = 1024 * t.val + b.val; omega
theorem pemb3 (t : Fin cfg0.N) (a : Fin 1024) (b : Fin 2048) :
    ((cfg0.win 3).blk t).view.emb (ix2 a b) = (ix2 (pat t a) b : S16384x2048.Idx) := by
  funext k
  have h := (cfg0.win 3).rect_emb_val t (ix2 a b) k
  rw [pindex3] at h
  refine Fin.ext (h.trans ?_)
  clear h
  refine Fin.cases ?_ (fun k => ?_) k
  · show t.val * 1024 + a.val = 1024 * t.val + a.val; omega
  · refine Fin.cases ?_ (fun k => k.elim0) k
    show 0 * 2048 + b.val = b.val; omega
theorem pemb4 (t : Fin cfg0.N) (a : Fin 1152) (b : Fin 1024) :
    ((cfg0.win 4).blk t).view.emb (ix2 a b) = (ix2 a (pat t b) : S1152x16384.Idx) := by
  funext k
  have h := (cfg0.win 4).rect_emb_val t (ix2 a b) k
  rw [pindex4] at h
  refine Fin.ext (h.trans ?_)
  clear h
  refine Fin.cases ?_ (fun k => ?_) k
  · show 0 * 1152 + a.val = a.val; omega
  · refine Fin.cases ?_ (fun k => k.elim0) k
    show t.val * 1024 + b.val = 1024 * t.val + b.val; omega

variable (W : Dev nD → Valuation τ sig (Elt Ideal))

/-- The two arrays the preparation reads. -/
def aX (c : Dev nD) : FVec Ideal S16384x3072 .bf16 := W c (Proc.devRef .tc main_v1)
def aZ (c : Dev nD) : FVec Ideal S16384x128 .f32 := W c (Proc.devRef .tc main_v2)

theorem pblk0_at (c : Dev nD) (t : Fin cfg0.N) (a : Fin 1024) (b : Fin 3072) :
    (pblk W c 0 t : FVec Ideal S1024x3072 .bf16) (ix2 a b) = aX W c (ix2 (pat t a) b) := by
  unfold pblk aX
  blk_simp
  exact congrArg _ (pemb0 t a b)
theorem pblk1_at (c : Dev nD) (t : Fin cfg0.N) (a : Fin 1024) (b : Fin 128) :
    (pblk W c 1 t : FVec Ideal S1024x128 .f32) (ix2 a b) = aZ W c (ix2 (pat t a) b) := by
  unfold pblk aZ
  blk_simp
  exact congrArg _ (pemb1 t a b)

/-! ## The arrays -/

/-- The queries, transposed, of the whole sequence. -/
def WQ (x : FVec Ideal S16384x3072 .bf16) : FVec Ideal S2048x16384 .bf16 := fun y => wq x (y 0) (y 1)
where
  /-- Row `a`, column `I`. -/
  wq (x : FVec Ideal S16384x3072 .bf16) (a : Fin 2048) (I : Fin 16384) : EReal :=
    if a.val % 256 < 128 then x (ix2 I ⟨128 * (a.val / 256) + a.val % 256 % 128, by omega⟩) * (cS : EReal) else if a.val % 256 < 131 then 1 else 0
/-- The keys of the whole sequence. -/
def WK (x : FVec Ideal S16384x3072 .bf16) (z : FVec Ideal S16384x128 .f32) : FVec Ideal S16384x2048 .bf16 := fun y => wk x z (y 0) (y 1)
where
  /-- The bias of row `I`. -/
  bias (z : FVec Ideal S16384x128 .f32) (I : Fin 16384) (h : ℕ) : EReal := z (ix2 I (Fin.ofNat 128 h)) * (cN : EReal)
  /-- Row `I`, column `a`. -/
  wk (x : FVec Ideal S16384x3072 .bf16) (z : FVec Ideal S16384x128 .f32) (I : Fin 16384) (a : Fin 2048) : EReal :=
    if a.val % 256 < 128 then x (ix2 I ⟨1024 + 128 * (a.val / 256) + a.val % 256 % 128, by omega⟩)
    else if a.val % 256 = 128 then bias z I (a.val / 256)
    else if a.val % 256 = 129 then bias z I (a.val / 256) - bias z I (a.val / 256)
    else if a.val % 256 = 130 then (bias z I (a.val / 256) - bias z I (a.val / 256)) - (bias z I (a.val / 256) - bias z I (a.val / 256)) else 0
/-- The values, transposed, of the whole sequence. -/
def WV (x : FVec Ideal S16384x3072 .bf16) : FVec Ideal S1152x16384 .bf16 := fun y => wv x (y 0) (y 1)
where
  /-- Row `r`, column `J`. -/
  wv (x : FVec Ideal S16384x3072 .bf16) (r : Fin 1152) (J : Fin 16384) : EReal :=
    if r.val % 144 < 128 then x (ix2 J ⟨2048 + 128 * (r.val / 144) + r.val % 144 % 128, by omega⟩) else if r.val % 144 < 129 then 1 else 0

theorem qf_at (c : Dev nD) (t : Fin cfg0.N) (a : Fin 2048) (b : Fin 1024) :
    QF (pblk W c 0 t) (ix2 a b) = WQ (aX W c) (ix2 a (pat t b)) := by
  show QF.qf (pblk W c 0 t) a b = WQ.wq (aX W c) a (pat t b)
  unfold QF.qf WQ.wq
  rw [pblk0_at]
theorem kf_at (c : Dev nD) (t : Fin cfg0.N) (b : Fin 1024) (a : Fin 2048) :
    KF (pblk W c 0 t) (pblk W c 1 t) (ix2 b a) = WK (aX W c) (aZ W c) (ix2 (pat t b) a) := by
  show KF.kf (pblk W c 0 t) (pblk W c 1 t) b a = WK.wk (aX W c) (aZ W c) (pat t b) a
  unfold KF.kf WK.wk KF.bias WK.bias
  rw [pblk0_at, pblk1_at]
theorem vf_at (c : Dev nD) (t : Fin cfg0.N) (a : Fin 1152) (b : Fin 1024) :
    VF (pblk W c 0 t) (ix2 a b) = WV (aX W c) (ix2 a (pat t b)) := by
  show VF.vf (pblk W c 0 t) a b = WV.wv (aX W c) a (pat t b)
  unfold VF.vf WV.wv
  rw [pblk0_at]

theorem arrQ (c : Dev nD) : (dat0 W c).arrAt (2 : Fin 5) cfg0.N = WQ (aX W c) := by
  refine (dat0 W c).arrAt_eq_of_covers (2 : Fin 5) (WQ (aX W c)) (by decide +kernel) fun t hf y => ?_
  blk_simp
  rw [pafter2, qOut_eq]
  revert y
  refine idx2_cases (n0 := 2048) (n1 := 1024) fun a b => ?_
  exact (qf_at W c t a b).trans (congrArg (WQ (aX W c)) (pemb2 t a b)).symm
theorem arrK (c : Dev nD) : (dat0 W c).arrAt (3 : Fin 5) cfg0.N = WK (aX W c) (aZ W c) := by
  refine (dat0 W c).arrAt_eq_of_covers (3 : Fin 5) (WK (aX W c) (aZ W c)) (by decide +kernel) fun t hf y => ?_
  blk_simp
  rw [pafter3, kOut_eq]
  revert y
  refine idx2_cases (n0 := 1024) (n1 := 2048) fun a b => ?_
  exact (kf_at W c t a b).trans (congrArg (WK (aX W c) (aZ W c)) (pemb3 t a b)).symm
theorem arrV (c : Dev nD) : (dat0 W c).arrAt (4 : Fin 5) cfg0.N = WV (aX W c) := by
  refine (dat0 W c).arrAt_eq_of_covers (4 : Fin 5) (WV (aX W c)) (by decide +kernel) fun t hf y => ?_
  blk_simp
  rw [pafter4, vOut_eq]
  revert y
  refine idx2_cases (n0 := 1152) (n1 := 1024) fun a b => ?_
  exact (vf_at W c t a b).trans (congrArg (WV (aX W c)) (pemb4 t a b)).symm

end Cert.KernelIdeal.Fox

end
-- ==== Proof.Ideal.HostRead.lean ====
module

public import proofs.«01_k».proof.Proof.Ideal.PrepArr
public import proofs.«01_k».proof.Proof.Ideal.Run
public import proofs.«01_k».proof.Pre_finite
public import Idealize.ShloMosaic.Lib.ReduceAll
public import Idealize.ShloMosaic.Lib.Affine

@[expose] public section

set_option maxRecDepth 16384
set_option Elab.async false

/-! # The arrays the preparation reads, and what the precondition says -/

noncomputable section

namespace Cert.KernelIdeal.Fox

open Cert.KernelIdeal Cert.KernelIdeal.Gen
open Idealize.ShloMosaic Idealize.ShloMosaic.TcCoe Idealize.ShloMosaic.Tactic

variable (m : (ℓ : Loc nD τ sig) → Buf (Elt Ideal) ℓ)

/-- The arguments. -/
def argQ (c : Dev nD) : FVec Ideal S16384x1024 .f32 := m ((c : Thread nD τ).loc main_arg0)
def argK (c : Dev nD) : FVec Ideal S16384x1024 .f32 := m ((c : Thread nD τ).loc main_arg1)
def argV (c : Dev nD) : FVec Ideal S16384x1024 .f32 := m ((c : Thread nD τ).loc main_arg2)
def argC (c : Dev nD) : FVec Ideal S16384x8 .f32 := m ((c : Thread nD τ).loc main_arg3)

/-- The concatenated projections. -/
def hX (q k v : FVec Ideal S16384x1024 .f32) : FVec Ideal S16384x3072 .bf16 :=
  truncf .bf16 (concatenate S16384x3072 1 [⟨S16384x1024, q⟩, ⟨S16384x1024, k⟩, ⟨S16384x1024, v⟩] concatenates_S16384x1024_S16384x1024_S16384x1024_S16384x3072_d1) bitsLt_bf16_f32
/-- The padded prefix sums. -/
def hZ (z : FVec Ideal S16384x8 .f32) : FVec Ideal S16384x128 .f32 :=
  pad S16384x128 ![0, 0] ![0, 120] ![0, 0] z (sitofp .f32 (constantI S_ 32 0#32)) pads_S16384x8_S16384x128_000_01200 h_S_

theorem aX_eq (c : Dev nD) : aX (V2 m) c = hX (argQ m c) (argK m c) (argV m c) := by
  unfold aX hX
  simp only [V2, V1, hostOps0, hostOps0_1, StableHlo.TRef.unary, StableHlo.TRef.binary, StableHlo.TRef.toBuf, StableHlo.TRef.ofBuf, cast_eq]
  after_results_simp
  rfl

theorem aZ_eq (c : Dev nD) : aZ (V2 m) c = hZ (argC m c) := by
  unfold aZ hZ
  simp only [V2, V1, hostOps0, hostOps0_1, StableHlo.TRef.unary, StableHlo.TRef.binary, StableHlo.TRef.toBuf, StableHlo.TRef.ofBuf, cast_eq]
  after_results_simp
  rfl

theorem hX_q (q k v : FVec Ideal S16384x1024 .f32) (I : Fin 16384) (a : Fin 3072) (b : Fin 1024) (h : a.val = b.val) : hX q k v (ix2 I a) = q (ix2 I b) := by
  pointwise [hX]
  rw [dif_pos (by omega)]
  exact congrArg (fun l : Fin 1024 => q (ix2 I l)) (Fin.ext h)
theorem hX_k (q k v : FVec Ideal S16384x1024 .f32) (I : Fin 16384) (a : Fin 3072) (b : Fin 1024) (h : a.val = 1024 + b.val) : hX q k v (ix2 I a) = k (ix2 I b) := by
  pointwise [hX]
  rw [dif_neg (by omega), dif_pos (by omega)]
  exact congrArg (fun l : Fin 1024 => k (ix2 I l)) (Fin.ext (by show a.val - 1024 = b.val; omega))
theorem hX_v (q k v : FVec Ideal S16384x1024 .f32) (I : Fin 16384) (a : Fin 3072) (b : Fin 1024) (h : a.val = 2048 + b.val) : hX q k v (ix2 I a) = v (ix2 I b) := by
  pointwise [hX]
  rw [dif_neg (by omega), dif_neg (by omega)]
  exact congrArg (fun l : Fin 1024 => v (ix2 I l)) (Fin.ext (by show a.val - 1024 - 1024 = b.val; omega))
theorem hZ_at (z : FVec Ideal S16384x8 .f32) (I : Fin 16384) (a : Fin 128) (b : Fin 8) (h : a.val = b.val) : hZ z (ix2 I a) = z (ix2 I b) := by
  pointwise [hZ]
  rw [dif_pos (by omega)]
  exact congrArg (fun l : Fin 8 => z (ix2 I l)) (Fin.ext h)

/-! ## The precondition -/

instance preFacts : Cert.Pre_finite.Facts where
  bcast_S_S16384x1024 := by decide
  reducesTo_S16384x1024_S_d0_1 := by decide
  h_S_ := by decide
  bcast_S_S16384x8 := by decide
  reducesTo_S16384x8_S_d0_1 := by decide

theorem lit_top : Ideal.ofBits .f32 0x7F800000#32 = ⊤ := by simp [Ideal.ofBits, Ideal.ieee]

theorem real_of_abs_lt (x : EReal) (h : max x (-x) < ⊤) : ∃ r : ℝ, x = (r : EReal) := by
  induction x using EReal.rec with
  | bot => simp at h
  | top => simp at h
  | coe r => exact ⟨r, rfl⟩

instance : Subsingleton Cert.Pre_finite.S_.Idx := ⟨fun a b => funext fun k => k.elim0⟩

theorem finite_args (q k v : FVec Ideal S16384x1024 .f32) (z : FVec Ideal S16384x8 .f32)
    (hf : Cert.Pre_finite.fn (F := Ideal) q k v z = fun _ => 1#1) :
    (∀ y, ∃ r : ℝ, q y = (r : EReal)) ∧ (∀ y, ∃ r : ℝ, k y = (r : EReal)) ∧ (∀ y, ∃ r : ℝ, v y = (r : EReal)) ∧ (∀ y, ∃ r : ℝ, z y = (r : EReal)) := by
  have h := congrFun hf ix0
  unfold Cert.Pre_finite.fn Cert.Pre_finite.fn_part1 at h
  dsimp only [andi] at h
  obtain ⟨h, h4⟩ := IntOp.andi_eq_one.mp h
  obtain ⟨h, h3⟩ := IntOp.andi_eq_one.mp h
  obtain ⟨h1, h2⟩ := IntOp.andi_eq_one.mp h
  have key : ∀ x : EReal, Ideal.cmp .olt (max x (-x)) (Ideal.ofBits .f32 0x7F800000#32) = 1#1 → ∃ r : ℝ, x = (r : EReal) := fun x hx =>
    real_of_abs_lt x (by
      rw [lit_top] at hx
      change BitVec.ofBool (decide (max x (-x) < (⊤ : EReal))) = 1#1 at hx
      by_contra hn
      simp [hn] at hx)
  exact ⟨fun y => key _ (Host.reduce_andi_all _ _ _ _ _ h1 y), fun y => key _ (Host.reduce_andi_all _ _ _ _ _ h2 y),
    fun y => key _ (Host.reduce_andi_all _ _ _ _ _ h3 y), fun y => key _ (Host.reduce_andi_all _ _ _ _ _ h4 y)⟩

end Cert.KernelIdeal.Fox

end
-- ==== Proof.Ideal.Result.lean ====
module

public import proofs.«01_k».proof.Proof.Ideal.Traj
public import proofs.«01_k».proof.Proof.Ideal.HostRead

@[expose] public section

set_option maxRecDepth 16384
set_option Elab.async false

/-! # What the attention leaves -/

noncomputable section

namespace Cert.KernelIdeal.Fox

open Cert.KernelIdeal Cert.KernelIdeal.Gen
open Idealize.ShloMosaic Idealize.ShloMosaic.TcCoe Idealize.ShloMosaic.Tactic
open Idealize.ShloMosaic.Pipeline (Dat Cfg Window)

/-! ## The output array -/

section
variable (W : Dev nD → Valuation τ sig (Elt Ideal)) (c : Dev nD) (s : Fin 8 → Fin 16384 → Fin 16384 → ℝ) (w : Fin 1152 → Fin 16384 → ℝ)

/-- Row `d` of a head's part of the values, by the output's column. -/
abbrev rowOf (l : Fin 1024) : Fin 1152 := ⟨144 * (l.val / 128) + l.val % 128, by omega⟩
/-- The row of ones of a head's part. -/
abbrev oneOf (l : Fin 1024) : Fin 1152 := ⟨144 * (l.val / 128) + 128, by omega⟩
/-- A column's head. -/
abbrev headOf (l : Fin 1024) : Fin 8 := ⟨l.val / 128, by omega⟩

theorem hd_rowOf (l : Fin 1024) : hd (rowOf l) = headOf l := Fin.ext (by show (144 * (l.val / 128) + l.val % 128) / 144 = l.val / 128; omega)
theorem hd_oneOf (l : Fin 1024) : hd (oneOf l) = headOf l := Fin.ext (by show (144 * (l.val / 128) + 128) / 144 = l.val / 128; omega)

/-- The quotient the attention leaves at row `I`, column `l`. -/
def quot (I : Fin 16384) (l : Fin 1024) : ℝ := (∑ J, w (rowOf l) J * wt s (headOf l) I J) / ∑ J, wt s (headOf l) I J

/-- The keys after a query's block weigh nothing. -/
theorem sum_term (r : Fin 1152) (Q : ℕ) (hQ : Q < 16) (i : Fin 1024) :
    ∑ k ∈ Finset.range (1024 * (Q + 1)), term s w r (at1024 Q hQ i) k = ∑ J : Fin 16384, w r J * wt s (hd r) (at1024 Q hQ i) J := by
  have h1 : ∑ k ∈ Finset.range (1024 * (Q + 1)), term s w r (at1024 Q hQ i) k = ∑ k ∈ Finset.range 16384, term s w r (at1024 Q hQ i) k := by
    refine Finset.sum_subset (Finset.range_subset_range.2 (by omega)) fun k hk hk' => ?_
    rw [Finset.mem_range] at hk hk'
    have hv : (Fin.ofNat 16384 k).val = k := Nat.mod_eq_of_lt hk
    unfold term wt
    rw [if_neg (by rw [hv]; show ¬ k ≤ 1024 * Q + i.val; have := i.isLt; omega), mul_zero]
  rw [h1, Finset.sum_range]
  refine Finset.sum_congr rfl fun J _ => ?_
  have hv : Fin.ofNat 16384 J.val = J := Fin.ext (Nat.mod_eq_of_lt J.isLt)
  unfold term
  rw [hv]

theorem wt_sum_pos (h : Fin 8) (I : Fin 16384) : 0 < ∑ J, wt s h I J := by
  refine Finset.sum_pos' (fun J _ => ?_) ⟨I, Finset.mem_univ _, ?_⟩
  · unfold wt; split_ifs
    · exact (Real.rpow_pos_of_pos two_pos _).le
    · exact le_refl _
  · unfold wt; rw [if_pos (le_refl _)]; exact Real.rpow_pos_of_pos two_pos _

/-- The output, as an array. -/
def outG : FVec Ideal S16384x1024 .bf16 := fun y => ((quot s w (y 0) (y 1) : ℝ) : EReal)

variable (hs : ∀ h J I, gs W c h J I = (s h J I : EReal)) (hw : ∀ r J, aV W c (ix2 r J) = (w r J : EReal))
  (hone : ∀ l J, w (oneOf l) J = 1)
include hs hw hone

theorem out_at (t : Fin (cfgA (F := Ideal)).N) (h : kb t = qb t) (i l : Fin 1024) :
    outBlk W c t (st W c t.val) (ix2 i l) = ((quot s w (at1024 (qb t) (qb_lt t) i) l : ℝ) : EReal) := by
  rw [outBlk_eq W c t _ (by omega), ← st_succ]
  have ha := run_upto W c s w hs hw (rowOf l) i (qb t) t h
  have hb := run_upto W c s w hs hw (oneOf l) i (qb t) t h
  rw [sum_term, hd_rowOf] at ha
  rw [sum_term, hd_oneOf] at hb
  simp only [hone, one_mul] at hb
  exact Run.div ha hb (wt_sum_pos s _ _).ne'

theorem arrOut : (dat1 W c).arrAt (3 : Fin 4) (cfgA (F := Ideal)).N = outG s w := by
  refine (dat1 W c).arrAt_eq_of_emb (3 : Fin 4) (outG s w) (fun t hf y => ?_) fun y => ?_
  · have hk : kb t = qb t := (flush3 (F := Ideal) t).1 hf
    blk_simp
    rw [after3]
    revert y
    refine idx2_cases (n0 := 1024) (n1 := 1024) fun i l => ?_
    exact (out_at W c s w hs hw hone t hk i l).trans (congrArg (outG s w) (emb3 t i l)).symm
  · revert y
    refine idx2_cases (n0 := 16384) (n1 := 1024) fun I l => ?_
    obtain ⟨t, h1, h2⟩ := last_point ⟨I.val / 1024, by omega⟩
    refine ⟨t, (flush3 (F := Ideal) t).2 (h2.trans h1.symm), ?_⟩
    have e : (((cfgA (F := Ideal)).win 3).blk t).view.emb (ix2 (⟨I.val % 1024, by omega⟩ : Fin 1024) l) = (ix2 I l : S16384x1024.Idx) := by
      refine (emb3 t _ l).trans (congrArg (fun R : Fin 16384 => (ix2 R l : S16384x1024.Idx)) (Fin.ext ?_))
      show 1024 * qb t + I.val % 1024 = I.val
      rw [h1]; show 1024 * (I.val / 1024) + I.val % 1024 = I.val; omega
    rw [← e]
    exact View.emb_mem_set _ _

end

/-! ## The scores and the values, in reals -/

section
variable (x : FVec Ideal S16384x3072 .bf16) (z : FVec Ideal S16384x128 .f32) (xr : Fin 16384 → Fin 3072 → ℝ) (zr : Fin 16384 → Fin 8 → ℝ)

/-- The score of key `J` for query `I`, in base two and without the query's own bias. -/
def score (h : Fin 8) (J I : Fin 16384) : ℝ :=
  (∑ d : Fin 128, xr J ⟨1024 + 128 * h.val + d.val, by omega⟩ * (xr I ⟨128 * h.val + d.val, by omega⟩ * cS)) + zr J h * cN

/-- The values, with the rows of ones. -/
def value (r : Fin 1152) (J : Fin 16384) : ℝ :=
  if r.val % 144 < 128 then xr J ⟨2048 + 128 * (r.val / 144) + r.val % 144 % 128, by omega⟩ else if r.val % 144 < 129 then 1 else 0

theorem value_one (l : Fin 1024) (J : Fin 16384) : value xr (oneOf l) J = 1 := by
  have e : (144 * (l.val / 128) + 128) % 144 = 128 := by omega
  unfold value
  rw [if_neg (by show ¬ (144 * (l.val / 128) + 128) % 144 < 128; omega), if_pos (by show (144 * (l.val / 128) + 128) % 144 < 129; omega)]

variable (hx : ∀ I a, x (ix2 I a) = (xr I a : EReal)) (hz : ∀ I (a : Fin 128) (h : Fin 8), a.val = h.val → z (ix2 I a) = (zr I h : EReal))
include hx

theorem WV_real (r : Fin 1152) (J : Fin 16384) : WV x (ix2 r J) = (value xr r J : EReal) := by
  show WV.wv x r J = _
  unfold WV.wv value
  split_ifs
  · exact hx _ _
  · rfl
  · rfl

include hz

theorem score_real (h : Fin 8) (J I : Fin 16384) :
    ∑ k : Fin 256, WK x z (ix2 J ⟨256 * h.val + k.val, by omega⟩) * WQ x (ix2 (⟨256 * h.val + k.val, by omega⟩ : Fin 2048) I) = (score xr zr h J I : EReal) := by
  have hb : WK.bias z J h.val = ((zr J h * cN : ℝ) : EReal) := by
    unfold WK.bias
    rw [hz J (Fin.ofNat 128 h.val) h (Nat.mod_eq_of_lt (by omega)), EReal.coe_mul]
  have hlow : ∀ d : Fin 128, WK x z (ix2 J ⟨256 * h.val + d.val, by omega⟩) * WQ x (ix2 (⟨256 * h.val + d.val, by omega⟩ : Fin 2048) I)
      = ((xr J ⟨1024 + 128 * h.val + d.val, by omega⟩ * (xr I ⟨128 * h.val + d.val, by omega⟩ * cS) : ℝ) : EReal) := fun d => by
    show WK.wk x z J ⟨256 * h.val + d.val, by omega⟩ * WQ.wq x ⟨256 * h.val + d.val, by omega⟩ I = _
    have e1 : (256 * h.val + d.val) % 256 = d.val := by omega
    have e2 : (256 * h.val + d.val) / 256 = h.val := by omega
    have e3 : d.val % 128 = d.val := by omega
    unfold WK.wk WQ.wq
    simp only [e1, e2, e3]
    rw [if_pos d.isLt, if_pos d.isLt, hx, hx, EReal.coe_mul, EReal.coe_mul]
  have hhigh : ∀ d : Fin 128, WK x z (ix2 J ⟨256 * h.val + (128 + d.val), by omega⟩) * WQ x (ix2 (⟨256 * h.val + (128 + d.val), by omega⟩ : Fin 2048) I)
      = ((if d.val = 0 then zr J h * cN else 0 : ℝ) : EReal) := fun d => by
    show WK.wk x z J ⟨256 * h.val + (128 + d.val), by omega⟩ * WQ.wq x ⟨256 * h.val + (128 + d.val), by omega⟩ I = _
    have e1 : (256 * h.val + (128 + d.val)) % 256 = 128 + d.val := by omega
    have e2 : (256 * h.val + (128 + d.val)) / 256 = h.val := by omega
    have hbb : ((zr J h * cN : ℝ) : EReal) - ((zr J h * cN : ℝ) : EReal) = 0 := by rw [← EReal.coe_sub, sub_self, EReal.coe_zero]
    unfold WK.wk WQ.wq
    have n1 : ¬ 128 + d.val < 128 := by omega
    simp only [e1, e2, hb, hbb, if_neg n1, sub_zero]
    by_cases h0 : d.val = 0
    · rw [if_pos (show 128 + d.val = 128 by omega), if_pos (show 128 + d.val < 131 by omega), if_pos h0, mul_one]
    · rw [if_neg (show ¬ 128 + d.val = 128 by omega), if_neg h0, EReal.coe_zero]
      split_ifs <;> simp
  rw [Fin.sum_univ_add (a := 128) (b := 128)]
  refine (congrArg₂ (· + ·) (Finset.sum_congr rfl fun d _ => hlow d) (Finset.sum_congr rfl fun d _ => hhigh d)).trans ?_
  rw [← coe_sum, ← coe_sum, ← EReal.coe_add]
  unfold score
  refine congrArg (fun r : ℝ => (r : EReal)) (congrArg₂ (· + ·) rfl ?_)
  refine (Finset.sum_eq_single (0 : Fin 128) (fun d _ hd => if_neg fun h => hd (Fin.ext h)) (fun h => absurd (Finset.mem_univ _) h)).trans ?_
  exact if_pos rfl

end

end Cert.KernelIdeal.Fox

end
-- ==== Proof.Ideal.RefRead.lean ====
module

public import proofs.«01_k».proof.Proof.Gen.ReferenceIdeal.Run
public import Idealize.ShloMosaic.Lib.Pointwise
public import Idealize.ShloMosaic.Lib.WordCmp

@[expose] public section

set_option maxRecDepth 16384
set_option Elab.async false

/-! # The reference's result, read at an entry -/

noncomputable section

namespace Cert.ReferenceIdeal.Fox

open Cert.ReferenceIdeal Cert.ReferenceIdeal.Gen
open Idealize.ShloMosaic Idealize.ShloMosaic.TcCoe Idealize.ShloMosaic.Tactic

/-- The masked scores. -/
def rS (q k : FVec Ideal S16384x1024 .f32) (z : FVec Ideal S16384x8 .f32) : FVec Ideal S8x16384x16384 .f32 :=
  select (broadcastInDim S8x16384x16384 ![1, 2] bcast_S16384x16384_S8x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (subf (addf (mulf (Host.dotGeneral dot_S16384x8x128_S16384x8x128_S8x16384x16384_2_2_0_0_1_1 none (shapeCast _ q shapeCasts_S16384x1024_S16384x8x128) (shapeCast _ k shapeCasts_S16384x1024_S16384x8x128)) (broadcastInDim S8x16384x16384 ![] bcast_S_S8x16384x16384 (constant S_ .f32 0x3DB504F3#32))) (broadcastInDim S8x16384x16384 ![0, 1, 2] bcast_S8x16384x1_S8x16384x16384_0_1_2 (broadcastInDim S8x16384x1 ![0, 1] bcast_S8x16384_S8x16384x1_0_1 (transpose S8x16384 [1, 0] z transposes_S16384x8_S8x16384_1_0)))) (broadcastInDim S8x16384x16384 ![0, 1, 2] bcast_S8x1x16384_S8x16384x16384_0_1_2 (broadcastInDim S8x1x16384 ![0, 2] bcast_S8x16384_S8x1x16384_0_2 (transpose S8x16384 [1, 0] z transposes_S16384x8_S8x16384_1_0)))) (broadcastInDim S8x16384x16384 ![] bcast_S_S8x16384x16384 (id (constant S_ .f32 0xFF800000#32)))

/-- The row maxima. -/
def rM (s : FVec Ideal S8x16384x16384 .f32) : FVec Ideal S8x16384 .f32 :=
  Host.reduce FloatOps.maximumf s (constant S_ .f32 0xFF800000#32) reducesTo_S8x16384x16384_S8x16384_d2 h_S_

/-- The exponentials. -/
def rE (s : FVec Ideal S8x16384x16384 .f32) (mx : FVec Ideal S8x16384 .f32) : FVec Ideal S8x16384x16384 .f32 :=
  Host.exp (subf s (broadcastInDim S8x16384x16384 ![0, 1, 2] bcast_S8x16384x1_S8x16384x16384_0_1_2 (broadcastInDim S8x16384x1 ![0, 1] bcast_S8x16384_S8x16384x1_0_1 (maximumf (broadcastInDim S8x16384 ![] bcast_S_S8x16384 (constant S_ .f32 0xFF800000#32)) mx))))

/-- The weighted sum of the values. -/
def rO (v : FVec Ideal S16384x1024 .f32) (e : FVec Ideal S8x16384x16384 .f32) : FVec Ideal S16384x1024 .bf16 :=
  truncf .bf16 (shapeCast _ (transpose S16384x8x128 [2, 0, 1] (Host.dotGeneral dot_S16384x8x128_S8x16384x16384_S8x128x16384_0_2_2_1_1_0 none (shapeCast _ v shapeCasts_S16384x1024_S16384x8x128) (Host.divf e (broadcastInDim S8x16384x16384 ![0, 1, 2] bcast_S8x16384x1_S8x16384x16384_0_1_2 (broadcastInDim S8x16384x1 ![0, 1] bcast_S8x16384_S8x16384x1_0_1 (Host.reduceAdd e (constant S_ .f32 0x00000000#32) reducesTo_S8x16384x16384_S8x16384_d2 h_S_))))) transposes_S8x128x16384_S16384x8x128_2_0_1) shapeCasts_S16384x8x128_S16384x1024) bitsLt_bf16_f32

theorem res_eq (m : (ℓ : Loc nD τ sig) → Buf (Elt Ideal) ℓ) (c : Dev nD) :
    Cert.ReferenceIdeal.Value.res_main_v35 m c
      = rO (m ((c.tc : Thread nD τ).loc main_arg2)) (rE (rS (m ((c.tc : Thread nD τ).loc main_arg0)) (m ((c.tc : Thread nD τ).loc main_arg1)) (m ((c.tc : Thread nD τ).loc main_arg3)))
          (rM (rS (m ((c.tc : Thread nD τ).loc main_arg0)) (m ((c.tc : Thread nD τ).loc main_arg1)) (m ((c.tc : Thread nD τ).loc main_arg3))))) := by
  unfold Cert.ReferenceIdeal.Value.res_main_v35 rO rE rM rS
  rfl

theorem lit_bot : Ideal.ofBits .f32 0xFF800000#32 = ⊥ := by simp [Ideal.ofBits, Ideal.ieee]
theorem lit_scale : Ideal.ofBits .f32 0x3DB504F3#32 = ((11863283 / 134217728 : ℝ) : EReal) := by
  simp [Ideal.ofBits, Ideal.ieee]
  rw [← EReal.coe_mul]; norm_num

theorem rE_at (s : FVec Ideal S8x16384x16384 .f32) (mx : FVec Ideal S8x16384 .f32) (h : Fin 8) (I J : Fin 16384) :
    rE s mx (ix3 h I J) = Ideal.exp (s (ix3 h I J) - mx (ix2 h I)) := by
  pointwise [rE, lit_bot]
  rw [max_eq_right bot_le]

theorem rM_at (s : FVec Ideal S8x16384x16384 .f32) (h : Fin 8) (I : Fin 16384) :
    rM s (ix2 h I) = Finset.univ.fold max (⊥ : EReal) fun J : Fin 16384 => s (ix3 h I J) := by
  pointwise [rM, lit_bot]

theorem rS_at (q k : FVec Ideal S16384x1024 .f32) (z : FVec Ideal S16384x8 .f32) (h : Fin 8) (I J : Fin 16384) :
    rS q k z (ix3 h I J) = if J.val ≤ I.val then
        (∑ d : Fin 128, q (ix2 I ⟨h.val * 128 + d.val, by omega⟩) * k (ix2 J ⟨h.val * 128 + d.val, by omega⟩)) * ((11863283 / 134217728 : ℝ) : EReal)
          + z (ix2 I h) - z (ix2 J h) else ⊥ := by
  pointwise [rS, lit_bot, lit_scale]
  rw [Idealize.ShloMosaic.WordCmp.cmpi_sle_ofNat (by have := J.isLt; norm_num; omega) (by have := I.isLt; norm_num; omega)]
  by_cases hJ : J.val ≤ I.val
  · simp [hJ, Scalar.select]
  · simp only [hJ, decide_false, if_false]
    exact lit_bot

theorem rO_at (v : FVec Ideal S16384x1024 .f32) (e : FVec Ideal S8x16384x16384 .f32) (h : Fin 8) (d : Fin 128) (I : Fin 16384) :
    rO v e (ix2 I ⟨h.val * 128 + d.val, by omega⟩)
      = ∑ J : Fin 16384, v (ix2 J ⟨h.val * 128 + d.val, by omega⟩) * Ideal.div (e (ix3 h I J)) (∑ K : Fin 16384, e (ix3 h I K)) := by
  pointwise [rO]

end Cert.ReferenceIdeal.Fox

end
-- ==== Proof.Ideal.Equal.lean ====
module

public import proofs.«01_k».proof.Defs
public import proofs.«01_k».proof.Proof.Ideal.Result
public import proofs.«01_k».proof.Proof.Ideal.RefRead

@[expose] public section

set_option maxRecDepth 16384
set_option Elab.async false

/-! # The kernel and the reference end with equal results -/

noncomputable section

namespace Cert.KernelIdeal.Fox

open Cert.KernelIdeal Cert.KernelIdeal.Gen
open Idealize.ShloMosaic Idealize.ShloMosaic.TcCoe Idealize.ShloMosaic.Tactic
open Idealize.SL.Sem

/-! ## Two presentations of a weight -/

/-- A score in base `e`, the query's bias apart, is the score in base two. -/
theorem exp_score (A zi zj : ℝ) : Real.exp (A * (11863283 / 134217728) + zi - zj) = Real.exp zi * (2 : ℝ) ^ (A * cS + zj * cN) := by
  have hl : Real.log 2 ≠ 0 := (Real.log_pos one_lt_two).ne'
  rw [Real.rpow_def_of_pos two_pos, ← Real.exp_add]
  congr 1
  unfold cS cN
  field_simp
  ring

section
variable (q k v : FVec Ideal S16384x1024 .f32) (z : FVec Ideal S16384x8 .f32)

/-- The entries, in reals. -/
def re (x : FVec Ideal S16384x1024 .f32) (I : Fin 16384) (a : Fin 1024) : ℝ := EReal.toReal (x (ix2 I a))
def reC (I : Fin 16384) (h : Fin 8) : ℝ := EReal.toReal (z (ix2 I h))
def reX (I : Fin 16384) (a : Fin 3072) : ℝ := EReal.toReal (hX q k v (ix2 I a))

theorem reX_q (I : Fin 16384) (a : Fin 3072) (b : Fin 1024) (h : a.val = b.val) : reX q k v I a = re q I b := congrArg EReal.toReal (hX_q q k v I a b h)
theorem reX_k (I : Fin 16384) (a : Fin 3072) (b : Fin 1024) (h : a.val = 1024 + b.val) : reX q k v I a = re k I b := congrArg EReal.toReal (hX_k q k v I a b h)
theorem reX_v (I : Fin 16384) (a : Fin 3072) (b : Fin 1024) (h : a.val = 2048 + b.val) : reX q k v I a = re v I b := congrArg EReal.toReal (hX_v q k v I a b h)

/-- The score in the reference's order of factors. -/
theorem score_eq (h : Fin 8) (J I : Fin 16384) : score (reX q k v) (reC z) h J I
    = (∑ d : Fin 128, re q I ⟨h.val * 128 + d.val, by omega⟩ * re k J ⟨h.val * 128 + d.val, by omega⟩) * cS + reC z J h * cN := by
  unfold score
  refine congrArg (· + reC z J h * cN) ?_
  rw [Finset.sum_mul]
  refine Finset.sum_congr rfl fun d _ => ?_
  rw [reX_k q k v J _ ⟨h.val * 128 + d.val, by omega⟩ (by show 1024 + 128 * h.val + d.val = 1024 + (h.val * 128 + d.val); omega),
    reX_q q k v I _ ⟨h.val * 128 + d.val, by omega⟩ (by show 128 * h.val + d.val = h.val * 128 + d.val; omega)]
  ring

theorem value_eq (l : Fin 1024) (J : Fin 16384) : value (reX q k v) (rowOf l) J = re v J l := by
  have e1 : (144 * (l.val / 128) + l.val % 128) % 144 = l.val % 128 := by omega
  have e2 : (144 * (l.val / 128) + l.val % 128) / 144 = l.val / 128 := by omega
  unfold value
  rw [if_pos (by show (144 * (l.val / 128) + l.val % 128) % 144 < 128; omega)]
  exact reX_v q k v J _ l (by show 2048 + 128 * ((144 * (l.val / 128) + l.val % 128) / 144) + (144 * (l.val / 128) + l.val % 128) % 144 % 128 = 2048 + l.val; omega)

variable (hq : ∀ y, ∃ r : ℝ, q y = (r : EReal)) (hk : ∀ y, ∃ r : ℝ, k y = (r : EReal)) (hv : ∀ y, ∃ r : ℝ, v y = (r : EReal)) (hz : ∀ y, ∃ r : ℝ, z y = (r : EReal))

theorem coe_re {x : EReal} (h : ∃ r : ℝ, x = (r : EReal)) : x = ((EReal.toReal x : ℝ) : EReal) := by
  obtain ⟨r, rfl⟩ := h; rfl

include hq hk hv in
theorem reX_real (I : Fin 16384) (a : Fin 3072) : hX q k v (ix2 I a) = (reX q k v I a : EReal) := by
  refine coe_re ?_
  by_cases h1 : a.val < 1024
  · rw [hX_q q k v I a ⟨a.val, h1⟩ rfl]; exact hq _
  · by_cases h2 : a.val < 2048
    · rw [hX_k q k v I a ⟨a.val - 1024, by omega⟩ (by show a.val = 1024 + (a.val - 1024); omega)]; exact hk _
    · rw [hX_v q k v I a ⟨a.val - 2048, by omega⟩ (by show a.val = 2048 + (a.val - 2048); omega)]; exact hv _

include hq hk hv hz

/-- The reference's result is the quotient the kernel leaves. -/
theorem ref_eq (I : Fin 16384) (l : Fin 1024) :
    Cert.ReferenceIdeal.Fox.rO v (Cert.ReferenceIdeal.Fox.rE (Cert.ReferenceIdeal.Fox.rS q k z) (Cert.ReferenceIdeal.Fox.rM (Cert.ReferenceIdeal.Fox.rS q k z))) (ix2 I l)
      = ((quot (score (reX q k v) (reC z)) (value (reX q k v)) I l : ℝ) : EReal) := by
  have el : l = (⟨(headOf l).val * 128 + (⟨l.val % 128, by omega⟩ : Fin 128).val, by show l.val / 128 * 128 + l.val % 128 < 1024; omega⟩ : Fin 1024) :=
    Fin.ext (by show l.val = l.val / 128 * 128 + l.val % 128; omega)
  refine (congrArg (fun a : Fin 1024 => Cert.ReferenceIdeal.Fox.rO v (Cert.ReferenceIdeal.Fox.rE (Cert.ReferenceIdeal.Fox.rS q k z) (Cert.ReferenceIdeal.Fox.rM (Cert.ReferenceIdeal.Fox.rS q k z))) (ix2 I a)) el).trans ?_
  refine (Cert.ReferenceIdeal.Fox.rO_at v _ (headOf l) ⟨l.val % 128, by omega⟩ I).trans ?_
  simp only [Cert.ReferenceIdeal.Fox.rE_at, Cert.ReferenceIdeal.Fox.rM_at]
  have key := softmax_row (fun J : Fin 16384 => Cert.ReferenceIdeal.Fox.rS q k z (ix3 (headOf l) I J)) (fun J => v (ix2 J l))
    (fun J => wt (score (reX q k v) (reC z)) (headOf l) I J) (fun J => value (reX q k v) (rowOf l) J) (Real.exp (reC z I (headOf l))) (Real.exp_pos _)
    (fun J => by
      show (∃ s : ℝ, Cert.ReferenceIdeal.Fox.rS q k z (ix3 (headOf l) I J) = (s : EReal) ∧ _) ∨ _
      rw [Cert.ReferenceIdeal.Fox.rS_at]
      unfold wt
      by_cases hJ : J.val ≤ I.val
      · rw [if_pos hJ, if_pos hJ]
        refine .inl ⟨(∑ d : Fin 128, re q I ⟨(headOf l).val * 128 + d.val, by omega⟩ * re k J ⟨(headOf l).val * 128 + d.val, by omega⟩) * (11863283 / 134217728)
          + reC z I (headOf l) - reC z J (headOf l), ?_, ?_⟩
        · rw [EReal.coe_sub, EReal.coe_add, EReal.coe_mul, coe_sum]
          refine congrArg₂ (· - ·) (congrArg₂ (· + ·) (congrArg₂ (· * ·) (Finset.sum_congr rfl fun d _ => ?_) rfl) (coe_re (hz _))) (coe_re (hz _))
          rw [EReal.coe_mul]
          exact congrArg₂ (· * ·) (coe_re (hq _)) (coe_re (hk _))
        · rw [score_eq]
          exact exp_score _ _ _
      · rw [if_neg hJ, if_neg hJ]
        exact .inr ⟨rfl, rfl⟩)
    (fun J => by
      show v (ix2 J l) = _
      rw [value_eq]
      exact coe_re (hv _))
    I (by
      show Cert.ReferenceIdeal.Fox.rS q k z (ix3 (headOf l) I I) ≠ ⊥
      rw [Cert.ReferenceIdeal.Fox.rS_at, if_pos (le_refl _)]
      have h1 : (∑ d : Fin 128, q (ix2 I ⟨(headOf l).val * 128 + d.val, by omega⟩) * k (ix2 I ⟨(headOf l).val * 128 + d.val, by omega⟩))
          = ((∑ d : Fin 128, re q I ⟨(headOf l).val * 128 + d.val, by omega⟩ * re k I ⟨(headOf l).val * 128 + d.val, by omega⟩ : ℝ) : EReal) := by
        rw [coe_sum]
        refine Finset.sum_congr rfl fun d _ => ?_
        rw [EReal.coe_mul]
        exact congrArg₂ (· * ·) (coe_re (hq _)) (coe_re (hk _))
      rw [h1, coe_re (hz (ix2 I (headOf l))), ← EReal.coe_mul, ← EReal.coe_add, ← EReal.coe_sub]
      exact EReal.coe_ne_bot _)
  refine Eq.trans ?_ (key.trans rfl)
  refine Finset.sum_congr rfl fun J _ => ?_
  rw [mul_comm, ← el]

end

/-! ## The claim -/

variable (m : (ℓ : Loc nD τ sig) → Buf (Elt Ideal) ℓ)

/-- The result, from the arguments. -/
def outV (c : Dev nD) : FVec Ideal S16384x1024 .bf16 :=
  outG (score (reX (argQ m c) (argK m c) (argV m c)) (reC (argC m c))) (value (reX (argQ m c) (argK m c) (argV m c)))

theorem kernel_out (c : Dev nD)
    (hf : (∀ y, ∃ r : ℝ, argQ m c y = (r : EReal)) ∧ (∀ y, ∃ r : ℝ, argK m c y = (r : EReal)) ∧ (∀ y, ∃ r : ℝ, argV m c y = (r : EReal)) ∧ (∀ y, ∃ r : ℝ, argC m c y = (r : EReal))) :
    (dat1 (V3' m) c).arrAt (3 : Fin 4) (cfgA (F := Ideal)).N = outV m c := by
  obtain ⟨hq, hk, hv, hz⟩ := hf
  have eQ : aQ (V3' m) c = WQ (hX (argQ m c) (argK m c) (argV m c)) := by
    unfold aQ; rw [V3'_q, arrQ, aX_eq]
  have eK : aK (V3' m) c = WK (hX (argQ m c) (argK m c) (argV m c)) (hZ (argC m c)) := by
    unfold aK; rw [V3'_k, arrK, aX_eq, aZ_eq]
  have eV : aV (V3' m) c = WV (hX (argQ m c) (argK m c) (argV m c)) := by
    unfold aV; rw [V3'_v, arrV, aX_eq]
  have hx := reX_real (argQ m c) (argK m c) (argV m c) hq hk hv
  refine arrOut (V3' m) c _ _ (fun h J I => ?_) (fun r J => ?_) (fun l J => value_one _ l J)
  · unfold gs
    rw [eQ, eK]
    exact score_real _ _ _ (reC (argC m c)) hx (fun I a h e => (hZ_at (argC m c) I a h e).trans (coe_re (hz _))) h J I
  · rw [eV]
    exact WV_real _ _ hx r J

theorem algebraic : Cert.algebraic_KernelIdeal_ReferenceIdeal_pre_finite := by
  intro m g m' g' hpre hag
  have hf := fun c => finite_args (argQ m c) (argK m c) (argV m c) (argC m c) (hpre c)
  refine ⟨outV m, ?_, ?_⟩
  · exact (θ_run _ _ _).mono (fun _ h c => ⟨(h.1 c).2.trans (kernel_out m c (hf c)), (h.1 c).1⟩) (run_main m g)
  · refine (θ_run _ _ _).mono (fun _ h c => ⟨(h c).1.trans ?_, (h c).2⟩) (Cert.ReferenceIdeal.Value.run m' g')
    obtain ⟨h0, h1, h2, h3⟩ := hag c
    obtain ⟨hq, hk, hv, hz⟩ := hf c
    rw [Cert.ReferenceIdeal.Fox.res_eq, h0, h1, h2, h3]
    funext y
    revert y
    refine idx2_cases (n0 := 16384) (n1 := 1024) fun I l => ?_
    exact ref_eq (argQ m c) (argK m c) (argV m c) (argC m c) hq hk hv hz I l

end Cert.KernelIdeal.Fox

end
-- ==== Proof.lean ====
/- The claims of the forgetting attention and of the feed-forward call. The attention's `Kernel` and `KernelIdeal` run by
   one text each (`Proof/Bits/`, `Proof/Ideal/`), as do the feed-forward call's `Kernel2` and `Kernel2Ideal`
   (`Proof/FfnBits/`, `Proof/Ffn/`); the references run by their host operations. The values are compared in
   `Proof/Ideal/Equal.lean` and `Proof/Ffn/Equal.lean`. -/
module

public import proofs.«01_k».proof.Defs
public import proofs.«01_k».proof.Proof.Gen.Reference2Ideal
public import proofs.«01_k».proof.Proof.Gen.Reference2Ideal.Run
public import proofs.«01_k».proof.Proof.Gen.Kernel2Ideal.Loops
public import proofs.«01_k».proof.Proof.Gen.Kernel2Ideal.Frame
public import proofs.«01_k».proof.Proof.Gen.Kernel2.Loops
public import proofs.«01_k».proof.Proof.Gen.Kernel2.Frame
public import proofs.«01_k».proof.Proof.FfnBits.Data
public import proofs.«01_k».proof.Proof.Ffn.Equal
public import proofs.«01_k».proof.Proof.Bits.Run
public import proofs.«01_k».proof.Proof.Ideal.Run
public import proofs.«01_k».proof.Proof.Ideal.Equal
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

theorem runs_kernel : Cert.quiescent_Kernel := fun m g _ =>
  (θ_run _ _ _).mono (fun _ h => ⟨fun c => (h.1 c).1, h.2⟩) (Cert.Kernel.Fox.run_main (F := Bits) m g)

theorem runs_ideal : Cert.quiescent_KernelIdeal := fun m g _ =>
  (θ_run _ _ _).mono (fun _ h => ⟨fun c => (h.1 c).1, h.2⟩) (Cert.KernelIdeal.Fox.run_main (F := Ideal) m g)

theorem runs_reference : Cert.quiescent_ReferenceIdeal := fun m g _ =>
  (θ_run _ _ _).mono (fun r h => ⟨fun c => (h c).2, Idealize.ShloMosaic.sem_eq_zero_of_no_sems (by decide) r.2⟩)
    (Cert.ReferenceIdeal.Value.run (F := Ideal) m g)

theorem runs_kernel2 : Cert.quiescent_Kernel2 := fun m g _ => Cert.Kernel2.Ffn.frame (F := Bits) m g

theorem runs_ideal2 : Cert.quiescent_Kernel2Ideal := fun m g _ => Cert.Kernel2Ideal.Ffn.frame (F := Ideal) m g

theorem runs_reference2 : Cert.quiescent_Reference2Ideal := fun m g _ =>
  (θ_run _ _ _).mono (fun r h => ⟨fun c => (h c).2, Idealize.ShloMosaic.sem_eq_zero_of_no_sems (by decide) r.2⟩)
    (Cert.Reference2Ideal.Value.run (F := Ideal) m g)

/-- The three named constants are in the table. -/
theorem constants : Cert.preserves_Kernel_KernelIdeal :=
  ⟨IdealRules.named_const.statement Cert.KernelIdeal.κ "neg_log2e" .f32 0xBFB8AA3B#32 ((-((Real.log 2)⁻¹) : ℝ) : EReal) rfl,
    IdealRules.named_const.statement Cert.KernelIdeal.κ "scale_log2e" .f32 0x3E0293EE#32 (((11863283 / 134217728) * (Real.log 2)⁻¹ : ℝ) : EReal) rfl,
    IdealRules.named_const.statement Cert.KernelIdeal.κ "mask" .f32 0xF149F2CA#32 ⊥ rfl⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.KernelIdeal.Fox.preFacts, runs_kernel,
    runs_ideal, fun m g _ => runs_ideal m g trivial, runs_reference, fun m g _ => runs_reference m g trivial,
    runs_kernel2, runs_ideal2, runs_reference2, constants, Cert.KernelIdeal.Fox.algebraic, trivial, Cert.Kernel2Ideal.Ffn.algebraic⟩

end Cert.Proof

end
